-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite [hPre_finite : Cert.Pre_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_in [hPre_finite_in : Cert.Pre_finite_in.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out [hPre_finite_out : Cert.Pre_finite_out.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_finite [hMlpRefIdeal : Cert.MlpRefIdeal.Facts] [hPre_finite : Cert.Pre_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2)
      ∧ r.2.mem ((c.tc : Thread Cert.DwDownRefIdeal.nD Cert.DwDownRefIdeal.τ).loc Cert.DwDownRefIdeal.main_arg3) = m ((c.tc : Thread Cert.DwDownRefIdeal.nD Cert.DwDownRefIdeal.τ).loc Cert.DwDownRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_finite_in [hInBwdRefIdeal : Cert.InBwdRefIdeal.Facts] [hPre_finite_in : Cert.Pre_finite_in.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_in m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_OutBwdRefIdeal_pre_finite_out [hOutBwdRefIdeal : Cert.OutBwdRefIdeal.Facts] [hPre_finite_out : Cert.Pre_finite_out.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def preserves_Kernel_KernelIdeal : Prop :=
  True

def preserves_Mlp_MlpIdeal : Prop :=
  True

def algebraic_MlpIdeal_MlpRefIdeal_pre_finite [hMlpIdeal : Cert.MlpIdeal.Facts] [hMlpRefIdeal : Cert.MlpRefIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v20_0)) (v1 : (c : Dev Cert.MlpIdeal.nD) → Buf (Elt Ideal) ((c.tc : Thread Cert.MlpIdeal.nD Cert.MlpIdeal.τ).loc Cert.MlpIdeal.main_v20_1)) (v2 : (c : Dev Cert.MlpIdeal.nD) → Buf (Elt Ideal) ((c.tc : Thread Cert.MlpIdeal.nD Cert.MlpIdeal.τ).loc Cert.MlpIdeal.main_v20_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v20_0) = v0 c
          ∧ r.2.mem ((c.tc : Thread Cert.MlpIdeal.nD Cert.MlpIdeal.τ).loc Cert.MlpIdeal.main_v20_1) = v1 c
          ∧ r.2.mem ((c.tc : Thread Cert.MlpIdeal.nD Cert.MlpIdeal.τ).loc Cert.MlpIdeal.main_v20_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v50) = v0 c
          ∧ r.2.mem ((c.tc : Thread Cert.MlpRefIdeal.nD Cert.MlpRefIdeal.τ).loc Cert.MlpRefIdeal.main_v51) = v1 c
          ∧ r.2.mem ((c.tc : Thread Cert.MlpRefIdeal.nD Cert.MlpRefIdeal.τ).loc Cert.MlpRefIdeal.main_v52) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)
      ∧ m' ((c.tc : Thread Cert.DwDownRefIdeal.nD Cert.DwDownRefIdeal.τ).loc Cert.DwDownRefIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v15)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v15) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v20) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2)
          ∧ r.2.mem ((c.tc : Thread Cert.DwDownRefIdeal.nD Cert.DwDownRefIdeal.τ).loc Cert.DwDownRefIdeal.main_arg3) = m' ((c.tc : Thread Cert.DwDownRefIdeal.nD Cert.DwDownRefIdeal.τ).loc Cert.DwDownRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v14)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v14) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v18) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v18) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_InBwd_InBwdIdeal : Prop :=
  True

def algebraic_InBwdIdeal_InBwdRefIdeal_pre_finite_in [hInBwdIdeal : Cert.InBwdIdeal.Facts] [hInBwdRefIdeal : Cert.InBwdRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_in m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v5_0)) (v1 : (c : Dev Cert.MlpFwdIdeal.nD) → Buf (Elt Ideal) ((c.tc : Thread Cert.MlpFwdIdeal.nD Cert.MlpFwdIdeal.τ).loc Cert.MlpFwdIdeal.main_v5_1)) (v2 : (c : Dev Cert.MlpFwdIdeal.nD) → Buf (Elt Ideal) ((c.tc : Thread Cert.MlpFwdIdeal.nD Cert.MlpFwdIdeal.τ).loc Cert.MlpFwdIdeal.main_v5_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v5_0) = v0 c
          ∧ r.2.mem ((c.tc : Thread Cert.MlpFwdIdeal.nD Cert.MlpFwdIdeal.τ).loc Cert.MlpFwdIdeal.main_v5_1) = v1 c
          ∧ r.2.mem ((c.tc : Thread Cert.MlpFwdIdeal.nD Cert.MlpFwdIdeal.τ).loc Cert.MlpFwdIdeal.main_v5_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v17) = v0 c
          ∧ r.2.mem ((c.tc : Thread Cert.MlpFwdRefIdeal.nD Cert.MlpFwdRefIdeal.τ).loc Cert.MlpFwdRefIdeal.main_v18) = v1 c
          ∧ r.2.mem ((c.tc : Thread Cert.MlpFwdRefIdeal.nD Cert.MlpFwdRefIdeal.τ).loc Cert.MlpFwdRefIdeal.main_v32) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)) →
    ∃ (v0 : (c : Dev Cert.DwGateIdeal.nD) → Buf (Elt Ideal) ((c.tc : Thread Cert.DwGateIdeal.nD Cert.DwGateIdeal.τ).loc Cert.DwGateIdeal.main_v14)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v14) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v18) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v0)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v0) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v7) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v20_0)) (v1 : (c : Dev Cert.GateBwdIdeal.nD) → Buf (Elt Ideal) ((c.tc : Thread Cert.GateBwdIdeal.nD Cert.GateBwdIdeal.τ).loc Cert.GateBwdIdeal.main_v20_1)) (v2 : (c : Dev Cert.GateBwdIdeal.nD) → Buf (Elt Ideal) ((c.tc : Thread Cert.GateBwdIdeal.nD Cert.GateBwdIdeal.τ).loc Cert.GateBwdIdeal.main_v20_2)) (v3 : (c : Dev Cert.GateBwdIdeal.nD) → Buf (Elt Ideal) ((c.tc : Thread Cert.GateBwdIdeal.nD Cert.GateBwdIdeal.τ).loc Cert.GateBwdIdeal.main_v20_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v20_0) = v0 c
          ∧ r.2.mem ((c.tc : Thread Cert.GateBwdIdeal.nD Cert.GateBwdIdeal.τ).loc Cert.GateBwdIdeal.main_v20_1) = v1 c
          ∧ r.2.mem ((c.tc : Thread Cert.GateBwdIdeal.nD Cert.GateBwdIdeal.τ).loc Cert.GateBwdIdeal.main_v20_2) = v2 c
          ∧ r.2.mem ((c.tc : Thread Cert.GateBwdIdeal.nD Cert.GateBwdIdeal.τ).loc Cert.GateBwdIdeal.main_v20_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v54) = v0 c
          ∧ r.2.mem ((c.tc : Thread Cert.GateBwdRefIdeal.nD Cert.GateBwdRefIdeal.τ).loc Cert.GateBwdRefIdeal.main_v55) = v1 c
          ∧ r.2.mem ((c.tc : Thread Cert.GateBwdRefIdeal.nD Cert.GateBwdRefIdeal.τ).loc Cert.GateBwdRefIdeal.main_v56) = v2 c
          ∧ r.2.mem ((c.tc : Thread Cert.GateBwdRefIdeal.nD Cert.GateBwdRefIdeal.τ).loc Cert.GateBwdRefIdeal.main_v57) = v3 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v5_0)) (v1 : (c : Dev Cert.GateFwdIdeal.nD) → Buf (Elt Ideal) ((c.tc : Thread Cert.GateFwdIdeal.nD Cert.GateFwdIdeal.τ).loc Cert.GateFwdIdeal.main_v5_1)) (v2 : (c : Dev Cert.GateFwdIdeal.nD) → Buf (Elt Ideal) ((c.tc : Thread Cert.GateFwdIdeal.nD Cert.GateFwdIdeal.τ).loc Cert.GateFwdIdeal.main_v5_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v5_0) = v0 c
          ∧ r.2.mem ((c.tc : Thread Cert.GateFwdIdeal.nD Cert.GateFwdIdeal.τ).loc Cert.GateFwdIdeal.main_v5_1) = v1 c
          ∧ r.2.mem ((c.tc : Thread Cert.GateFwdIdeal.nD Cert.GateFwdIdeal.τ).loc Cert.GateFwdIdeal.main_v5_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v24) = v0 c
          ∧ r.2.mem ((c.tc : Thread Cert.GateFwdRefIdeal.nD Cert.GateFwdRefIdeal.τ).loc Cert.GateFwdRefIdeal.main_v25) = v1 c
          ∧ r.2.mem ((c.tc : Thread Cert.GateFwdRefIdeal.nD Cert.GateFwdRefIdeal.τ).loc Cert.GateFwdRefIdeal.main_v26) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v21_0)) (v1 : (c : Dev Cert.InProjIdeal.nD) → Buf (Elt Ideal) ((c.tc : Thread Cert.InProjIdeal.nD Cert.InProjIdeal.τ).loc Cert.InProjIdeal.main_v21_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v21_0) = v0 c
          ∧ r.2.mem ((c.tc : Thread Cert.InProjIdeal.nD Cert.InProjIdeal.τ).loc Cert.InProjIdeal.main_v21_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v57) = v0 c
          ∧ r.2.mem ((c.tc : Thread Cert.InProjRefIdeal.nD Cert.InProjRefIdeal.τ).loc Cert.InProjRefIdeal.main_v58) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutBwd_OutBwdIdeal : Prop :=
  True

def algebraic_OutBwdIdeal_OutBwdRefIdeal_pre_finite_out [hOutBwdIdeal : Cert.OutBwdIdeal.Facts] [hOutBwdRefIdeal : Cert.OutBwdRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v5_0)) (v1 : (c : Dev Cert.OutBwdIdeal.nD) → Buf (Elt Ideal) ((c.tc : Thread Cert.OutBwdIdeal.nD Cert.OutBwdIdeal.τ).loc Cert.OutBwdIdeal.main_v5_1)) (v2 : (c : Dev Cert.OutBwdIdeal.nD) → Buf (Elt Ideal) ((c.tc : Thread Cert.OutBwdIdeal.nD Cert.OutBwdIdeal.τ).loc Cert.OutBwdIdeal.main_v5_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v5_0) = v0 c
          ∧ r.2.mem ((c.tc : Thread Cert.OutBwdIdeal.nD Cert.OutBwdIdeal.τ).loc Cert.OutBwdIdeal.main_v5_1) = v1 c
          ∧ r.2.mem ((c.tc : Thread Cert.OutBwdIdeal.nD Cert.OutBwdIdeal.τ).loc Cert.OutBwdIdeal.main_v5_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v38) = v0 c
          ∧ r.2.mem ((c.tc : Thread Cert.OutBwdRefIdeal.nD Cert.OutBwdRefIdeal.τ).loc Cert.OutBwdRefIdeal.main_v62) = v1 c
          ∧ r.2.mem ((c.tc : Thread Cert.OutBwdRefIdeal.nD Cert.OutBwdRefIdeal.τ).loc Cert.OutBwdRefIdeal.main_v65) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v20_0)) (v1 : (c : Dev Cert.MixOutIdeal.nD) → Buf (Elt Ideal) ((c.tc : Thread Cert.MixOutIdeal.nD Cert.MixOutIdeal.τ).loc Cert.MixOutIdeal.main_v20_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v20_0) = v0 c
          ∧ r.2.mem ((c.tc : Thread Cert.MixOutIdeal.nD Cert.MixOutIdeal.τ).loc Cert.MixOutIdeal.main_v20_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v133) = v0 c
          ∧ r.2.mem ((c.tc : Thread Cert.MixOutRefIdeal.nD Cert.MixOutRefIdeal.τ).loc Cert.MixOutRefIdeal.main_v135) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v2_1)) (v1 : (c : Dev Cert.PoolBwdIdeal.nD) → Buf (Elt Ideal) ((c.tc : Thread Cert.PoolBwdIdeal.nD Cert.PoolBwdIdeal.τ).loc Cert.PoolBwdIdeal.main_v2_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v2_1) = v0 c
          ∧ r.2.mem ((c.tc : Thread Cert.PoolBwdIdeal.nD Cert.PoolBwdIdeal.τ).loc Cert.PoolBwdIdeal.main_v2_2) = v1 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v111) = v0 c
          ∧ r.2.mem ((c.tc : Thread Cert.PoolBwdRefIdeal.nD Cert.PoolBwdRefIdeal.τ).loc Cert.PoolBwdRefIdeal.main_v112) = v1 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def Claim : Prop :=
  ∃ (hKernel : Cert.Kernel.Facts) (hKernelIdeal : Cert.KernelIdeal.Facts) (hMlp : Cert.Mlp.Facts) (hMlpIdeal : Cert.MlpIdeal.Facts) (hMlpRefIdeal : Cert.MlpRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts) (hInBwd : Cert.InBwd.Facts) (hInBwdIdeal : Cert.InBwdIdeal.Facts) (hInBwdRefIdeal : Cert.InBwdRefIdeal.Facts) (hMlpFwd : Cert.MlpFwd.Facts) (hMlpFwdIdeal : Cert.MlpFwdIdeal.Facts) (hMlpFwdRefIdeal : Cert.MlpFwdRefIdeal.Facts) (hDwGate : Cert.DwGate.Facts) (hDwGateIdeal : Cert.DwGateIdeal.Facts) (hDwGateRefIdeal : Cert.DwGateRefIdeal.Facts) (hDwOut : Cert.DwOut.Facts) (hDwOutIdeal : Cert.DwOutIdeal.Facts) (hDwOutRefIdeal : Cert.DwOutRefIdeal.Facts) (hDwPle : Cert.DwPle.Facts) (hDwPleIdeal : Cert.DwPleIdeal.Facts) (hDwPleRefIdeal : Cert.DwPleRefIdeal.Facts) (hGateBwd : Cert.GateBwd.Facts) (hGateBwdIdeal : Cert.GateBwdIdeal.Facts) (hGateBwdRefIdeal : Cert.GateBwdRefIdeal.Facts) (hGateFwd : Cert.GateFwd.Facts) (hGateFwdIdeal : Cert.GateFwdIdeal.Facts) (hGateFwdRefIdeal : Cert.GateFwdRefIdeal.Facts) (hInProj : Cert.InProj.Facts) (hInProjIdeal : Cert.InProjIdeal.Facts) (hInProjRefIdeal : Cert.InProjRefIdeal.Facts) (hOutBwd : Cert.OutBwd.Facts) (hOutBwdIdeal : Cert.OutBwdIdeal.Facts) (hOutBwdRefIdeal : Cert.OutBwdRefIdeal.Facts) (hMixOut : Cert.MixOut.Facts) (hMixOutIdeal : Cert.MixOutIdeal.Facts) (hMixOutRefIdeal : Cert.MixOutRefIdeal.Facts) (hPoolBwd : Cert.PoolBwd.Facts) (hPoolBwdIdeal : Cert.PoolBwdIdeal.Facts) (hPoolBwdRefIdeal : Cert.PoolBwdRefIdeal.Facts) (hPre_finite : Cert.Pre_finite.Facts) (hPre_finite_in : Cert.Pre_finite_in.Facts) (hPre_finite_gate : Cert.Pre_finite_gate.Facts) (hPre_finite_out : Cert.Pre_finite_out.Facts),
    quiescent_Kernel (hKernel := hKernel)
    ∧ quiescent_KernelIdeal (hKernelIdeal := hKernelIdeal)
    ∧ quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpRefIdeal (hMlpRefIdeal := hMlpRefIdeal)
    ∧ quiescent_MlpRefIdeal_pre_finite (hMlpRefIdeal := hMlpRefIdeal) (hPre_finite := hPre_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InBwdRefIdeal (hInBwdRefIdeal := hInBwdRefIdeal)
    ∧ quiescent_InBwdRefIdeal_pre_finite_in (hInBwdRefIdeal := hInBwdRefIdeal) (hPre_finite_in := hPre_finite_in)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdRefIdeal (hOutBwdRefIdeal := hOutBwdRefIdeal)
    ∧ quiescent_OutBwdRefIdeal_pre_finite_out (hOutBwdRefIdeal := hOutBwdRefIdeal) (hPre_finite_out := hPre_finite_out)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ preserves_Kernel_KernelIdeal
    ∧ preserves_Mlp_MlpIdeal
    ∧ algebraic_MlpIdeal_MlpRefIdeal_pre_finite (hMlpIdeal := hMlpIdeal) (hMlpRefIdeal := hMlpRefIdeal) (hPre_finite := hPre_finite)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
    ∧ preserves_InBwd_InBwdIdeal
    ∧ algebraic_InBwdIdeal_InBwdRefIdeal_pre_finite_in (hInBwdIdeal := hInBwdIdeal) (hInBwdRefIdeal := hInBwdRefIdeal) (hPre_finite_in := hPre_finite_in)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_DwGate_DwGateIdeal
    ∧ algebraic_DwGateIdeal_DwGateRefIdeal (hDwGateIdeal := hDwGateIdeal) (hDwGateRefIdeal := hDwGateRefIdeal)
    ∧ preserves_DwOut_DwOutIdeal
    ∧ algebraic_DwOutIdeal_DwOutRefIdeal (hDwOutIdeal := hDwOutIdeal) (hDwOutRefIdeal := hDwOutRefIdeal)
    ∧ preserves_DwPle_DwPleIdeal
    ∧ algebraic_DwPleIdeal_DwPleRefIdeal (hDwPleIdeal := hDwPleIdeal) (hDwPleRefIdeal := hDwPleRefIdeal)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_GateFwd_GateFwdIdeal
    ∧ algebraic_GateFwdIdeal_GateFwdRefIdeal (hGateFwdIdeal := hGateFwdIdeal) (hGateFwdRefIdeal := hGateFwdRefIdeal)
    ∧ preserves_InProj_InProjIdeal
    ∧ algebraic_InProjIdeal_InProjRefIdeal (hInProjIdeal := hInProjIdeal) (hInProjRefIdeal := hInProjRefIdeal)
    ∧ preserves_OutBwd_OutBwdIdeal
    ∧ algebraic_OutBwdIdeal_OutBwdRefIdeal_pre_finite_out (hOutBwdIdeal := hOutBwdIdeal) (hOutBwdRefIdeal := hOutBwdRefIdeal) (hPre_finite_out := hPre_finite_out)
    ∧ preserves_MixOut_MixOutIdeal
    ∧ algebraic_MixOutIdeal_MixOutRefIdeal (hMixOutIdeal := hMixOutIdeal) (hMixOutRefIdeal := hMixOutRefIdeal)
    ∧ preserves_PoolBwd_PoolBwdIdeal
    ∧ algebraic_PoolBwdIdeal_PoolBwdRefIdeal (hPoolBwdIdeal := hPoolBwdIdeal) (hPoolBwdRefIdeal := hPoolBwdRefIdeal)
-- ==== Pre_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024 .f32) (main_arg3 : FVec F S1024x4096 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Pre_finite_gate.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S2x8192x256 : Shape := ⟨3, ![2, 8192, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn_part1 {F : FTy → Type} [FloatOps F] (main_arg4 : FVec F S256x1024 .f32) (main_arg5 : FVec F S2x8192x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S2x8192x256 .f32 := Host.absf main_arg5
  let main_cst_8 : FVec F S_ .f32 := constant S_ .f32 0x7F800000#32
  let main_v25 : FVec F S2x8192x256 .f32 := broadcastInDim S2x8192x256 ![] bcast_S_S2x8192x256 main_cst_8
  let main_v26 : IVec S2x8192x256 1 := cmpf .olt main_v24 main_v25
  let main_c_9 : IVec S_ 1 := constantI S_ 1 1#1
  let main_v27 : IVec S_ 1 := (fun x v => Host.reduce IntOp.andi x v reducesTo_S2x8192x256_S_d0_1_2 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024 .f32) (main_arg3 : FVec F S1024x1024 .f32) (main_arg4 : FVec F S256x1024 .f32) (main_arg5 : FVec F S2x8192x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Pre_finite_in.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_

variable [Facts]

def fn_part1 {F : FTy → Type} [FloatOps F] (main_arg4 : FVec F S8192x1024 .f32) (main_v14 : IVec S_ 1) (main_v15 : FVec F S1024x2560 .f32) (main_v16 : FVec F S1024x2560 .f32) : IVec S_ 1 :=
  let main_v17 : IVec S1024x2560 1 := cmpf .olt main_v15 main_v16
  let main_c_5 : IVec S_ 1 := constantI S_ 1 1#1
  let main_v18 : IVec S_ 1 := (fun x v => Host.reduce IntOp.andi x v reducesTo_S1024x2560_S_d0_1 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x2560 .bf16) (main_arg1 : FVec F S8192x1024 .f32) (main_arg2 : FVec F S1024 .f32) (main_arg3 : FVec F S1024x2560 .f32) (main_arg4 : FVec F S8192x1024 .f32) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024x2560 .f32 := Host.absf main_arg3
  let main_cst_4 : FVec F S_ .f32 := constant S_ .f32 0x7F800000#32
  let main_v16 : FVec F S1024x2560 .f32 := broadcastInDim S1024x2560 ![] bcast_S_S1024x2560 main_cst_4
  fn_part1 (F := F) main_arg4 main_v14 main_v15 main_v16
-- ==== Pre_finite_out.lean ====
abbrev S8192x1024 : Shape := ⟨2, ![8192, 1024]⟩
abbrev S1024x1024 : Shape := ⟨2, ![1024, 1024]⟩
abbrev S8192x768 : Shape := ⟨2, ![8192, 768]⟩
abbrev S8192x12 : Shape := ⟨2, ![8192, 12]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x768 : S_.BroadcastsInDim S8192x768 (![] : Fin 0 → Fin S8192x768.rank)
  reducesTo_S8192x768_S_d0_1 : S8192x768.ReducesTo [0, 1] S_
  bcast_S_S8192x12 : S_.BroadcastsInDim S8192x12 (![] : Fin 0 → Fin S8192x12.rank)
  reducesTo_S8192x12_S_d0_1 : S8192x12.ReducesTo [0, 1] S_

variable [Facts]

def fn_part1 {F : FTy → Type} [FloatOps F] (main_v13 : IVec S_ 1) (main_v16 : IVec S8192x12 1) : IVec S_ 1 :=
  let main_c_5 : IVec S_ 1 := constantI S_ 1 1#1
  let main_v17 : IVec S_ 1 := (fun x v => Host.reduce IntOp.andi x v reducesTo_S8192x12_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S8192x768 .f32) (main_arg3 : FVec F S8192x12 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x768 .f32 := Host.absf main_arg2
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  let main_v14 : FVec F S8192x12 .f32 := Host.absf main_arg3
  let main_cst_4 : FVec F S_ .f32 := constant S_ .f32 0x7F800000#32
  let main_v15 : FVec F S8192x12 .f32 := broadcastInDim S8192x12 ![] bcast_S_S8192x12 main_cst_4
  let main_v16 : IVec S8192x12 1 := cmpf .olt main_v14 main_v15
  fn_part1 (F := F) main_v13 main_v16
-- ==== Kernel.lean ====
abbrev S1x8192x2560 : Shape := ⟨3, ![1, 8192, 2560]⟩
abbrev S1x8192x1x8 : Shape := ⟨4, ![1, 8192, 1, 8]⟩
abbrev S1x8192x4x64 : Shape := ⟨4, ![1, 8192, 4, 64]⟩
abbrev S1x8192x4 : Shape := ⟨3, ![1, 8192, 4]⟩
abbrev S8192x2560 : Shape := ⟨2, ![8192, 2560]⟩
abbrev S1x8192x2304 : Shape := ⟨3, ![1, 8192, 2304]⟩
abbrev S1x8192x768 : Shape := ⟨3, ![1, 8192, 768]⟩
abbrev S1x8192x12x64 : Shape := ⟨4, ![1, 8192, 12, 64]⟩
abbrev S1x8192x12x8 : Shape := ⟨4, ![1, 8192, 12, 8]⟩
abbrev S1x8192x12x16 : Shape := ⟨4, ![1, 8192, 12, 16]⟩
abbrev S1x8192x12x48 : Shape := ⟨4, ![1, 8192, 12, 48]⟩
abbrev S1x8192x256 : Shape := ⟨3, ![1, 8192, 256]⟩
abbrev S8192x256 : Shape := ⟨2, ![8192, 256]⟩
abbrev S8192x768 : Shape := ⟨2, ![8192, 768]⟩
abbrev S_ : Shape := ⟨0, ![]⟩
abbrev S1x8192x1x4x64 : Shape := ⟨5, ![1, 8192, 1, 4, 64]⟩
abbrev S1x1x8192x4x64 : Shape := ⟨5, ![1, 1, 8192, 4, 64]⟩
abbrev S1x1x64x128x4x64 : Shape := ⟨6, ![1, 1, 64, 128, 4, 64]⟩
abbrev S1x1x1x128x4x64 : Shape := ⟨6, ![1, 1, 1, 128, 4, 64]⟩
abbrev S1x1x63x128x4x64 : Shape := ⟨6, ![1, 1, 63, 128, 4, 64]⟩
abbrev S1x1x64x256x4x64 : Shape := ⟨6, ![1, 1, 64, 256, 4, 64]⟩
abbrev S1x1x64x4x128x256 : Shape := ⟨6, ![1, 1, 64, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x1x64x1x128x256 : Shape := ⟨6, ![1, 1, 64, 1, 128, 256]⟩
abbrev S1x1x64x4x128 : Shape := ⟨5, ![1, 1, 64, 4, 128]⟩
abbrev S1x1x64x4x128x1 : Shape := ⟨6, ![1, 1, 64, 4, 128, 1]⟩
abbrev S1x1x64x4x64x128 : Shape := ⟨6, ![1, 1, 64, 4, 64, 128]⟩
abbrev S1x1x64x128x4 : Shape := ⟨5, ![1, 1, 64, 128, 4]⟩
abbrev S1x1x8192x4 : Shape := ⟨4, ![1, 1, 8192, 4]⟩
abbrev S1x8192x1x4 : Shape := ⟨4, ![1, 8192, 1, 4]⟩
abbrev S1x8192x4x1 : Shape := ⟨4, ![1, 8192, 4, 1]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024x128 : Shape := ⟨2, ![1024, 128]⟩
abbrev S128x128 : Shape := ⟨2, ![128, 128]⟩
abbrev S3x1024x128 : Shape := ⟨3, ![3, 1024, 128]⟩
abbrev S3 : Shape := ⟨1, ![3]⟩
abbrev S256x128 : Shape := ⟨2, ![256, 128]⟩
abbrev S1x1024x128 : Shape := ⟨3, ![1, 1024, 128]⟩
abbrev S1 : Shape := ⟨1, ![1]⟩

abbrev nBuf : Space → Nat
  | .hbm => 198
  | .vmem => 34
  | .smem => 0
  | _ => 0

abbrev hbmTy0_0 (i : Nat) : BufTy := match i % 128 with
  | 0 => ⟨S1x8192x2560, .f32⟩
  | 1 => ⟨S1x8192x1x8, .f32⟩
  | 2 => ⟨S1x8192x1x8, .f32⟩
  | 3 => ⟨S1x8192x4x64, .f32⟩
  | 4 => ⟨S1x8192x4, .f32⟩
  | 5 => ⟨S8192x2560, .bf16⟩
  | 6 => ⟨S1x8192x2304, .f32⟩
  | 7 => ⟨S1x8192x768, .f32⟩
  | 8 => ⟨S1x8192x768, .f32⟩
  | 9 => ⟨S1x8192x768, .f32⟩
  | 10 => ⟨S1x8192x12x64, .f32⟩
  | 11 => ⟨S1x8192x12x64, .f32⟩
  | 12 => ⟨S1x8192x12x64, .f32⟩
  | 13 => ⟨S1x8192x12x8, .f32⟩
  | 14 => ⟨S1x8192x12x8, .f32⟩
  | 15 => ⟨S1x8192x12x8, .f32⟩
  | 16 => ⟨S1x8192x12x8, .f32⟩
  | 17 => ⟨S1x8192x12x8, .f32⟩
  | 18 => ⟨S1x8192x12x8, .f32⟩
  | 19 => ⟨S1x8192x12x8, .f32⟩
  | 20 => ⟨S1x8192x12x8, .f32⟩
  | 21 => ⟨S1x8192x12x8, .f32⟩
  | 22 => ⟨S1x8192x12x8, .f32⟩
  | 23 => ⟨S1x8192x12x8, .f32⟩
  | 24 => ⟨S1x8192x12x8, .f32⟩
  | 25 => ⟨S1x8192x12x16, .f32⟩
  | 26 => ⟨S1x8192x12x48, .f32⟩
  | 27 => ⟨S1x8192x12x64, .f32⟩
  | 28 => ⟨S1x8192x12x8, .f32⟩
  | 29 => ⟨S1x8192x12x8, .f32⟩
  | 30 => ⟨S1x8192x12x8, .f32⟩
  | 31 => ⟨S1x8192x12x8, .f32⟩
  | 32 => ⟨S1x8192x12x8, .f32⟩
  | 33 => ⟨S1x8192x12x8, .f32⟩
  | 34 => ⟨S1x8192x12x8, .f32⟩
  | 35 => ⟨S1x8192x12x8, .f32⟩
  | 36 => ⟨S1x8192x12x8, .f32⟩
  | 37 => ⟨S1x8192x12x8, .f32⟩
  | 38 => ⟨S1x8192x12x8, .f32⟩
  | 39 => ⟨S1x8192x12x8, .f32⟩
  | 40 => ⟨S1x8192x12x16, .f32⟩
  | 41 => ⟨S1x8192x12x48, .f32⟩
  | 42 => ⟨S1x8192x12x64, .f32⟩
  | 43 => ⟨S1x8192x256, .f32⟩
  | 44 => ⟨S8192x256, .f32⟩
  | 45 => ⟨S8192x768, .f32⟩
  | 46 => ⟨S8192x768, .f32⟩
  | 47 => ⟨S8192x768, .f32⟩
  | 48 => ⟨S8192x2560, .f32⟩
  | 49 => ⟨S1x8192x4x64, .f32⟩
  | 50 => ⟨S1x8192x4x64, .f32⟩
  | 51 => ⟨S1x8192x4x64, .f32⟩
  | 52 => ⟨S_, .i32⟩
  | 53 => ⟨S_, .f32⟩
  | 54 => ⟨S1x8192x4x64, .f32⟩
  | 55 => ⟨S1x8192x1x4x64, .f32⟩
  | 56 => ⟨S1x1x8192x4x64, .f32⟩
  | 57 => ⟨S1x1x64x128x4x64, .f32⟩
  | 58 => ⟨S_, .i32⟩
  | 59 => ⟨S_, .f32⟩
  | 60 => ⟨S1x8192x4x64, .f32⟩
  | 61 => ⟨S1x8192x1x4x64, .f32⟩
  | 62 => ⟨S1x1x8192x4x64, .f32⟩
  | 63 => ⟨S1x1x64x128x4x64, .f32⟩
  | 64 => ⟨S1x1x1x128x4x64, .f32⟩
  | 65 => ⟨S_, .f32⟩
  | 66 => ⟨S1x1x1x128x4x64, .f32⟩
  | 67 => ⟨S1x1x63x128x4x64, .f32⟩
  | 68 => ⟨S1x1x64x128x4x64, .f32⟩
  | 69 => ⟨S1x1x64x256x4x64, .f32⟩
  | 70 => ⟨S_, .i32⟩
  | 71 => ⟨S_, .f32⟩
  | 72 => ⟨S1x8192x4x64, .f32⟩
  | 73 => ⟨S1x8192x1x4x64, .f32⟩
  | 74 => ⟨S1x1x8192x4x64, .f32⟩
  | 75 => ⟨S1x1x64x128x4x64, .f32⟩
  | 76 => ⟨S1x1x1x128x4x64, .f32⟩
  | 77 => ⟨S_, .f32⟩
  | 78 => ⟨S1x1x1x128x4x64, .f32⟩
  | 79 => ⟨S1x1x63x128x4x64, .f32⟩
  | 80 => ⟨S1x1x64x128x4x64, .f32⟩
  | 81 => ⟨S1x1x64x256x4x64, .f32⟩
  | 82 => ⟨S1x1x64x4x128x256, .f32⟩
  | 83 => ⟨S_, .f32⟩
  | 84 => ⟨S1x1x64x4x128x256, .f32⟩
  | 85 => ⟨S1x1x64x4x128x256, .f32⟩
  | 86 => ⟨S64, .i32⟩
  | 87 => ⟨S64x1, .i32⟩
  | 88 => ⟨S_, .i32⟩
  | 89 => ⟨S64x1, .i32⟩
  | 90 => ⟨S64x1, .i32⟩
  | 91 => ⟨S128, .i32⟩
  | 92 => ⟨S1x128, .i32⟩
  | 93 => ⟨S64x128, .i32⟩
  | 94 => ⟨S64x128, .i32⟩
  | 95 => ⟨S64x128, .i32⟩
  | 96 => ⟨S64, .i32⟩
  | 97 => ⟨S64x1, .i32⟩
  | 98 => ⟨S_, .i32⟩
  | 99 => ⟨S64x1, .i32⟩
  | 100 => ⟨S64x1, .i32⟩
  | 101 => ⟨S_, .i32⟩
  | 102 => ⟨S64x1, .i32⟩
  | 103 => ⟨S64x1, .i32⟩
  | 104 => ⟨S256, .i32⟩
  | 105 => ⟨S1x256, .i32⟩
  | 106 => ⟨S64x256, .i32⟩
  | 107 => ⟨S64x256, .i32⟩
  | 108 => ⟨S64x256, .i32⟩
  | 109 => ⟨S64x128x1, .i32⟩
  | 110 => ⟨S64x1x256, .i32⟩
  | 111 => ⟨S64x128x256, .i32⟩
  | 112 => ⟨S64x128x256, .i32⟩
  | 113 => ⟨S64x128x256, .i32⟩
  | 114 => ⟨S_, .i32⟩
  | 115 => ⟨S64x128x256, .i32⟩
  | 116 => ⟨S64x128x256, .i1⟩
  | 117 => ⟨S_, .i32⟩
  | 118 => ⟨S64x128x256, .i32⟩
  | 119 => ⟨S64x128x256, .i1⟩
  | 120 => ⟨S64x128x256, .i1⟩
  | 121 => ⟨S64x1x256, .i32⟩
  | 122 => ⟨S_, .i32⟩
  | 123 => ⟨S64x1x256, .i32⟩
  | 124 => ⟨S64x1x256, .i1⟩
  | 125 => ⟨S64x128x256, .i1⟩
  | 126 => ⟨S64x128x256, .i1⟩
  | 127 => ⟨S1x1x64x1x128x256, .i1⟩
  | _ => ⟨S1x8192x2560, .f32⟩

abbrev hbmTy0_1 (i : Nat) : BufTy := match i % 128 with
  | 0 => ⟨S_, .f32⟩
  | 1 => ⟨S_, .f32⟩
  | 2 => ⟨S1x1x64x4x128x256, .i1⟩
  | 3 => ⟨S1x1x64x4x128x256, .f32⟩
  | 4 => ⟨S1x1x64x4x128x256, .f32⟩
  | 5 => ⟨S_, .f32⟩
  | 6 => ⟨S1x1x64x4x128, .f32⟩
  | 7 => ⟨S1x1x64x4x128x1, .f32⟩
  | 8 => ⟨S1x1x64x4x128x256, .f32⟩
  | 9 => ⟨S1x1x64x4x128x256, .f32⟩
  | 10 => ⟨S1x1x64x4x128x256, .f32⟩
  | 11 => ⟨S_, .f32⟩
  | 12 => ⟨S1x1x64x4x128, .f32⟩
  | 13 => ⟨S1x1x64x4x128x1, .f32⟩
  | 14 => ⟨S1x1x64x4x128x256, .f32⟩
  | 15 => ⟨S1x1x64x4x128x256, .f32⟩
  | 16 => ⟨S1x1x64x4x64x128, .f32⟩
  | 17 => ⟨S1x1x64x128x4x64, .f32⟩
  | 18 => ⟨S1x1x64x4x128x1, .f32⟩
  | 19 => ⟨S1x1x64x4x128x1, .f32⟩
  | 20 => ⟨S1x1x64x4x128, .f32⟩
  | 21 => ⟨S1x1x8192x4x64, .f32⟩
  | 22 => ⟨S1x8192x1x4x64, .f32⟩
  | 23 => ⟨S1x8192x4x64, .f32⟩
  | 24 => ⟨S1x1x64x128x4, .f32⟩
  | 25 => ⟨S1x1x8192x4, .f32⟩
  | 26 => ⟨S1x8192x1x4, .f32⟩
  | 27 => ⟨S1x8192x4, .f32⟩
  | 28 => ⟨S1x8192x4x64, .f32⟩
  | 29 => ⟨S_, .f32⟩
  | 30 => ⟨S1x8192x4, .f32⟩
  | 31 => ⟨S1x8192x4, .f32⟩
  | 32 => ⟨S8192x256, .f32⟩
  | 33 => ⟨S_, .i32⟩
  | 34 => ⟨S_, .f32⟩
  | 35 => ⟨S8192x768, .f32⟩
  | 36 => ⟨S1x8192x4x1, .f32⟩
  | 37 => ⟨S1x8192x4x64, .f32⟩
  | 38 => ⟨S8192x256, .f32⟩
  | 39 => ⟨S_, .i32⟩
  | 40 => ⟨S_, .f32⟩
  | 41 => ⟨S8192x768, .f32⟩
  | 42 => ⟨S1x8192x4x1, .f32⟩
  | 43 => ⟨S1x8192x4x64, .f32⟩
  | 44 => ⟨S8192x256, .f32⟩
  | 45 => ⟨S_, .i32⟩
  | 46 => ⟨S_, .f32⟩
  | 47 => ⟨S8192x768, .f32⟩
  | 48 => ⟨S8192x8, .f32⟩
  | 49 => ⟨S8192x8, .f32⟩
  | 50 => ⟨S_, .f32⟩
  | 51 => ⟨S8192x8, .f32⟩
  | 52 => ⟨S_, .f32⟩
  | 53 => ⟨S8192x48, .f32⟩
  | 54 => ⟨S_, .f32⟩
  | 55 => ⟨S8192x48, .f32⟩
  | 56 => ⟨S8192x64, .f32⟩
  | 57 => ⟨S8192x8, .f32⟩
  | 58 => ⟨S8192x64, .f32⟩
  | 59 => ⟨S8192x64, .f32⟩
  | 60 => ⟨S1x8192x1x64, .f32⟩
  | 61 => ⟨S1x8192x2x64, .f32⟩
  | 62 => ⟨S8192x128, .f32⟩
  | 63 => ⟨S1x8192x1x64, .f32⟩
  | 64 => ⟨S1x8192x2x64, .f32⟩
  | 65 => ⟨S8192x128, .f32⟩
  | 66 => ⟨S1x8192x1x64, .f32⟩
  | 67 => ⟨S1x8192x2x64, .f32⟩
  | 68 => ⟨S8192x128, .f32⟩
  | 69 => ⟨S8192x2560, .bf16⟩
  | _ => ⟨S1x8192x2560, .f32⟩

abbrev hbmTy (i : Nat) : BufTy := match i / 128 with
  | 0 => hbmTy0_0 i
  | 1 => hbmTy0_1 i
  | _ => ⟨S1x8192x2560, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S128x128, .f32⟩
  | .local _ .vmem, ⟨11, _⟩ => ⟨S128x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S128x128, .f32⟩
  | .local _ .vmem, ⟨19, _⟩ => ⟨S128x128, .f32⟩
  | .local _ .vmem, ⟨20, _⟩ => ⟨S1024x128, .f32⟩
  | .local _ .vmem, ⟨21, _⟩ => ⟨S1024x128, .f32⟩
  | .local _ .vmem, ⟨22, _⟩ => ⟨S128x128, .f32⟩
  | .local _ .vmem, ⟨23, _⟩ => ⟨S128x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S3x1024x128, .bf16⟩
  | _, _ => ⟨S1x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c : Ref sig .tc := ⟨.hbm, 52, rfl⟩
abbrev main_call0_v0 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_c_0 : Ref sig .tc := ⟨.hbm, 58, rfl⟩
abbrev main_call1_v0 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c_1 : Ref sig .tc := ⟨.hbm, 70, rfl⟩
abbrev main_call2_v0 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_2 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_3 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_4 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_c_5 : Ref sig .tc := ⟨.hbm, 98, rfl⟩
abbrev main_v82 : Ref sig .tc := ⟨.hbm, 99, rfl⟩
abbrev main_v83 : Ref sig .tc := ⟨.hbm, 100, rfl⟩
abbrev main_c_6 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_7 : Ref sig .tc := ⟨.hbm, 114, rfl⟩
abbrev main_v96 : Ref sig .tc := ⟨.hbm, 115, rfl⟩
abbrev main_v97 : Ref sig .tc := ⟨.hbm, 116, rfl⟩
abbrev main_c_8 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_c_9 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_10 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v107 : Ref sig .tc := ⟨.hbm, 132, rfl⟩
abbrev main_cst_11 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_12 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_13 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_14 : Ref sig .tc := ⟨.hbm, 161, rfl⟩
abbrev main_call4_v0 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_c_15 : Ref sig .tc := ⟨.hbm, 167, rfl⟩
abbrev main_call5_v0 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_c_16 : Ref sig .tc := ⟨.hbm, 173, rfl⟩
abbrev main_call6_v0 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_17 : Ref sig .tc := ⟨.hbm, 178, rfl⟩
abbrev main_v144 : Ref sig .tc := ⟨.hbm, 179, rfl⟩
abbrev main_cst_18 : Ref sig .tc := ⟨.hbm, 180, rfl⟩
abbrev main_v145 : Ref sig .tc := ⟨.hbm, 181, rfl⟩
abbrev main_cst_19 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c2_i32 : BitVec 32 := 2#32
  let arg1 : BitVec 32 := BitVec.ofNat 32 (i 1).val
  let v858 : BitVec 32 := Scalar.addi c2_i32 arg1
  let c128_i32 : BitVec 32 := 128#32
  let v859 : BitVec 32 := Scalar.muli v858 c128_i32
  v859
def k0_mult2 (i : grid0.Coords) : BitVec 32 :=
  let arg0 : BitVec 32 := BitVec.ofNat 32 (i 0).val
  let c1024_i32 : BitVec 32 := 1024#32
  let v861 : BitVec 32 := Scalar.muli arg0 c1024_i32
  v861
def k0_off1 (i : grid0.Coords) (c2_i32 : BitVec 32) : Fin 2 → Nat :=
  let arg0 : BitVec 32 := BitVec.ofNat 32 (i 0).val
  let c1024_i32 : BitVec 32 := 1024#32
  let v861 : BitVec 32 := Scalar.muli arg0 c1024_i32
  let v862 : BitVec 32 := v861
  let arg1 : BitVec 32 := BitVec.ofNat 32 (i 1).val
  let v858 : BitVec 32 := Scalar.addi c2_i32 arg1
  let c128_i32 : BitVec 32 := 128#32
  let v859 : BitVec 32 := Scalar.muli v858 c128_i32
  let v860 : BitVec 32 := v859
  ![v862.toNat, v860.toNat]
def k0_mult3 (i : grid0.Coords) : BitVec 32 :=
  let c8_i32_343 : BitVec 32 := 8#32
  let arg1 : BitVec 32 := BitVec.ofNat 32 (i 1).val
  let v886 : BitVec 32 := Scalar.addi c8_i32_343 arg1
  let c128_i32_344 : BitVec 32 := 128#32
  let v887 : BitVec 32 := Scalar.muli v886 c128_i32_344
  v887
def k0_mult4 (i : grid0.Coords) : BitVec 32 :=
  let arg0 : BitVec 32 := BitVec.ofNat 32 (i 0).val
  let c1024_i32_345 : BitVec 32 := 1024#32
  let v889 : BitVec 32 := Scalar.muli arg0 c1024_i32_345
  v889
def k0_mult5 (i : grid0.Coords) : BitVec 32 :=
  let c14_i32 : BitVec 32 := 14#32
  let arg1 : BitVec 32 := BitVec.ofNat 32 (i 1).val
  let v901 : BitVec 32 := Scalar.addi c14_i32 arg1
  let c128_i32_353 : BitVec 32 := 128#32
  let v902 : BitVec 32 := Scalar.muli v901 c128_i32_353
  v902
def k0_mult6 (i : grid0.Coords) : BitVec 32 :=
  let arg0 : BitVec 32 := BitVec.ofNat 32 (i 0).val
  let c1024_i32_354 : BitVec 32 := 1024#32
  let v904 : BitVec 32 := Scalar.muli arg0 c1024_i32_354
  v904
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c2_i32 : BitVec 32 := 2#32
  let v3 : BitVec 32 := Scalar.addi c2_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let v3 : BitVec 32 := Scalar.addi c8_i32_0 arg1
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let v3 : BitVec 32 := Scalar.addi c14_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1x4096x1024 : Shape := ⟨3, ![1, 4096, 1024]⟩
abbrev S1x1024x4096 : Shape := ⟨3, ![1, 1024, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 31
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S4096x1024, .bf16⟩
  | .hbm, ⟨24, _⟩ => ⟨S1x4096x1024, .bf16⟩
  | .hbm, ⟨25, _⟩ => ⟨S1024x4096, .bf16⟩
  | .hbm, ⟨26, _⟩ => ⟨S1x1024x4096, .bf16⟩
  | .hbm, ⟨27, _⟩ => ⟨S1x1024, .f32⟩
  | .hbm, ⟨28, _⟩ => ⟨S8192x1024, .f32⟩
  | .hbm, ⟨29, _⟩ => ⟨S1x1024, .f32⟩
  | .hbm, ⟨30, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x4096x1024, .bf16⟩
  | .local _ .vmem, ⟨3, _⟩ => ⟨S1x1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x4096, .bf16⟩
  | .local _ .vmem, ⟨13, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_65 : BitVec 32 := 0#32
  let v101 : BitVec 1 := Scalar.cmpi .ne v100 c0_i32_65
  v101

def k0_cond2 (i : grid0.Coords) : BitVec 1 :=
  let arg0 : BitVec 32 := BitVec.ofNat 32 (i 0).val
  let c0_i32_66 : BitVec 32 := 0#32
  let v102 : BitVec 1 := Scalar.cmpi .sgt arg0 c0_i32_66
  let v103 : BitVec 32 := Scalar.extui v102
  let c0_i32_67 : BitVec 32 := 0#32
  let v104 : BitVec 1 := Scalar.cmpi .ne v103 c0_i32_67
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== DwDown.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .bf16⟩
  | .hbm, ⟨22, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S4096x1024, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1024x4096, .f32⟩
  | .hbm, ⟨29, _⟩ => ⟨S4096x1024, .f32⟩
  | .hbm, ⟨30, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== DwUp.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 21
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwIn.lean ====
abbrev S8192x2560 : Shape := ⟨2, ![8192, 2560]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 21
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2560 : Shape := ⟨2, ![8192, 2560]⟩
abbrev S8192x1024 : Shape := ⟨2, ![8192, 1024]⟩
abbrev S1024 : Shape := ⟨1, ![1024]⟩
abbrev S_ : Shape := ⟨0, ![]⟩
abbrev S1024x2560 : Shape := ⟨2, ![1024, 2560]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2560, .f32⟩
  | .hbm, ⟨22, _⟩ => ⟨S8192x2560, .f32⟩
  | .hbm, ⟨23, _⟩ => ⟨S2560x1024, .f32⟩
  | .hbm, ⟨24, _⟩ => ⟨S1024x2560, .f32⟩
  | .hbm, ⟨25, _⟩ => ⟨S1024x2560, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InBwd.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S1x1024x2560 : Shape := ⟨3, ![1, 1024, 2560]⟩
abbrev S1x1024 : Shape := ⟨2, ![1, 1024]⟩
abbrev S512x2560 : Shape := ⟨2, ![512, 2560]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S1024, .f32⟩
  | .hbm, ⟨3, _⟩ => ⟨S1024x2560, .f32⟩
  | .hbm, ⟨4, _⟩ => ⟨S8192x1024, .f32⟩
  | .hbm, ⟨5, _⟩ => ⟨S1024x2560, .bf16⟩
  | .hbm, ⟨6, _⟩ => ⟨S1x1024x2560, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1x1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_38 : BitVec 32 := 0#32
  let v57 : BitVec 1 := Scalar.cmpi .ne v56 c0_i32_38
  v57

def k0_cond2 (i : grid0.Coords) : BitVec 1 :=
  let arg0 : BitVec 32 := BitVec.ofNat 32 (i 0).val
  let c0_i32_39 : BitVec 32 := 0#32
  let v58 : BitVec 1 := Scalar.cmpi .sgt arg0 c0_i32_39
  let v59 : BitVec 32 := Scalar.extui v58
  let c0_i32_40 : BitVec 32 := 0#32
  let v60 : BitVec 1 := Scalar.cmpi .ne v59 c0_i32_40
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S1024, .f32⟩
  | .hbm, ⟨3, _⟩ => ⟨S1024x2560, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MlpFwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1x1024x4096, .bf16⟩
  | .hbm, ⟨7, _⟩ => ⟨S4096x1024, .bf16⟩
  | .hbm, ⟨8, _⟩ => ⟨S1x4096x1024, .bf16⟩
  | .hbm, ⟨9, _⟩ => ⟨S8192x1024, .f32⟩
  | .hbm, ⟨10, _⟩ => ⟨S8192x4096, .bf16⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpFwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x4096, .bf16⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== DwGate.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGateRefIdeal.lean ====
abbrev S8192x1024 : Shape := ⟨2, ![8192, 1024]⟩
abbrev S1024 : Shape := ⟨1, ![1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwPle.lean ====
abbrev S2x8192x256 : Shape := ⟨3, ![2, 8192, 256]⟩
abbrev S8192x1024 : Shape := ⟨2, ![8192, 1024]⟩
abbrev S256x1024 : Shape := ⟨2, ![256, 1024]⟩
abbrev S1x2048x256 : Shape := ⟨3, ![1, 2048, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x256, .f32⟩
  | .hbm, ⟨1, _⟩ => ⟨S8192x1024, .bf16⟩
  | .hbm, ⟨2, _⟩ => ⟨S256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwPleRefIdeal.lean ====
abbrev S2x8192x256 : Shape := ⟨3, ![2, 8192, 256]⟩
abbrev S8192x1024 : Shape := ⟨2, ![8192, 1024]⟩
abbrev S_ : Shape := ⟨0, ![]⟩
abbrev S256x1024 : Shape := ⟨2, ![256, 1024]⟩
abbrev S1x8192x256 : Shape := ⟨3, ![1, 8192, 256]⟩
abbrev S8192x256 : Shape := ⟨2, ![8192, 256]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S1x8192x256, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateBwd.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S2x8192x256 : Shape := ⟨3, ![2, 8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x256x1024 : Shape := ⟨3, ![1, 256, 1024]⟩
abbrev S1x1024x1024 : Shape := ⟨3, ![1, 1024, 1024]⟩
abbrev S512x1024 : Shape := ⟨2, ![512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2x8192x256, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S256x1024, .bf16⟩
  | .hbm, ⟨25, _⟩ => ⟨S1x256x1024, .bf16⟩
  | .hbm, ⟨26, _⟩ => ⟨S1024x1024, .bf16⟩
  | .hbm, ⟨27, _⟩ => ⟨S1x1024x1024, .bf16⟩
  | .hbm, ⟨28, _⟩ => ⟨S1x1024, .f32⟩
  | .hbm, ⟨29, _⟩ => ⟨S8192x1024, .f32⟩
  | .hbm, ⟨30, _⟩ => ⟨S1x1024, .f32⟩
  | .hbm, ⟨31, _⟩ => ⟨S8192x1024, .bf16⟩
  | .hbm, ⟨32, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_33 : BitVec 32 := 0#32
  let v62 : BitVec 1 := Scalar.cmpi .ne v61 c0_i32_33
  v62

def k0_cond2 (i : grid0.Coords) : BitVec 1 :=
  let arg0 : BitVec 32 := BitVec.ofNat 32 (i 0).val
  let c0_i32_34 : BitVec 32 := 0#32
  let v63 : BitVec 1 := Scalar.cmpi .sgt arg0 c0_i32_34
  let v64 : BitVec 32 := Scalar.extui v63
  let c0_i32_35 : BitVec 32 := 0#32
  let v65 : BitVec 1 := Scalar.cmpi .ne v64 c0_i32_35
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateBwdRefIdeal.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S2x8192x256 : Shape := ⟨3, ![2, 8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2x8192x256, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x8192x256, .f32⟩
  | .hbm, ⟨28, _⟩ => ⟨S8192x256, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .bf16⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== GateFwd.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S2x8192x256 : Shape := ⟨3, ![2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S2x8192x256, .f32⟩
  | .hbm, ⟨5, _⟩ => ⟨S1x1024, .f32⟩
  | .hbm, ⟨6, _⟩ => ⟨S1024x1024, .bf16⟩
  | .hbm, ⟨7, _⟩ => ⟨S1x1024x1024, .bf16⟩
  | .hbm, ⟨8, _⟩ => ⟨S256x1024, .bf16⟩
  | .hbm, ⟨9, _⟩ => ⟨S1x256x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateFwdRefIdeal.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S2x8192x256 : Shape := ⟨3, ![2, 8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S2x8192x256, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S1x8192x256, .f32⟩
  | .hbm, ⟨31, _⟩ => ⟨S8192x256, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x2560 : Shape := ⟨2, ![1024, 2560]⟩
abbrev S1x8192x1x8 : Shape := ⟨4, ![1, 8192, 1, 8]⟩
abbrev S1x1024 : Shape := ⟨2, ![1, 1024]⟩
abbrev S1x1024x2560 : Shape := ⟨3, ![1, 1024, 2560]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x2560 : Shape := ⟨2, ![8192, 2560]⟩
abbrev S512x1024 : Shape := ⟨2, ![512, 1024]⟩
abbrev S512x128 : Shape := ⟨2, ![512, 128]⟩
abbrev S512x2560 : Shape := ⟨2, ![512, 2560]⟩
abbrev S512x256 : Shape := ⟨2, ![512, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩

abbrev nBuf : Space → Nat
  | .hbm => 31
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S1x8192x1x8, .f32⟩
  | .hbm, ⟨4, _⟩ => ⟨S1x8192x1x8, .f32⟩
  | .hbm, ⟨5, _⟩ => ⟨S1x1024, .f32⟩
  | .hbm, ⟨6, _⟩ => ⟨S1024x2560, .bf16⟩
  | .hbm, ⟨7, _⟩ => ⟨S1x1024x2560, .bf16⟩
  | .hbm, ⟨8, _⟩ => ⟨S8192x8, .f32⟩
  | .hbm, ⟨9, _⟩ => ⟨S8192x8, .f32⟩
  | .hbm, ⟨10, _⟩ => ⟨S_, .f32⟩
  | .hbm, ⟨11, _⟩ => ⟨S8192x8, .f32⟩
  | .hbm, ⟨12, _⟩ => ⟨S_, .f32⟩
  | .hbm, ⟨13, _⟩ => ⟨S8192x48, .f32⟩
  | .hbm, ⟨14, _⟩ => ⟨S_, .f32⟩
  | .hbm, ⟨15, _⟩ => ⟨S8192x48, .f32⟩
  | .hbm, ⟨16, _⟩ => ⟨S8192x64, .f32⟩
  | .hbm, ⟨17, _⟩ => ⟨S8192x8, .f32⟩
  | .hbm, ⟨18, _⟩ => ⟨S8192x64, .f32⟩
  | .hbm, ⟨19, _⟩ => ⟨S8192x64, .f32⟩
  | .hbm, ⟨20, _⟩ => ⟨S1x8192x1x64, .f32⟩
  | .hbm, ⟨21, _⟩ => ⟨S1x8192x2x64, .f32⟩
  | .hbm, ⟨22, _⟩ => ⟨S8192x128, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S8192x2560, .f32⟩
  | .hbm, ⟨30, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2560, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2560, .f32⟩
  | .local _ .vmem, ⟨11, _⟩ => ⟨S512x2560, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S8192x1024 : Shape := ⟨2, ![8192, 1024]⟩
abbrev S1024 : Shape := ⟨1, ![1024]⟩
abbrev S1024x2560 : Shape := ⟨2, ![1024, 2560]⟩
abbrev S1x8192x1x8 : Shape := ⟨4, ![1, 8192, 1, 8]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S1x8192x2560 : Shape := ⟨3, ![1, 8192, 2560]⟩
abbrev S1x8192x2304 : Shape := ⟨3, ![1, 8192, 2304]⟩
abbrev S1x8192x768 : Shape := ⟨3, ![1, 8192, 768]⟩
abbrev S1x8192x12x64 : Shape := ⟨4, ![1, 8192, 12, 64]⟩
abbrev S1x8192x12x8 : Shape := ⟨4, ![1, 8192, 12, 8]⟩
abbrev S1x8192x12x16 : Shape := ⟨4, ![1, 8192, 12, 16]⟩
abbrev S1x8192x12x48 : Shape := ⟨4, ![1, 8192, 12, 48]⟩
abbrev S1x8192x256 : Shape := ⟨3, ![1, 8192, 256]⟩
abbrev S8192x256 : Shape := ⟨2, ![8192, 256]⟩
abbrev S8192x768 : Shape := ⟨2, ![8192, 768]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S1x8192x1x8, .f32⟩
  | .hbm, ⟨4, _⟩ => ⟨S1x8192x1x8, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2560, .f32⟩
  | .hbm, ⟨22, _⟩ => ⟨S1x8192x2560, .f32⟩
  | .hbm, ⟨23, _⟩ => ⟨S1x8192x2304, .f32⟩
  | .hbm, ⟨24, _⟩ => ⟨S1x8192x768, .f32⟩
  | .hbm, ⟨25, _⟩ => ⟨S1x8192x768, .f32⟩
  | .hbm, ⟨26, _⟩ => ⟨S1x8192x768, .f32⟩
  | .hbm, ⟨27, _⟩ => ⟨S1x8192x12x64, .f32⟩
  | .hbm, ⟨28, _⟩ => ⟨S1x8192x12x64, .f32⟩
  | .hbm, ⟨29, _⟩ => ⟨S1x8192x12x64, .f32⟩
  | .hbm, ⟨30, _⟩ => ⟨S1x8192x12x8, .f32⟩
  | .hbm, ⟨31, _⟩ => ⟨S1x8192x12x8, .f32⟩
  | .hbm, ⟨32, _⟩ => ⟨S1x8192x12x8, .f32⟩
  | .hbm, ⟨33, _⟩ => ⟨S1x8192x12x8, .f32⟩
  | .hbm, ⟨34, _⟩ => ⟨S1x8192x12x8, .f32⟩
  | .hbm, ⟨35, _⟩ => ⟨S1x8192x12x8, .f32⟩
  | .hbm, ⟨36, _⟩ => ⟨S1x8192x12x8, .f32⟩
  | .hbm, ⟨37, _⟩ => ⟨S1x8192x12x8, .f32⟩
  | .hbm, ⟨38, _⟩ => ⟨S1x8192x12x8, .f32⟩
  | .hbm, ⟨39, _⟩ => ⟨S1x8192x12x8, .f32⟩
  | .hbm, ⟨40, _⟩ => ⟨S1x8192x12x8, .f32⟩
  | .hbm, ⟨41, _⟩ => ⟨S1x8192x12x8, .f32⟩
  | .hbm, ⟨42, _⟩ => ⟨S1x8192x12x16, .f32⟩
  | .hbm, ⟨43, _⟩ => ⟨S1x8192x12x48, .f32⟩
  | .hbm, ⟨44, _⟩ => ⟨S1x8192x12x64, .f32⟩
  | .hbm, ⟨45, _⟩ => ⟨S1x8192x12x8, .f32⟩
  | .hbm, ⟨46, _⟩ => ⟨S1x8192x12x8, .f32⟩
  | .hbm, ⟨47, _⟩ => ⟨S1x8192x12x8, .f32⟩
  | .hbm, ⟨48, _⟩ => ⟨S1x8192x12x8, .f32⟩
  | .hbm, ⟨49, _⟩ => ⟨S1x8192x12x8, .f32⟩
  | .hbm, ⟨50, _⟩ => ⟨S1x8192x12x8, .f32⟩
  | .hbm, ⟨51, _⟩ => ⟨S1x8192x12x8, .f32⟩
  | .hbm, ⟨52, _⟩ => ⟨S1x8192x12x8, .f32⟩
  | .hbm, ⟨53, _⟩ => ⟨S1x8192x12x8, .f32⟩
  | .hbm, ⟨54, _⟩ => ⟨S1x8192x12x8, .f32⟩
  | .hbm, ⟨55, _⟩ => ⟨S1x8192x12x8, .f32⟩
  | .hbm, ⟨56, _⟩ => ⟨S1x8192x12x8, .f32⟩
  | .hbm, ⟨57, _⟩ => ⟨S1x8192x12x16, .f32⟩
  | .hbm, ⟨58, _⟩ => ⟨S1x8192x12x48, .f32⟩
  | .hbm, ⟨59, _⟩ => ⟨S1x8192x12x64, .f32⟩
  | .hbm, ⟨60, _⟩ => ⟨S1x8192x256, .f32⟩
  | .hbm, ⟨61, _⟩ => ⟨S8192x256, .f32⟩
  | .hbm, ⟨62, _⟩ => ⟨S8192x768, .f32⟩
  | .hbm, ⟨63, _⟩ => ⟨S8192x768, .f32⟩
  | .hbm, ⟨64, _⟩ => ⟨S8192x768, .f32⟩
  | .hbm, ⟨65, _⟩ => ⟨S8192x2560, .f32⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S8192x768 : Shape := ⟨2, ![8192, 768]⟩
abbrev S8192x12 : Shape := ⟨2, ![8192, 12]⟩
abbrev S8192x12x1 : Shape := ⟨3, ![8192, 12, 1]⟩
abbrev S8192x12x64 : Shape := ⟨3, ![8192, 12, 64]⟩
abbrev S1x1024x1024 : Shape := ⟨3, ![1, 1024, 1024]⟩
abbrev S8192x256 : Shape := ⟨2, ![8192, 256]⟩
abbrev S512x1024 : Shape := ⟨2, ![512, 1024]⟩
abbrev S512x256 : Shape := ⟨2, ![512, 256]⟩
abbrev S512x768 : Shape := ⟨2, ![512, 768]⟩
abbrev S256x256 : Shape := ⟨2, ![256, 256]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x768, .f32⟩
  | .hbm, ⟨3, _⟩ => ⟨S8192x12, .f32⟩
  | .hbm, ⟨4, _⟩ => ⟨S8192x12x1, .f32⟩
  | .hbm, ⟨5, _⟩ => ⟨S8192x12x64, .f32⟩
  | .hbm, ⟨6, _⟩ => ⟨S8192x768, .f32⟩
  | .hbm, ⟨7, _⟩ => ⟨S1024x1024, .bf16⟩
  | .hbm, ⟨8, _⟩ => ⟨S1x1024x1024, .bf16⟩
  | .hbm, ⟨9, _⟩ => ⟨S8192x256, .f32⟩
  | .hbm, ⟨10, _⟩ => ⟨S8192x768, .f32⟩
  | .hbm, ⟨11, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutBwdRefIdeal.lean ====
abbrev S8192x1024 : Shape := ⟨2, ![8192, 1024]⟩
abbrev S1024x1024 : Shape := ⟨2, ![1024, 1024]⟩
abbrev S8192x768 : Shape := ⟨2, ![8192, 768]⟩
abbrev S8192x12 : Shape := ⟨2, ![8192, 12]⟩
abbrev S8192x3x4x64 : Shape := ⟨4, ![8192, 3, 4, 64]⟩
abbrev S_ : Shape := ⟨0, ![]⟩
abbrev S8192x256 : Shape := ⟨2, ![8192, 256]⟩
abbrev S8192x3x4 : Shape := ⟨3, ![8192, 3, 4]⟩
abbrev S8192x4 : Shape := ⟨2, ![8192, 4]⟩
abbrev S8192x1x4 : Shape := ⟨3, ![8192, 1, 4]⟩
abbrev S8192x3x4x1 : Shape := ⟨4, ![8192, 3, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x768, .f32⟩
  | .hbm, ⟨3, _⟩ => ⟨S8192x12, .f32⟩
  | .hbm, ⟨4, _⟩ => ⟨S8192x3x4x64, .f32⟩
  | .hbm, ⟨5, _⟩ => ⟨S_, .f32⟩
  | .hbm, ⟨6, _⟩ => ⟨S8192x256, .f32⟩
  | .hbm, ⟨7, _⟩ => ⟨S8192x3x4, .f32⟩
  | .hbm, ⟨8, _⟩ => ⟨S_, .f32⟩
  | .hbm, ⟨9, _⟩ => ⟨S8192x4, .f32⟩
  | .hbm, ⟨10, _⟩ => ⟨S8192x1x4, .f32⟩
  | .hbm, ⟨11, _⟩ => ⟨S8192x3x4, .f32⟩
  | .hbm, ⟨12, _⟩ => ⟨S8192x3x4, .i1⟩
  | .hbm, ⟨13, _⟩ => ⟨S8192x3x4, .f32⟩
  | .hbm, ⟨14, _⟩ => ⟨S_, .f32⟩
  | .hbm, ⟨15, _⟩ => ⟨S8192x4, .f32⟩
  | .hbm, ⟨16, _⟩ => ⟨S_, .f32⟩
  | .hbm, ⟨17, _⟩ => ⟨S8192x4, .f32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .i1⟩
  | .hbm, ⟨22, _⟩ => ⟨S_, .f32⟩
  | .hbm, ⟨23, _⟩ => ⟨S8192x4, .f32⟩
  | .hbm, ⟨24, _⟩ => ⟨S8192x4, .i1⟩
  | .hbm, ⟨25, _⟩ => ⟨S_, .f32⟩
  | .hbm, ⟨26, _⟩ => ⟨S8192x4, .f32⟩
  | .hbm, ⟨27, _⟩ => ⟨S_, .f32⟩
  | .hbm, ⟨28, _⟩ => ⟨S8192x4, .f32⟩
  | .hbm, ⟨29, _⟩ => ⟨S_, .f32⟩
  | .hbm, ⟨30, _⟩ => ⟨S8192x4, .f32⟩
  | .hbm, ⟨31, _⟩ => ⟨S8192x4, .f32⟩
  | .hbm, ⟨32, _⟩ => ⟨S8192x4, .f32⟩
  | .hbm, ⟨33, _⟩ => ⟨S8192x1x4, .f32⟩
  | .hbm, ⟨34, _⟩ => ⟨S8192x3x4, .f32⟩
  | .hbm, ⟨35, _⟩ => ⟨S8192x3x4, .f32⟩
  | .hbm, ⟨36, _⟩ => ⟨S8192x3x4, .f32⟩
  | .hbm, ⟨37, _⟩ => ⟨S_, .f32⟩
  | .hbm, ⟨38, _⟩ => ⟨S8192x4, .f32⟩
  | .hbm, ⟨39, _⟩ => ⟨S8192x1x4, .f32⟩
  | .hbm, ⟨40, _⟩ => ⟨S8192x3x4, .f32⟩
  | .hbm, ⟨41, _⟩ => ⟨S8192x3x4, .f32⟩
  | .hbm, ⟨42, _⟩ => ⟨S8192x1x4, .f32⟩
  | .hbm, ⟨43, _⟩ => ⟨S_, .f32⟩
  | .hbm, ⟨44, _⟩ => ⟨S8192x1x4, .f32⟩
  | .hbm, ⟨45, _⟩ => ⟨S8192x1x4, .f32⟩
  | .hbm, ⟨46, _⟩ => ⟨S8192x3x4x1, .f32⟩
  | .hbm, ⟨47, _⟩ => ⟨S8192x3x4x64, .f32⟩
  | .hbm, ⟨48, _⟩ => ⟨S8192x3x4x64, .f32⟩
  | .hbm, ⟨49, _⟩ => ⟨S8192x768, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x256, .f32⟩
  | .hbm, ⟨54, _⟩ => ⟨S8192x768, .f32⟩
  | .hbm, ⟨55, _⟩ => ⟨S8192x3x4x64, .f32⟩
  | .hbm, ⟨56, _⟩ => ⟨S8192x3x4x64, .f32⟩
  | .hbm, ⟨57, _⟩ => ⟨S_, .f32⟩
  | .hbm, ⟨58, _⟩ => ⟨S8192x3x4, .f32⟩
  | .hbm, ⟨59, _⟩ => ⟨S8192x3x4x1, .f32⟩
  | .hbm, ⟨60, _⟩ => ⟨S8192x3x4x64, .f32⟩
  | .hbm, ⟨61, _⟩ => ⟨S8192x3x4x64, .f32⟩
  | .hbm, ⟨62, _⟩ => ⟨S_, .f32⟩
  | .hbm, ⟨63, _⟩ => ⟨S8192x3x4, .f32⟩
  | .hbm, ⟨64, _⟩ => ⟨S8192x3x4, .f32⟩
  | .hbm, ⟨65, _⟩ => ⟨S8192x3x4, .f32⟩
  | .hbm, ⟨66, _⟩ => ⟨S8192x3x4, .f32⟩
  | .hbm, ⟨67, _⟩ => ⟨S_, .f32⟩
  | .hbm, ⟨68, _⟩ => ⟨S8192x4, .f32⟩
  | .hbm, ⟨69, _⟩ => ⟨S8192x1x4, .f32⟩
  | .hbm, ⟨70, _⟩ => ⟨S8192x1x4, .f32⟩
  | .hbm, ⟨71, _⟩ => ⟨S8192x3x4, .f32⟩
  | .hbm, ⟨72, _⟩ => ⟨S8192x3x4, .f32⟩
  | .hbm, ⟨73, _⟩ => ⟨S_, .f32⟩
  | .hbm, ⟨74, _⟩ => ⟨S8192x4, .f32⟩
  | .hbm, ⟨75, _⟩ => ⟨S8192x3x4, .f32⟩
  | .hbm, ⟨76, _⟩ => ⟨S8192x3x4, .f32⟩
  | .hbm, ⟨77, _⟩ => ⟨S8192x3x4, .f32⟩
  | .hbm, ⟨78, _⟩ => ⟨S8192x3x4x64, .f32⟩
  | .hbm, ⟨79, _⟩ => ⟨S_, .f32⟩
  | .hbm, ⟨80, _⟩ => ⟨S8192x3x4, .f32⟩
  | .hbm, ⟨81, _⟩ => ⟨S8192x3x4, .f32⟩
  | .hbm, ⟨82, _⟩ => ⟨S8192x768, .f32⟩
  | .hbm, ⟨83, _⟩ => ⟨S8192x3x4x1, .f32⟩
  | .hbm, ⟨84, _⟩ => ⟨S8192x3x4x64, .f32⟩
  | .hbm, ⟨85, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== MixOut.lean ====
abbrev S8192x2560 : Shape := ⟨2, ![8192, 2560]⟩
abbrev S4x64x64 : Shape := ⟨3, ![4, 64, 64]⟩
abbrev S256 : Shape := ⟨1, ![256]⟩
abbrev S8192x768 : Shape := ⟨2, ![8192, 768]⟩
abbrev S8192x12 : Shape := ⟨2, ![8192, 12]⟩
abbrev S1024x1024 : Shape := ⟨2, ![1024, 1024]⟩
abbrev S8192x1024 : Shape := ⟨2, ![8192, 1024]⟩
abbrev S8192x12x1 : Shape := ⟨3, ![8192, 12, 1]⟩
abbrev S8192x12x64 : Shape := ⟨3, ![8192, 12, 64]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S1x1024x1024 : Shape := ⟨3, ![1, 1024, 1024]⟩
abbrev S512x256 : Shape := ⟨2, ![512, 256]⟩
abbrev S16x256 : Shape := ⟨2, ![16, 256]⟩
abbrev S512x1024 : Shape := ⟨2, ![512, 1024]⟩
abbrev S528x256 : Shape := ⟨2, ![528, 256]⟩

abbrev nBuf : Space → Nat
  | .hbm => 38
  | .vmem => 25
  | .smem => 0
  | _ => 0

abbrev bufTy : (tb : Table) → Fin (tcTables nBuf tb) → BufTy
  | .hbm, ⟨0, _⟩ => ⟨S8192x2560, .f32⟩
  | .hbm, ⟨1, _⟩ => ⟨S4x64x64, .f32⟩
  | .hbm, ⟨2, _⟩ => ⟨S256, .f32⟩
  | .hbm, ⟨3, _⟩ => ⟨S8192x768, .f32⟩
  | .hbm, ⟨4, _⟩ => ⟨S8192x12, .f32⟩
  | .hbm, ⟨5, _⟩ => ⟨S1024x1024, .f32⟩
  | .hbm, ⟨6, _⟩ => ⟨S8192x1024, .f32⟩
  | .hbm, ⟨7, _⟩ => ⟨S8192x12x1, .f32⟩
  | .hbm, ⟨8, _⟩ => ⟨S8192x12x64, .f32⟩
  | .hbm, ⟨9, _⟩ => ⟨S8192x768, .f32⟩
  | .hbm, ⟨10, _⟩ => ⟨S_, .f32⟩
  | .hbm, ⟨11, _⟩ => ⟨S256x256, .f32⟩
  | .hbm, ⟨12, _⟩ => ⟨S1x64x64, .f32⟩
  | .hbm, ⟨13, _⟩ => ⟨S64x64, .f32⟩
  | .hbm, ⟨14, _⟩ => ⟨S_, .i32⟩
  | .hbm, ⟨15, _⟩ => ⟨S_, .i32⟩
  | .hbm, ⟨16, _⟩ => ⟨S256x256, .f32⟩
  | .hbm, ⟨17, _⟩ => ⟨S1x64x64, .f32⟩
  | .hbm, ⟨18, _⟩ => ⟨S64x64, .f32⟩
  | .hbm, ⟨19, _⟩ => ⟨S_, .i32⟩
  | .hbm, ⟨20, _⟩ => ⟨S_, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S_, .i32⟩
  | .hbm, ⟨26, _⟩ => ⟨S256x256, .f32⟩
  | .hbm, ⟨27, _⟩ => ⟨S1x64x64, .f32⟩
  | .hbm, ⟨28, _⟩ => ⟨S64x64, .f32⟩
  | .hbm, ⟨29, _⟩ => ⟨S_, .i32⟩
  | .hbm, ⟨30, _⟩ => ⟨S_, .i32⟩
  | .hbm, ⟨31, _⟩ => ⟨S256x256, .f32⟩
  | .hbm, ⟨32, _⟩ => ⟨S256x256, .bf16⟩
  | .hbm, ⟨33, _⟩ => ⟨S1x256, .f32⟩
  | .hbm, ⟨34, _⟩ => ⟨S1024x1024, .bf16⟩
  | .hbm, ⟨35, _⟩ => ⟨S1x1024x1024, .bf16⟩
  | .hbm, ⟨36, _⟩ => ⟨S8192x1024, .bf16⟩
  | .hbm, ⟨37, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x1024x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_c_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutRefIdeal.lean ====
abbrev S8192x2560 : Shape := ⟨2, ![8192, 2560]⟩
abbrev S4x64x64 : Shape := ⟨3, ![4, 64, 64]⟩
abbrev S256 : Shape := ⟨1, ![256]⟩
abbrev S8192x768 : Shape := ⟨2, ![8192, 768]⟩
abbrev S8192x12 : Shape := ⟨2, ![8192, 12]⟩
abbrev S1024x1024 : Shape := ⟨2, ![1024, 1024]⟩
abbrev S8192x1024 : Shape := ⟨2, ![8192, 1024]⟩
abbrev S8192x3x4 : Shape := ⟨3, ![8192, 3, 4]⟩
abbrev S_ : Shape := ⟨0, ![]⟩
abbrev S8192x4 : Shape := ⟨2, ![8192, 4]⟩
abbrev S8192x1x4 : Shape := ⟨3, ![8192, 1, 4]⟩
abbrev S8192x3x4x64 : Shape := ⟨4, ![8192, 3, 4, 64]⟩
abbrev S8192x3x4x1 : Shape := ⟨4, ![8192, 3, 4, 1]⟩
abbrev S8192x256 : Shape := ⟨2, ![8192, 256]⟩
abbrev S8192 : Shape := ⟨1, ![8192]⟩
abbrev S8207x256 : Shape := ⟨2, ![8207, 256]⟩
abbrev S8192x64 : Shape := ⟨2, ![8192, 64]⟩
abbrev S8192x1 : Shape := ⟨2, ![8192, 1]⟩
abbrev S1x64x64 : Shape := ⟨3, ![1, 64, 64]⟩
abbrev S64x64 : Shape := ⟨2, ![64, 64]⟩
abbrev S1x256 : Shape := ⟨2, ![1, 256]⟩

abbrev nBuf : Space → Nat
  | .hbm => 156
  | .vmem => 0
  | .smem => 0
  | _ => 0

abbrev hbmTy0_0 (i : Nat) : BufTy := match i % 128 with
  | 0 => ⟨S8192x2560, .f32⟩
  | 1 => ⟨S4x64x64, .f32⟩
  | 2 => ⟨S256, .f32⟩
  | 3 => ⟨S8192x768, .f32⟩
  | 4 => ⟨S8192x12, .f32⟩
  | 5 => ⟨S1024x1024, .f32⟩
  | 6 => ⟨S8192x1024, .f32⟩
  | 7 => ⟨S8192x3x4, .f32⟩
  | 8 => ⟨S_, .f32⟩
  | 9 => ⟨S8192x4, .f32⟩
  | 10 => ⟨S_, .f32⟩
  | 11 => ⟨S8192x4, .f32⟩
  | 12 => ⟨S8192x4, .f32⟩
  | 13 => ⟨S8192x1x4, .f32⟩
  | 14 => ⟨S8192x3x4, .f32⟩
  | 15 => ⟨S8192x3x4, .f32⟩
  | 16 => ⟨S8192x3x4, .f32⟩
  | 17 => ⟨S_, .f32⟩
  | 18 => ⟨S8192x4, .f32⟩
  | 19 => ⟨S8192x1x4, .f32⟩
  | 20 => ⟨S8192x3x4, .f32⟩
  | 21 => ⟨S8192x3x4, .f32⟩
  | 22 => ⟨S8192x3x4x64, .f32⟩
  | 23 => ⟨S8192x3x4x1, .f32⟩
  | 24 => ⟨S8192x3x4x64, .f32⟩
  | 25 => ⟨S8192x3x4x64, .f32⟩
  | 26 => ⟨S8192x256, .f32⟩
  | 27 => ⟨S8192, .i32⟩
  | 28 => ⟨S_, .i32⟩
  | 29 => ⟨S_, .f32⟩
  | 30 => ⟨S8207x256, .f32⟩
  | 31 => ⟨S8192x64, .f32⟩
  | 32 => ⟨S8192x64, .f32⟩
  | 33 => ⟨S8192x64, .f32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .f32⟩
  | 41 => ⟨S8192x1, .f32⟩
  | 42 => ⟨S8192x64, .f32⟩
  | 43 => ⟨S8192x64, .f32⟩
  | 44 => ⟨S8192x64, .f32⟩
  | 45 => ⟨S8192x64, .f32⟩
  | 46 => ⟨S1x64x64, .f32⟩
  | 47 => ⟨S64x64, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x64, .f32⟩
  | 65 => ⟨S8192x64, .f32⟩
  | 66 => ⟨S8192x64, .f32⟩
  | 67 => ⟨S8192x64, .f32⟩
  | 68 => ⟨S1x64x64, .f32⟩
  | 69 => ⟨S64x64, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S8192x1, .f32⟩
  | 94 => ⟨S8192x64, .f32⟩
  | 95 => ⟨S8192x64, .f32⟩
  | 96 => ⟨S8192x64, .f32⟩
  | 97 => ⟨S8192x64, .f32⟩
  | 98 => ⟨S1x64x64, .f32⟩
  | 99 => ⟨S64x64, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S8192x64, .f32⟩
  | _ => ⟨S8192x2560, .f32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .f32⟩
  | 11 => ⟨S8192x1, .f32⟩
  | 12 => ⟨S8192x64, .f32⟩
  | 13 => ⟨S8192x64, .f32⟩
  | 14 => ⟨S8192x64, .f32⟩
  | 15 => ⟨S8192x64, .f32⟩
  | 16 => ⟨S1x64x64, .f32⟩
  | 17 => ⟨S64x64, .f32⟩
  | 18 => ⟨S8192x64, .f32⟩
  | 19 => ⟨S8192x256, .f32⟩
  | 20 => ⟨S1x256, .f32⟩
  | 21 => ⟨S8192x256, .f32⟩
  | 22 => ⟨S8192x256, .f32⟩
  | 23 => ⟨S8192x768, .f32⟩
  | 24 => ⟨S8192x1024, .f32⟩
  | 25 => ⟨S8192x1024, .bf16⟩
  | 26 => ⟨S8192x1024, .f32⟩
  | 27 => ⟨S8192x1024, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_6 : Ref sig .tc := ⟨.hbm, 86, rfl⟩
abbrev main_v70 : Ref sig .tc := ⟨.hbm, 87, rfl⟩
abbrev main_v71 : Ref sig .tc := ⟨.hbm, 88, rfl⟩
abbrev main_c_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_c_8 : Ref sig .tc := ⟨.hbm, 132, rfl⟩
abbrev main_v114 : Ref sig .tc := ⟨.hbm, 133, rfl⟩
abbrev main_v115 : Ref sig .tc := ⟨.hbm, 134, rfl⟩
abbrev main_c_9 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩

abbrev nD : Nat := 1
abbrev τ : Topo := Topo.v7x

variable {F : FTy → Type} [FloatOps F]
-- ==== PoolBwd.lean ====
abbrev S8192x2560 : Shape := ⟨2, ![8192, 2560]⟩
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S256x256, .bf16⟩
  | .hbm, ⟨5, _⟩ => ⟨S1x256, .f32⟩
  | .hbm, ⟨6, _⟩ => ⟨S8192x2560, .bf16⟩
  | .hbm, ⟨7, _⟩ => ⟨S256x256, .f32⟩
  | .hbm, ⟨8, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S512x256, .f32⟩
  | .local _ .vmem, ⟨5, _⟩ => ⟨S512x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S256x256, .f32⟩
  | .local _ .vmem, ⟨13, _⟩ => ⟨S1x256, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_35 : BitVec 32 := 0#32
  let v111 : BitVec 1 := Scalar.cmpi .eq arg0 c0_i32_35
  let v112 : BitVec 32 := Scalar.extui v111
  let c0_i32_36 : BitVec 32 := 0#32
  let v113 : BitVec 1 := Scalar.cmpi .ne v112 c0_i32_36
  v113

def k0_cond2 (i : grid0.Coords) : BitVec 1 :=
  let arg0 : BitVec 32 := BitVec.ofNat 32 (i 0).val
  let c0_i32_37 : BitVec 32 := 0#32
  let v114 : BitVec 1 := Scalar.cmpi .sgt arg0 c0_i32_37
  let v115 : BitVec 32 := Scalar.extui v114
  let c0_i32_38 : BitVec 32 := 0#32
  let v116 : BitVec 1 := Scalar.cmpi .ne v115 c0_i32_38
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S8192x2560 : Shape := ⟨2, ![8192, 2560]⟩
abbrev S8192x256 : Shape := ⟨2, ![8192, 256]⟩
abbrev S256x256 : Shape := ⟨2, ![256, 256]⟩
abbrev S256 : Shape := ⟨1, ![256]⟩
abbrev S8192 : Shape := ⟨1, ![8192]⟩
abbrev S_ : Shape := ⟨0, ![]⟩
abbrev S8207x256 : Shape := ⟨2, ![8207, 256]⟩
abbrev S8192x64 : Shape := ⟨2, ![8192, 64]⟩
abbrev S8192x1 : Shape := ⟨2, ![8192, 1]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S8192x2560, .f32⟩
  | 1 => ⟨S8192x256, .f32⟩
  | 2 => ⟨S256x256, .f32⟩
  | 3 => ⟨S256, .f32⟩
  | 4 => ⟨S8192x256, .f32⟩
  | 5 => ⟨S8192, .i32⟩
  | 6 => ⟨S_, .i32⟩
  | 7 => ⟨S_, .f32⟩
  | 8 => ⟨S8207x256, .f32⟩
  | 9 => ⟨S8192x64, .f32⟩
  | 10 => ⟨S8192x64, .f32⟩
  | 11 => ⟨S8192x64, .f32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S8192, .f32⟩
  | 19 => ⟨S8192x1, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .f32⟩
  | 38 => ⟨S8192x1, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x1, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192, .f32⟩
  | 108 => ⟨S8192x1, .f32⟩
  | 109 => ⟨S8192x64, .f32⟩
  | 110 => ⟨S8192x64, .f32⟩
  | 111 => ⟨S8192x64, .f32⟩
  | 112 => ⟨S8192x64, .f32⟩
  | 113 => ⟨S8192x256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S_, .f32⟩
  | 120 => ⟨S256, .f32⟩
  | 121 => ⟨S1x256, .f32⟩
  | 122 => ⟨S8192x256, .f32⟩
  | 123 => ⟨S8192x256, .f32⟩
  | 124 => ⟨S_, .f32⟩
  | 125 => ⟨S256, .f32⟩
  | 126 => ⟨S256x256, .f32⟩
  | 127 => ⟨S256x256, .f32⟩
  | _ => ⟨S8192x2560, .f32⟩

abbrev hbmTy0_1 (i : Nat) : BufTy := match i % 128 with
  | 0 => ⟨S1x256, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_4 : Ref sig .tc := ⟨.hbm, 58, rfl⟩
abbrev main_v48 : Ref sig .tc := ⟨.hbm, 59, rfl⟩
abbrev main_v49 : Ref sig .tc := ⟨.hbm, 60, rfl⟩
abbrev main_c_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_c_6 : Ref sig .tc := ⟨.hbm, 101, rfl⟩
abbrev main_v89 : Ref sig .tc := ⟨.hbm, 102, rfl⟩
abbrev main_v90 : Ref sig .tc := ⟨.hbm, 103, rfl⟩
abbrev main_c_7 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_cst : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_8 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩

abbrev nD : Nat := 1
abbrev τ : Topo := Topo.v7x

variable {F : FTy → Type} [FloatOps F]
-- ==== Proof.AttnRun.lean ====
/-
  The gradient of the windowed attention, one grid point: the body run from its fifteen staged blocks, its four scratch
  buffers and the result array left in memory, to the continuation that holds the blocks unchanged, the scratch at some
  contents, and the result written by the body's three copies.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The four scratch buffers: the three gradients of a block, and the three of them rounded, in order. -/
abbrev sc0 : Memref sig .tc .vmem S1024x128 .f32 := Memref.whole cc0_scratch0
abbrev sc1 : Memref sig .tc .vmem S1024x128 .f32 := Memref.whole cc0_scratch1
abbrev sc2 : Memref sig .tc .vmem S1024x128 .f32 := Memref.whole cc0_scratch2
abbrev sc3 : Memref sig .tc .vmem S3x1024x128 .bf16 := Memref.whole cc0_scratch3
/-- The result array. -/
abbrev dzM : Memref sig .tc .hbm S8192x2560 .bf16 := Memref.whole main_v160
abbrev DzBuf (c : Dev nD) : Type := Buf (Elt F) (dzM.view.loc (c : Thread nD τ))
abbrev dzPt (c : Dev nD) (f : DzBuf (F := F) c) : sProp 𝕄 := dzM.view.loc (c : Thread nD τ) ↦{fullShare} f

/-- The three windows of the result a grid point writes. -/
abbrev dzWin (i : grid0.Coords) (r : Fin 3) : Memref sig .tc .hbm S1024x128 .bf16 :=
  dzM.slice (Rect.unit (s := S8192x2560) (k0_off1 i (BitVec.ofNat 32 (2 + 6 * r.val))) S1024x128.size (k0_off1_inb i r)) (fun _ => rfl)

theorem off_lane (i : grid0.Coords) (r : Fin 3) : k0_off1 i (BitVec.ofNat 32 (2 + 6 * r.val)) 1 = (2 + 6 * r.val + (i 1).val) * 128 := by
  have h1 : (i 1).val < 2 := (i 1).isLt
  obtain ⟨k, hk⟩ : ∃ k, (i 1).val = k := ⟨_, rfl⟩
  fin_cases r <;> (unfold k0_off1; simp only [hk]; rw [hk] at h1; obtain rfl | rfl : k = 0 ∨ k = 1 := by omega) <;> rfl

theorem off_row (i : grid0.Coords) (x : BitVec 32) : k0_off1 i x 0 = (i 0).val * 1024 := by
  have h0 : (i 0).val < 8 := (i 0).isLt
  obtain ⟨k, hk⟩ : ∃ k, (i 0).val = k := ⟨_, rfl⟩
  unfold k0_off1; simp only [hk]; rw [hk] at h0
  obtain rfl | rfl | rfl | rfl | rfl | rfl | rfl | rfl : k = 0 ∨ k = 1 ∨ k = 2 ∨ k = 3 ∨ k = 4 ∨ k = 5 ∨ k = 6 ∨ k = 7 := by omega
  all_goals rfl

theorem dz_disjoint (i : grid0.Coords) (r r' : Fin 3) (h : r ≠ r') : Disjoint (dzWin i r).view.set (dzWin i r').view.set := by
  refine View.disjoint_slice_of_sep _ _ _ (1 : Fin 2) rfl rfl ?_
  show _ ∨ _
  simp only [Rect.unit]
  rw [off_lane, off_lane]
  have h1 : (i 1).val < 2 := (i 1).isLt
  have : r.val ≠ r'.val := fun e => h (Fin.ext e)
  show _ + 128 ≤ _ ∨ _ + 128 ≤ _
  omega

/-! ## The body run -/

set_option maxHeartbeats 4000000 in
noncomputable def kernelRun (c : Dev nD) (i : grid0.Coords) (a0 : Memref sig .tc .vmem S1024x128 .f32) (h0 : a0.IsWhole) (a1 : Memref sig .tc .vmem S128x128 .f32) (h1 : a1.IsWhole) (a2 : Memref sig .tc .vmem S1024x128 .f32) (h2 : a2.IsWhole) (a3 : Memref sig .tc .vmem S128x128 .f32) (h3 : a3.IsWhole) (a4 : Memref sig .tc .vmem S1024x128 .f32) (h4 : a4.IsWhole) (a5 : Memref sig .tc .vmem S128x128 .f32) (h5 : a5.IsWhole) (a6 : Memref sig .tc .vmem S1024x128 .f32) (h6 : a6.IsWhole) (a7 : Memref sig .tc .vmem S128x128 .f32) (h7 : a7.IsWhole) (a8 : Memref sig .tc .vmem S1024x128 .f32) (h8 : a8.IsWhole) (a9 : Memref sig .tc .vmem S128x128 .f32) (h9 : a9.IsWhole) (a10 : Memref sig .tc .vmem S1024x128 .f32) (h10 : a10.IsWhole) (a11 : Memref sig .tc .vmem S128x128 .f32) (h11 : a11.IsWhole) (a12 : Memref sig .tc .vmem S1024x128 .f32) (h12 : a12.IsWhole) (a13 : Memref sig .tc .vmem S1024x128 .f32) (h13 : a13.IsWhole) (a14 : Memref sig .tc .vmem S1024x128 .f32) (h14 : a14.IsWhole)
    (f0 : Buf (Elt F) (a0.view.loc (c : Thread nD τ))) (f1 : Buf (Elt F) (a1.view.loc (c : Thread nD τ))) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ))) (f12 : Buf (Elt F) (a12.view.loc (c : Thread nD τ))) (f13 : Buf (Elt F) (a13.view.loc (c : Thread nD τ))) (f14 : Buf (Elt F) (a14.view.loc (c : Thread nD τ))) (fz : DzBuf (F := F) c):
    { G : Buf (Elt F) (sc3.view.loc (c : Thread nD τ)) → DzBuf (F := F) c //
      ∀ (W : Waits sig Unit) (K : PUnit → sProp 𝕄),
        iprop((a0.view.loc (c : Thread nD τ) ↦[a0.view.set]{fullShare} f0)
            ∗ (a1.view.loc (c : Thread nD τ) ↦[a1.view.set]{fullShare} f1)
            ∗ (a2.view.loc (c : Thread nD τ) ↦[a2.view.set]{fullShare} f2)
            ∗ (a3.view.loc (c : Thread nD τ) ↦[a3.view.set]{fullShare} f3)
            ∗ (a4.view.loc (c : Thread nD τ) ↦[a4.view.set]{fullShare} f4)
            ∗ (a5.view.loc (c : Thread nD τ) ↦[a5.view.set]{fullShare} f5)
            ∗ (a6.view.loc (c : Thread nD τ) ↦[a6.view.set]{fullShare} f6)
            ∗ (a7.view.loc (c : Thread nD τ) ↦[a7.view.set]{fullShare} f7)
            ∗ (a8.view.loc (c : Thread nD τ) ↦[a8.view.set]{fullShare} f8)
            ∗ (a9.view.loc (c : Thread nD τ) ↦[a9.view.set]{fullShare} f9)
            ∗ (a10.view.loc (c : Thread nD τ) ↦[a10.view.set]{fullShare} f10)
            ∗ (a11.view.loc (c : Thread nD τ) ↦[a11.view.set]{fullShare} f11)
            ∗ (a12.view.loc (c : Thread nD τ) ↦[a12.view.set]{fullShare} f12)
            ∗ (a13.view.loc (c : Thread nD τ) ↦[a13.view.set]{fullShare} f13)
            ∗ (a14.view.loc (c : Thread nD τ) ↦[a14.view.set]{fullShare} f14)
            ∗ (∃ d, owns (c : Thread nD τ) sc0 fullShare d)
            ∗ (∃ d, owns (c : Thread nD τ) sc1 fullShare d)
            ∗ (∃ d, owns (c : Thread nD τ) sc2 fullShare d)
            ∗ (∃ d, owns (c : Thread nD τ) sc3 fullShare d)
            ∗ semVal ((c : Thread nD τ), SemLoc.dma 30) 0
            ∗ semVal ((c : Thread nD τ), SemLoc.dma 31) 0
            ∗ semVal ((c : Thread nD τ), SemLoc.dma 32) 0
            ∗ dzPt c fz
            ∗ owes (c : Thread nD τ) 0 W
            ∗ (iprop((a0.view.loc (c : Thread nD τ) ↦[a0.view.set]{fullShare} f0)
            ∗ (a1.view.loc (c : Thread nD τ) ↦[a1.view.set]{fullShare} f1)
            ∗ (a2.view.loc (c : Thread nD τ) ↦[a2.view.set]{fullShare} f2)
            ∗ (a3.view.loc (c : Thread nD τ) ↦[a3.view.set]{fullShare} f3)
            ∗ (a4.view.loc (c : Thread nD τ) ↦[a4.view.set]{fullShare} f4)
            ∗ (a5.view.loc (c : Thread nD τ) ↦[a5.view.set]{fullShare} f5)
            ∗ (a6.view.loc (c : Thread nD τ) ↦[a6.view.set]{fullShare} f6)
            ∗ (a7.view.loc (c : Thread nD τ) ↦[a7.view.set]{fullShare} f7)
            ∗ (a8.view.loc (c : Thread nD τ) ↦[a8.view.set]{fullShare} f8)
            ∗ (a9.view.loc (c : Thread nD τ) ↦[a9.view.set]{fullShare} f9)
            ∗ (a10.view.loc (c : Thread nD τ) ↦[a10.view.set]{fullShare} f10)
            ∗ (a11.view.loc (c : Thread nD τ) ↦[a11.view.set]{fullShare} f11)
            ∗ (a12.view.loc (c : Thread nD τ) ↦[a12.view.set]{fullShare} f12)
            ∗ (a13.view.loc (c : Thread nD τ) ↦[a13.view.set]{fullShare} f13)
            ∗ (a14.view.loc (c : Thread nD τ) ↦[a14.view.set]{fullShare} f14)
            ∗ (∃ d, owns (c : Thread nD τ) sc0 fullShare d)
            ∗ (∃ d, owns (c : Thread nD τ) sc1 fullShare d)
            ∗ (∃ d, owns (c : Thread nD τ) sc2 fullShare d)
            ∗ (∃ d, owns (c : Thread nD τ) sc3 fullShare d)
            ∗ semVal ((c : Thread nD τ), SemLoc.dma 30) 0
            ∗ semVal ((c : Thread nD τ), SemLoc.dma 31) 0
            ∗ semVal ((c : Thread nD τ), SemLoc.dma 32) 0
            ∗ (∃ g, dzPt c (G g))
            ∗ (∃ W', owes (c : Thread nD τ) 0 W')) -∗ K ⟨⟩))
          ⊢ wp frame (wpE (defs₀ (F := F)) Variants.none c none) Set.univ
              (cc0_attn_bwd0 i a0 h0 a1 h1 a2 h2 a3 h3 a4 h4 a5 h5 a6 h6 a7 h7 a8 h8 a9 h9 a10 h10 a11 h11 a12 h12 a13 h13 a14 h14 (Memref.whole main_v160) (Memref.isWhole_whole _) dzM (Memref.isWhole_whole _)
                sc0 (Memref.isWhole_whole _) sc1 (Memref.isWhole_whole _) sc2 (Memref.isWhole_whole _) sc3 (Memref.isWhole_whole _) cc0_scratch4) K } := by
  refine ⟨?_, fun W K => ?run⟩
  case run =>
    simp only [cc0_attn_bwd0_eq_skeleton]; unfold cc0_attn_bwd0_skel
    unfold owns
    iintro ⟨X0, X1, X2, X3, X4, X5, X6, X7, X8, X9, X10, X11, X12, X13, X14, ⟨%d0, %g0, -, S0⟩, ⟨%d1, %g1, -, S1⟩, ⟨%d2, %g2, -, S2⟩, ⟨%d3, %g3, -, S3⟩, Q0, Q1, Q2, Z, HW, Hk⟩
    have hd10 := dz_disjoint i 1 0 (by decide)
    have hd20 := dz_disjoint i 2 0 (by decide)
    have hd21 := dz_disjoint i 2 1 (by decide)
    sl_exec
    sl_step
    iapply Hk
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    isplitl [S3]
    · iexists _, _; isplitr; swap; · iexact S3
      ipureintro; rfl
    isplitl [Q0]; · iexact Q0
    isplitl [Q1]; · iexact Q1
    isplitl [Q2]; · iexact Q2
    isplitl [Z]; · iexists g3; iexact Z
    iexists _; iexact HW

end Cert.KernelIdeal.Hand

end
-- ==== Proof.AttnFrame.lean ====
/-
  The gradient of the windowed attention, launched: the result array after each grid point, the invariant that names it,
  the body's obligation, and the run of the whole program with its arguments unchanged and every counter back at zero.
-/
module

public import proofs.«01_k».proof.Proof.AttnRun
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves in the result array -/

/-- The slab of the rounded scratch stored last, read back: the payload, whatever the scratch held before. -/
theorem slab_read {c : Dev nD} (off : Fin 3 → ℕ) (hoff : ∀ a, off a + S1x1024x128.size a ≤ S3x1024x128.size a) (hs)
    (w : S1x1024x128.Idx → Elt F .bf16) (L : List (View.Piece (Elt F) S3x1024x128 .bf16)) (g : Buf (Elt F) (sc3.view.loc (c : Thread nD τ))) :
    View.read (Elt F) ((sc3.slice (Rect.unit (s := S3x1024x128) off S1x1024x128.size hoff) hs).squeeze S1024x128 squeezes_S1x1024x128_S1024x128).view
      (sc3.view.writes (Elt F) g (⟨Rect.unit (s := S3x1024x128) off S1x1024x128.size hoff, w⟩ :: L))
      = shapeCast S1024x128 w shapeCasts_S1x1024x128_S1024x128 := by
  rw [Memref.read_squeeze_slice (hc := shapeCasts_S1x1024x128_S1024x128)]
  refine congrArg (fun z => shapeCast S1024x128 z shapeCasts_S1x1024x128_S1024x128) (funext fun x => ?_)
  exact View.read_writes_cons_emb sc3.view g (Rect.unit (s := S3x1024x128) off S1x1024x128.size hoff) w L x

/-- The result array with the three gradients of a grid point put in their windows. -/
def dzPut {c : Dev nD} (i : grid0.Coords) (fz : DzBuf (F := F) c) (p0 p1 p2 : S1x1024x128.Idx → Elt F .bf16) : DzBuf (F := F) c :=
  View.write (Elt F) (dzWin i 2).view (View.write (Elt F) (dzWin i 1).view (View.write (Elt F) (dzWin i 0).view fz
    (shapeCast S1024x128 p0 shapeCasts_S1x1024x128_S1024x128) Finset.univ)
    (shapeCast S1024x128 p1 shapeCasts_S1x1024x128_S1024x128) Finset.univ)
    (shapeCast S1024x128 p2 shapeCasts_S1x1024x128_S1024x128) Finset.univ

/-- What the run leaves in the result, whatever the rounded scratch held before. -/
theorem run_eq (c : Dev nD) (i : grid0.Coords) (a0 : Memref sig .tc .vmem S1024x128 .f32) (h0 : a0.IsWhole) (a1 : Memref sig .tc .vmem S128x128 .f32) (h1 : a1.IsWhole) (a2 : Memref sig .tc .vmem S1024x128 .f32) (h2 : a2.IsWhole) (a3 : Memref sig .tc .vmem S128x128 .f32) (h3 : a3.IsWhole) (a4 : Memref sig .tc .vmem S1024x128 .f32) (h4 : a4.IsWhole) (a5 : Memref sig .tc .vmem S128x128 .f32) (h5 : a5.IsWhole) (a6 : Memref sig .tc .vmem S1024x128 .f32) (h6 : a6.IsWhole) (a7 : Memref sig .tc .vmem S128x128 .f32) (h7 : a7.IsWhole) (a8 : Memref sig .tc .vmem S1024x128 .f32) (h8 : a8.IsWhole) (a9 : Memref sig .tc .vmem S128x128 .f32) (h9 : a9.IsWhole) (a10 : Memref sig .tc .vmem S1024x128 .f32) (h10 : a10.IsWhole) (a11 : Memref sig .tc .vmem S128x128 .f32) (h11 : a11.IsWhole) (a12 : Memref sig .tc .vmem S1024x128 .f32) (h12 : a12.IsWhole) (a13 : Memref sig .tc .vmem S1024x128 .f32) (h13 : a13.IsWhole) (a14 : Memref sig .tc .vmem S1024x128 .f32) (h14 : a14.IsWhole) (f0 : Buf (Elt F) (a0.view.loc (c : Thread nD τ))) (f1 : Buf (Elt F) (a1.view.loc (c : Thread nD τ))) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ))) (f12 : Buf (Elt F) (a12.view.loc (c : Thread nD τ))) (f13 : Buf (Elt F) (a13.view.loc (c : Thread nD τ))) (f14 : Buf (Elt F) (a14.view.loc (c : Thread nD τ)))
    (fz : DzBuf (F := F) c) (g : Buf (Elt F) (sc3.view.loc (c : Thread nD τ))) :
    (kernelRun c i a0 h0 a1 h1 a2 h2 a3 h3 a4 h4 a5 h5 a6 h6 a7 h7 a8 h8 a9 h9 a10 h10 a11 h11 a12 h12 a13 h13 a14 h14 f0 f1 f2 f3 f4 f5 f6 f7 f8 f9 f10 f11 f12 f13 f14 fz).1 g
      = dzPut i fz
        (k0_pay197 (kernelRun.sl.v840 c i a0 a2 a3 a4 a5 a6 a8 a10 f0 f2 f3 f4 f5 f6 f8 f10) (View.readAt (Elt F) a12.view (Rect.unit ![0, 0] S1024x128.size inb_S1024x128_S1024x128_0_0).toLoadRect f12) (View.readAt (Elt F) a13.view (Rect.unit ![0, 0] S1024x128.size inb_S1024x128_S1024x128_0_0).toLoadRect f13) (View.readAt (Elt F) a14.view (Rect.unit ![0, 0] S1024x128.size inb_S1024x128_S1024x128_0_0).toLoadRect f14))
        (k0_pay201 (kernelRun.sl.v868 c i a0 a1 a2 a4 a6 a7 a8 a9 a10 a11 f0 f1 f2 f4 f6 f7 f8 f9 f10 f11) (kernelRun.sl.r_154 c a12 f12) (kernelRun.sl.r_155 c a13 f13) (kernelRun.sl.r_156 c a14 f14))
        (k0_pay202 (kernelRun.sl.v896 c i a0 a1 a2 a6 a7 a8 a9 f0 f1 f2 f6 f7 f8 f9)) := by
  unfold kernelRun
  dsimp only
  unfold kernelRun.sl.Z_w2 kernelRun.sl.Z_w1 kernelRun.sl.Z_w0 kernelRun.sl.dma108 kernelRun.sl.dma114 kernelRun.sl.dma117
    kernelRun.sl.S3_3 kernelRun.sl.S3_2 kernelRun.sl.S3_1
  rw [slab_read, slab_read, slab_read]
  rfl

/-- The result array after the body at point `t`, from what it held before. -/
def dzStep (c : Dev nD) (t : Fin cfg0.N) (fz : DzBuf (F := F) c) : DzBuf (F := F) c :=
  (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    ((show ((cfg0.win 0).stage (cfg0.slots t 0)).IsWhole from hstage0_0 ((cfg0.slots t 0).cast nbuf0_0)).unread (iblk m c 0 t)) ((show ((cfg0.win 1).stage (cfg0.slots t 1)).IsWhole from hstage0_1 ((cfg0.slots t 1).cast nbuf0_1)).unread (iblk m c 1 t)) ((show ((cfg0.win 2).stage (cfg0.slots t 2)).IsWhole from hstage0_2 ((cfg0.slots t 2).cast nbuf0_2)).unread (iblk m c 2 t)) ((show ((cfg0.win 3).stage (cfg0.slots t 3)).IsWhole from hstage0_3 ((cfg0.slots t 3).cast nbuf0_3)).unread (iblk m c 3 t)) ((show ((cfg0.win 4).stage (cfg0.slots t 4)).IsWhole from hstage0_4 ((cfg0.slots t 4).cast nbuf0_4)).unread (iblk m c 4 t)) ((show ((cfg0.win 5).stage (cfg0.slots t 5)).IsWhole from hstage0_5 ((cfg0.slots t 5).cast nbuf0_5)).unread (iblk m c 5 t)) ((show ((cfg0.win 6).stage (cfg0.slots t 6)).IsWhole from hstage0_6 ((cfg0.slots t 6).cast nbuf0_6)).unread (iblk m c 6 t)) ((show ((cfg0.win 7).stage (cfg0.slots t 7)).IsWhole from hstage0_7 ((cfg0.slots t 7).cast nbuf0_7)).unread (iblk m c 7 t)) ((show ((cfg0.win 8).stage (cfg0.slots t 8)).IsWhole from hstage0_8 ((cfg0.slots t 8).cast nbuf0_8)).unread (iblk m c 8 t)) ((show ((cfg0.win 9).stage (cfg0.slots t 9)).IsWhole from hstage0_9 ((cfg0.slots t 9).cast nbuf0_9)).unread (iblk m c 9 t)) ((show ((cfg0.win 10).stage (cfg0.slots t 10)).IsWhole from hstage0_10 ((cfg0.slots t 10).cast nbuf0_10)).unread (iblk m c 10 t)) ((show ((cfg0.win 11).stage (cfg0.slots t 11)).IsWhole from hstage0_11 ((cfg0.slots t 11).cast nbuf0_11)).unread (iblk m c 11 t)) ((show ((cfg0.win 12).stage (cfg0.slots t 12)).IsWhole from hstage0_12 ((cfg0.slots t 12).cast nbuf0_12)).unread (iblk m c 12 t)) ((show ((cfg0.win 13).stage (cfg0.slots t 13)).IsWhole from hstage0_13 ((cfg0.slots t 13).cast nbuf0_13)).unread (iblk m c 13 t)) ((show ((cfg0.win 14).stage (cfg0.slots t 14)).IsWhole from hstage0_14 ((cfg0.slots t 14).cast nbuf0_14)).unread (iblk m c 14 t)) fz).1 sc3.view.junk

/-- The result array before the `n`-th grid point. -/
def dzAt (c : Dev nD) : ℕ → DzBuf (F := F) c
  | 0 => V m c main_v160
  | n + 1 => if h : n < cfg0.N then dzStep m c ⟨n, h⟩ (dzAt c n) else dzAt c n

theorem dzAt_zero (c : Dev nD) : dzAt m c 0 = V m c main_v160 := rfl
theorem dzAt_succ (c : Dev nD) (t : Fin cfg0.N) : dzAt m c (t.val + 1) = dzStep m c t (dzAt m c t.val) := by
  show (if h : t.val < cfg0.N then dzStep m c ⟨t.val, h⟩ (dzAt m c t.val) else dzAt m c t.val) = _
  rw [dif_pos t.isLt]

/-! ## The launch's own buffers and cells -/

/-- The three cells the body's copies signal. -/
abbrev osem0 : Fin 3 → SemLoc sig := fun j => (![SemLoc.dma 30, SemLoc.dma 31, SemLoc.dma 32] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0
          ∗ semVal ((c : Thread nD τ), SemLoc.dma 32) 0) := by
  rw [Pipeline.ownSems0_eq_of_list c osem0 [0, 1, 2] (by decide) (by decide)]; rfl

/-- The buffer the body writes itself. -/
def R0 : Finset (Ref sig .tc) := {main_v160}
theorem R0_sub : R0 ⊆ Pipeline.restRefs sig spec0 \ ∅ := by decide

/-- The buffers before the `n`-th point: as the region finds them, the result array at `dzAt`. -/
def Vat (n : ℕ) (c : Dev nD) : (b : Ref sig .tc) → Buf (Elt F) ((c : Thread nD τ).loc b) :=
  Function.update (V m c) main_v160 (dzAt m c n)
theorem Vat_dz (n : ℕ) (c : Dev nD) : Vat m n c main_v160 = dzAt m c n := Function.update_self ..
theorem Vat_zero (c : Dev nD) : Vat m 0 c = V m c := Function.update_eq_self ..

theorem routed_eq (n : ℕ) (c : Dev nD) : (Pipeline.routed R0 c (Vat m n c) : sProp 𝕄) = dzPt c (dzAt m c n) := by
  unfold Pipeline.routed
  rw [BI.bigSep_eq_bigSepL_of_eq [main_v160] (by decide) (by decide)]
  show (_ ↦{fullShare} Vat m n c main_v160) = _
  rw [Vat_dz]

theorem Phi_eq (n : ℕ) (c : Dev nD) :
    (Pipeline.ΦDRG osem0 spec0 ∅ R0 (V m) (Vat m n) c : sProp 𝕄)
      = iprop(iprop((∃ d, owns (c : Thread nD τ) sc0 fullShare d) ∗ (∃ d, owns (c : Thread nD τ) sc1 fullShare d)
                ∗ (∃ d, owns (c : Thread nD τ) sc2 fullShare d) ∗ (∃ d, owns (c : Thread nD τ) sc3 fullShare d))
          ∗ (∃ r, prngReg c r)
          ∗ iprop(semVal ((c : Thread nD τ), SemLoc.dma 30) 0 ∗ semVal ((c : Thread nD τ), SemLoc.dma 31) 0
                  ∗ semVal ((c : Thread nD τ), SemLoc.dma 32) 0)
          ∗ (bigSep ∅ fun b => ((c : Thread nD τ).loc b) ↦{fullShare} V m c b)
          ∗ dzPt c (dzAt m c n)) := by
  rw [Pipeline.ΦDRG_eq, scopedRest0_eq, ownSems00_eq, routed_eq]
  simp only [sc0, sc1, sc2, sc3, owns_whole]; try rfl

/-! ## The proof data and the body's obligation -/

/-- The one pipeline on core `c`: the arrays as the region finds them, every block left in place, the invariant at `Vat`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ t := Pipeline.ΦDRG osem0 spec0 ∅ R0 (V m) (Vat m t.val) c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq m c 0]; try rfl) t d).trans
    (by unfold Dat.fetched Dat.blockOf iblk; rw [A_eq m c 0]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq m c 1]; try rfl) t d).trans
    (by unfold Dat.fetched Dat.blockOf iblk; rw [A_eq m c 1]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq m c 2]; try rfl) t d).trans
    (by unfold Dat.fetched Dat.blockOf iblk; rw [A_eq m c 2]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq m c 3]; try rfl) t d).trans
    (by unfold Dat.fetched Dat.blockOf iblk; rw [A_eq m c 3]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq m c 4]; try rfl) t d).trans
    (by unfold Dat.fetched Dat.blockOf iblk; rw [A_eq m c 4]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq m c 5]; try rfl) t d).trans
    (by unfold Dat.fetched Dat.blockOf iblk; rw [A_eq m c 5]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq m c 6]; try rfl) t d).trans
    (by unfold Dat.fetched Dat.blockOf iblk; rw [A_eq m c 6]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq m c 7]; try rfl) t d).trans
    (by unfold Dat.fetched Dat.blockOf iblk; rw [A_eq m c 7]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq m c 8]; try rfl) t d).trans
    (by unfold Dat.fetched Dat.blockOf iblk; rw [A_eq m c 8]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl)
      (fun t => by rw [after0_9]; unfold Dat.blockOf iblk; rw [A_eq m c 9]; try rfl) t d).trans
    (by unfold Dat.fetched Dat.blockOf iblk; rw [A_eq m c 9]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl)
      (fun t => by rw [after0_10]; unfold Dat.blockOf iblk; rw [A_eq m c 10]; try rfl) t d).trans
    (by unfold Dat.fetched Dat.blockOf iblk; rw [A_eq m c 10]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl)
      (fun t => by rw [after0_11]; unfold Dat.blockOf iblk; rw [A_eq m c 11]; try rfl) t d).trans
    (by unfold Dat.fetched Dat.blockOf iblk; rw [A_eq m c 11]; try rfl)
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  ((dats m 0 c).before_in_eq_fetched 12 rfl (fun _ => rfl) (fun _ _ _ => rfl)
      (fun t => by rw [after0_12]; unfold Dat.blockOf iblk; rw [A_eq m c 12]; try rfl) t d).trans
    (by unfold Dat.fetched Dat.blockOf iblk; rw [A_eq m c 12]; try rfl)
theorem after0_13 (c : Dev nD) (t : Fin cfg0.N) : (dats m 0 c).after 13 t = iblk m c 13 t := by dsimp only [dats]
theorem before0_13 (c : Dev nD) (t : Fin cfg0.N) (d) : (dats m 0 c).before 13 t d = iblk m c 13 t :=
  ((dats m 0 c).before_in_eq_fetched 13 rfl (fun _ => rfl) (fun _ _ _ => rfl)
      (fun t => by rw [after0_13]; unfold Dat.blockOf iblk; rw [A_eq m c 13]; try rfl) t d).trans
    (by unfold Dat.fetched Dat.blockOf iblk; rw [A_eq m c 13]; try rfl)
theorem after0_14 (c : Dev nD) (t : Fin cfg0.N) : (dats m 0 c).after 14 t = iblk m c 14 t := by dsimp only [dats]
theorem before0_14 (c : Dev nD) (t : Fin cfg0.N) (d) : (dats m 0 c).before 14 t d = iblk m c 14 t :=
  ((dats m 0 c).before_in_eq_fetched 14 rfl (fun _ => rfl) (fun _ _ _ => rfl)
      (fun t => by rw [after0_14]; unfold Dat.blockOf iblk; rw [A_eq m c 14]; try rfl) t d).trans
    (by unfold Dat.fetched Dat.blockOf iblk; rw [A_eq m c 14]; try rfl)

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t)
    ∗ owns (c : Thread nD τ) ((cfg0.win 12).stage (cfg0.slots t 12)) fullShare ((dats m 0 c).after 12 t)
    ∗ owns (c : Thread nD τ) ((cfg0.win 13).stage (cfg0.slots t 13)) fullShare ((dats m 0 c).after 13 t)
    ∗ owns (c : Thread nD τ) ((cfg0.win 14).stage (cfg0.slots t 14)) fullShare ((dats m 0 c).after 14 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Pipeline.ΦDRG osem0 spec0 ∅ R0 (V m) (Vat m t.val) c from rfl,
    show (dats m 0 c).Φ t.succ = Pipeline.ΦDRG osem0 spec0 ∅ R0 (V m) (Vat m (t.val + 1)) c from rfl, Phi_eq, Phi_eq, dzAt_succ]
  simp only [after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  simp only [before0_0, before0_1, before0_2, before0_3, before0_4, before0_5, before0_6, before0_7, before0_8, before0_9, before0_10, before0_11, before0_12, before0_13, before0_14]
  unfold owns
  iintro ⟨⟨⟨S0, S1, S2, S3⟩, Hg, ⟨Q0, Q1, Q2⟩, HE, Z⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩⟩
  have u0 := (show ((cfg0.win 0).stage (cfg0.slots t 0)).IsWhole from hstage0_0 ((cfg0.slots t 0).cast nbuf0_0)).eq_unread e0
  have u1 := (show ((cfg0.win 1).stage (cfg0.slots t 1)).IsWhole from hstage0_1 ((cfg0.slots t 1).cast nbuf0_1)).eq_unread e1
  have u2 := (show ((cfg0.win 2).stage (cfg0.slots t 2)).IsWhole from hstage0_2 ((cfg0.slots t 2).cast nbuf0_2)).eq_unread e2
  have u3 := (show ((cfg0.win 3).stage (cfg0.slots t 3)).IsWhole from hstage0_3 ((cfg0.slots t 3).cast nbuf0_3)).eq_unread e3
  have u4 := (show ((cfg0.win 4).stage (cfg0.slots t 4)).IsWhole from hstage0_4 ((cfg0.slots t 4).cast nbuf0_4)).eq_unread e4
  have u5 := (show ((cfg0.win 5).stage (cfg0.slots t 5)).IsWhole from hstage0_5 ((cfg0.slots t 5).cast nbuf0_5)).eq_unread e5
  have u6 := (show ((cfg0.win 6).stage (cfg0.slots t 6)).IsWhole from hstage0_6 ((cfg0.slots t 6).cast nbuf0_6)).eq_unread e6
  have u7 := (show ((cfg0.win 7).stage (cfg0.slots t 7)).IsWhole from hstage0_7 ((cfg0.slots t 7).cast nbuf0_7)).eq_unread e7
  have u8 := (show ((cfg0.win 8).stage (cfg0.slots t 8)).IsWhole from hstage0_8 ((cfg0.slots t 8).cast nbuf0_8)).eq_unread e8
  have u9 := (show ((cfg0.win 9).stage (cfg0.slots t 9)).IsWhole from hstage0_9 ((cfg0.slots t 9).cast nbuf0_9)).eq_unread e9
  have u10 := (show ((cfg0.win 10).stage (cfg0.slots t 10)).IsWhole from hstage0_10 ((cfg0.slots t 10).cast nbuf0_10)).eq_unread e10
  have u11 := (show ((cfg0.win 11).stage (cfg0.slots t 11)).IsWhole from hstage0_11 ((cfg0.slots t 11).cast nbuf0_11)).eq_unread e11
  have u12 := (show ((cfg0.win 12).stage (cfg0.slots t 12)).IsWhole from hstage0_12 ((cfg0.slots t 12).cast nbuf0_12)).eq_unread e12
  have u13 := (show ((cfg0.win 13).stage (cfg0.slots t 13)).IsWhole from hstage0_13 ((cfg0.slots t 13).cast nbuf0_13)).eq_unread e13
  have u14 := (show ((cfg0.win 14).stage (cfg0.slots t 14)).IsWhole from hstage0_14 ((cfg0.slots t 14).cast nbuf0_14)).eq_unread e14
  subst u0 u1 u2 u3 u4 u5 u6 u7 u8 u9 u10 u11 u12 u13 u14
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    ((show ((cfg0.win 0).stage (cfg0.slots t 0)).IsWhole from hstage0_0 ((cfg0.slots t 0).cast nbuf0_0)).unread (iblk m c 0 t)) ((show ((cfg0.win 1).stage (cfg0.slots t 1)).IsWhole from hstage0_1 ((cfg0.slots t 1).cast nbuf0_1)).unread (iblk m c 1 t)) ((show ((cfg0.win 2).stage (cfg0.slots t 2)).IsWhole from hstage0_2 ((cfg0.slots t 2).cast nbuf0_2)).unread (iblk m c 2 t)) ((show ((cfg0.win 3).stage (cfg0.slots t 3)).IsWhole from hstage0_3 ((cfg0.slots t 3).cast nbuf0_3)).unread (iblk m c 3 t)) ((show ((cfg0.win 4).stage (cfg0.slots t 4)).IsWhole from hstage0_4 ((cfg0.slots t 4).cast nbuf0_4)).unread (iblk m c 4 t)) ((show ((cfg0.win 5).stage (cfg0.slots t 5)).IsWhole from hstage0_5 ((cfg0.slots t 5).cast nbuf0_5)).unread (iblk m c 5 t)) ((show ((cfg0.win 6).stage (cfg0.slots t 6)).IsWhole from hstage0_6 ((cfg0.slots t 6).cast nbuf0_6)).unread (iblk m c 6 t)) ((show ((cfg0.win 7).stage (cfg0.slots t 7)).IsWhole from hstage0_7 ((cfg0.slots t 7).cast nbuf0_7)).unread (iblk m c 7 t)) ((show ((cfg0.win 8).stage (cfg0.slots t 8)).IsWhole from hstage0_8 ((cfg0.slots t 8).cast nbuf0_8)).unread (iblk m c 8 t)) ((show ((cfg0.win 9).stage (cfg0.slots t 9)).IsWhole from hstage0_9 ((cfg0.slots t 9).cast nbuf0_9)).unread (iblk m c 9 t)) ((show ((cfg0.win 10).stage (cfg0.slots t 10)).IsWhole from hstage0_10 ((cfg0.slots t 10).cast nbuf0_10)).unread (iblk m c 10 t)) ((show ((cfg0.win 11).stage (cfg0.slots t 11)).IsWhole from hstage0_11 ((cfg0.slots t 11).cast nbuf0_11)).unread (iblk m c 11 t)) ((show ((cfg0.win 12).stage (cfg0.slots t 12)).IsWhole from hstage0_12 ((cfg0.slots t 12).cast nbuf0_12)).unread (iblk m c 12 t)) ((show ((cfg0.win 13).stage (cfg0.slots t 13)).IsWhole from hstage0_13 ((cfg0.slots t 13).cast nbuf0_13)).unread (iblk m c 13 t)) ((show ((cfg0.win 14).stage (cfg0.slots t 14)).IsWhole from hstage0_14 ((cfg0.slots t 14).cast nbuf0_14)).unread (iblk m c 14 t)) (dzAt m c t.val)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [Q0]; · iexact Q0
  isplitl [Q1]; · iexact Q1
  isplitl [Q2]; · iexact Q2
  isplitl [Z]; · iexact Z
  isplitl [HW]; · iexact HW
  iintro ⟨H0, H1, H2, H3, H4, H5, H6, H7, H8, H9, H10, H11, H12, H13, H14, S0, S1, S2, S3, Q0, Q1, Q2, ⟨%g, Z⟩, ⟨%W', HW'⟩⟩
  isplitl [S0 S1 S2 S3 Hg Q0 Q1 Q2 HE Z]
  · isplitl [S0 S1 S2 S3]
    · isplitl [S0]; · iexact S0
      isplitl [S1]; · iexact S1
      isplitl [S2]; · iexact S2
      iexact S3
    isplitl [Hg]; · iexact Hg
    isplitl [Q0 Q1 Q2]
    · isplitl [Q0]; · iexact Q0
      isplitl [Q1]; · iexact Q1
      iexact Q2
    isplitl [HE]; · iexact HE
    rw [show dzStep m c t (dzAt m c t.val) = (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
        ((show ((cfg0.win 0).stage (cfg0.slots t 0)).IsWhole from hstage0_0 ((cfg0.slots t 0).cast nbuf0_0)).unread (iblk m c 0 t)) ((show ((cfg0.win 1).stage (cfg0.slots t 1)).IsWhole from hstage0_1 ((cfg0.slots t 1).cast nbuf0_1)).unread (iblk m c 1 t)) ((show ((cfg0.win 2).stage (cfg0.slots t 2)).IsWhole from hstage0_2 ((cfg0.slots t 2).cast nbuf0_2)).unread (iblk m c 2 t)) ((show ((cfg0.win 3).stage (cfg0.slots t 3)).IsWhole from hstage0_3 ((cfg0.slots t 3).cast nbuf0_3)).unread (iblk m c 3 t)) ((show ((cfg0.win 4).stage (cfg0.slots t 4)).IsWhole from hstage0_4 ((cfg0.slots t 4).cast nbuf0_4)).unread (iblk m c 4 t)) ((show ((cfg0.win 5).stage (cfg0.slots t 5)).IsWhole from hstage0_5 ((cfg0.slots t 5).cast nbuf0_5)).unread (iblk m c 5 t)) ((show ((cfg0.win 6).stage (cfg0.slots t 6)).IsWhole from hstage0_6 ((cfg0.slots t 6).cast nbuf0_6)).unread (iblk m c 6 t)) ((show ((cfg0.win 7).stage (cfg0.slots t 7)).IsWhole from hstage0_7 ((cfg0.slots t 7).cast nbuf0_7)).unread (iblk m c 7 t)) ((show ((cfg0.win 8).stage (cfg0.slots t 8)).IsWhole from hstage0_8 ((cfg0.slots t 8).cast nbuf0_8)).unread (iblk m c 8 t)) ((show ((cfg0.win 9).stage (cfg0.slots t 9)).IsWhole from hstage0_9 ((cfg0.slots t 9).cast nbuf0_9)).unread (iblk m c 9 t)) ((show ((cfg0.win 10).stage (cfg0.slots t 10)).IsWhole from hstage0_10 ((cfg0.slots t 10).cast nbuf0_10)).unread (iblk m c 10 t)) ((show ((cfg0.win 11).stage (cfg0.slots t 11)).IsWhole from hstage0_11 ((cfg0.slots t 11).cast nbuf0_11)).unread (iblk m c 11 t)) ((show ((cfg0.win 12).stage (cfg0.slots t 12)).IsWhole from hstage0_12 ((cfg0.slots t 12).cast nbuf0_12)).unread (iblk m c 12 t)) ((show ((cfg0.win 13).stage (cfg0.slots t 13)).IsWhole from hstage0_13 ((cfg0.slots t 13).cast nbuf0_13)).unread (iblk m c 13 t)) ((show ((cfg0.win 14).stage (cfg0.slots t 14)).IsWhole from hstage0_14 ((cfg0.slots t 14).cast nbuf0_14)).unread (iblk m c 14 t)) (dzAt m c t.val)).1 g from (run_eq ..).trans (run_eq ..).symm]
    iexact Z
  isplitl [HW']
  · iexists W'; isplitr; · ipureintro; exact fun _ _ => Or.inl trivial
    iexact HW'
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  iexists _; isplitr; · ipureintro; exact e14
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the whole program -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

set_option backward.isDefEq.respectTransparency.types false in
/-- Every run ends with the arguments' arrays as the region found them, the result at `dzAt` of the last point, and every
    counter at zero. -/
theorem run_main : θ_run defs (onTc (τ := τ) (main (F := F))) (s₀ m ρ)
    (fun r => Pipeline.FramePostRG cfgs (dats m) 0 R0 (V m) (Vat m 16) r ∧ r.2.sem = fun _ => 0) :=
  Pipeline.θ_run_frame_dmaRG_shared (Q' := _) cfgs (dats m) (0 : Fin 1) launch₀0 osem0 defs₀ Variants.none ownSemFacts0 ∅ R0
    (Finset.empty_subset _) R0_sub m ρ main
    (hbody := fun c => (body_obligation m c).loose) (hq := fun _ _ _ => rfl)
    (howed := fun _ _ => rfl) (V := V m) (hmain := hmain m Variants.none) (hA := A_eq m) (G := Vat m 16)
    (hin := fun c => by
      rw [show (dats m 0 c).Φ 0 = Pipeline.ΦDRG osem0 spec0 ∅ R0 (V m) (Vat m 0) c from rfl]
      unfold Pipeline.ΦDRG; rw [Vat_zero])
    (hout := fun c => by
      rw [show (dats m 0 c).Φ (Fin.last _) = Pipeline.ΦDRG osem0 spec0 ∅ R0 (V m) (Vat m 16) c from rfl])

/-- The run with the arguments at their launch contents and the result named. -/
theorem run_named : θ_run defs (onTc (τ := τ) (main (F := F))) ⟨m, fun _ => 0, ρ⟩ (fun r => (∀ c : Dev nD,
      r.2.mem ((c.tc : Thread nD τ).loc main_v160) = dzAt m c 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.2 c main_v160 (by decide)).trans (Vat_dz m 16 c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.AttnQuiet.lean ====
/- The attention call's run as the claim states it: arguments kept, every counter at zero. -/
module

public import proofs.«01_k».proof.Proof.AttnFrame

@[expose] public section

set_option maxRecDepth 16384

noncomputable section

namespace Cert.KernelIdeal.Hand

open Idealize.ShloMosaic Idealize.SL.Sem
open Cert.KernelIdeal

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := run_named (F := F) m ρ
  revert h
  generalize θ_run defs (onTc (τ := τ) (main (F := F))) ⟨m, fun _ => 0, ρ⟩ = S
  intro h
  exact S.mono (fun _ h => ⟨fun c => (h.1 c).2, h.2⟩) h

end Cert.KernelIdeal.Hand

end
-- ==== Proof.MlpPure.lean ====
/- The stored blocks of the fused MLP backward call, read entry by entry over the extended reals. -/
module

public import Idealize.ShloMosaic.Lib.Pointwise
public import proofs.«01_k».proof.Proof.Gen.MlpIdeal.Skeleton

@[expose] public section

set_option maxRecDepth 16384

noncomputable section

namespace Cert.MlpIdeal.Hand

open Idealize.ShloMosaic Idealize.SL.Sem
open Cert.MlpIdeal Cert.MlpIdeal.Gen

/-- One entry of the gradient before the activation: the row of `dh` against a row of `w_down`, times `2 relu a`. -/
def daT (v : FVec Ideal S512x1024 .f32) (w : FVec Ideal S1x1024x1024 .bf16) (a : FVec Ideal S512x1024 .bf16)
    (r : Fin 512) (c : Fin 1024) : EReal :=
  (∑ k : Fin 1024, v (ix2 r k) * w (ix3 0 c k)) * (Ideal.ofBits .f32 0x40000000#32 * max (a (ix2 r c)) 0)

/-- One tile's contribution to the gradient of the normalised row. -/
def dhnT (v : FVec Ideal S512x1024 .f32) (w : FVec Ideal S1x1024x1024 .bf16) (a : FVec Ideal S512x1024 .bf16)
    (u : FVec Ideal S1x1024x1024 .bf16) (r : Fin 512) (d : Fin 1024) : EReal :=
  ∑ c : Fin 1024, daT v w a r c * u (ix3 0 d c)

theorem pay3_at (v : FVec Ideal S512x1024 .f32) (w : FVec Ideal S1x1024x1024 .bf16) (a : FVec Ideal S512x1024 .bf16)
    (r : Fin 512) (c : Fin 1024) : k0_pay3 (F := Ideal) v w a (ix2 r c) = daT v w a r c := by
  pointwise [k0_pay3, k0_pay2, daT]

theorem pay5_at (v : FVec Ideal S512x1024 .f32) (w : FVec Ideal S1x1024x1024 .bf16) (a : FVec Ideal S512x1024 .bf16)
    (r : Fin 512) (c : Fin 1024) : k0_pay5 (F := Ideal) v w a (ix2 r c) = daT v w a r c := by
  pointwise [k0_pay5, k0_pay2, daT]

theorem pay6_at (v : FVec Ideal S512x1024 .f32) (w : FVec Ideal S1x1024x1024 .bf16) (a : FVec Ideal S512x1024 .bf16)
    (r : Fin 512) (c : Fin 1024) : k0_pay6 (F := Ideal) (k0_pay2 v) w a (ix2 r c) = daT v w a r c := by
  pointwise [k0_pay6, k0_pay2, daT]

theorem pay8_at (v : FVec Ideal S512x1024 .f32) (w : FVec Ideal S1x1024x1024 .bf16) (a : FVec Ideal S512x1024 .bf16)
    (r : Fin 512) (c : Fin 1024) : k0_pay8 (F := Ideal) (k0_pay2 v) w a (ix2 r c) = daT v w a r c := by
  pointwise [k0_pay8, k0_pay2, daT]

/-- The gradient of the normalised rows: the four tiles' contributions added in order. -/
theorem acc_at (v : FVec Ideal S512x1024 .f32) (w0 w1 w2 w3 u0 u1 u2 u3 : FVec Ideal S1x1024x1024 .bf16)
    (a0 a1 a2 a3 : FVec Ideal S512x1024 .bf16) (r : Fin 512) (d : Fin 1024) :
    k0_pay9 (F := Ideal) (k0_pay7 (k0_pay2 v) (k0_pay4 v w0 a0 u0) (k0_pay5 v w1 a1) u1 w2 a2 u2)
      (k0_pay8 (k0_pay2 v) w3 a3) u3 (ix2 r d)
    = dhnT v w0 a0 u0 r d + dhnT v w1 a1 u1 r d + dhnT v w2 a2 u2 r d + dhnT v w3 a3 u3 r d := by
  pointwise [k0_pay9, k0_pay7, k0_pay4, dhnT, pay3_at, pay5_at, pay6_at, pay8_at]

/-- The row's reciprocal root mean square. -/
def rrT (h : FVec Ideal S512x1024 .f32) (r : Fin 512) : EReal :=
  Ideal.rsqrt (Ideal.div (∑ k : Fin 1024, h (ix2 r k) * h (ix2 r k)) (Ideal.ofBits .f32 0x44800000#32)
    + Ideal.ofBits .f32 0x358637BD#32)

theorem pay12_at (v h : FVec Ideal S512x1024 .f32) (v51 : FVec Ideal S512x1024 .f32) (v63 : FVec Ideal S512x1024 .bf16)
    (u : FVec Ideal S1x1024x1024 .bf16) (g : FVec Ideal S1x1024 .f32) (D : Fin 512 → Fin 1024 → EReal)
    (hD : ∀ r d, k0_pay9 (F := Ideal) v51 v63 u (ix2 r d) = D r d) (r : Fin 512) (d : Fin 1024) :
    k0_pay12 (F := Ideal) v v51 v63 u h g (ix2 r d)
    = v (ix2 r d) + rrT h r * (D r d * g (ix2 0 d) - (h (ix2 r d) * rrT h r)
        * Ideal.div (∑ k : Fin 1024, D r k * g (ix2 0 k) * (h (ix2 r k) * rrT h r)) (Ideal.ofBits .f32 0x44800000#32)) := by
  pointwise [k0_pay12, k0_pay11, k0_pay10, rrT, hD]

theorem pay13_at (h : FVec Ideal S512x1024 .f32) (v51 : FVec Ideal S512x1024 .f32) (v63 : FVec Ideal S512x1024 .bf16)
    (u : FVec Ideal S1x1024x1024 .bf16) (D : Fin 512 → Fin 1024 → EReal)
    (hD : ∀ r d, k0_pay9 (F := Ideal) v51 v63 u (ix2 r d) = D r d) (d : Fin 1024) :
    k0_pay13 (F := Ideal) v51 v63 u h (ix2 0 d)
    = ∑ r : Fin 512, D r d * (h (ix2 r d) * rrT h r) := by
  pointwise [k0_pay13, k0_pay11, k0_pay10, rrT, hD]

theorem pay1_at (x acc : FVec Ideal S1x1024 .f32) (i : S1x1024.Idx) :
    k0_pay1 (F := Ideal) x acc i = acc i + x i := by
  pointwise [k0_pay1]

end Cert.MlpIdeal.Hand

end
-- ==== Proof.MlpSpec.lean ====
/- The fused MLP backward step as plain mathematics over the extended reals, and the row-block arithmetic that computes it. -/
module

public import proofs.«01_k».proof.Proof.MlpPure

@[expose] public section

set_option maxRecDepth 16384

noncomputable section

namespace Cert.MlpSpec

open Idealize.ShloMosaic

variable (DH H : Fin 8192 → Fin 1024 → EReal) (G : Fin 1024 → EReal) (WU : Fin 1024 → Fin 4096 → EReal)
  (WD : Fin 4096 → Fin 1024 → EReal)

/-- A row's reciprocal root mean square. -/
def rr (n : Fin 8192) : EReal :=
  Ideal.rsqrt (Ideal.div (∑ k : Fin 1024, H n k * H n k) (Ideal.ofBits .f32 0x44800000#32) + Ideal.ofBits .f32 0x358637BD#32)

/-- The MLP's saved pre-activation. -/
def act (n : Fin 8192) (c : Fin 4096) : EReal := ∑ k : Fin 1024, H n k * rr H n * G k * WU k c

/-- The pre-activation's gradient. -/
def da (n : Fin 8192) (c : Fin 4096) : EReal :=
  (∑ k : Fin 1024, DH n k * WD c k) * (Ideal.ofBits .f32 0x40000000#32 * max (act H G WU n c) 0)

/-- The normalised row's gradient. -/
def dhn (n : Fin 8192) (d : Fin 1024) : EReal := ∑ c : Fin 4096, da DH H G WU WD n c * WU d c

/-- The gain's gradient. -/
def dg (d : Fin 1024) : EReal := ∑ n : Fin 8192, dhn DH H G WU WD n d * (H n d * rr H n)

/-- The hidden row's gradient: the residual's plus the norm's. -/
def dh1 (n : Fin 8192) (d : Fin 1024) : EReal :=
  DH n d + rr H n * (dhn DH H G WU WD n d * G d - (H n d * rr H n)
    * Ideal.div (∑ k : Fin 1024, dhn DH H G WU WD n k * G k * (H n k * rr H n)) (Ideal.ofBits .f32 0x44800000#32))

end Cert.MlpSpec

namespace Cert.MlpIdeal.Hand

open Idealize.ShloMosaic Idealize.SL.Sem
open Cert.MlpIdeal Cert.MlpIdeal.Gen Cert.MlpSpec

/-- Column `c` of the `j`-th of the four column tiles. -/
abbrev col (j : Fin 4) (c : Fin 1024) : Fin 4096 := ⟨(j : ℕ) * 1024 + (c : ℕ), by omega⟩

variable (row : Fin 512 → Fin 8192)
  (DH H : Fin 8192 → Fin 1024 → EReal) (G : Fin 1024 → EReal) (WU : Fin 1024 → Fin 4096 → EReal)
  (WD : Fin 4096 → Fin 1024 → EReal)
  (v h : FVec Ideal S512x1024 .f32) (w0 w1 w2 w3 u0 u1 u2 u3 : FVec Ideal S1x1024x1024 .bf16)
  (a0 a1 a2 a3 : FVec Ideal S512x1024 .bf16) (gg : FVec Ideal S1x1024 .f32)

theorem daT_eq (j : Fin 4) (w : FVec Ideal S1x1024x1024 .bf16) (a : FVec Ideal S512x1024 .bf16)
    (hv : ∀ r k, v (ix2 r k) = DH (row r) k)
    (hw : ∀ c k, w (ix3 0 c k) = WD (col j c) k)
    (ha : ∀ r c, a (ix2 r c) = act H G WU (row r) (col j c)) (r : Fin 512) (c : Fin 1024) :
    daT v w a r c = da DH H G WU WD (row r) (col j c) := by
  simp only [daT, da, hv, hw, ha]

theorem dhnT_eq (j : Fin 4) (w u : FVec Ideal S1x1024x1024 .bf16) (a : FVec Ideal S512x1024 .bf16)
    (hv : ∀ r k, v (ix2 r k) = DH (row r) k)
    (hw : ∀ c k, w (ix3 0 c k) = WD (col j c) k)
    (hu : ∀ d c, u (ix3 0 d c) = WU d (col j c))
    (ha : ∀ r c, a (ix2 r c) = act H G WU (row r) (col j c)) (r : Fin 512) (d : Fin 1024) :
    dhnT v w a u r d = ∑ c : Fin 1024, da DH H G WU WD (row r) (col j c) * WU d (col j c) := by
  simp only [dhnT, daT_eq row DH H G WU WD v j w a hv hw ha, hu]

variable (hv : ∀ r k, v (ix2 r k) = DH (row r) k) (hh : ∀ r k, h (ix2 r k) = H (row r) k)
  (hg : ∀ k, gg (ix2 0 k) = G k)
  (hw0 : ∀ c k, w0 (ix3 0 c k) = WD (col 0 c) k) (hw1 : ∀ c k, w1 (ix3 0 c k) = WD (col 1 c) k)
  (hw2 : ∀ c k, w2 (ix3 0 c k) = WD (col 2 c) k) (hw3 : ∀ c k, w3 (ix3 0 c k) = WD (col 3 c) k)
  (hu0 : ∀ d c, u0 (ix3 0 d c) = WU d (col 0 c)) (hu1 : ∀ d c, u1 (ix3 0 d c) = WU d (col 1 c))
  (hu2 : ∀ d c, u2 (ix3 0 d c) = WU d (col 2 c)) (hu3 : ∀ d c, u3 (ix3 0 d c) = WU d (col 3 c))
  (ha0 : ∀ r c, a0 (ix2 r c) = act H G WU (row r) (col 0 c)) (ha1 : ∀ r c, a1 (ix2 r c) = act H G WU (row r) (col 1 c))
  (ha2 : ∀ r c, a2 (ix2 r c) = act H G WU (row r) (col 2 c)) (ha3 : ∀ r c, a3 (ix2 r c) = act H G WU (row r) (col 3 c))

include hv hw0 hw1 hw2 hw3 hu0 hu1 hu2 hu3 ha0 ha1 ha2 ha3 in
/-- The four tiles' contributions are the whole contraction. -/
theorem acc_eq (r : Fin 512) (d : Fin 1024) :
    k0_pay9 (F := Ideal) (k0_pay7 (k0_pay2 v) (k0_pay4 v w0 a0 u0) (k0_pay5 v w1 a1) u1 w2 a2 u2)
      (k0_pay8 (k0_pay2 v) w3 a3) u3 (ix2 r d) = dhn DH H G WU WD (row r) d := by
  rw [acc_at, dhnT_eq row DH H G WU WD v 0 w0 u0 a0 hv hw0 hu0 ha0, dhnT_eq row DH H G WU WD v 1 w1 u1 a1 hv hw1 hu1 ha1,
    dhnT_eq row DH H G WU WD v 2 w2 u2 a2 hv hw2 hu2 ha2, dhnT_eq row DH H G WU WD v 3 w3 u3 a3 hv hw3 hu3 ha3]
  unfold dhn
  rw [Fin.sum_univ_tiles 4 1024 rfl fun c => da DH H G WU WD (row r) c * WU d c, Fin.sum_univ_four]

theorem rrT_eq (hh : ∀ r k, h (ix2 r k) = H (row r) k) (r : Fin 512) : rrT h r = rr H (row r) := by
  simp only [rrT, rr, hh]

include hv hh hg hw0 hw1 hw2 hw3 hu0 hu1 hu2 hu3 ha0 ha1 ha2 ha3 in
/-- The stored block of the hidden rows' gradient. -/
theorem dh1_point (r : Fin 512) (d : Fin 1024) :
    k0_pay12 (F := Ideal) v (k0_pay7 (k0_pay2 v) (k0_pay4 v w0 a0 u0) (k0_pay5 v w1 a1) u1 w2 a2 u2)
      (k0_pay8 (k0_pay2 v) w3 a3) u3 h gg (ix2 r d) = dh1 DH H G WU WD (row r) d := by
  rw [pay12_at v h _ _ u3 gg (fun r d => dhn DH H G WU WD (row r) d)
    (acc_eq row DH H G WU WD v w0 w1 w2 w3 u0 u1 u2 u3 a0 a1 a2 a3 hv hw0 hw1 hw2 hw3 hu0 hu1 hu2 hu3 ha0 ha1 ha2 ha3)]
  simp only [dh1, rrT_eq row H h hh, hv, hh, hg]

include hv hh hw0 hw1 hw2 hw3 hu0 hu1 hu2 hu3 ha0 ha1 ha2 ha3 in
/-- One row block's share of the gain's gradient. -/
theorem dg_point (d : Fin 1024) :
    k0_pay13 (F := Ideal) (k0_pay7 (k0_pay2 v) (k0_pay4 v w0 a0 u0) (k0_pay5 v w1 a1) u1 w2 a2 u2)
      (k0_pay8 (k0_pay2 v) w3 a3) u3 h (ix2 0 d)
    = ∑ r : Fin 512, dhn DH H G WU WD (row r) d * (H (row r) d * rr H (row r)) := by
  rw [pay13_at h _ _ u3 (fun r d => dhn DH H G WU WD (row r) d)
    (acc_eq row DH H G WU WD v w0 w1 w2 w3 u0 u1 u2 u3 a0 a1 a2 a3 hv hw0 hw1 hw2 hw3 hu0 hu1 hu2 hu3 ha0 ha1 ha2 ha3)]
  simp only [rrT_eq row H h hh, hh]

end Cert.MlpIdeal.Hand

end
-- ==== Proof.MlpFinal.lean ====
/- The fused MLP backward call's three result arrays as plain mathematics of its arguments. -/
module

public import Idealize.ShloMosaic.Lib.Pipeline.ValueKit
public import proofs.«01_k».proof.Proof.MlpSpec
public import proofs.«01_k».proof.Proof.Gen.MlpIdeal.Value

@[expose] public section

set_option maxRecDepth 16384

noncomputable section

namespace Cert.MlpIdeal.Hand

open Idealize.ShloMosaic Idealize.ShloMosaic.TcCoe Idealize.SL.Sem
open Idealize.ShloMosaic.Pipeline (Dat)
open Cert.MlpIdeal Cert.MlpIdeal.Gen Cert.MlpIdeal.Value

variable (m : (ℓ : Loc nD τ sig) → Buf (Elt Ideal) ℓ)

/-- The five arguments as functions of their indices. -/
def DH (c : Dev nD) (n : Fin 8192) (k : Fin 1024) : EReal := (show FVec Ideal S8192x1024 .f32 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)
def WU (c : Dev nD) (k : Fin 1024) (j : Fin 4096) : EReal := (show FVec Ideal S1024x4096 .f32 from m ((c : Thread nD τ).loc main_arg3)) (ix2 k j)
def WD (c : Dev nD) (j : Fin 4096) (k : Fin 1024) : EReal := (show FVec Ideal S4096x1024 .f32 from m ((c : Thread nD τ).loc main_arg4)) (ix2 j k)

/-- The pre-activation the host saves for the call. -/
def aTerm (x1 : FVec Ideal S8192x1024 .f32) (x2 : FVec Ideal S1024 .f32) (x3 : FVec Ideal S1024x4096 .f32) : FVec Ideal S8192x4096 .bf16 :=
  truncf .bf16 (Host.dotGeneral dot_S8192x1024_S1024x4096_S8192x4096_1_0_0_1_n_n none
    (mulf (mulf x1 (broadcastInDim S8192x1024 ![0, 1] bcast_S8192x1_S8192x1024_0_1
        (Host.rsqrt (addf (Host.divf (broadcastInDim S8192x1 ![0] bcast_S8192_S8192x1_0
            (Host.reduceAdd (mulf x1 x1) (constant S_ .f32 0x00000000#32) reducesTo_S8192x1024_S8192_d1 h_S_))
          (broadcastInDim S8192x1 ![] bcast_S_S8192x1 (constant S_ .f32 0x44800000#32)))
          (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 x2)))
    x3) bitsLt_bf16_f32

theorem V_v14 (c : Dev nD) : V m c main_v14 = aTerm (m ((c : Thread nD τ).loc main_arg1)) (m ((c : Thread nD τ).loc main_arg2)) (m ((c : Thread nD τ).loc main_arg3)) := by
  unfold V; after_results; try rfl
theorem V_v16 (c : Dev nD) : V m c main_v16 = (broadcastInDim S1x4096x1024 ![1, 2] bcast_S4096x1024_S1x4096x1024_1_2
    (truncf .bf16 (show FVec Ideal S4096x1024 .f32 from m ((c : Thread nD τ).loc main_arg4)) bitsLt_bf16_f32) : FVec Ideal S1x4096x1024 .bf16) := by
  unfold V; after_results; try rfl
theorem V_v18 (c : Dev nD) : V m c main_v18 = (broadcastInDim S1x1024x4096 ![1, 2] bcast_S1024x4096_S1x1024x4096_1_2
    (truncf .bf16 (show FVec Ideal S1024x4096 .f32 from m ((c : Thread nD τ).loc main_arg3)) bitsLt_bf16_f32) : FVec Ideal S1x1024x4096 .bf16) := by
  unfold V; after_results; try rfl
theorem V_v19 (c : Dev nD) : V m c main_v19 = (broadcastInDim S1x1024 ![1] bcast_S1024_S1x1024_1
    (show FVec Ideal S1024 .f32 from m ((c : Thread nD τ).loc main_arg2)) : FVec Ideal S1x1024 .f32) := by
  unfold V; after_results; try rfl

theorem aTerm_at (c : Dev nD) (n : Fin 8192) (j : Fin 4096) :
    aTerm (m ((c : Thread nD τ).loc main_arg1)) (m ((c : Thread nD τ).loc main_arg2)) (m ((c : Thread nD τ).loc main_arg3)) (ix2 n j)
    = MlpSpec.act (H m c) (G m c) (WU m c) n j := by
  pointwise [aTerm, MlpSpec.act, MlpSpec.rr, H, G, WU, zero_add]

theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![0, 0]
    ∧ win0_6.index t = ![t.val, 0] ∧ win0_7.index t = ![0, 0] ∧ win0_8.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = DH m c (row t r) k := by
  unfold DH row
  blk_ext [iblk, V_main_arg0, idx t]
theorem b4_at (c : Dev nD) (t : Fin cfg0.N) (r : Fin 512) (k : Fin 1024) :
    (show FVec Ideal S512x1024 .f32 from iblk m c 4 t) (ix2 r k) = H m c (row t r) k := by
  unfold H row
  blk_ext [iblk, V_main_arg1, idx t]
theorem b5_at (c : Dev nD) (t : Fin cfg0.N) (k : Fin 1024) :
    (show FVec Ideal S1x1024 .f32 from iblk m c 5 t) (ix2 0 k) = G m c k := by
  unfold G
  blk_simp [iblk, idx t]
  entry_read
  pointwise
  blk_ext [idx t]
theorem b1_at (c : Dev nD) (t : Fin cfg0.N) (j : Fin 4096) (k : Fin 1024) :
    (show FVec Ideal S1x4096x1024 .bf16 from iblk m c 1 t) (ix3 0 j k) = WD m c j k := by
  unfold WD
  blk_simp [iblk, idx t]
  entry_read
  pointwise
  blk_ext [idx t]
theorem b2_at (c : Dev nD) (t : Fin cfg0.N) (k : Fin 1024) (j : Fin 4096) :
    (show FVec Ideal S1x1024x4096 .bf16 from iblk m c 2 t) (ix3 0 k j) = WU m c k j := by
  unfold WU
  blk_simp [iblk, idx t]
  entry_read
  pointwise
  blk_ext [idx t]
theorem b3_at (c : Dev nD) (t : Fin cfg0.N) (r : Fin 512) (j : Fin 4096) :
    (show FVec Ideal S512x4096 .bf16 from iblk m c 3 t) (ix2 r j) = MlpSpec.act (H m c) (G m c) (WU m c) (row t r) j := by
  rw [← aTerm_at]
  unfold row
  blk_ext [iblk, V_v14, idx t]

/-- The three result arrays. -/
def R6 (c : Dev nD) : S8192x1024.Idx → EReal := fun i => MlpSpec.dh1 (DH m c) (H m c) (G m c) (WU m c) (WD m c) (i 0) (i 1)
def R7 (c : Dev nD) : S1x1024.Idx → EReal := fun i => MlpSpec.dg (DH m c) (H m c) (G m c) (WU m c) (WD m c) (i 1)
def R8 (c : Dev nD) : S8192x4096.Idx → EReal := fun i => MlpSpec.da (DH m c) (H m c) (G m c) (WU m c) (WD m c) (i 0) (i 1)

set_option maxHeartbeats 1000000 in
theorem outs6_A (c : Dev nD) (t : Fin cfg0.N) (h0 : t.val % 16 = 0) (h1 : ¬1 ≤ t.val) (r : Fin 512) (d : Fin 1024) :
    (show FVec Ideal S512x1024 .f32 from (outsAt0 m c t.val t.isLt).1) (ix2 r d)
    = MlpSpec.dh1 (DH m c) (H m c) (G m c) (WU m c) (WD m c) (row t r) d := by
  rw [outsAt0_A m c t h0 h1]; frame_out
  refine dh1_point (row t) (DH m c) (H m c) (G m c) (WU m c) (WD m c) _ _ _ _ _ _ _ _ _ _ _ _ _ _ _ ?_ ?_ ?_ ?_ ?_ ?_ ?_ ?_ ?_ ?_ ?_ ?_ ?_ ?_ ?_ _ _
  · exact fun a b => b0_at m c t a b
  · exact fun a b => b4_at m c t a b
  · exact fun b => b5_at m c t b
  · intro a b; refine Eq.trans ?_ (b1_at m c t (col 0 a) b); pointwise; blk_ext
  · intro a b; refine Eq.trans ?_ (b1_at m c t (col 1 a) b); pointwise; blk_ext
  · intro a b; refine Eq.trans ?_ (b1_at m c t (col 2 a) b); pointwise; blk_ext
  · intro a b; refine Eq.trans ?_ (b1_at m c t (col 3 a) b); pointwise; blk_ext
  · intro a b; refine Eq.trans ?_ (b2_at m c t a (col 0 b)); pointwise; blk_ext
  · intro a b; refine Eq.trans ?_ (b2_at m c t a (col 1 b)); pointwise; blk_ext
  · intro a b; refine Eq.trans ?_ (b2_at m c t a (col 2 b)); pointwise; blk_ext
  · intro a b; refine Eq.trans ?_ (b2_at m c t a (col 3 b)); pointwise; blk_ext
  · intro a b; refine Eq.trans ?_ (b3_at m c t a (col 0 b)); pointwise; blk_ext
  · intro a b; refine Eq.trans ?_ (b3_at m c t a (col 1 b)); pointwise; blk_ext
  · intro a b; refine Eq.trans ?_ (b3_at m c t a (col 2 b)); pointwise; blk_ext
  · intro a b; refine Eq.trans ?_ (b3_at m c t a (col 3 b)); pointwise; blk_ext

set_option maxHeartbeats 1000000 in
theorem outs6_B (c : Dev nD) (t : Fin cfg0.N) (h0 : ¬t.val % 16 = 0) (h1 : 1 ≤ t.val) (r : Fin 512) (d : Fin 1024) :
    (show FVec Ideal S512x1024 .f32 from (outsAt0 m c t.val t.isLt).1) (ix2 r d)
    = MlpSpec.dh1 (DH m c) (H m c) (G m c) (WU m c) (WD m c) (row t r) d := by
  rw [outsAt0_B m c t h0 h1]; frame_out
  refine dh1_point (row t) (DH m c) (H m c) (G m c) (WU m c) (WD m c) _ _ _ _ _ _ _ _ _ _ _ _ _ _ _ ?_ ?_ ?_ ?_ ?_ ?_ ?_ ?_ ?_ ?_ ?_ ?_ ?_ ?_ ?_ _ _
  · exact fun a b => b0_at m c t a b
  · exact fun a b => b4_at m c t a b
  · exact fun b => b5_at m c t b
  · intro a b; refine Eq.trans ?_ (b1_at m c t (col 0 a) b); pointwise; blk_ext
  · intro a b; refine Eq.trans ?_ (b1_at m c t (col 1 a) b); pointwise; blk_ext
  · intro a b; refine Eq.trans ?_ (b1_at m c t (col 2 a) b); pointwise; blk_ext
  · intro a b; refine Eq.trans ?_ (b1_at m c t (col 3 a) b); pointwise; blk_ext
  · intro a b; refine Eq.trans ?_ (b2_at m c t a (col 0 b)); pointwise; blk_ext
  · intro a b; refine Eq.trans ?_ (b2_at m c t a (col 1 b)); pointwise; blk_ext
  · intro a b; refine Eq.trans ?_ (b2_at m c t a (col 2 b)); pointwise; blk_ext
  · intro a b; refine Eq.trans ?_ (b2_at m c t a (col 3 b)); pointwise; blk_ext
  · intro a b; refine Eq.trans ?_ (b3_at m c t a (col 0 b)); pointwise; blk_ext
  · intro a b; refine Eq.trans ?_ (b3_at m c t a (col 1 b)); pointwise; blk_ext
  · intro a b; refine Eq.trans ?_ (b3_at m c t a (col 2 b)); pointwise; blk_ext
  · intro a b; refine Eq.trans ?_ (b3_at m c t a (col 3 b)); pointwise; blk_ext

/-- Row block `t`'s share of the gain's gradient. -/
def part (c : Dev nD) (t : Fin cfg0.N) (d : Fin 1024) : EReal :=
  ∑ r : Fin 512, MlpSpec.dhn (DH m c) (H m c) (G m c) (WU m c) (WD m c) (row t r) d * (H m c (row t r) d * MlpSpec.rr (H m c) (row t r))

theorem outs7_A (c : Dev nD) (t : Fin cfg0.N) (h0 : t.val % 16 = 0) (h1 : ¬1 ≤ t.val) (z : Fin 1) (d : Fin 1024) :
    (show FVec Ideal S1x1024 .f32 from (outsAt0 m c t.val t.isLt).2.1) (ix2 z d) = part m c t d := by
  obtain rfl : z = 0 := Subsingleton.elim _ _
  rw [outsAt0_A m c t h0 h1]; frame_out
  unfold part
  refine (dg_point (row t) (DH m c) (H m c) (G m c) (WU m c) (WD m c) _ _ _ _ _ _ _ _ _ _ _ _ _ _ ?_ ?_ ?_ ?_ ?_ ?_ ?_ ?_ ?_ ?_ ?_ ?_ ?_ ?_ _)
  · exact fun a b => b0_at m c t a b
  · exact fun a b => b4_at m c t a b
  · intro a b; refine Eq.trans ?_ (b1_at m c t (col 0 a) b); pointwise; blk_ext
  · intro a b; refine Eq.trans ?_ (b1_at m c t (col 1 a) b); pointwise; blk_ext
  · intro a b; refine Eq.trans ?_ (b1_at m c t (col 2 a) b); pointwise; blk_ext
  · intro a b; refine Eq.trans ?_ (b1_at m c t (col 3 a) b); pointwise; blk_ext
  · intro a b; refine Eq.trans ?_ (b2_at m c t a (col 0 b)); pointwise; blk_ext
  · intro a b; refine Eq.trans ?_ (b2_at m c t a (col 1 b)); pointwise; blk_ext
  · intro a b; refine Eq.trans ?_ (b2_at m c t a (col 2 b)); pointwise; blk_ext
  · intro a b; refine Eq.trans ?_ (b2_at m c t a (col 3 b)); pointwise; blk_ext
  · intro a b; refine Eq.trans ?_ (b3_at m c t a (col 0 b)); pointwise; blk_ext
  · intro a b; refine Eq.trans ?_ (b3_at m c t a (col 1 b)); pointwise; blk_ext
  · intro a b; refine Eq.trans ?_ (b3_at m c t a (col 2 b)); pointwise; blk_ext
  · intro a b; refine Eq.trans ?_ (b3_at m c t a (col 3 b)); pointwise; blk_ext

theorem outs7_B (c : Dev nD) (t : Fin cfg0.N) (h0 : ¬t.val % 16 = 0) (h1 : 1 ≤ t.val) (z : Fin 1) (d : Fin 1024) :
    (show FVec Ideal S1x1024 .f32 from (outsAt0 m c t.val t.isLt).2.1) (ix2 z d)
    = (show FVec Ideal S1x1024 .f32 from (outsAt0 m c (t.val - 1) (Nat.lt_of_le_of_lt (Nat.sub_le _ _) t.isLt)).2.1) (ix2 z d) + part m c t d := by
  obtain rfl : z = 0 := Subsingleton.elim _ _
  rw [outsAt0_B m c t h0 h1]; frame_out
  refine (pay1_at _ _ _).trans (congrArg _ ?_)
  unfold part
  refine (dg_point (row t) (DH m c) (H m c) (G m c) (WU m c) (WD m c) _ _ _ _ _ _ _ _ _ _ _ _ _ _ ?_ ?_ ?_ ?_ ?_ ?_ ?_ ?_ ?_ ?_ ?_ ?_ ?_ ?_ _)
  · exact fun a b => b0_at m c t a b
  · exact fun a b => b4_at m c t a b
  · intro a b; refine Eq.trans ?_ (b1_at m c t (col 0 a) b); pointwise; blk_ext
  · intro a b; refine Eq.trans ?_ (b1_at m c t (col 1 a) b); pointwise; blk_ext
  · intro a b; refine Eq.trans ?_ (b1_at m c t (col 2 a) b); pointwise; blk_ext
  · intro a b; refine Eq.trans ?_ (b1_at m c t (col 3 a) b); pointwise; blk_ext
  · intro a b; refine Eq.trans ?_ (b2_at m c t a (col 0 b)); pointwise; blk_ext
  · intro a b; refine Eq.trans ?_ (b2_at m c t a (col 1 b)); pointwise; blk_ext
  · intro a b; refine Eq.trans ?_ (b2_at m c t a (col 2 b)); pointwise; blk_ext
  · intro a b; refine Eq.trans ?_ (b2_at m c t a (col 3 b)); pointwise; blk_ext
  · intro a b; refine Eq.trans ?_ (b3_at m c t a (col 0 b)); pointwise; blk_ext
  · intro a b; refine Eq.trans ?_ (b3_at m c t a (col 1 b)); pointwise; blk_ext
  · intro a b; refine Eq.trans ?_ (b3_at m c t a (col 2 b)); pointwise; blk_ext
  · intro a b; refine Eq.trans ?_ (b3_at m c t a (col 3 b)); pointwise; blk_ext

set_option maxHeartbeats 1000000 in
theorem outs8_A (c : Dev nD) (t : Fin cfg0.N) (h0 : t.val % 16 = 0) (h1 : ¬1 ≤ t.val) (r : Fin 512) (j : Fin 4096) :
    (show FVec Ideal S512x4096 .bf16 from (outsAt0 m c t.val t.isLt).2.2) (ix2 r j)
    = MlpSpec.da (DH m c) (H m c) (G m c) (WU m c) (WD m c) (row t r) j := by
  rw [outsAt0_A m c t h0 h1]; frame_out
  clear h0 h1
  canon_tiles x h
  all_goals idx_vars x
  · refine (pay8_at _ _ _ _ _).trans ((daT_eq (row t) (DH m c) (H m c) (G m c) (WU m c) (WD m c) _ 3 _ _ ?_ ?_ ?_ _ _).trans ?_)
    · exact fun a b => b0_at m c t a b
    · intro a b; refine Eq.trans ?_ (b1_at m c t (col 3 a) b); pointwise; blk_ext
    · intro a b; refine Eq.trans ?_ (b3_at m c t a (col 3 b)); pointwise; blk_ext
    · have e0 : r = x0 := Fin.ext h0
      have e1 : j = col 3 x1 := Fin.ext (by simp only [col]; simp at h1 ⊢; omega)
      rw [e0, e1]
  · refine (pay6_at _ _ _ _ _).trans ((daT_eq (row t) (DH m c) (H m c) (G m c) (WU m c) (WD m c) _ 2 _ _ ?_ ?_ ?_ _ _).trans ?_)
    · exact fun a b => b0_at m c t a b
    · intro a b; refine Eq.trans ?_ (b1_at m c t (col 2 a) b); pointwise; blk_ext
    · intro a b; refine Eq.trans ?_ (b3_at m c t a (col 2 b)); pointwise; blk_ext
    · have e0 : r = x0 := Fin.ext h0
      have e1 : j = col 2 x1 := Fin.ext (by simp only [col]; simp at h1 ⊢; omega)
      rw [e0, e1]
  · refine (pay5_at _ _ _ _ _).trans ((daT_eq (row t) (DH m c) (H m c) (G m c) (WU m c) (WD m c) _ 1 _ _ ?_ ?_ ?_ _ _).trans ?_)
    · exact fun a b => b0_at m c t a b
    · intro a b; refine Eq.trans ?_ (b1_at m c t (col 1 a) b); pointwise; blk_ext
    · intro a b; refine Eq.trans ?_ (b3_at m c t a (col 1 b)); pointwise; blk_ext
    · have e0 : r = x0 := Fin.ext h0
      have e1 : j = col 1 x1 := Fin.ext (by simp only [col]; simp at h1 ⊢; omega)
      rw [e0, e1]
  · refine (pay3_at _ _ _ _ _).trans ((daT_eq (row t) (DH m c) (H m c) (G m c) (WU m c) (WD m c) _ 0 _ _ ?_ ?_ ?_ _ _).trans ?_)
    · exact fun a b => b0_at m c t a b
    · intro a b; refine Eq.trans ?_ (b1_at m c t (col 0 a) b); pointwise; blk_ext
    · intro a b; refine Eq.trans ?_ (b3_at m c t a (col 0 b)); pointwise; blk_ext
    · have e0 : r = x0 := Fin.ext h0
      have e1 : j = col 0 x1 := Fin.ext (by simp only [col]; simp at h1 ⊢; omega)
      rw [e0, e1]

set_option maxHeartbeats 1000000 in
theorem outs8_B (c : Dev nD) (t : Fin cfg0.N) (h0 : ¬t.val % 16 = 0) (h1 : 1 ≤ t.val) (r : Fin 512) (j : Fin 4096) :
    (show FVec Ideal S512x4096 .bf16 from (outsAt0 m c t.val t.isLt).2.2) (ix2 r j)
    = MlpSpec.da (DH m c) (H m c) (G m c) (WU m c) (WD m c) (row t r) j := by
  rw [outsAt0_B m c t h0 h1]; frame_out
  clear h0 h1
  canon_tiles x h
  all_goals idx_vars x
  · refine (pay8_at _ _ _ _ _).trans ((daT_eq (row t) (DH m c) (H m c) (G m c) (WU m c) (WD m c) _ 3 _ _ ?_ ?_ ?_ _ _).trans ?_)
    · exact fun a b => b0_at m c t a b
    · intro a b; refine Eq.trans ?_ (b1_at m c t (col 3 a) b); pointwise; blk_ext
    · intro a b; refine Eq.trans ?_ (b3_at m c t a (col 3 b)); pointwise; blk_ext
    · have e0 : r = x0 := Fin.ext h0
      have e1 : j = col 3 x1 := Fin.ext (by simp only [col]; simp at h1 ⊢; omega)
      rw [e0, e1]
  · refine (pay6_at _ _ _ _ _).trans ((daT_eq (row t) (DH m c) (H m c) (G m c) (WU m c) (WD m c) _ 2 _ _ ?_ ?_ ?_ _ _).trans ?_)
    · exact fun a b => b0_at m c t a b
    · intro a b; refine Eq.trans ?_ (b1_at m c t (col 2 a) b); pointwise; blk_ext
    · intro a b; refine Eq.trans ?_ (b3_at m c t a (col 2 b)); pointwise; blk_ext
    · have e0 : r = x0 := Fin.ext h0
      have e1 : j = col 2 x1 := Fin.ext (by simp only [col]; simp at h1 ⊢; omega)
      rw [e0, e1]
  · refine (pay5_at _ _ _ _ _).trans ((daT_eq (row t) (DH m c) (H m c) (G m c) (WU m c) (WD m c) _ 1 _ _ ?_ ?_ ?_ _ _).trans ?_)
    · exact fun a b => b0_at m c t a b
    · intro a b; refine Eq.trans ?_ (b1_at m c t (col 1 a) b); pointwise; blk_ext
    · intro a b; refine Eq.trans ?_ (b3_at m c t a (col 1 b)); pointwise; blk_ext
    · have e0 : r = x0 := Fin.ext h0
      have e1 : j = col 1 x1 := Fin.ext (by simp only [col]; simp at h1 ⊢; omega)
      rw [e0, e1]
  · refine (pay3_at _ _ _ _ _).trans ((daT_eq (row t) (DH m c) (H m c) (G m c) (WU m c) (WD m c) _ 0 _ _ ?_ ?_ ?_ _ _).trans ?_)
    · exact fun a b => b0_at m c t a b
    · intro a b; refine Eq.trans ?_ (b1_at m c t (col 0 a) b); pointwise; blk_ext
    · intro a b; refine Eq.trans ?_ (b3_at m c t a (col 0 b)); pointwise; blk_ext
    · have e0 : r = x0 := Fin.ext h0
      have e1 : j = col 0 x1 := Fin.ext (by simp only [col]; simp at h1 ⊢; omega)
      rw [e0, e1]

end Cert.MlpIdeal.Hand

end
-- ==== Proof.MlpEnd.lean ====
/- The fused MLP backward call's three result arrays, whole. -/
module

public import Idealize.ShloMosaic.Lib.Pipeline.ValueKit
public import proofs.«01_k».proof.Proof.MlpFinal

@[expose] public section

set_option maxRecDepth 16384

noncomputable section

namespace Cert.MlpIdeal.Hand

open Idealize.ShloMosaic Idealize.ShloMosaic.TcCoe Idealize.SL.Sem
open Idealize.ShloMosaic.Pipeline (Dat)
open Cert.MlpIdeal Cert.MlpIdeal.Gen Cert.MlpIdeal.Value

variable (m : (ℓ : Loc nD τ sig) → Buf (Elt Ideal) ℓ)

theorem outs6 (c : Dev nD) (t : Fin cfg0.N) (r : Fin 512) (d : Fin 1024) :
    (show FVec Ideal S512x1024 .f32 from (outsAt0 m c t.val t.isLt).1) (ix2 r d)
    = MlpSpec.dh1 (DH m c) (H m c) (G m c) (WU m c) (WD m c) (row t r) d := by
  have hN := lt_of_lt_of_eq t.isLt N_0
  by_cases h0 : t.val % 16 = 0
  · exact outs6_A m c t h0 (by omega) _ _
  · exact outs6_B m c t h0 (by omega) _ _

theorem outs8 (c : Dev nD) (t : Fin cfg0.N) (r : Fin 512) (j : Fin 4096) :
    (show FVec Ideal S512x4096 .bf16 from (outsAt0 m c t.val t.isLt).2.2) (ix2 r j)
    = MlpSpec.da (DH m c) (H m c) (G m c) (WU m c) (WD m c) (row t r) j := by
  have hN := lt_of_lt_of_eq t.isLt N_0
  by_cases h0 : t.val % 16 = 0
  · exact outs8_A m c t h0 (by omega) _ _
  · exact outs8_B m c t h0 (by omega) _ _

theorem sum7 (c : Dev nD) (t : Fin cfg0.N) (ht : t.val % 16 = 15) (d : Fin 1024) :
    (show FVec Ideal S1x1024 .f32 from (outsAt0 m c t.val t.isLt).2.1) (ix2 0 d)
    = ∑ s : Fin 16, part m c ⟨s.val, lt_of_lt_of_eq s.isLt N_0.symm⟩ d := by
  have key : ∀ n (hn : n < cfg0.N), (show FVec Ideal S1x1024 .f32 from (outsAt0 m c n hn).2.1) (ix2 0 d)
      = ∑ s : Fin (n + 1), part m c ⟨s.val, lt_of_le_of_lt (Nat.le_of_lt_succ s.isLt) hn⟩ d := by
    intro n
    induction n with
    | zero => intro hn; rw [Fin.sum_univ_one]; exact outs7_A m c ⟨0, hn⟩ rfl (by simp) 0 d
    | succ n ih =>
      intro hn
      have hN := lt_of_lt_of_eq hn N_0
      rw [Fin.sum_univ_castSucc]
      refine (outs7_B m c ⟨n + 1, hn⟩ (by simp; omega) (by simp) 0 d).trans ?_
      exact congrArg (· + _) (ih (Nat.lt_of_succ_lt hn))
  have hN := lt_of_lt_of_eq t.isLt N_0
  obtain ⟨n, hn⟩ := t
  obtain rfl : n = 15 := by simp at ht hN; omega
  exact key 15 hn

theorem sum7' (c : Dev nD) (d : Fin 1024) :
    ∑ s : Fin 16, part m c ⟨s.val, lt_of_lt_of_eq s.isLt N_0.symm⟩ d
    = MlpSpec.dg (DH m c) (H m c) (G m c) (WU m c) (WD m c) d := by
  unfold MlpSpec.dg part row
  exact (Fin.sum_univ_tiles 16 512 rfl (fun n : Fin 8192 => MlpSpec.dhn (DH m c) (H m c) (G m c) (WU m c) (WD m c) n d * (H m c n d * MlpSpec.rr (H m c) n))).symm

theorem final6 (c : Dev nD) : (dats m 0 c).arrAt 6 (cfgs 0).N = R6 m c := by
  refine (dats m 0 c).arrAt_eq_of_covers 6 _ (by decide +kernel) fun t hf y => ?_
  blk_simp
  rw [after0_6]
  idx_vars y
  have e : ((View.whole main_v20_0).slice (win0_6.rect t)).emb (ix2 y0 y1) = ix2 (row t y0) y1 := by
    unfold row; blk_ext [idx t]
  refine (outs6 m c t y0 y1).trans (congrArg (R6 m c) e).symm

theorem final8 (c : Dev nD) : (dats m 0 c).arrAt 8 (cfgs 0).N = R8 m c := by
  refine (dats m 0 c).arrAt_eq_of_covers 8 _ (by decide +kernel) fun t hf y => ?_
  blk_simp
  rw [after0_8]
  idx_vars y
  have e : ((View.whole main_v20_2).slice (win0_8.rect t)).emb (ix2 y0 y1) = ix2 (row t y0) y1 := by
    unfold row; blk_ext [idx t]
  refine (outs8 m c t y0 y1).trans (congrArg (R8 m c) e).symm

theorem final7 (c : Dev nD) : (dats m 0 c).arrAt 7 (cfgs 0).N = R7 m c := by
  refine (dats m 0 c).arrAt_eq_of_covers 7 _ (by decide +kernel) fun t hf y => ?_
  blk_simp
  rw [after0_7]
  idx_vars y
  obtain rfl : y0 = 0 := Subsingleton.elim _ _
  have e : ((View.whole main_v20_1).slice (win0_7.rect t)).emb (ix2 0 y1) = ix2 0 y1 := by
    blk_ext [idx t]
  refine ((sum7 m c t ((flush0_7 t).mp hf) y1).trans (sum7' m c y1)).trans (congrArg (R7 m c) e).symm

end Cert.MlpIdeal.Hand

end
-- ==== Proof.MlpRef.lean ====
/- The reference gradient's stages read entry by entry over the extended reals. -/
module

public import Idealize.ShloMosaic.Lib.Pointwise
public import proofs.«01_k».proof.Proof.MlpSpec
public import proofs.«01_k».proof.Proof.Gen.MlpRefIdeal.Read

@[expose] public section

set_option maxRecDepth 16384

noncomputable section

namespace Cert.MlpRefIdeal.Hand

open Idealize.ShloMosaic Idealize.SL.Sem
open Cert.MlpRefIdeal Cert.MlpRefIdeal.Gen Cert.MlpRefIdeal.Read

variable (x0 x1 : FVec Ideal S8192x1024 .f32) (x2 : FVec Ideal S1024 .f32) (x3 : FVec Ideal S1024x4096 .f32)
  (x4 : FVec Ideal S4096x1024 .f32)

/-- An array of two axes, and of one, as functions of their indices. -/
abbrev m2 {a b : ℕ} (x : (⟨2, ![a, b]⟩ : Shape).Idx → EReal) (i : Fin a) (j : Fin b) : EReal := x (ix2 i j)
abbrev m1 {a : ℕ} (x : (⟨1, ![a]⟩ : Shape).Idx → EReal) (i : Fin a) : EReal := x (ix1 i)

theorem v7_at (n : Fin 8192) (z : Fin 1) : val_main_v7 (F := Ideal) x1 (ix2 n z) = MlpSpec.rr (m2 x1) n := by
  pointwise [val_main_v7, val_main_v6, val_main_v5, val_main_v4, val_main_v3, val_main_v2, val_main_v1, val_main_v0,
    val_main_cst, val_main_cst_0, val_main_cst_1, MlpSpec.rr, zero_add]

theorem v16_at (n : Fin 8192) (c : Fin 4096) :
    val_main_v16 (F := Ideal) x1 x2 x3 (ix2 n c) = MlpSpec.act (m2 x1) (m1 x2) (m2 x3) n c := by
  pointwise [val_main_v16, val_main_v15, val_main_v14, val_main_v13, val_main_v12, val_main_v11, v7_at, MlpSpec.act]

theorem v28_at (n : Fin 8192) (c : Fin 4096) :
    val_main_v28 (F := Ideal) x0 x1 x2 x3 x4 (ix2 n c) = MlpSpec.da (m2 x0) (m2 x1) (m1 x2) (m2 x3) (m2 x4) n c := by
  pointwise [val_main_v28, val_main_v27, val_main_cst_6, val_main_v26, val_main_v25, val_main_v23, val_main_v22, val_main_cst_5, val_main_v19,
    val_main_v18, val_main_cst_3, val_main_v17, val_main_call0_v0, val_main_call0_cst, v16_at, MlpSpec.da]
  split_ifs with h
  · rfl
  · rw [max_eq_right (not_lt.mp h), mul_zero, mul_zero]

theorem v29_at (n : Fin 8192) (d : Fin 1024) :
    val_main_v29 (F := Ideal) x0 x1 x2 x3 x4 (ix2 n d) = MlpSpec.dhn (m2 x0) (m2 x1) (m1 x2) (m2 x3) (m2 x4) n d := by
  pointwise [val_main_v29, v28_at, MlpSpec.dhn]

theorem v51_at (d : Fin 1024) :
    val_main_v51 (F := Ideal) x0 x1 x2 x3 x4 (ix2 0 d) = MlpSpec.dg (m2 x0) (m2 x1) (m1 x2) (m2 x3) (m2 x4) d := by
  pointwise [val_main_v51, val_main_v35, val_main_cst_8, val_main_v32, val_main_v31, val_main_cst_7, val_main_v30, val_main_v12, val_main_v11, v7_at, v29_at,
    MlpSpec.dg, zero_add]
  rw [Fin.sum_univ_one]
  exact Finset.sum_congr rfl fun n _ => mul_comm _ _

theorem v52_at (n : Fin 8192) (c : Fin 4096) :
    val_main_v52 (F := Ideal) x0 x1 x2 x3 x4 (ix2 n c) = MlpSpec.da (m2 x0) (m2 x1) (m1 x2) (m2 x3) (m2 x4) n c := by
  pointwise [val_main_v52, v28_at]

theorem v50_at (n : Fin 8192) (d : Fin 1024) :
    val_main_v50 (F := Ideal) x0 x1 x2 x3 x4 (ix2 n d)
    = m2 x0 n d + (MlpSpec.dhn (m2 x0) (m2 x1) (m1 x2) (m2 x3) (m2 x4) n d * m1 x2 d * MlpSpec.rr (m2 x1) n
      + m2 x1 n d * Ideal.div ((∑ k : Fin 1024, m2 x1 n k * (MlpSpec.dhn (m2 x0) (m2 x1) (m1 x2) (m2 x3) (m2 x4) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32)
      + Ideal.div ((∑ k : Fin 1024, m2 x1 n k * (MlpSpec.dhn (m2 x0) (m2 x1) (m1 x2) (m2 x3) (m2 x4) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32) * m2 x1 n d) := by
  pointwise [val_main_v50, val_main_v49, val_main_v48, val_main_v47, val_main_v46, val_main_v45, val_main_v44, val_main_cst_11,
    val_main_v43, val_main_v42, val_main_cst_10, val_main_v41, val_main_v40, val_main_v39, val_main_v38, val_main_v37, val_main_cst_9,
    val_main_v36, val_main_v34, val_main_v33, val_main_v13, val_main_v10, val_main_v9, val_main_cst_2, val_main_v8, v7_at, v29_at,
    val_main_v6, val_main_v5, val_main_v4, val_main_v3, val_main_v2, val_main_v1, val_main_v0,
    val_main_cst, val_main_cst_0, val_main_cst_1, zero_add, Fin.sum_univ_one]

end Cert.MlpRefIdeal.Hand

end
-- ==== Proof.MlpAlg.lean ====
/- The algebra of the norm's gradient over finite entries: the kernel's form and the reference's agree. -/
module

public import proofs.«01_k».proof.Proof.MlpSpec
public import Mathlib.Tactic.FieldSimp
public import Mathlib.Tactic.Ring
public import Mathlib.Tactic.Positivity

@[expose] public section

set_option maxRecDepth 16384

noncomputable section

namespace Cert.MlpSpec

open Idealize.ShloMosaic

/-- An entry that is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.max {x y : EReal} (hx : IsR x) (hy : IsR y) : IsR (max x y) := by
  rcases max_choice x y with h | h <;> rw [h] <;> assumption
theorem isR_zero : IsR 0 := ⟨0, EReal.coe_zero.symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} {s : Finset ι} {f : ι → EReal} (h : ∀ i, IsR (f i)) : IsR (∑ i ∈ s, f i) := by
  choose g hg using h
  exact ⟨∑ i ∈ s, g i, by rw [coe_sum]; exact Finset.sum_congr rfl fun i _ => hg i⟩

theorem c1024 : Ideal.ofBits .f32 0x44800000#32 = ((1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cmhalf : Ideal.ofBits .f32 0xBF000000#32 = ((-(1 / 2) : ℝ) : EReal) := by
  simp [Ideal.ofBits, Ideal.ieee, -EReal.coe_mul]; norm_num
theorem ceps : ∃ e : ℝ, 0 < e ∧ Ideal.ofBits .f32 0x358637BD#32 = (e : EReal) := by
  refine ⟨_, ?_, by simp [Ideal.ofBits, Ideal.ieee, -EReal.coe_mul]; rfl⟩
  positivity

theorem cinf : Ideal.ofBits .f32 0x7F800000#32 = ⊤ := by
  simp [Ideal.ofBits, Ideal.ieee]

theorem cninf : Ideal.ofBits .f32 0xFF800000#32 = ⊥ := by
  simp [Ideal.ofBits, Ideal.ieee]

/-- An entry whose magnitude is below the infinite word is a real number. -/
theorem isR_of_lt {x : EReal} (h : Ideal.cmp .olt (FloatOps.hostAbsf (F := Ideal) (φ := .f32) x) (Ideal.ofBits .f32 0x7F800000#32) = 1#1) : IsR x := by
  have h : FloatOps.hostAbsf (F := Ideal) (φ := .f32) x < Ideal.ofBits .f32 0x7F800000#32 := (Ideal.cmp_olt_eq_one _ _).1 h
  rw [cinf] at h
  induction x using EReal.rec with
  | bot => exact absurd h (by show ¬max (⊥ : EReal) (-⊥) < ⊤; simp)
  | coe a => exact ⟨a, rfl⟩
  | top => exact absurd h (by show ¬max (⊤ : EReal) (-⊤) < ⊤; simp)

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_coe_pos {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

variable {DH H : Fin 8192 → Fin 1024 → EReal} {G : Fin 1024 → EReal} {WU : Fin 1024 → Fin 4096 → EReal}
  {WD : Fin 4096 → Fin 1024 → EReal}

/-- A row's mean square plus the guard is a positive real. -/
theorem ms_pos (hH : ∀ n k, IsR (H n k)) (n : Fin 8192) : ∃ a : ℝ, 0 < a ∧
    Ideal.div (∑ k : Fin 1024, H n k * H n k) (Ideal.ofBits .f32 0x44800000#32) + Ideal.ofBits .f32 0x358637BD#32 = (a : EReal) := by
  choose f hf using hH n
  obtain ⟨e, he, hE⟩ := ceps
  refine ⟨(∑ k, f k * f k) / 1024 + e, add_pos_of_nonneg_of_pos (div_nonneg (Finset.sum_nonneg fun k _ => mul_self_nonneg _) (by norm_num)) he, ?_⟩
  rw [hE, c1024, EReal.coe_add, ← div_coe_coe _ (by norm_num), coe_sum]
  simp only [hf, EReal.coe_mul]

theorem isR_rr (hH : ∀ n k, IsR (H n k)) (n : Fin 8192) : IsR (rr H n) := by
  obtain ⟨a, ha, h⟩ := ms_pos hH n
  exact ⟨_, by unfold rr; rw [h, rsqrt_coe_pos ha]⟩

theorem isR_act (hH : ∀ n k, IsR (H n k)) (hG : ∀ k, IsR (G k)) (hU : ∀ k c, IsR (WU k c)) (n : Fin 8192) (c : Fin 4096) :
    IsR (act H G WU n c) :=
  .sum fun k => (((hH n k).mul (isR_rr hH n)).mul (hG k)).mul (hU k c)

theorem isR_da (hD : ∀ n k, IsR (DH n k)) (hH : ∀ n k, IsR (H n k)) (hG : ∀ k, IsR (G k)) (hU : ∀ k c, IsR (WU k c))
    (hW : ∀ c k, IsR (WD c k)) (n : Fin 8192) (c : Fin 4096) : IsR (da DH H G WU WD n c) :=
  (IsR.sum fun k => (hD n k).mul (hW c k)).mul (IsR.mul ⟨_, c2⟩ ((isR_act hH hG hU n c).max isR_zero))

theorem isR_dhn (hD : ∀ n k, IsR (DH n k)) (hH : ∀ n k, IsR (H n k)) (hG : ∀ k, IsR (G k)) (hU : ∀ k c, IsR (WU k c))
    (hW : ∀ c k, IsR (WD c k)) (n : Fin 8192) (d : Fin 1024) : IsR (dhn DH H G WU WD n d) :=
  .sum fun c => (isR_da hD hH hG hU hW n c).mul (hU d c)

/-- The norm's gradient at one entry: `r (t − (h r) · mean (t h r))` is `t r + 2 h (Σ h t · (−½ r / (ms + eps))) / 1024`. -/
theorem norm_grad (x y : EReal) (h t : Fin 1024 → EReal) (d : Fin 1024) (hh : ∀ k, IsR (h k)) (ht : ∀ k, IsR (t k))
    (a : ℝ) (ha : 0 < a) (hx : x = (a : EReal)) (hy : y = Ideal.rsqrt x) :
    y * (t d - h d * y * Ideal.div (∑ k, t k * (h k * y)) (Ideal.ofBits .f32 0x44800000#32))
    = t d * y + h d * Ideal.div ((∑ k, h k * t k) * (Ideal.ofBits .f32 0xBF000000#32 * Ideal.div y x)) (Ideal.ofBits .f32 0x44800000#32)
      + Ideal.div ((∑ k, h k * t k) * (Ideal.ofBits .f32 0xBF000000#32 * Ideal.div y x)) (Ideal.ofBits .f32 0x44800000#32) * h d := by
  choose f hf using hh
  choose s hs using ht
  have hya : y = (((Real.sqrt a)⁻¹ : ℝ) : EReal) := by rw [hy, hx, rsqrt_coe_pos ha]
  have hsq : Real.sqrt a ≠ 0 := (Real.sqrt_pos.mpr ha).ne'
  have haa : a = Real.sqrt a * Real.sqrt a := (Real.mul_self_sqrt ha.le).symm
  have e1 : (∑ k, t k * (h k * y)) = ((∑ k, s k * (f k * (Real.sqrt a)⁻¹) : ℝ) : EReal) := by
    rw [coe_sum]; simp only [hf, hs, hya, EReal.coe_mul]
  have e2 : (∑ k, h k * t k) = ((∑ k, f k * s k : ℝ) : EReal) := by
    rw [coe_sum]; simp only [hf, hs, EReal.coe_mul]
  have e3 : ∑ k, s k * (f k * (Real.sqrt a)⁻¹) = (∑ k, f k * s k) * (Real.sqrt a)⁻¹ := by
    rw [Finset.sum_mul]; exact Finset.sum_congr rfl fun k _ => by ring
  rw [e1, e2, e3, hf, hs, hya, hx, c1024, cmhalf, div_coe_coe _ (by norm_num), div_coe_coe _ ha.ne', ← EReal.coe_mul (-(1 / 2)),
    ← EReal.coe_mul (∑ k, f k * s k), div_coe_coe _ (by norm_num)]
  simp only [← EReal.coe_mul, ← EReal.coe_sub, ← EReal.coe_add]
  congr 1
  generalize (∑ k, f k * s k) = S
  generalize hq : Real.sqrt a = q at *
  subst haa
  field_simp
  ring

end Cert.MlpSpec

end
-- ==== Proof.MlpPre.lean ====
/- What the precondition says: every entry of the five arguments is a real number. -/
module

public import Idealize.ShloMosaic.Lib.ReduceAll
public import proofs.«01_k».proof.Proof.MlpAlg
public import proofs.«01_k».proof.Proof.Gen.Pre_finite

@[expose] public section

noncomputable section

namespace Cert.Pre_finite.Hand

open Idealize.ShloMosaic Cert.Pre_finite Cert.Pre_finite.Facts

instance : Subsingleton S_.Idx := ⟨fun a b => funext fun i => i.elim0⟩

variable [Facts]

theorem all_real {x0 x1 : FVec Ideal S8192x1024 .f32} {x2 : FVec Ideal S1024 .f32} {x3 : FVec Ideal S1024x4096 .f32} {x4 : FVec Ideal S4096x1024 .f32}
    (h : fn (F := Ideal) x0 x1 x2 x3 x4 = fun _ => 1#1) :
    (∀ i, MlpSpec.IsR (x0 i)) ∧ (∀ i, MlpSpec.IsR (x1 i)) ∧ (∀ i, MlpSpec.IsR (x2 i)) ∧ (∀ i, MlpSpec.IsR (x3 i)) ∧ ∀ i, MlpSpec.IsR (x4 i) := by
  have h := congrFun h (fun i => i.elim0)
  dsimp only [fn, fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => MlpSpec.isR_of_lt (Host.reduce_andi_all _ _ _ _ _ h0 i), fun i => MlpSpec.isR_of_lt (Host.reduce_andi_all _ _ _ _ _ h1 i),
    fun i => MlpSpec.isR_of_lt (Host.reduce_andi_all _ _ _ _ _ h2 i), fun i => MlpSpec.isR_of_lt (Host.reduce_andi_all _ _ _ _ _ h3 i),
    fun i => MlpSpec.isR_of_lt (Host.reduce_andi_all _ _ _ _ _ h4 i)⟩

end Cert.Pre_finite.Hand

end
-- ==== Proof.MlpClaim.lean ====
/- The MLP backward call's three results are the reference's, at exact arithmetic on finite arguments. -/
module

public import proofs.«01_k».proof.Proof.MlpEnd
public import proofs.«01_k».proof.Proof.MlpRef
public import proofs.«01_k».proof.Proof.MlpPre

@[expose] public section

set_option maxRecDepth 16384

noncomputable section

namespace Cert.MlpIdeal.Hand

open Idealize.ShloMosaic Idealize.ShloMosaic.TcCoe
open Cert.MlpIdeal

variable (m : (ℓ : Loc nD τ sig) → Buf (Elt Ideal) ℓ) (c : Dev nD)

theorem ref7 : Cert.MlpRefIdeal.Read.val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R7 m c := by
  funext i
  idx_vars i
  obtain rfl : i0 = 0 := Subsingleton.elim _ _
  exact Cert.MlpRefIdeal.Hand.v51_at _ _ _ _ _ i1

theorem ref8 : Cert.MlpRefIdeal.Read.val_main_v52 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R8 m c := by
  funext i
  idx_vars i
  exact Cert.MlpRefIdeal.Hand.v52_at _ _ _ _ _ i0 i1

theorem ref6 [Cert.Pre_finite.Facts]
    (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.MlpRefIdeal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R6 m c := by
  obtain ⟨h0, h1, h2, h3, h4⟩ := Cert.Pre_finite.Hand.all_real h
  have hD : ∀ n k, MlpSpec.IsR (DH m c n k) := fun n k => h0 _
  have hH : ∀ n k, MlpSpec.IsR (H m c n k) := fun n k => h1 _
  have hG : ∀ k, MlpSpec.IsR (G m c k) := fun k => h2 _
  have hU : ∀ k j, MlpSpec.IsR (WU m c k j) := fun k j => h3 _
  have hW : ∀ j k, MlpSpec.IsR (WD m c j k) := fun j k => h4 _
  funext i
  idx_vars i
  obtain ⟨a, ha, hx⟩ := MlpSpec.ms_pos hH i0
  refine (Cert.MlpRefIdeal.Hand.v50_at _ _ _ _ _ i0 i1).trans ?_
  exact congrArg (DH m c i0 i1 + ·) (MlpSpec.norm_grad _ (MlpSpec.rr (H m c) i0) (H m c i0)
    (fun k => MlpSpec.dhn (DH m c) (H m c) (G m c) (WU m c) (WD m c) i0 k * G m c k) i1 (hH i0)
    (fun k => (MlpSpec.isR_dhn hD hH hG hU hW i0 k).mul (hG k)) a ha hx rfl).symm

end Cert.MlpIdeal.Hand

end
-- ==== Proof.DwSpec.lean ====
/- A weight gradient as plain mathematics over the extended reals, and the accumulation over row tiles that computes it. -/
module

public import proofs.«01_k».proof.Proof.MlpSpec

@[expose] public section

noncomputable section

namespace Cert.DwSpec

open Idealize.ShloMosaic

/-- A row times the gain over its root mean square. -/
def hn (H : Fin 8192 → Fin 1024 → EReal) (G : Fin 1024 → EReal) (n : Fin 8192) (k : Fin 1024) : EReal :=
  H n k * MlpSpec.rr H n * G k

/-- The gradient of a weight: the contraction of the two operands over the rows. -/
def dw {a b : ℕ} (X : Fin 8192 → Fin a → EReal) (Z : Fin 8192 → Fin b → EReal) (k : Fin a) (n : Fin b) : EReal :=
  ∑ s : Fin 8192, X s k * Z s n

/-- A carried sum that restarts every `P` points holds, at the last point of a run, the run's terms added up. -/
theorem run_sum {N : ℕ} (P : ℕ) (f p : ∀ n, n < N → EReal)
    (h0 : ∀ n hn, n % P = 0 → f n hn = p n hn)
    (hs : ∀ n hn, ¬(n + 1) % P = 0 → f (n + 1) hn = f n (Nat.lt_of_succ_lt hn) + p (n + 1) hn)
    (q : ℕ) : ∀ j (hj : j < P) (hn : q * P + j < N),
      f (q * P + j) hn = ∑ s : Fin (j + 1), p (q * P + s.val) (lt_of_le_of_lt (Nat.add_le_add_left (Nat.le_of_lt_succ s.isLt) _) hn) := by
  intro j
  induction j with
  | zero => intro hj hn; rw [Fin.sum_univ_one]; exact h0 _ hn (by simp)
  | succ j ih =>
    intro hj hn
    rw [Fin.sum_univ_castSucc]
    refine (hs (q * P + j) hn ?_).trans (congrArg (· + _) (ih (Nat.lt_of_succ_lt hj) (Nat.lt_of_succ_lt hn)))
    rw [Nat.add_assoc, Nat.mul_comm, Nat.mul_add_mod, Nat.mod_eq_of_lt hj]
    omega

/-- Such a sum whose terms are the tiles of a contraction over the rows is the whole contraction. -/
theorem run_dw {N : ℕ} (P T : ℕ) (hPT : 8192 = P * T) (f p : ∀ n, n < N → EReal)
    (h0 : ∀ n hn, n % P = 0 → f n hn = p n hn)
    (hs : ∀ n hn, ¬(n + 1) % P = 0 → f (n + 1) hn = f n (Nat.lt_of_succ_lt hn) + p (n + 1) hn)
    (F : Fin 8192 → EReal) (n : ℕ) (hn : n < N) (hl : n % P = P - 1) (hP : 0 < P)
    (hp : ∀ s (hs : s < P) (hb : n / P * P + s < N), p (n / P * P + s) hb
      = ∑ r : Fin T, F ⟨s * T + r.val, by
          have : (s + 1) * T ≤ P * T := Nat.mul_le_mul_right _ hs
          rw [Nat.add_mul] at this; have := r.isLt; omega⟩) :
    f n hn = ∑ s : Fin 8192, F s := by
  obtain ⟨P, rfl⟩ : ∃ Q, P = Q + 1 := ⟨P - 1, by omega⟩
  have e : n = n / (P + 1) * (P + 1) + P := by
    have := Nat.div_add_mod n (P + 1); rw [Nat.mul_comm] at this; omega
  have k := run_sum (P + 1) f p h0 hs (n / (P + 1)) P (Nat.lt_succ_self _) (e ▸ hn)
  rw [Fin.sum_univ_tiles (P + 1) T hPT.symm F]
  refine Eq.trans ?_ (k.trans (Finset.sum_congr rfl fun s _ => (hp s.val s.isLt _).trans rfl))
  congr 1

end Cert.DwSpec

end
-- ==== Proof.HostRows.lean ====
/- What the host saves before the calls, read entry by entry: the normalised rows and the MLP's pre-activation. -/
module

public import Idealize.ShloMosaic.Lib.Pointwise
public import proofs.«01_k».proof.Proof.DwSpec
public import proofs.«01_k».proof.Proof.MlpFinal

@[expose] public section

set_option maxRecDepth 16384

noncomputable section

namespace Cert.HostRows

open Idealize.ShloMosaic Idealize.SL.Sem
open Cert.MlpIdeal Cert.MlpIdeal.Gen

/-- The normalised rows. -/
def hTerm (x1 : FVec Ideal S8192x1024 .f32) (x2 : FVec Ideal S1024 .f32) : FVec Ideal S8192x1024 .bf16 :=
  truncf .bf16 (mulf (mulf x1 (broadcastInDim S8192x1024 ![0, 1] bcast_S8192x1_S8192x1024_0_1
        (Host.rsqrt (addf (Host.divf (broadcastInDim S8192x1 ![0] bcast_S8192_S8192x1_0
            (Host.reduceAdd (mulf x1 x1) (constant S_ .f32 0x00000000#32) reducesTo_S8192x1024_S8192_d1 h_S_))
          (broadcastInDim S8192x1 ![] bcast_S_S8192x1 (constant S_ .f32 0x44800000#32)))
          (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 x2))) bitsLt_bf16_f32

variable (x1 : FVec Ideal S8192x1024 .f32) (x2 : FVec Ideal S1024 .f32) (x3 : FVec Ideal S1024x4096 .f32)

theorem hTerm_at (n : Fin 8192) (j : Fin 1024) :
    hTerm x1 x2 (ix2 n j) = DwSpec.hn (fun n k => x1 (ix2 n k)) (fun k => x2 (ix1 k)) n j := by
  pointwise [hTerm, DwSpec.hn, MlpSpec.rr, zero_add]

theorem aTerm_at (n : Fin 8192) (j : Fin 4096) :
    Cert.MlpIdeal.Hand.aTerm x1 x2 x3 (ix2 n j)
    = MlpSpec.act (fun n k => x1 (ix2 n k)) (fun k => x2 (ix1 k)) (fun k j => x3 (ix2 k j)) n j := by
  pointwise [Cert.MlpIdeal.Hand.aTerm, MlpSpec.act, MlpSpec.rr, zero_add]

end Cert.HostRows

end
-- ==== Proof.DwDownFinal.lean ====
/- The down-projection's weight gradient: the call's result array as plain mathematics of its arguments. -/
module

public import Idealize.ShloMosaic.Lib.Pipeline.ValueKit
public import proofs.«01_k».proof.Proof.HostRows
public import proofs.«01_k».proof.Proof.Gen.DwDownIdeal.Value

@[expose] public section

set_option maxRecDepth 16384

noncomputable section

namespace Cert.DwDownIdeal.Hand

open Idealize.ShloMosaic Idealize.ShloMosaic.TcCoe Idealize.SL.Sem
open Idealize.ShloMosaic.Pipeline (Dat)
open Cert.DwDownIdeal Cert.DwDownIdeal.Gen Cert.DwDownIdeal.Value

variable (m : (ℓ : Loc nD τ sig) → Buf (Elt Ideal) ℓ)

/-- The result's gradient, and the squared rectified pre-activation, as functions of their indices. -/
def DH (c : Dev nD) (n : Fin 8192) (k : Fin 1024) : EReal := (show FVec Ideal S8192x1024 .f32 from m ((c : Thread nD τ).loc main_arg0)) (ix2 n k)
def A (c : Dev nD) (n : Fin 8192) (k : Fin 4096) : EReal :=
  MlpSpec.act (fun n k => (show FVec Ideal S8192x1024 .f32 from m ((c : Thread nD τ).loc main_arg1)) (ix2 n k))
    (fun k => (show FVec Ideal S1024 .f32 from m ((c : Thread nD τ).loc main_arg2)) (ix1 k))
    (fun k j => (show FVec Ideal S1024x4096 .f32 from m ((c : Thread nD τ).loc main_arg3)) (ix2 k j)) n k
def A2 (c : Dev nD) (n : Fin 8192) (k : Fin 4096) : EReal := max (A m c n k) 0 * max (A m c n k) 0

theorem V_v14 (c : Dev nD) : V m c main_v14
    = Cert.MlpIdeal.Hand.aTerm (m ((c : Thread nD τ).loc main_arg1)) (m ((c : Thread nD τ).loc main_arg2)) (m ((c : Thread nD τ).loc main_arg3)) := by
  unfold V; after_results; try rfl

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- Row `r` and feature `k` of point `t`'s blocks. -/
def row (t : Fin cfg0.N) (r : Fin 1024) : Fin 8192 := ⟨t.val % 8 * 1024 + r.val, by omega⟩
def col (t : Fin cfg0.N) (k : Fin 2048) : Fin 4096 :=
  ⟨t.val / 8 * 2048 + k.val, by have := lt_of_lt_of_eq t.isLt N_0; omega⟩

theorem b0_at (c : Dev nD) (t : Fin cfg0.N) (r : Fin 1024) (k : Fin 2048) :
    (show FVec Ideal S1024x2048 .bf16 from iblk m c 0 t) (ix2 r k) = A m c (row t r) (col t k) := by
  refine Eq.trans ?_ (HostRows.aTerm_at (m ((c : Thread nD τ).loc main_arg1)) (m ((c : Thread nD τ).loc main_arg2))
    (m ((c : Thread nD τ).loc main_arg3)) (row t r) (col t k))
  unfold row col
  blk_ext [iblk, V_v14, idx t]
theorem b1_at (c : Dev nD) (t : Fin cfg0.N) (r : Fin 1024) (j : Fin 1024) :
    (show FVec Ideal S1024x1024 .f32 from iblk m c 1 t) (ix2 r j) = DH m c (row t r) j := by
  unfold DH row
  blk_ext [iblk, V_main_arg0, idx t]

/-- One point's share of the gradient. -/
def part (c : Dev nD) (t : Fin cfg0.N) (k : Fin 2048) (j : Fin 1024) : EReal :=
  ∑ r : Fin 1024, A2 m c (row t r) (col t k) * DH m c (row t r) j

theorem pay2_at (x : FVec Ideal S1024x2048 .bf16) (a : FVec Ideal S2048x1024 .f32) (z : FVec Ideal S1024x1024 .f32)
    (k : Fin 2048) (j : Fin 1024) :
    k0_pay2 (F := Ideal) x a z (ix2 k j)
    = a (ix2 k j) + ∑ r : Fin 1024, (max (x (ix2 r k)) 0 * max (x (ix2 r k)) 0) * z (ix2 r j) := by
  pointwise [k0_pay2]

theorem step_at (c : Dev nD) (t : Fin cfg0.N) (a : FVec Ideal S2048x1024 .f32) (k : Fin 2048) (j : Fin 1024) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (fun x z => (max x 0 * max x 0) * z) (b0_at m c t r k) (b1_at m c t r j)

theorem acc_A (c : Dev nD) (t : Fin cfg0.N) (h0 : t.val % 8 = 0) (h1 : ¬t.val % 8 = 7) (k : Fin 2048) (j : Fin 1024) :
    (show FVec Ideal S2048x1024 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 8 = 0) (k : Fin 2048) (j : Fin 1024) :
    (show FVec Ideal S2048x1024 .f32 from (outsAt0 m c t.val t.isLt).2) (ix2 k j)
    = (show FVec Ideal S2048x1024 .f32 from (outsAt0 m c (t.val - 1) (Nat.lt_of_le_of_lt (Nat.sub_le _ _) t.isLt)).2) (ix2 k j)
      + part m c t k j := by
  by_cases h1 : t.val % 8 = 7
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 8 = 7) (k : Fin 2048) (j : Fin 1024) :
    (show FVec Ideal S2048x1024 .bf16 from (outsAt0 m c t.val t.isLt).1) (ix2 k j)
    = (show FVec Ideal S2048x1024 .f32 from (outsAt0 m c t.val t.isLt).2) (ix2 k j) := by
  rw [outsAt0_C m c t (by omega) h1]; frame_out
  pointwise [k0_pay3]

/-- The result array. -/
def R (c : Dev nD) : S4096x1024.Idx → EReal := fun i => DwSpec.dw (A2 m c) (DH m c) (i 0) (i 1)

theorem sum_at (c : Dev nD) (t : Fin cfg0.N) (ht : t.val % 8 = 7) (k : Fin 2048) (j : Fin 1024) :
    (show FVec Ideal S2048x1024 .f32 from (outsAt0 m c t.val t.isLt).2) (ix2 k j) = DwSpec.dw (A2 m c) (DH m c) (col t k) j := by
  refine DwSpec.run_dw 8 1024 rfl (fun n hn => (show FVec Ideal S2048x1024 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => A2 m c s (col t k) * DH m c s j) t.val t.isLt ht
    (by decide) (fun s hs hb => ?_)
  refine Finset.sum_congr rfl fun r _ => ?_
  have er : row ⟨t.val / 8 * 8 + s, hb⟩ r = ⟨s * 1024 + r.val, by omega⟩ := Fin.ext (by show (t.val / 8 * 8 + s) % 8 * 1024 + r.val = s * 1024 + r.val; omega)
  have ec : col ⟨t.val / 8 * 8 + s, hb⟩ k = col t k := Fin.ext (by show (t.val / 8 * 8 + s) / 8 * 2048 + _ = t.val / 8 * 2048 + _; omega)
  rw [er, ec]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v15).slice (win0_2.rect t)).emb (ix2 y0 y1) = ix2 (col t y0) y1 := by
    unfold col; blk_ext [idx t]
  have ht := (flush0_2 t).mp hf
  exact ((out_C m c t ht y0 y1).trans (sum_at m c t ht y0 y1)).trans (congrArg (R m c) e).symm

end Cert.DwDownIdeal.Hand

end
-- ==== Proof.DwDownClaim.lean ====
/- The down-projection's weight gradient: the call's result is the reference's, at exact arithmetic. -/
module

public import Idealize.ShloMosaic.Lib.Pointwise
public import proofs.«01_k».proof.Proof.DwDownFinal
public import proofs.«01_k».proof.Proof.Gen.DwDownRefIdeal.Read

@[expose] public section

set_option maxRecDepth 16384

noncomputable section

namespace Cert.DwDownRefIdeal.Hand

open Idealize.ShloMosaic Idealize.SL.Sem
open Cert.DwDownRefIdeal Cert.DwDownRefIdeal.Gen Cert.DwDownRefIdeal.Read

variable (x0 x1 : FVec Ideal S8192x1024 .f32) (x2 : FVec Ideal S1024 .f32) (x3 : FVec Ideal S1024x4096 .f32)

/-- The reference's pre-activation. -/
abbrev a (n : Fin 8192) (k : Fin 4096) : EReal :=
  MlpSpec.act (fun n k => x1 (ix2 n k)) (fun k => x2 (ix1 k)) (fun k j => x3 (ix2 k j)) n k

theorem v7_at (n : Fin 8192) (z : Fin 1) : val_main_v7 (F := Ideal) x1 (ix2 n z) = MlpSpec.rr (fun n k => x1 (ix2 n k)) n := by
  pointwise [val_main_v7, val_main_v6, val_main_v5, val_main_v4, val_main_v3, val_main_v2, val_main_v1, val_main_v0,
    val_main_cst, val_main_cst_0, val_main_cst_1, MlpSpec.rr, zero_add]

theorem v13_at (n : Fin 8192) (k : Fin 4096) : val_main_v13 (F := Ideal) x1 x2 x3 (ix2 n k) = a x1 x2 x3 n k := by
  pointwise [val_main_v13, val_main_v12, val_main_v11, val_main_v10, val_main_v9, val_main_v8, v7_at, MlpSpec.act]

theorem v20_at (k : Fin 4096) (j : Fin 1024) :
    val_main_v20 (F := Ideal) x0 x1 x2 x3 (ix2 k j)
    = DwSpec.dw (fun n k => max (a x1 x2 x3 n k) 0 * max (a x1 x2 x3 n k) 0) (fun n k => x0 (ix2 n k)) k j := by
  pointwise [val_main_v20, val_main_v19, val_main_v18, val_main_v16, val_main_v15, val_main_call0_v0, val_main_call0_cst, v13_at, DwSpec.dw]
  exact Finset.sum_congr rfl fun n _ => mul_comm _ _

end Cert.DwDownRefIdeal.Hand

namespace Cert.DwDownIdeal.Hand

open Idealize.ShloMosaic Idealize.ShloMosaic.TcCoe
open Cert.DwDownIdeal

variable (m : (ℓ : Loc nD τ sig) → Buf (Elt Ideal) ℓ) (c : Dev nD)

theorem ref : Cert.DwDownRefIdeal.Read.val_main_v20 (F := Ideal) (m ((c : Thread nD τ).loc main_arg0)) (m ((c : Thread nD τ).loc main_arg1))
    (m ((c : Thread nD τ).loc main_arg2)) (m ((c : Thread nD τ).loc main_arg3)) = R m c := by
  funext i
  idx_vars i
  exact Cert.DwDownRefIdeal.Hand.v20_at _ _ _ _ i0 i1

end Cert.DwDownIdeal.Hand

end
-- ==== Proof.DwUpFinal.lean ====
/- The up-projection's weight gradient: the call's result array as plain mathematics of its arguments. -/
module

public import Idealize.ShloMosaic.Lib.Pipeline.ValueKit
public import proofs.«01_k».proof.Proof.HostRows
public import proofs.«01_k».proof.Proof.Gen.DwUpIdeal.Value

@[expose] public section

set_option maxRecDepth 16384

noncomputable section

namespace Cert.DwUpIdeal.Hand

open Idealize.ShloMosaic Idealize.ShloMosaic.TcCoe Idealize.SL.Sem
open Idealize.ShloMosaic.Pipeline (Dat)
open Cert.DwUpIdeal Cert.DwUpIdeal.Gen Cert.DwUpIdeal.Value

variable (m : (ℓ : Loc nD τ sig) → Buf (Elt Ideal) ℓ)

/-- The three arguments as functions of their indices. -/
def Z (c : Dev nD) (n : Fin 8192) (k : Fin 4096) : EReal := (show FVec Ideal S8192x4096 .bf16 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)

theorem V_v13 (c : Dev nD) : V m c main_v13 = HostRows.hTerm (m ((c : Thread nD τ).loc main_arg1)) (m ((c : Thread nD τ).loc main_arg2)) := by
  unfold V; after_results; try rfl

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- Row `r` and column `j` of point `t`'s blocks. -/
def row (t : Fin cfg0.N) (r : Fin 2048) : Fin 8192 := ⟨t.val % 4 * 2048 + r.val, by omega⟩
def col (t : Fin cfg0.N) (j : Fin 2048) : Fin 4096 :=
  ⟨t.val / 4 * 2048 + j.val, by have := lt_of_lt_of_eq t.isLt N_0; omega⟩

theorem b0_at (c : Dev nD) (t : Fin cfg0.N) (r : Fin 2048) (k : Fin 1024) :
    (show FVec Ideal S2048x1024 .bf16 from iblk m c 0 t) (ix2 r k) = DwSpec.hn (H m c) (G m c) (row t r) k := by
  refine Eq.trans ?_ (HostRows.hTerm_at (m ((c : Thread nD τ).loc main_arg1)) (m ((c : Thread nD τ).loc main_arg2)) (row t r) k)
  unfold row
  blk_ext [iblk, V_v13, idx t]
theorem b1_at (c : Dev nD) (t : Fin cfg0.N) (r : Fin 2048) (j : Fin 2048) :
    (show FVec Ideal S2048x2048 .bf16 from iblk m c 1 t) (ix2 r j) = Z m c (row t r) (col t j) := by
  unfold Z row col
  blk_ext [iblk, V_main_arg0, idx t]

/-- One point's share of the gradient. -/
def part (c : Dev nD) (t : Fin cfg0.N) (k : Fin 1024) (j : Fin 2048) : EReal :=
  ∑ r : Fin 2048, DwSpec.hn (H m c) (G m c) (row t r) k * Z m c (row t r) (col t j)

theorem pay2_at (x : FVec Ideal S2048x1024 .bf16) (a : FVec Ideal S1024x2048 .f32) (z : FVec Ideal S2048x2048 .bf16)
    (k : Fin 1024) (j : Fin 2048) :
    k0_pay2 (F := Ideal) x a z (ix2 k j) = a (ix2 k j) + ∑ r : Fin 2048, x (ix2 r k) * z (ix2 r j) := by
  pointwise [k0_pay2]

theorem step_at (c : Dev nD) (t : Fin cfg0.N) (a : FVec Ideal S1024x2048 .f32) (k : Fin 1024) (j : Fin 2048) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (· * ·) (b0_at m c t r k) (b1_at m c t r j)

theorem acc_A (c : Dev nD) (t : Fin cfg0.N) (h0 : t.val % 4 = 0) (h1 : ¬t.val % 4 = 3) (k : Fin 1024) (j : Fin 2048) :
    (show FVec Ideal S1024x2048 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 4 = 0) (k : Fin 1024) (j : Fin 2048) :
    (show FVec Ideal S1024x2048 .f32 from (outsAt0 m c t.val t.isLt).2) (ix2 k j)
    = (show FVec Ideal S1024x2048 .f32 from (outsAt0 m c (t.val - 1) (Nat.lt_of_le_of_lt (Nat.sub_le _ _) t.isLt)).2) (ix2 k j)
      + part m c t k j := by
  by_cases h1 : t.val % 4 = 3
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 4 = 3) (k : Fin 1024) (j : Fin 2048) :
    (show FVec Ideal S1024x2048 .bf16 from (outsAt0 m c t.val t.isLt).1) (ix2 k j)
    = (show FVec Ideal S1024x2048 .f32 from (outsAt0 m c t.val t.isLt).2) (ix2 k j) := by
  rw [outsAt0_C m c t (by omega) h1]; frame_out
  pointwise [k0_pay3]

/-- The result array. -/
def R (c : Dev nD) : S1024x4096.Idx → EReal := fun i => DwSpec.dw (DwSpec.hn (H m c) (G m c)) (Z m c) (i 0) (i 1)

theorem sum_at (c : Dev nD) (t : Fin cfg0.N) (ht : t.val % 4 = 3) (k : Fin 1024) (j : Fin 2048) :
    (show FVec Ideal S1024x2048 .f32 from (outsAt0 m c t.val t.isLt).2) (ix2 k j)
    = DwSpec.dw (DwSpec.hn (H m c) (G m c)) (Z m c) k (col t j) := by
  refine DwSpec.run_dw 4 2048 rfl (fun n hn => (show FVec Ideal S1024x2048 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => DwSpec.hn (H m c) (G m c) s k * Z m c s (col t j)) t.val t.isLt ht
    (by decide) (fun s hs hb => ?_)
  refine Finset.sum_congr rfl fun r _ => ?_
  have er : row ⟨t.val / 4 * 4 + s, hb⟩ r = ⟨s * 2048 + r.val, by omega⟩ := Fin.ext (by show (t.val / 4 * 4 + s) % 4 * 2048 + r.val = s * 2048 + r.val; omega)
  have ec : col ⟨t.val / 4 * 4 + s, hb⟩ j = col t j := Fin.ext (by show (t.val / 4 * 4 + s) / 4 * 2048 + _ = t.val / 4 * 2048 + _; omega)
  rw [er, ec]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v14).slice (win0_2.rect t)).emb (ix2 y0 y1) = ix2 y0 (col t y1) := by
    unfold col; blk_ext [idx t]
  have ht := (flush0_2 t).mp hf
  exact ((out_C m c t ht y0 y1).trans (sum_at m c t ht y0 y1)).trans (congrArg (R m c) e).symm

end Cert.DwUpIdeal.Hand

end
-- ==== Proof.DwUpClaim.lean ====
/- The up-projection's weight gradient: the call's result is the reference's, at exact arithmetic. -/
module

public import Idealize.ShloMosaic.Lib.Pointwise
public import proofs.«01_k».proof.Proof.DwUpFinal
public import proofs.«01_k».proof.Proof.Gen.DwUpRefIdeal.Read

@[expose] public section

set_option maxRecDepth 16384

noncomputable section

namespace Cert.DwUpRefIdeal.Hand

open Idealize.ShloMosaic Idealize.SL.Sem
open Cert.DwUpRefIdeal Cert.DwUpRefIdeal.Gen Cert.DwUpRefIdeal.Read

variable (x0 : FVec Ideal S8192x4096 .bf16) (x1 : FVec Ideal S8192x1024 .f32) (x2 : FVec Ideal S1024 .f32)

theorem v8_at (n : Fin 8192) (z : Fin 1) : val_main_v8 (F := Ideal) x1 (ix2 n z) = MlpSpec.rr (fun n k => x1 (ix2 n k)) n := by
  pointwise [val_main_v8, val_main_v7, val_main_v6, val_main_v5, val_main_v4, val_main_v3, val_main_v2, val_main_v1,
    val_main_cst_0, val_main_cst_1, val_main_cst_2, MlpSpec.rr, zero_add]

theorem v13_at (n : Fin 8192) (k : Fin 1024) :
    val_main_v13 (F := Ideal) x1 x2 (ix2 n k) = DwSpec.hn (fun n k => x1 (ix2 n k)) (fun k => x2 (ix1 k)) n k := by
  pointwise [val_main_v13, val_main_v12, val_main_v11, val_main_v10, val_main_v9, v8_at, DwSpec.hn]

theorem v18_at (k : Fin 1024) (j : Fin 4096) :
    val_main_v18 (F := Ideal) x0 x1 x2 (ix2 k j)
    = DwSpec.dw (DwSpec.hn (fun n k => x1 (ix2 n k)) (fun k => x2 (ix1 k))) (fun n k => x0 (ix2 n k)) k j := by
  pointwise [val_main_v18, val_main_v17, val_main_v16, val_main_v15, v13_at, DwSpec.dw]
  exact Finset.sum_congr rfl fun n _ => mul_comm _ _

end Cert.DwUpRefIdeal.Hand

namespace Cert.DwUpIdeal.Hand

open Idealize.ShloMosaic Idealize.ShloMosaic.TcCoe
open Cert.DwUpIdeal

variable (m : (ℓ : Loc nD τ sig) → Buf (Elt Ideal) ℓ) (c : Dev nD)

theorem ref : Cert.DwUpRefIdeal.Read.val_main_v18 (F := Ideal) (m ((c : Thread nD τ).loc main_arg0)) (m ((c : Thread nD τ).loc main_arg1))
    (m ((c : Thread nD τ).loc main_arg2)) = R m c := by
  funext i
  idx_vars i
  exact Cert.DwUpRefIdeal.Hand.v18_at _ _ _ i0 i1

end Cert.DwUpIdeal.Hand

end
-- ==== Proof.DwInFinal.lean ====
/- The input projection's weight gradient: the call's result array as plain mathematics of its arguments. -/
module

public import Idealize.ShloMosaic.Lib.Pipeline.ValueKit
public import proofs.«01_k».proof.Proof.HostRows
public import proofs.«01_k».proof.Proof.Gen.DwInIdeal.Value

@[expose] public section

set_option maxRecDepth 16384

noncomputable section

namespace Cert.DwInIdeal.Hand

open Idealize.ShloMosaic Idealize.ShloMosaic.TcCoe Idealize.SL.Sem
open Idealize.ShloMosaic.Pipeline (Dat)
open Cert.DwInIdeal Cert.DwInIdeal.Gen Cert.DwInIdeal.Value

variable (m : (ℓ : Loc nD τ sig) → Buf (Elt Ideal) ℓ)

/-- The three arguments as functions of their indices. -/
def Z (c : Dev nD) (n : Fin 8192) (k : Fin 2560) : EReal := (show FVec Ideal S8192x2560 .bf16 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)

theorem V_v13 (c : Dev nD) : V m c main_v13 = HostRows.hTerm (m ((c : Thread nD τ).loc main_arg1)) (m ((c : Thread nD τ).loc main_arg2)) := by
  unfold V; after_results; try rfl

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- Row `r` and column `j` of point `t`'s blocks. -/
def row (t : Fin cfg0.N) (r : Fin 2048) : Fin 8192 := ⟨t.val % 4 * 2048 + r.val, by omega⟩
def col (t : Fin cfg0.N) (j : Fin 640) : Fin 2560 :=
  ⟨t.val / 4 * 640 + j.val, by have := lt_of_lt_of_eq t.isLt N_0; omega⟩

theorem b0_at (c : Dev nD) (t : Fin cfg0.N) (r : Fin 2048) (k : Fin 1024) :
    (show FVec Ideal S2048x1024 .bf16 from iblk m c 0 t) (ix2 r k) = DwSpec.hn (H m c) (G m c) (row t r) k := by
  refine Eq.trans ?_ (HostRows.hTerm_at (m ((c : Thread nD τ).loc main_arg1)) (m ((c : Thread nD τ).loc main_arg2)) (row t r) k)
  unfold row
  blk_ext [iblk, V_v13, idx t]
theorem b1_at (c : Dev nD) (t : Fin cfg0.N) (r : Fin 2048) (j : Fin 640) :
    (show FVec Ideal S2048x640 .bf16 from iblk m c 1 t) (ix2 r j) = Z m c (row t r) (col t j) := by
  unfold Z row col
  blk_ext [iblk, V_main_arg0, idx t]

/-- One point's share of the gradient. -/
def part (c : Dev nD) (t : Fin cfg0.N) (k : Fin 1024) (j : Fin 640) : EReal :=
  ∑ r : Fin 2048, DwSpec.hn (H m c) (G m c) (row t r) k * Z m c (row t r) (col t j)

theorem pay2_at (x : FVec Ideal S2048x1024 .bf16) (a : FVec Ideal S1024x640 .f32) (z : FVec Ideal S2048x640 .bf16)
    (k : Fin 1024) (j : Fin 640) :
    k0_pay2 (F := Ideal) x a z (ix2 k j) = a (ix2 k j) + ∑ r : Fin 2048, x (ix2 r k) * z (ix2 r j) := by
  pointwise [k0_pay2]

theorem step_at (c : Dev nD) (t : Fin cfg0.N) (a : FVec Ideal S1024x640 .f32) (k : Fin 1024) (j : Fin 640) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (· * ·) (b0_at m c t r k) (b1_at m c t r j)

theorem acc_A (c : Dev nD) (t : Fin cfg0.N) (h0 : t.val % 4 = 0) (h1 : ¬t.val % 4 = 3) (k : Fin 1024) (j : Fin 640) :
    (show FVec Ideal S1024x640 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 4 = 0) (k : Fin 1024) (j : Fin 640) :
    (show FVec Ideal S1024x640 .f32 from (outsAt0 m c t.val t.isLt).2) (ix2 k j)
    = (show FVec Ideal S1024x640 .f32 from (outsAt0 m c (t.val - 1) (Nat.lt_of_le_of_lt (Nat.sub_le _ _) t.isLt)).2) (ix2 k j)
      + part m c t k j := by
  by_cases h1 : t.val % 4 = 3
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 4 = 3) (k : Fin 1024) (j : Fin 640) :
    (show FVec Ideal S1024x640 .bf16 from (outsAt0 m c t.val t.isLt).1) (ix2 k j)
    = (show FVec Ideal S1024x640 .f32 from (outsAt0 m c t.val t.isLt).2) (ix2 k j) := by
  rw [outsAt0_C m c t (by omega) h1]; frame_out
  pointwise [k0_pay3]

/-- The result array. -/
def R (c : Dev nD) : S1024x2560.Idx → EReal := fun i => DwSpec.dw (DwSpec.hn (H m c) (G m c)) (Z m c) (i 0) (i 1)

theorem sum_at (c : Dev nD) (t : Fin cfg0.N) (ht : t.val % 4 = 3) (k : Fin 1024) (j : Fin 640) :
    (show FVec Ideal S1024x640 .f32 from (outsAt0 m c t.val t.isLt).2) (ix2 k j)
    = DwSpec.dw (DwSpec.hn (H m c) (G m c)) (Z m c) k (col t j) := by
  refine DwSpec.run_dw 4 2048 rfl (fun n hn => (show FVec Ideal S1024x640 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => DwSpec.hn (H m c) (G m c) s k * Z m c s (col t j)) t.val t.isLt ht
    (by decide) (fun s hs hb => ?_)
  refine Finset.sum_congr rfl fun r _ => ?_
  have er : row ⟨t.val / 4 * 4 + s, hb⟩ r = ⟨s * 2048 + r.val, by omega⟩ := Fin.ext (by show (t.val / 4 * 4 + s) % 4 * 2048 + r.val = s * 2048 + r.val; omega)
  have ec : col ⟨t.val / 4 * 4 + s, hb⟩ j = col t j := Fin.ext (by show (t.val / 4 * 4 + s) / 4 * 640 + _ = t.val / 4 * 640 + _; omega)
  rw [er, ec]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v14).slice (win0_2.rect t)).emb (ix2 y0 y1) = ix2 y0 (col t y1) := by
    unfold col; blk_ext [idx t]
  have ht := (flush0_2 t).mp hf
  exact ((out_C m c t ht y0 y1).trans (sum_at m c t ht y0 y1)).trans (congrArg (R m c) e).symm

end Cert.DwInIdeal.Hand

end
-- ==== Proof.DwInClaim.lean ====
/- The input projection's weight gradient: the call's result is the reference's, at exact arithmetic. -/
module

public import Idealize.ShloMosaic.Lib.Pointwise
public import proofs.«01_k».proof.Proof.DwInFinal
public import proofs.«01_k».proof.Proof.Gen.DwInRefIdeal.Read

@[expose] public section

set_option maxRecDepth 16384

noncomputable section

namespace Cert.DwInRefIdeal.Hand

open Idealize.ShloMosaic Idealize.SL.Sem
open Cert.DwInRefIdeal Cert.DwInRefIdeal.Gen Cert.DwInRefIdeal.Read

variable (x0 : FVec Ideal S8192x2560 .bf16) (x1 : FVec Ideal S8192x1024 .f32) (x2 : FVec Ideal S1024 .f32)

theorem v8_at (n : Fin 8192) (z : Fin 1) : val_main_v8 (F := Ideal) x1 (ix2 n z) = MlpSpec.rr (fun n k => x1 (ix2 n k)) n := by
  pointwise [val_main_v8, val_main_v7, val_main_v6, val_main_v5, val_main_v4, val_main_v3, val_main_v2, val_main_v1,
    val_main_cst_0, val_main_cst_1, val_main_cst_2, MlpSpec.rr, zero_add]

theorem v13_at (n : Fin 8192) (k : Fin 1024) :
    val_main_v13 (F := Ideal) x1 x2 (ix2 n k) = DwSpec.hn (fun n k => x1 (ix2 n k)) (fun k => x2 (ix1 k)) n k := by
  pointwise [val_main_v13, val_main_v12, val_main_v11, val_main_v10, val_main_v9, v8_at, DwSpec.hn]

theorem v18_at (k : Fin 1024) (j : Fin 2560) :
    val_main_v18 (F := Ideal) x0 x1 x2 (ix2 k j)
    = DwSpec.dw (DwSpec.hn (fun n k => x1 (ix2 n k)) (fun k => x2 (ix1 k))) (fun n k => x0 (ix2 n k)) k j := by
  pointwise [val_main_v18, val_main_v17, val_main_v16, val_main_v15, v13_at, DwSpec.dw]
  exact Finset.sum_congr rfl fun n _ => mul_comm _ _

end Cert.DwInRefIdeal.Hand

namespace Cert.DwInIdeal.Hand

open Idealize.ShloMosaic Idealize.ShloMosaic.TcCoe
open Cert.DwInIdeal

variable (m : (ℓ : Loc nD τ sig) → Buf (Elt Ideal) ℓ) (c : Dev nD)

theorem ref : Cert.DwInRefIdeal.Read.val_main_v18 (F := Ideal) (m ((c : Thread nD τ).loc main_arg0)) (m ((c : Thread nD τ).loc main_arg1))
    (m ((c : Thread nD τ).loc main_arg2)) = R m c := by
  funext i
  idx_vars i
  exact Cert.DwInRefIdeal.Hand.v18_at _ _ _ i0 i1

end Cert.DwInIdeal.Hand

end
-- ==== Proof.InBwdPure.lean ====
/- The attention input projection's backward call: its plain mathematics, and its stored blocks entry by entry. -/
module

public import Idealize.ShloMosaic.Lib.Pointwise
public import proofs.«01_k».proof.Proof.MlpSpec
public import proofs.«01_k».proof.Proof.Gen.InBwdIdeal.Skeleton

@[expose] public section

set_option maxRecDepth 16384

noncomputable section

namespace Cert.InSpec

open Idealize.ShloMosaic
open Cert.MlpSpec (rr)

variable (DZ : Fin 8192 → Fin 2560 → EReal) (H : Fin 8192 → Fin 1024 → EReal) (G : Fin 1024 → EReal)
  (W : Fin 1024 → Fin 2560 → EReal) (DR : Fin 8192 → Fin 1024 → EReal)

/-- The normalised row's gradient. -/
def dhn (n : Fin 8192) (d : Fin 1024) : EReal := ∑ c : Fin 2560, DZ n c * W d c

/-- The gain's gradient. -/
def dg (d : Fin 1024) : EReal := ∑ n : Fin 8192, dhn DZ W n d * (H n d * rr H n)

/-- The hidden row's gradient: the residual's plus the norm's. -/
def dh0 (n : Fin 8192) (d : Fin 1024) : EReal :=
  DR n d + rr H n * (dhn DZ W n d * G d - (H n d * rr H n)
    * Ideal.div (∑ k : Fin 1024, dhn DZ W n k * G k * (H n k * rr H n)) (Ideal.ofBits .f32 0x44800000#32))

end Cert.InSpec

namespace Cert.InBwdIdeal.Hand

open Idealize.ShloMosaic Idealize.SL.Sem
open Cert.InBwdIdeal Cert.InBwdIdeal.Gen Cert.InSpec
open Cert.MlpSpec (rr)

/-- Column `c` of the `j`-th of the five column tiles. -/
abbrev col (j : Fin 5) (c : Fin 512) : Fin 2560 := ⟨(j : ℕ) * 512 + (c : ℕ), by omega⟩

variable (row : Fin 512 → Fin 8192)
  (DZ : Fin 8192 → Fin 2560 → EReal) (H : Fin 8192 → Fin 1024 → EReal) (G : Fin 1024 → EReal)
  (W : Fin 1024 → Fin 2560 → EReal) (DR : Fin 8192 → Fin 1024 → EReal)
  (x0 x1 x2 x3 x4 : FVec Ideal S512x512 .bf16) (w0 w1 w2 w3 w4 : FVec Ideal S1x1024x512 .bf16)
  (h v D : FVec Ideal S512x1024 .f32) (g : FVec Ideal S1x1024 .f32)

/-- One column tile's contribution to the normalised row's gradient. -/
def tileT (x : FVec Ideal S512x512 .bf16) (w : FVec Ideal S1x1024x512 .bf16) (r : Fin 512) (d : Fin 1024) : EReal :=
  ∑ c : Fin 512, x (ix2 r c) * w (ix3 0 d c)

theorem pay6_at (r : Fin 512) (d : Fin 1024) : k0_pay6 (F := Ideal) x0 w0 x1 w1 x2 w2 x3 w3 x4 w4 (ix2 r d)
    = tileT x0 w0 r d + tileT x1 w1 r d + tileT x2 w2 r d + tileT x3 w3 r d + tileT x4 w4 r d := by
  pointwise [k0_pay6, tileT]

theorem tileT_eq (j : Fin 5) (x : FVec Ideal S512x512 .bf16) (w : FVec Ideal S1x1024x512 .bf16)
    (hx : ∀ r c, x (ix2 r c) = DZ (row r) (col j c)) (hw : ∀ d c, w (ix3 0 d c) = W d (col j c)) (r : Fin 512) (d : Fin 1024) :
    tileT x w r d = ∑ c : Fin 512, DZ (row r) (col j c) * W d (col j c) := by
  simp only [tileT, hx, hw]

/-- The five tiles' contributions are the whole contraction. -/
theorem acc_eq (hx0 : ∀ r c, x0 (ix2 r c) = DZ (row r) (col 0 c)) (hw0 : ∀ d c, w0 (ix3 0 d c) = W d (col 0 c))
    (hx1 : ∀ r c, x1 (ix2 r c) = DZ (row r) (col 1 c)) (hw1 : ∀ d c, w1 (ix3 0 d c) = W d (col 1 c))
    (hx2 : ∀ r c, x2 (ix2 r c) = DZ (row r) (col 2 c)) (hw2 : ∀ d c, w2 (ix3 0 d c) = W d (col 2 c))
    (hx3 : ∀ r c, x3 (ix2 r c) = DZ (row r) (col 3 c)) (hw3 : ∀ d c, w3 (ix3 0 d c) = W d (col 3 c))
    (hx4 : ∀ r c, x4 (ix2 r c) = DZ (row r) (col 4 c)) (hw4 : ∀ d c, w4 (ix3 0 d c) = W d (col 4 c))
    (r : Fin 512) (d : Fin 1024) :
    k0_pay6 (F := Ideal) x0 w0 x1 w1 x2 w2 x3 w3 x4 w4 (ix2 r d) = dhn DZ W (row r) d := by
  rw [pay6_at, tileT_eq row DZ W 0 x0 w0 hx0 hw0, tileT_eq row DZ W 1 x1 w1 hx1 hw1, tileT_eq row DZ W 2 x2 w2 hx2 hw2,
    tileT_eq row DZ W 3 x3 w3 hx3 hw3, tileT_eq row DZ W 4 x4 w4 hx4 hw4]
  unfold dhn
  rw [Fin.sum_univ_tiles 5 512 rfl fun c => DZ (row r) c * W d c, Fin.sum_univ_five]

/-- The row's reciprocal root mean square. -/
def rrT (h : FVec Ideal S512x1024 .f32) (r : Fin 512) : EReal :=
  Ideal.rsqrt (Ideal.div (∑ k : Fin 1024, h (ix2 r k) * h (ix2 r k)) (Ideal.ofBits .f32 0x44800000#32)
    + Ideal.ofBits .f32 0x358637BD#32)

theorem rrT_eq (hh : ∀ r k, h (ix2 r k) = H (row r) k) (r : Fin 512) : rrT h r = rr H (row r) := by
  simp only [rrT, rr, hh]

theorem pay3_at (r : Fin 512) (d : Fin 1024) :
    k0_pay3 (F := Ideal) D h g v (ix2 r d)
    = v (ix2 r d) + rrT h r * (D (ix2 r d) * g (ix2 0 d) - (h (ix2 r d) * rrT h r)
        * Ideal.div (∑ k : Fin 1024, D (ix2 r k) * g (ix2 0 k) * (h (ix2 r k) * rrT h r)) (Ideal.ofBits .f32 0x44800000#32)) := by
  pointwise [k0_pay3, k0_pay2, k0_pay1, rrT]

theorem pay4_at (d : Fin 1024) :
    k0_pay4 (F := Ideal) D h (ix2 0 d) = ∑ r : Fin 512, D (ix2 r d) * (h (ix2 r d) * rrT h r) := by
  pointwise [k0_pay4, k0_pay2, k0_pay1, rrT]

theorem pay5_at (acc : FVec Ideal S1x1024 .f32) (d : Fin 1024) :
    k0_pay5 (F := Ideal) D h acc (ix2 0 d) = acc (ix2 0 d) + k0_pay4 (F := Ideal) D h (ix2 0 d) := by
  pointwise [k0_pay5]

/-- The stored block of the hidden rows' gradient. -/
theorem dh0_point (hD : ∀ r d, D (ix2 r d) = dhn DZ W (row r) d) (hh : ∀ r k, h (ix2 r k) = H (row r) k) (hg : ∀ k, g (ix2 0 k) = G k)
    (hv : ∀ r k, v (ix2 r k) = DR (row r) k) (r : Fin 512) (d : Fin 1024) :
    k0_pay3 (F := Ideal) D h g v (ix2 r d) = dh0 DZ H G W DR (row r) d := by
  rw [pay3_at]
  simp only [dh0, rrT_eq row H h hh, hD, hv, hh, hg]

/-- One row block's share of the gain's gradient. -/
theorem dg_point (hD : ∀ r d, D (ix2 r d) = dhn DZ W (row r) d) (hh : ∀ r k, h (ix2 r k) = H (row r) k) (d : Fin 1024) :
    k0_pay4 (F := Ideal) D h (ix2 0 d) = ∑ r : Fin 512, dhn DZ W (row r) d * (H (row r) d * rr H (row r)) := by
  rw [pay4_at]
  simp only [rrT_eq row H h hh, hD, hh]

end Cert.InBwdIdeal.Hand

end
-- ==== Proof.InBwdFinal.lean ====
/- The input projection's backward call: its two result arrays as plain mathematics of its arguments. -/
module

public import Idealize.ShloMosaic.Lib.Pipeline.ValueKit
public import proofs.«01_k».proof.Proof.InBwdPure
public import proofs.«01_k».proof.Proof.Gen.InBwdIdeal.Value

@[expose] public section

set_option maxRecDepth 16384

noncomputable section

namespace Cert.InBwdIdeal.Hand

open Idealize.ShloMosaic Idealize.ShloMosaic.TcCoe Idealize.SL.Sem
open Idealize.ShloMosaic.Pipeline (Dat)
open Cert.InBwdIdeal Cert.InBwdIdeal.Gen Cert.InBwdIdeal.Value

variable (m : (ℓ : Loc nD τ sig) → Buf (Elt Ideal) ℓ)

/-- The five arguments as functions of their indices. -/
def DZ (c : Dev nD) (n : Fin 8192) (k : Fin 2560) : EReal := (show FVec Ideal S8192x2560 .bf16 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)
def W (c : Dev nD) (k : Fin 1024) (j : Fin 2560) : EReal := (show FVec Ideal S1024x2560 .f32 from m ((c : Thread nD τ).loc main_arg3)) (ix2 k j)
def DR (c : Dev nD) (n : Fin 8192) (k : Fin 1024) : EReal := (show FVec Ideal S8192x1024 .f32 from m ((c : Thread nD τ).loc main_arg4)) (ix2 n k)

theorem V_v1 (c : Dev nD) : V m c main_v1 = (broadcastInDim S1x1024x2560 ![1, 2] bcast_S1024x2560_S1x1024x2560_1_2
    (truncf .bf16 (show FVec Ideal S1024x2560 .f32 from m ((c : Thread nD τ).loc main_arg3)) bitsLt_bf16_f32) : FVec Ideal S1x1024x2560 .bf16) := by
  unfold V; after_results; try rfl
theorem V_v2 (c : Dev nD) : V m c main_v2 = (broadcastInDim S1x1024 ![1] bcast_S1024_S1x1024_1
    (show FVec Ideal S1024 .f32 from m ((c : Thread nD τ).loc main_arg2)) : FVec Ideal S1x1024 .f32) := by
  unfold V; after_results; try rfl

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 2560) :
    (show FVec Ideal S512x2560 .bf16 from iblk m c 0 t) (ix2 r k) = DZ m c (row t r) k := by
  unfold DZ row
  blk_ext [iblk, V_main_arg0, idx t]
theorem b2_at (c : Dev nD) (t : Fin cfg0.N) (r : Fin 512) (k : Fin 1024) :
    (show FVec Ideal S512x1024 .f32 from iblk m c 2 t) (ix2 r k) = H m c (row t r) k := by
  unfold H row
  blk_ext [iblk, V_main_arg1, idx t]
theorem b4_at (c : Dev nD) (t : Fin cfg0.N) (r : Fin 512) (k : Fin 1024) :
    (show FVec Ideal S512x1024 .f32 from iblk m c 4 t) (ix2 r k) = DR m c (row t r) k := by
  unfold DR row
  blk_ext [iblk, V_main_arg4, idx t]
theorem b3_at (c : Dev nD) (t : Fin cfg0.N) (k : Fin 1024) :
    (show FVec Ideal S1x1024 .f32 from iblk m c 3 t) (ix2 0 k) = G m c k := by
  unfold G
  blk_simp [iblk, idx t]
  entry_read
  pointwise
  blk_ext [idx t]
theorem b1_at (c : Dev nD) (t : Fin cfg0.N) (k : Fin 1024) (j : Fin 2560) :
    (show FVec Ideal S1x1024x2560 .bf16 from iblk m c 1 t) (ix3 0 k j) = W m c k j := by
  unfold W
  blk_simp [iblk, idx t]
  entry_read
  pointwise
  blk_ext [idx t]

/-- The two result arrays. -/
def R5 (c : Dev nD) : S8192x1024.Idx → EReal := fun i => InSpec.dh0 (DZ m c) (H m c) (G m c) (W m c) (DR m c) (i 0) (i 1)
def R6 (c : Dev nD) : S1x1024.Idx → EReal := fun i => InSpec.dg (DZ m c) (H m c) (W m c) (i 1)

/-- The normalised rows' gradient at a point, from the ten tiles it loads. -/
def D (c : Dev nD) (t : Fin cfg0.N) : FVec Ideal S512x1024 .f32 :=
  k0_pay6 (F := Ideal)
    (View.ld (iblk m c 0 t) (Rect.unit ![0, 0] ![512, 512] inb_S512x2560_S512x512_0_0))
    (View.ld (iblk m c 1 t) (Rect.unit ![0, 0, 0] ![1, 1024, 512] inb_S1x1024x2560_S1x1024x512_0_0_0))
    (View.ld (iblk m c 0 t) (Rect.unit ![0, 512] ![512, 512] inb_S512x2560_S512x512_0_512))
    (View.ld (iblk m c 1 t) (Rect.unit ![0, 0, 512] ![1, 1024, 512] inb_S1x1024x2560_S1x1024x512_0_0_512))
    (View.ld (iblk m c 0 t) (Rect.unit ![0, 1024] ![512, 512] inb_S512x2560_S512x512_0_1024))
    (View.ld (iblk m c 1 t) (Rect.unit ![0, 0, 1024] ![1, 1024, 512] inb_S1x1024x2560_S1x1024x512_0_0_1024))
    (View.ld (iblk m c 0 t) (Rect.unit ![0, 1536] ![512, 512] inb_S512x2560_S512x512_0_1536))
    (View.ld (iblk m c 1 t) (Rect.unit ![0, 0, 1536] ![1, 1024, 512] inb_S1x1024x2560_S1x1024x512_0_0_1536))
    (View.ld (iblk m c 0 t) (Rect.unit ![0, 2048] ![512, 512] inb_S512x2560_S512x512_0_2048))
    (View.ld (iblk m c 1 t) (Rect.unit ![0, 0, 2048] ![1, 1024, 512] inb_S1x1024x2560_S1x1024x512_0_0_2048))

theorem D_at (c : Dev nD) (t : Fin cfg0.N) (r : Fin 512) (d : Fin 1024) :
    D m c t (ix2 r d) = InSpec.dhn (DZ m c) (W m c) (row t r) d := by
  unfold D
  refine acc_eq (row t) (DZ m c) (W m c) _ _ _ _ _ _ _ _ _ _ ?_ ?_ ?_ ?_ ?_ ?_ ?_ ?_ ?_ ?_ _ _
  · intro a b; refine Eq.trans ?_ (b0_at m c t a (col 0 b)); pointwise; blk_ext
  · intro a b; refine Eq.trans ?_ (b1_at m c t a (col 0 b)); pointwise; blk_ext
  · intro a b; refine Eq.trans ?_ (b0_at m c t a (col 1 b)); pointwise; blk_ext
  · intro a b; refine Eq.trans ?_ (b1_at m c t a (col 1 b)); pointwise; blk_ext
  · intro a b; refine Eq.trans ?_ (b0_at m c t a (col 2 b)); pointwise; blk_ext
  · intro a b; refine Eq.trans ?_ (b1_at m c t a (col 2 b)); pointwise; blk_ext
  · intro a b; refine Eq.trans ?_ (b0_at m c t a (col 3 b)); pointwise; blk_ext
  · intro a b; refine Eq.trans ?_ (b1_at m c t a (col 3 b)); pointwise; blk_ext
  · intro a b; refine Eq.trans ?_ (b0_at m c t a (col 4 b)); pointwise; blk_ext
  · intro a b; refine Eq.trans ?_ (b1_at m c t a (col 4 b)); pointwise; blk_ext

theorem outs5 (c : Dev nD) (t : Fin cfg0.N) (r : Fin 512) (d : Fin 1024) :
    (show FVec Ideal S512x1024 .f32 from (outsAt0 m c t.val t.isLt).1) (ix2 r d)
    = InSpec.dh0 (DZ m c) (H m c) (G m c) (W m c) (DR m c) (row t r) d := by
  have hN := lt_of_lt_of_eq t.isLt N_0
  have e := dh0_point (row t) (DZ m c) (H m c) (G m c) (W m c) (DR m c) (iblk m c 2 t) (iblk m c 4 t) (D m c t) (iblk m c 3 t)
    (D_at m c t) (b2_at m c t) (b3_at m c t) (b4_at m c t) r d
  unfold D at e
  by_cases h0 : t.val % 16 = 0
  · rw [outsAt0_A m c t h0 (by omega)]; frame_out; exact e
  · rw [outsAt0_B m c t h0 (by omega)]; frame_out; exact e

/-- Row block `t`'s share of the gain's gradient. -/
def part (c : Dev nD) (t : Fin cfg0.N) (d : Fin 1024) : EReal :=
  ∑ r : Fin 512, InSpec.dhn (DZ m c) (W m c) (row t r) d * (H m c (row t r) d * MlpSpec.rr (H m c) (row t r))

theorem part_at (c : Dev nD) (t : Fin cfg0.N) (d : Fin 1024) :
    k0_pay4 (F := Ideal) (D m c t) (iblk m c 2 t) (ix2 0 d) = part m c t d :=
  dg_point (row t) (DZ m c) (H m c) (W m c) (iblk m c 2 t) (D m c t) (D_at m c t) (b2_at m c t) d

theorem outs6_A (c : Dev nD) (t : Fin cfg0.N) (h0 : t.val % 16 = 0) (h1 : ¬1 ≤ t.val) (d : Fin 1024) :
    (show FVec Ideal S1x1024 .f32 from (outsAt0 m c t.val t.isLt).2) (ix2 0 d) = part m c t d := by
  have e := part_at m c t d
  unfold D at e
  rw [outsAt0_A m c t h0 h1]; frame_out; exact e

theorem outs6_B (c : Dev nD) (t : Fin cfg0.N) (h0 : ¬t.val % 16 = 0) (h1 : 1 ≤ t.val) (d : Fin 1024) :
    (show FVec Ideal S1x1024 .f32 from (outsAt0 m c t.val t.isLt).2) (ix2 0 d)
    = (show FVec Ideal S1x1024 .f32 from (outsAt0 m c (t.val - 1) (Nat.lt_of_le_of_lt (Nat.sub_le _ _) t.isLt)).2) (ix2 0 d) + part m c t d := by
  have e := part_at m c t d
  unfold D at e
  rw [outsAt0_B m c t h0 h1]; frame_out
  exact (pay5_at _ _ _ d).trans (congrArg _ e)

theorem sum6 (c : Dev nD) (t : Fin cfg0.N) (ht : t.val % 16 = 15) (d : Fin 1024) :
    (show FVec Ideal S1x1024 .f32 from (outsAt0 m c t.val t.isLt).2) (ix2 0 d)
    = ∑ s : Fin 16, part m c ⟨s.val, lt_of_lt_of_eq s.isLt N_0.symm⟩ d := by
  have key : ∀ n (hn : n < cfg0.N), (show FVec Ideal S1x1024 .f32 from (outsAt0 m c n hn).2) (ix2 0 d)
      = ∑ s : Fin (n + 1), part m c ⟨s.val, lt_of_le_of_lt (Nat.le_of_lt_succ s.isLt) hn⟩ d := by
    intro n
    induction n with
    | zero => intro hn; rw [Fin.sum_univ_one]; exact outs6_A m c ⟨0, hn⟩ rfl (by simp) d
    | succ n ih =>
      intro hn
      have hN := lt_of_lt_of_eq hn N_0
      rw [Fin.sum_univ_castSucc]
      refine (outs6_B m c ⟨n + 1, hn⟩ (by simp; omega) (by simp) d).trans ?_
      exact congrArg (· + _) (ih (Nat.lt_of_succ_lt hn))
  have hN := lt_of_lt_of_eq t.isLt N_0
  obtain ⟨n, hn⟩ := t
  obtain rfl : n = 15 := by simp at ht hN; omega
  exact key 15 hn

theorem sum6' (c : Dev nD) (d : Fin 1024) :
    ∑ s : Fin 16, part m c ⟨s.val, lt_of_lt_of_eq s.isLt N_0.symm⟩ d = InSpec.dg (DZ m c) (H m c) (W m c) d := by
  unfold InSpec.dg part row
  exact (Fin.sum_univ_tiles 16 512 rfl (fun n : Fin 8192 => InSpec.dhn (DZ m c) (W m c) n d * (H m c n d * MlpSpec.rr (H m c) n))).symm

theorem final5 (c : Dev nD) : (dats m 0 c).arrAt 5 (cfgs 0).N = R5 m c := by
  refine (dats m 0 c).arrAt_eq_of_covers 5 _ (by decide +kernel) fun t hf y => ?_
  blk_simp
  rw [after0_5]
  idx_vars y
  have e : ((View.whole main_v3_0).slice (win0_5.rect t)).emb (ix2 y0 y1) = ix2 (row t y0) y1 := by
    unfold row; blk_ext [idx t]
  refine (outs5 m c t y0 y1).trans (congrArg (R5 m c) e).symm

theorem final6 (c : Dev nD) : (dats m 0 c).arrAt 6 (cfgs 0).N = R6 m c := by
  refine (dats m 0 c).arrAt_eq_of_covers 6 _ (by decide +kernel) fun t hf y => ?_
  blk_simp
  rw [after0_6]
  idx_vars y
  obtain rfl : y0 = 0 := Subsingleton.elim _ _
  have e : ((View.whole main_v3_1).slice (win0_6.rect t)).emb (ix2 0 y1) = ix2 0 y1 := by
    blk_ext [idx t]
  refine ((sum6 m c t ((flush0_6 t).mp hf) y1).trans (sum6' m c y1)).trans (congrArg (R6 m c) e).symm

end Cert.InBwdIdeal.Hand

end
-- ==== Proof.InBwdRef.lean ====
/- The reference gradient of the attention input projection, its stages read entry by entry over the extended reals. -/
module

public import Idealize.ShloMosaic.Lib.Pointwise
public import proofs.«01_k».proof.Proof.InBwdPure
public import proofs.«01_k».proof.Proof.Gen.InBwdRefIdeal.Read

@[expose] public section

set_option maxRecDepth 16384

noncomputable section

namespace Cert.InBwdRefIdeal.Hand

open Idealize.ShloMosaic Idealize.SL.Sem
open Cert.InBwdRefIdeal Cert.InBwdRefIdeal.Gen Cert.InBwdRefIdeal.Read

variable (x0 : FVec Ideal S8192x2560 .bf16) (x1 x4 : FVec Ideal S8192x1024 .f32) (x2 : FVec Ideal S1024 .f32) (x3 : FVec Ideal S1024x2560 .f32)

/-- An array of two axes, and of one, as functions of their indices. -/
abbrev m2 {a b : ℕ} (x : (⟨2, ![a, b]⟩ : Shape).Idx → EReal) (i : Fin a) (j : Fin b) : EReal := x (ix2 i j)
abbrev m1 {a : ℕ} (x : (⟨1, ![a]⟩ : Shape).Idx → EReal) (i : Fin a) : EReal := x (ix1 i)

theorem v7_at (n : Fin 8192) (z : Fin 1) : val_main_v7 (F := Ideal) x1 (ix2 n z) = MlpSpec.rr (m2 x1) n := by
  pointwise [val_main_v7, val_main_v6, val_main_v5, val_main_v4, val_main_v3, val_main_v2, val_main_v1, val_main_v0,
    val_main_cst, val_main_cst_0, val_main_cst_1, MlpSpec.rr, zero_add]

theorem v18_at (n : Fin 8192) (d : Fin 1024) :
    val_main_v18 (F := Ideal) x0 x3 (ix2 n d) = InSpec.dhn (m2 x0) (m2 x3) n d := by
  pointwise [val_main_v18, val_main_v17, InSpec.dhn]

theorem v40_at (d : Fin 1024) :
    val_main_v40 (F := Ideal) x0 x1 x3 (ix2 0 d) = InSpec.dg (m2 x0) (m2 x1) (m2 x3) d := by
  pointwise [val_main_v40, val_main_v24, val_main_cst_4, val_main_v21, val_main_v20, val_main_cst_3, val_main_v19, val_main_v12, val_main_v11,
    v7_at, v18_at, InSpec.dg, zero_add]
  rw [Fin.sum_univ_one]
  exact Finset.sum_congr rfl fun n _ => mul_comm _ _

theorem v39_at (n : Fin 8192) (d : Fin 1024) :
    val_main_v39 (F := Ideal) x0 x1 x2 x3 x4 (ix2 n d)
    = m2 x4 n d + (InSpec.dhn (m2 x0) (m2 x3) n d * m1 x2 d * MlpSpec.rr (m2 x1) n
      + m2 x1 n d * Ideal.div ((∑ k : Fin 1024, m2 x1 n k * (InSpec.dhn (m2 x0) (m2 x3) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32)
      + Ideal.div ((∑ k : Fin 1024, m2 x1 n k * (InSpec.dhn (m2 x0) (m2 x3) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32) * m2 x1 n d) := by
  pointwise [val_main_v39, val_main_v38, val_main_v37, val_main_v36, val_main_v35, val_main_v34, val_main_v33, val_main_cst_7,
    val_main_v32, val_main_v31, val_main_cst_6, val_main_v30, val_main_v29, val_main_v28, val_main_v27, val_main_v26, val_main_cst_5,
    val_main_v25, val_main_v23, val_main_v22, val_main_v13, val_main_v10, val_main_v9, val_main_cst_2, val_main_v8, v7_at, v18_at,
    val_main_v6, val_main_v5, val_main_v4, val_main_v3, val_main_v2, val_main_v1, val_main_v0,
    val_main_cst, val_main_cst_0, val_main_cst_1, zero_add, Fin.sum_univ_one]

end Cert.InBwdRefIdeal.Hand

end
-- ==== Proof.InBwdClaim.lean ====
/- The input projection's backward call gives the reference's two results, at exact arithmetic on finite arguments. -/
module

public import Idealize.ShloMosaic.Lib.ReduceAll
public import proofs.«01_k».proof.Proof.MlpAlg
public import proofs.«01_k».proof.Proof.InBwdFinal
public import proofs.«01_k».proof.Proof.InBwdRef
public import proofs.«01_k».proof.Proof.Gen.Pre_finite_in

@[expose] public section

set_option maxRecDepth 16384

noncomputable section

namespace Cert.Pre_finite_in.Hand

open Idealize.ShloMosaic Cert.Pre_finite_in Cert.Pre_finite_in.Facts

instance : Subsingleton S_.Idx := ⟨fun a b => funext fun i => i.elim0⟩

variable [Facts]

/-- What the precondition says: every entry of the five arguments is a real number. -/
theorem all_real {x0 : FVec Ideal S8192x2560 .bf16} {x1 x4 : FVec Ideal S8192x1024 .f32} {x2 : FVec Ideal S1024 .f32} {x3 : FVec Ideal S1024x2560 .f32}
    (h : fn (F := Ideal) x0 x1 x2 x3 x4 = fun _ => 1#1) :
    (∀ i, MlpSpec.IsR (x0 i)) ∧ (∀ i, MlpSpec.IsR (x1 i)) ∧ (∀ i, MlpSpec.IsR (x2 i)) ∧ (∀ i, MlpSpec.IsR (x3 i)) ∧ ∀ i, MlpSpec.IsR (x4 i) := by
  have h := congrFun h (fun i => i.elim0)
  dsimp only [fn, fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => MlpSpec.isR_of_lt (x := x0 i) (Host.reduce_andi_all _ _ _ _ _ h0 i), fun i => MlpSpec.isR_of_lt (Host.reduce_andi_all _ _ _ _ _ h1 i),
    fun i => MlpSpec.isR_of_lt (Host.reduce_andi_all _ _ _ _ _ h2 i), fun i => MlpSpec.isR_of_lt (Host.reduce_andi_all _ _ _ _ _ h3 i),
    fun i => MlpSpec.isR_of_lt (Host.reduce_andi_all _ _ _ _ _ h4 i)⟩

end Cert.Pre_finite_in.Hand

namespace Cert.InBwdIdeal.Hand

open Idealize.ShloMosaic Idealize.ShloMosaic.TcCoe
open Cert.InBwdIdeal

variable (m : (ℓ : Loc nD τ sig) → Buf (Elt Ideal) ℓ) (c : Dev nD)

theorem ref6 : Cert.InBwdRefIdeal.Read.val_main_v40 (F := Ideal) (m ((c : Thread nD τ).loc main_arg0)) (m ((c : Thread nD τ).loc main_arg1))
    (m ((c : Thread nD τ).loc main_arg3)) = R6 m c := by
  funext i
  idx_vars i
  obtain rfl : i0 = 0 := Subsingleton.elim _ _
  exact Cert.InBwdRefIdeal.Hand.v40_at _ _ _ i1

theorem ref5 [Cert.Pre_finite_in.Facts]
    (h : Cert.Pre_finite_in.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.InBwdRefIdeal.Read.val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R5 m c := by
  obtain ⟨h0, h1, h2, h3, -⟩ := Cert.Pre_finite_in.Hand.all_real h
  have hZ : ∀ n k, MlpSpec.IsR (DZ m c n k) := fun n k => h0 _
  have hH : ∀ n k, MlpSpec.IsR (H m c n k) := fun n k => h1 _
  have hG : ∀ k, MlpSpec.IsR (G m c k) := fun k => h2 _
  have hW : ∀ k j, MlpSpec.IsR (W m c k j) := fun k j => h3 _
  funext i
  idx_vars i
  obtain ⟨a, ha, hx⟩ := MlpSpec.ms_pos hH i0
  refine (Cert.InBwdRefIdeal.Hand.v39_at _ _ _ _ _ i0 i1).trans ?_
  exact congrArg (DR m c i0 i1 + ·) (MlpSpec.norm_grad _ (MlpSpec.rr (H m c) i0) (H m c i0)
    (fun k => InSpec.dhn (DZ m c) (W m c) i0 k * G m c k) i1 (hH i0)
    (fun k => (MlpSpec.IsR.sum fun j => (hZ i0 j).mul (hW k j)).mul (hG k)) a ha hx rfl).symm

end Cert.InBwdIdeal.Hand

end
-- ==== Proof.MlpFwdPure.lean ====
/- The stored blocks of the fused MLP forward call, read entry by entry over the extended reals. -/
module

public import Idealize.ShloMosaic.Lib.Pointwise
public import proofs.«01_k».proof.Proof.DwSpec
public import proofs.«01_k».proof.Proof.Gen.MlpFwdIdeal.Skeleton

@[expose] public section

set_option maxRecDepth 16384

noncomputable section

namespace Cert.MlpSpec

open Idealize.ShloMosaic

/-- The MLP's result: the residual plus the squared rectified pre-activation through the second weight. -/
def fwd (H : Fin 8192 → Fin 1024 → EReal) (G : Fin 1024 → EReal) (WU : Fin 1024 → Fin 4096 → EReal)
    (WD : Fin 4096 → Fin 1024 → EReal) (n : Fin 8192) (d : Fin 1024) : EReal :=
  H n d + ∑ c : Fin 4096, (max (act H G WU n c) 0 * max (act H G WU n c) 0) * WD c d

end Cert.MlpSpec

namespace Cert.MlpFwdIdeal.Hand

open Idealize.ShloMosaic Idealize.SL.Sem
open Cert.MlpFwdIdeal Cert.MlpFwdIdeal.Gen Cert.MlpSpec

/-- Column `c` of the `j`-th of the four column tiles. -/
abbrev col (j : Fin 4) (c : Fin 1024) : Fin 4096 := ⟨(j : ℕ) * 1024 + (c : ℕ), by omega⟩

variable (row : Fin 512 → Fin 8192)
  (H : Fin 8192 → Fin 1024 → EReal) (G : Fin 1024 → EReal) (WU : Fin 1024 → Fin 4096 → EReal)
  (WD : Fin 4096 → Fin 1024 → EReal)
  (h : FVec Ideal S512x1024 .f32) (g : FVec Ideal S1x1024 .f32) (x : FVec Ideal S512x1024 .bf16)
  (u w u0 u1 u2 u3 w0 w1 w2 w3 : FVec Ideal S1x1024x1024 .bf16)

theorem pay2_at (hh : ∀ r k, h (ix2 r k) = H (row r) k) (hg : ∀ k, g (ix2 0 k) = G k) (r : Fin 512) (k : Fin 1024) :
    k0_pay2 (F := Ideal) h g (ix2 r k) = DwSpec.hn H G (row r) k := by
  pointwise [k0_pay2]
  simp only [DwSpec.hn, rr, hh, hg, zero_add]

/-- A product of the normalised rows with a column tile of the first weight is the pre-activation's tile. -/
theorem pay8_at (j : Fin 4) (hx : ∀ r k, x (ix2 r k) = DwSpec.hn H G (row r) k) (hu : ∀ k c, u (ix3 0 k c) = WU k (col j c))
    (r : Fin 512) (c : Fin 1024) : k0_pay8 (F := Ideal) x u (ix2 r c) = act H G WU (row r) (col j c) := by
  pointwise [k0_pay8]
  simp only [hx, hu, act, DwSpec.hn]

theorem pay1_at (v : FVec Ideal S512x1024 .f32) (s : FVec Ideal S512x1024 .bf16) (r : Fin 512) (d : Fin 1024) :
    k0_pay1 (F := Ideal) v s w (ix2 r d) = v (ix2 r d) + ∑ c : Fin 1024, s (ix2 r c) * w (ix3 0 c d) := by
  pointwise [k0_pay1]

/-- The stored tiles of the pre-activation are those products. -/
theorem pay12_at (r : Fin 512) (c : Fin 1024) : k0_pay12 (F := Ideal) x u (ix2 r c) = k0_pay8 (F := Ideal) x u (ix2 r c) := by
  pointwise [k0_pay12, k0_pay11, k0_pay8]
theorem pay9_at (r : Fin 512) (c : Fin 1024) : k0_pay9 (F := Ideal) x u (ix2 r c) = k0_pay8 (F := Ideal) x u (ix2 r c) := by
  pointwise [k0_pay9, k0_pay8]
theorem pay7_at (r : Fin 512) (c : Fin 1024) :
    k0_pay7 (F := Ideal) (k0_pay6 h g u) (ix2 r c) = k0_pay8 (F := Ideal) (k0_pay2 h g) u (ix2 r c) := by
  pointwise [k0_pay7, k0_pay6, k0_pay8]
theorem pay4_at (r : Fin 512) (c : Fin 1024) :
    k0_pay4 (F := Ideal) h g u (ix2 r c) = k0_pay8 (F := Ideal) (k0_pay2 h g) u (ix2 r c) := by
  pointwise [k0_pay4, k0_pay3, k0_pay8]

theorem pay13_at (r : Fin 512) (c : Fin 1024) : k0_pay13 (F := Ideal) x u (ix2 r c)
    = max (k0_pay8 (F := Ideal) x u (ix2 r c)) 0 * max (k0_pay8 (F := Ideal) x u (ix2 r c)) 0 := by
  pointwise [k0_pay13, k0_pay11, k0_pay8]

theorem pay5_at (r : Fin 512) (d : Fin 1024) : k0_pay5 (F := Ideal) h g u w (ix2 r d)
    = h (ix2 r d) + ∑ c : Fin 1024, (max (k0_pay8 (F := Ideal) (k0_pay2 h g) u (ix2 r c)) 0
      * max (k0_pay8 (F := Ideal) (k0_pay2 h g) u (ix2 r c)) 0) * w (ix3 0 c d) := by
  pointwise [k0_pay5, k0_pay3, k0_pay8]

theorem pay10_at (v : FVec Ideal S512x1024 .f32) (r : Fin 512) (d : Fin 1024) :
    k0_pay10 (F := Ideal) x v (k0_pay6 h g u1) w1 u2 w2 (ix2 r d)
    = v (ix2 r d) + (∑ c : Fin 1024, (max (k0_pay8 (F := Ideal) (k0_pay2 h g) u1 (ix2 r c)) 0
        * max (k0_pay8 (F := Ideal) (k0_pay2 h g) u1 (ix2 r c)) 0) * w1 (ix3 0 c d))
      + ∑ c : Fin 1024, (max (k0_pay8 (F := Ideal) x u2 (ix2 r c)) 0 * max (k0_pay8 (F := Ideal) x u2 (ix2 r c)) 0) * w2 (ix3 0 c d) := by
  pointwise [k0_pay10, k0_pay6, k0_pay8]

variable (hh : ∀ r k, h (ix2 r k) = H (row r) k) (hg : ∀ k, g (ix2 0 k) = G k)
  (hu0 : ∀ k c, u0 (ix3 0 k c) = WU k (col 0 c)) (hu1 : ∀ k c, u1 (ix3 0 k c) = WU k (col 1 c))
  (hu2 : ∀ k c, u2 (ix3 0 k c) = WU k (col 2 c)) (hu3 : ∀ k c, u3 (ix3 0 k c) = WU k (col 3 c))
  (hw0 : ∀ c d, w0 (ix3 0 c d) = WD (col 0 c) d) (hw1 : ∀ c d, w1 (ix3 0 c d) = WD (col 1 c) d)
  (hw2 : ∀ c d, w2 (ix3 0 c d) = WD (col 2 c) d) (hw3 : ∀ c d, w3 (ix3 0 c d) = WD (col 3 c) d)

include hh hg hu0 hu1 hu2 hu3 hw0 hw1 hw2 hw3 in
/-- The stored block of the result: the four tiles' contributions are the whole contraction. -/
theorem fwd_point (r : Fin 512) (d : Fin 1024) :
    k0_pay1 (F := Ideal) (k0_pay10 (k0_pay2 h g) (k0_pay5 h g u0 w0) (k0_pay6 h g u1) w1 u2 w2)
      (k0_pay13 (k0_pay2 h g) u3) w3 (ix2 r d) = fwd H G WU WD (row r) d := by
  have hx := pay2_at row H G h g hh hg
  have e0 := pay8_at row H G WU (k0_pay2 h g) u0 0 hx hu0 r
  have e1 := pay8_at row H G WU (k0_pay2 h g) u1 1 hx hu1 r
  have e2 := pay8_at row H G WU (k0_pay2 h g) u2 2 hx hu2 r
  have e3 := pay8_at row H G WU (k0_pay2 h g) u3 3 hx hu3 r
  rw [pay1_at, pay10_at, pay5_at]
  simp only [pay13_at, e0, e1, e2, e3, hw0, hw1, hw2, hw3, hh]
  unfold fwd
  rw [Fin.sum_univ_tiles 4 1024 rfl fun c => (max (act H G WU (row r) c) 0 * max (act H G WU (row r) c) 0) * WD c d, Fin.sum_univ_four]
  simp only [add_assoc]

end Cert.MlpFwdIdeal.Hand

end
-- ==== Proof.MlpFwdFinal.lean ====
/- The fused MLP forward call's three result arrays as plain mathematics of its arguments. -/
module

public import Idealize.ShloMosaic.Lib.Pipeline.ValueKit
public import proofs.«01_k».proof.Proof.MlpFwdPure
public import proofs.«01_k».proof.Proof.Gen.MlpFwdIdeal.Value

@[expose] public section

set_option maxRecDepth 16384

noncomputable section

namespace Cert.MlpFwdIdeal.Hand

open Idealize.ShloMosaic Idealize.ShloMosaic.TcCoe Idealize.SL.Sem
open Idealize.ShloMosaic.Pipeline (Dat)
open Cert.MlpFwdIdeal Cert.MlpFwdIdeal.Gen Cert.MlpFwdIdeal.Value

variable (m : (ℓ : Loc nD τ sig) → Buf (Elt Ideal) ℓ)

/-- The four arguments as functions of their indices. -/
def H (c : Dev nD) (n : Fin 8192) (k : Fin 1024) : EReal := (show FVec Ideal S8192x1024 .f32 from m ((c : Thread nD τ).loc main_arg0)) (ix2 n k)
def G (c : Dev nD) (k : Fin 1024) : EReal := (show FVec Ideal S1024 .f32 from m ((c : Thread nD τ).loc main_arg1)) (ix1 k)
def WU (c : Dev nD) (k : Fin 1024) (j : Fin 4096) : EReal := (show FVec Ideal S1024x4096 .f32 from m ((c : Thread nD τ).loc main_arg2)) (ix2 k j)
def WD (c : Dev nD) (j : Fin 4096) (k : Fin 1024) : EReal := (show FVec Ideal S4096x1024 .f32 from m ((c : Thread nD τ).loc main_arg3)) (ix2 j k)

theorem V_v0 (c : Dev nD) : V m c main_v0 = (broadcastInDim S1x1024 ![1] bcast_S1024_S1x1024_1
    (show FVec Ideal S1024 .f32 from m ((c : Thread nD τ).loc main_arg1)) : FVec Ideal S1x1024 .f32) := by
  unfold V; after_results; try rfl
theorem V_v2 (c : Dev nD) : V m c main_v2 = (broadcastInDim S1x1024x4096 ![1, 2] bcast_S1024x4096_S1x1024x4096_1_2
    (truncf .bf16 (show FVec Ideal S1024x4096 .f32 from m ((c : Thread nD τ).loc main_arg2)) bitsLt_bf16_f32) : FVec Ideal S1x1024x4096 .bf16) := by
  unfold V; after_results; try rfl
theorem V_v4 (c : Dev nD) : V m c main_v4 = (broadcastInDim S1x4096x1024 ![1, 2] bcast_S4096x1024_S1x4096x1024_1_2
    (truncf .bf16 (show FVec Ideal S4096x1024 .f32 from m ((c : Thread nD τ).loc main_arg3)) bitsLt_bf16_f32) : FVec Ideal S1x4096x1024 .bf16) := by
  unfold V; after_results; try rfl

theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = H m c (row t r) k := by
  unfold H row
  blk_ext [iblk, V_main_arg0, idx t]
theorem b1_at (c : Dev nD) (t : Fin cfg0.N) (k : Fin 1024) :
    (show FVec Ideal S1x1024 .f32 from iblk m c 1 t) (ix2 0 k) = G m c k := by
  unfold G
  blk_simp [iblk, idx t]
  entry_read
  pointwise
  blk_ext [idx t]
theorem b2_at (c : Dev nD) (t : Fin cfg0.N) (k : Fin 1024) (j : Fin 4096) :
    (show FVec Ideal S1x1024x4096 .bf16 from iblk m c 2 t) (ix3 0 k j) = WU m c k j := by
  unfold WU
  blk_simp [iblk, idx t]
  entry_read
  pointwise
  blk_ext [idx t]
theorem b3_at (c : Dev nD) (t : Fin cfg0.N) (j : Fin 4096) (k : Fin 1024) :
    (show FVec Ideal S1x4096x1024 .bf16 from iblk m c 3 t) (ix3 0 j k) = WD m c j k := by
  unfold WD
  blk_simp [iblk, idx t]
  entry_read
  pointwise
  blk_ext [idx t]

/-- The three result arrays. -/
def R4 (c : Dev nD) : S8192x1024.Idx → EReal := fun i => MlpSpec.fwd (H m c) (G m c) (WU m c) (WD m c) (i 0) (i 1)
def R5 (c : Dev nD) : S8192x4096.Idx → EReal := fun i => MlpSpec.act (H m c) (G m c) (WU m c) (i 0) (i 1)
def R6 (c : Dev nD) : S8192x1024.Idx → EReal := fun i => DwSpec.hn (H m c) (G m c) (i 0) (i 1)

set_option maxHeartbeats 1000000 in
theorem outs4 (c : Dev nD) (t : Fin cfg0.N) (r : Fin 512) (d : Fin 1024) :
    (show FVec Ideal S512x1024 .f32 from out0_4 (iblk m c 0 t) (iblk m c 1 t) (iblk m c 2 t) (iblk m c 3 t)) (ix2 r d)
    = MlpSpec.fwd (H m c) (G m c) (WU m c) (WD m c) (row t r) d := by
  unfold out0_4 k0_pay14 k0_pay15; frame_out
  refine fwd_point (row t) (H m c) (G m c) (WU m c) (WD m c) _ _ _ _ _ _ _ _ _ _ ?_ ?_ ?_ ?_ ?_ ?_ ?_ ?_ ?_ ?_ _ _
  · exact fun a b => b0_at m c t a b
  · exact fun b => b1_at m c t b
  · intro a b; refine Eq.trans ?_ (b2_at m c t a (col 0 b)); pointwise; blk_ext
  · intro a b; refine Eq.trans ?_ (b2_at m c t a (col 1 b)); pointwise; blk_ext
  · intro a b; refine Eq.trans ?_ (b2_at m c t a (col 2 b)); pointwise; blk_ext
  · intro a b; refine Eq.trans ?_ (b2_at m c t a (col 3 b)); pointwise; blk_ext
  · intro a b; refine Eq.trans ?_ (b3_at m c t (col 0 a) b); pointwise; blk_ext
  · intro a b; refine Eq.trans ?_ (b3_at m c t (col 1 a) b); pointwise; blk_ext
  · intro a b; refine Eq.trans ?_ (b3_at m c t (col 2 a) b); pointwise; blk_ext
  · intro a b; refine Eq.trans ?_ (b3_at m c t (col 3 a) b); pointwise; blk_ext

theorem outs6 (c : Dev nD) (t : Fin cfg0.N) (r : Fin 512) (d : Fin 1024) :
    (show FVec Ideal S512x1024 .bf16 from out0_6 (iblk m c 0 t) (iblk m c 1 t) (iblk m c 2 t) (iblk m c 3 t)) (ix2 r d)
    = DwSpec.hn (H m c) (G m c) (row t r) d := by
  frame_out
  exact pay2_at (row t) (H m c) (G m c) _ _ (fun a b => b0_at m c t a b) (fun b => b1_at m c t b) r d

set_option maxHeartbeats 1000000 in
theorem outs5 (c : Dev nD) (t : Fin cfg0.N) (r : Fin 512) (j : Fin 4096) :
    (show FVec Ideal S512x4096 .bf16 from out0_5 (iblk m c 0 t) (iblk m c 1 t) (iblk m c 2 t) (iblk m c 3 t)) (ix2 r j)
    = MlpSpec.act (H m c) (G m c) (WU m c) (row t r) j := by
  have hx := pay2_at (row t) (H m c) (G m c) _ _ (fun a b => b0_at m c t a b) (fun b => b1_at m c t b)
  unfold out0_5 k0_pay14 k0_pay15; frame_out
  canon_tiles x h
  all_goals idx_vars x
  · rw [pay12_at]
    refine (pay8_at (row t) (H m c) (G m c) (WU m c) _ _ 3 hx ?_ x0 x1).trans ?_
    · intro a b; refine Eq.trans ?_ (b2_at m c t a (col 3 b)); pointwise; blk_ext
    · rw [show r = x0 from Fin.ext h0, show j = col 3 x1 from Fin.ext (by simp only [col]; simp at h1 ⊢; omega)]
  · rw [pay9_at]
    refine (pay8_at (row t) (H m c) (G m c) (WU m c) _ _ 2 hx ?_ x0 x1).trans ?_
    · intro a b; refine Eq.trans ?_ (b2_at m c t a (col 2 b)); pointwise; blk_ext
    · rw [show r = x0 from Fin.ext h0, show j = col 2 x1 from Fin.ext (by simp only [col]; simp at h1 ⊢; omega)]
  · rw [pay7_at]
    refine (pay8_at (row t) (H m c) (G m c) (WU m c) _ _ 1 hx ?_ x0 x1).trans ?_
    · intro a b; refine Eq.trans ?_ (b2_at m c t a (col 1 b)); pointwise; blk_ext
    · rw [show r = x0 from Fin.ext h0, show j = col 1 x1 from Fin.ext (by simp only [col]; simp at h1 ⊢; omega)]
  · rw [pay4_at]
    refine (pay8_at (row t) (H m c) (G m c) (WU m c) _ _ 0 hx ?_ x0 x1).trans ?_
    · intro a b; refine Eq.trans ?_ (b2_at m c t a (col 0 b)); pointwise; blk_ext
    · rw [show r = x0 from Fin.ext h0, show j = col 0 x1 from Fin.ext (by simp only [col]; simp at h1 ⊢; omega)]

theorem final4 (c : Dev nD) : (dats m 0 c).arrAt 4 (cfgs 0).N = R4 m c := by
  refine (dats m 0 c).arrAt_eq_of_covers 4 _ (by decide +kernel) fun t hf y => ?_
  blk_simp
  rw [after0_4]
  idx_vars y
  have e : ((View.whole main_v5_0).slice (win0_4.rect t)).emb (ix2 y0 y1) = ix2 (row t y0) y1 := by
    unfold row; blk_ext [idx t]
  refine (outs4 m c t y0 y1).trans (congrArg (R4 m c) e).symm

theorem final5 (c : Dev nD) : (dats m 0 c).arrAt 5 (cfgs 0).N = R5 m c := by
  refine (dats m 0 c).arrAt_eq_of_covers 5 _ (by decide +kernel) fun t hf y => ?_
  blk_simp
  rw [after0_5]
  idx_vars y
  have e : ((View.whole main_v5_1).slice (win0_5.rect t)).emb (ix2 y0 y1) = ix2 (row t y0) y1 := by
    unfold row; blk_ext [idx t]
  refine (outs5 m c t y0 y1).trans (congrArg (R5 m c) e).symm

theorem final6 (c : Dev nD) : (dats m 0 c).arrAt 6 (cfgs 0).N = R6 m c := by
  refine (dats m 0 c).arrAt_eq_of_covers 6 _ (by decide +kernel) fun t hf y => ?_
  blk_simp
  rw [after0_6]
  idx_vars y
  have e : ((View.whole main_v5_2).slice (win0_6.rect t)).emb (ix2 y0 y1) = ix2 (row t y0) y1 := by
    unfold row; blk_ext [idx t]
  refine (outs6 m c t y0 y1).trans (congrArg (R6 m c) e).symm

end Cert.MlpFwdIdeal.Hand

end
-- ==== Proof.MlpFwdClaim.lean ====
/- The MLP forward call's three results are the reference's, at exact arithmetic. -/
module

public import Idealize.ShloMosaic.Lib.Pointwise
public import proofs.«01_k».proof.Proof.MlpFwdFinal
public import proofs.«01_k».proof.Proof.Gen.MlpFwdRefIdeal.Read

@[expose] public section

set_option maxRecDepth 16384

noncomputable section

namespace Cert.MlpFwdRefIdeal.Hand

open Idealize.ShloMosaic Idealize.SL.Sem
open Cert.MlpFwdRefIdeal Cert.MlpFwdRefIdeal.Gen Cert.MlpFwdRefIdeal.Read

variable (x0 : FVec Ideal S8192x1024 .f32) (x1 : FVec Ideal S1024 .f32) (x2 : FVec Ideal S1024x4096 .f32)
  (x3 : FVec Ideal S4096x1024 .f32)

theorem v7_at (n : Fin 8192) (z : Fin 1) : val_main_v7 (F := Ideal) x0 (ix2 n z) = MlpSpec.rr (fun n k => x0 (ix2 n k)) n := by
  pointwise [val_main_v7, val_main_v6, val_main_v5, val_main_v4, val_main_v3, val_main_v2, val_main_v1, val_main_v0,
    val_main_cst, val_main_cst_0, val_main_cst_1, MlpSpec.rr, zero_add]

theorem v13_at (n : Fin 8192) (k : Fin 4096) : val_main_v13 (F := Ideal) x0 x1 x2 (ix2 n k)
    = MlpSpec.act (fun n k => x0 (ix2 n k)) (fun k => x1 (ix1 k)) (fun k j => x2 (ix2 k j)) n k := by
  pointwise [val_main_v13, val_main_v12, val_main_v11, val_main_v10, val_main_v9, val_main_v8, v7_at, MlpSpec.act]

theorem v17_at (n : Fin 8192) (d : Fin 1024) : val_main_v17 (F := Ideal) x0 x1 x2 x3 (ix2 n d)
    = MlpSpec.fwd (fun n k => x0 (ix2 n k)) (fun k => x1 (ix1 k)) (fun k j => x2 (ix2 k j)) (fun k j => x3 (ix2 k j)) n d := by
  pointwise [val_main_v17, val_main_v16, val_main_v15, val_main_v14, val_main_call0_v0, val_main_call0_cst, v13_at, MlpSpec.fwd]

theorem v18_at (n : Fin 8192) (k : Fin 4096) : val_main_v18 (F := Ideal) x0 x1 x2 (ix2 n k)
    = MlpSpec.act (fun n k => x0 (ix2 n k)) (fun k => x1 (ix1 k)) (fun k j => x2 (ix2 k j)) n k := by
  pointwise [val_main_v18, v13_at]

theorem v32_at (n : Fin 8192) (k : Fin 1024) :
    val_main_v32 (F := Ideal) x0 x1 (ix2 n k) = DwSpec.hn (fun n k => x0 (ix2 n k)) (fun k => x1 (ix1 k)) n k := by
  pointwise [val_main_v32, val_main_v31, val_main_v30, val_main_v29, val_main_v28, val_main_v27, val_main_v26, val_main_v25,
    val_main_v24, val_main_v23, val_main_v22, val_main_v21, val_main_v20, val_main_v19, val_main_cst_2, val_main_cst_3, val_main_cst_4,
    DwSpec.hn, MlpSpec.rr, zero_add]

end Cert.MlpFwdRefIdeal.Hand

namespace Cert.MlpFwdIdeal.Hand

open Idealize.ShloMosaic Idealize.ShloMosaic.TcCoe
open Cert.MlpFwdIdeal

variable (m : (ℓ : Loc nD τ sig) → Buf (Elt Ideal) ℓ) (c : Dev nD)

theorem ref4 : Cert.MlpFwdRefIdeal.Read.val_main_v17 (F := Ideal) (m ((c : Thread nD τ).loc main_arg0)) (m ((c : Thread nD τ).loc main_arg1))
    (m ((c : Thread nD τ).loc main_arg2)) (m ((c : Thread nD τ).loc main_arg3)) = R4 m c := by
  funext i
  idx_vars i
  exact Cert.MlpFwdRefIdeal.Hand.v17_at _ _ _ _ i0 i1

theorem ref5 : Cert.MlpFwdRefIdeal.Read.val_main_v18 (F := Ideal) (m ((c : Thread nD τ).loc main_arg0)) (m ((c : Thread nD τ).loc main_arg1))
    (m ((c : Thread nD τ).loc main_arg2)) = R5 m c := by
  funext i
  idx_vars i
  exact Cert.MlpFwdRefIdeal.Hand.v18_at _ _ _ i0 i1

theorem ref6 : Cert.MlpFwdRefIdeal.Read.val_main_v32 (F := Ideal) (m ((c : Thread nD τ).loc main_arg0)) (m ((c : Thread nD τ).loc main_arg1))
    = R6 m c := by
  funext i
  idx_vars i
  exact Cert.MlpFwdRefIdeal.Hand.v32_at _ _ i0 i1

end Cert.MlpFwdIdeal.Hand

end
-- ==== Proof.DwGateFinal.lean ====
/- The layer gate's weight gradient: the call's result array as plain mathematics of its arguments. -/
module

public import Idealize.ShloMosaic.Lib.Pipeline.ValueKit
public import proofs.«01_k».proof.Proof.HostRows
public import proofs.«01_k».proof.Proof.Gen.DwGateIdeal.Value

@[expose] public section

set_option maxRecDepth 16384

noncomputable section

namespace Cert.DwGateIdeal.Hand

open Idealize.ShloMosaic Idealize.ShloMosaic.TcCoe Idealize.SL.Sem
open Idealize.ShloMosaic.Pipeline (Dat)
open Cert.DwGateIdeal Cert.DwGateIdeal.Gen Cert.DwGateIdeal.Value

variable (m : (ℓ : Loc nD τ sig) → Buf (Elt Ideal) ℓ)

/-- The three arguments as functions of their indices. -/
def Z (c : Dev nD) (n : Fin 8192) (k : Fin 1024) : EReal := (show FVec Ideal S8192x1024 .bf16 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)

theorem V_v13 (c : Dev nD) : V m c main_v13 = HostRows.hTerm (m ((c : Thread nD τ).loc main_arg1)) (m ((c : Thread nD τ).loc main_arg2)) := by
  unfold V; after_results; try rfl

theorem idx : ∀ t : Fin cfg0.N, win0_0.index t = ![t.val % 4, 0] ∧ win0_1.index t = ![t.val % 4, 0]
    ∧ win0_2.index t = ![0, 0] :=
  (by decide +kernel : ∀ t : Fin grid0.N, _)

/-- Row `r` of point `t`'s blocks. -/
def row (t : Fin cfg0.N) (r : Fin 2048) : Fin 8192 := ⟨t.val % 4 * 2048 + r.val, by omega⟩

theorem b0_at (c : Dev nD) (t : Fin cfg0.N) (r : Fin 2048) (k : Fin 1024) :
    (show FVec Ideal S2048x1024 .bf16 from iblk m c 0 t) (ix2 r k) = DwSpec.hn (H m c) (G m c) (row t r) k := by
  refine Eq.trans ?_ (HostRows.hTerm_at (m ((c : Thread nD τ).loc main_arg1)) (m ((c : Thread nD τ).loc main_arg2)) (row t r) k)
  unfold row
  blk_ext [iblk, V_v13, idx t]
theorem b1_at (c : Dev nD) (t : Fin cfg0.N) (r : Fin 2048) (j : Fin 1024) :
    (show FVec Ideal S2048x1024 .bf16 from iblk m c 1 t) (ix2 r j) = Z m c (row t r) j := by
  unfold Z row
  blk_ext [iblk, V_main_arg0, idx t]

/-- One point's share of the gradient. -/
def part (c : Dev nD) (t : Fin cfg0.N) (k : Fin 1024) (j : Fin 1024) : EReal :=
  ∑ r : Fin 2048, DwSpec.hn (H m c) (G m c) (row t r) k * Z m c (row t r) j

theorem pay2_at (x : FVec Ideal S2048x1024 .bf16) (a : FVec Ideal S1024x1024 .f32) (z : FVec Ideal S2048x1024 .bf16)
    (k : Fin 1024) (j : Fin 1024) :
    k0_pay2 (F := Ideal) x a z (ix2 k j) = a (ix2 k j) + ∑ r : Fin 2048, x (ix2 r k) * z (ix2 r j) := by
  pointwise [k0_pay2]

theorem step_at (c : Dev nD) (t : Fin cfg0.N) (a : FVec Ideal S1024x1024 .f32) (k : Fin 1024) (j : Fin 1024) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (· * ·) (b0_at m c t r k) (b1_at m c t r j)

theorem acc_A (c : Dev nD) (t : Fin cfg0.N) (h0 : t.val % 4 = 0) (h1 : ¬t.val % 4 = 3) (k : Fin 1024) (j : Fin 1024) :
    (show FVec Ideal S1024x1024 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 4 = 0) (k : Fin 1024) (j : Fin 1024) :
    (show FVec Ideal S1024x1024 .f32 from (outsAt0 m c t.val t.isLt).2) (ix2 k j)
    = (show FVec Ideal S1024x1024 .f32 from (outsAt0 m c (t.val - 1) (Nat.lt_of_le_of_lt (Nat.sub_le _ _) t.isLt)).2) (ix2 k j)
      + part m c t k j := by
  by_cases h1 : t.val % 4 = 3
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 4 = 3) (k : Fin 1024) (j : Fin 1024) :
    (show FVec Ideal S1024x1024 .bf16 from (outsAt0 m c t.val t.isLt).1) (ix2 k j)
    = (show FVec Ideal S1024x1024 .f32 from (outsAt0 m c t.val t.isLt).2) (ix2 k j) := by
  rw [outsAt0_C m c t (by omega) h1]; frame_out
  pointwise [k0_pay3]

/-- The result array. -/
def R (c : Dev nD) : S1024x1024.Idx → EReal := fun i => DwSpec.dw (DwSpec.hn (H m c) (G m c)) (Z m c) (i 0) (i 1)

theorem sum_at (c : Dev nD) (t : Fin cfg0.N) (ht : t.val % 4 = 3) (k : Fin 1024) (j : Fin 1024) :
    (show FVec Ideal S1024x1024 .f32 from (outsAt0 m c t.val t.isLt).2) (ix2 k j)
    = DwSpec.dw (DwSpec.hn (H m c) (G m c)) (Z m c) k j := by
  refine DwSpec.run_dw 4 2048 rfl (fun n hn => (show FVec Ideal S1024x1024 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => DwSpec.hn (H m c) (G m c) s k * Z m c s j) t.val t.isLt ht
    (by decide) (fun s hs hb => ?_)
  refine Finset.sum_congr rfl fun r _ => ?_
  have er : row ⟨t.val / 4 * 4 + s, hb⟩ r = ⟨s * 2048 + r.val, by omega⟩ := Fin.ext (by show (t.val / 4 * 4 + s) % 4 * 2048 + r.val = s * 2048 + r.val; omega)
  rw [er]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v14).slice (win0_2.rect t)).emb (ix2 y0 y1) = ix2 y0 y1 := by
    blk_ext [idx t]
  have ht := (flush0_2 t).mp hf
  exact ((out_C m c t ht y0 y1).trans (sum_at m c t ht y0 y1)).trans (congrArg (R m c) e).symm

end Cert.DwGateIdeal.Hand

end
-- ==== Proof.DwGateClaim.lean ====
/- The layer gate's weight gradient: the call's result is the reference's, at exact arithmetic. -/
module

public import Idealize.ShloMosaic.Lib.Pointwise
public import proofs.«01_k».proof.Proof.DwGateFinal
public import proofs.«01_k».proof.Proof.Gen.DwGateRefIdeal.Read

@[expose] public section

set_option maxRecDepth 16384

noncomputable section

namespace Cert.DwGateRefIdeal.Hand

open Idealize.ShloMosaic Idealize.SL.Sem
open Cert.DwGateRefIdeal Cert.DwGateRefIdeal.Gen Cert.DwGateRefIdeal.Read

variable (x0 : FVec Ideal S8192x1024 .bf16) (x1 : FVec Ideal S8192x1024 .f32) (x2 : FVec Ideal S1024 .f32)

theorem v8_at (n : Fin 8192) (z : Fin 1) : val_main_v8 (F := Ideal) x1 (ix2 n z) = MlpSpec.rr (fun n k => x1 (ix2 n k)) n := by
  pointwise [val_main_v8, val_main_v7, val_main_v6, val_main_v5, val_main_v4, val_main_v3, val_main_v2, val_main_v1,
    val_main_cst_0, val_main_cst_1, val_main_cst_2, MlpSpec.rr, zero_add]

theorem v13_at (n : Fin 8192) (k : Fin 1024) :
    val_main_v13 (F := Ideal) x1 x2 (ix2 n k) = DwSpec.hn (fun n k => x1 (ix2 n k)) (fun k => x2 (ix1 k)) n k := by
  pointwise [val_main_v13, val_main_v12, val_main_v11, val_main_v10, val_main_v9, v8_at, DwSpec.hn]

theorem v18_at (k : Fin 1024) (j : Fin 1024) :
    val_main_v18 (F := Ideal) x0 x1 x2 (ix2 k j)
    = DwSpec.dw (DwSpec.hn (fun n k => x1 (ix2 n k)) (fun k => x2 (ix1 k))) (fun n k => x0 (ix2 n k)) k j := by
  pointwise [val_main_v18, val_main_v17, val_main_v16, val_main_v15, v13_at, DwSpec.dw]
  exact Finset.sum_congr rfl fun n _ => mul_comm _ _

end Cert.DwGateRefIdeal.Hand

namespace Cert.DwGateIdeal.Hand

open Idealize.ShloMosaic Idealize.ShloMosaic.TcCoe
open Cert.DwGateIdeal

variable (m : (ℓ : Loc nD τ sig) → Buf (Elt Ideal) ℓ) (c : Dev nD)

theorem ref : Cert.DwGateRefIdeal.Read.val_main_v18 (F := Ideal) (m ((c : Thread nD τ).loc main_arg0)) (m ((c : Thread nD τ).loc main_arg1))
    (m ((c : Thread nD τ).loc main_arg2)) = R m c := by
  funext i
  idx_vars i
  exact Cert.DwGateRefIdeal.Hand.v18_at _ _ _ i0 i1

end Cert.DwGateIdeal.Hand

end
-- ==== Proof.DwOutFinal.lean ====
/- The attention output projection's weight gradient: the call's result array as plain mathematics of its arguments. -/
module

public import Idealize.ShloMosaic.Lib.Pipeline.ValueKit
public import proofs.«01_k».proof.Proof.HostRows
public import proofs.«01_k».proof.Proof.Gen.DwOutIdeal.Value

@[expose] public section

set_option maxRecDepth 16384

noncomputable section

namespace Cert.DwOutIdeal.Hand

open Idealize.ShloMosaic Idealize.ShloMosaic.TcCoe Idealize.SL.Sem
open Idealize.ShloMosaic.Pipeline (Dat)
open Cert.DwOutIdeal Cert.DwOutIdeal.Gen Cert.DwOutIdeal.Value

variable (m : (ℓ : Loc nD τ sig) → Buf (Elt Ideal) ℓ)

/-- The two arguments as functions of their indices. -/
def X (c : Dev nD) (n : Fin 8192) (k : Fin 1024) : EReal := (show FVec Ideal S8192x1024 .bf16 from m ((c : Thread nD τ).loc main_arg0)) (ix2 n k)
def Z (c : Dev nD) (n : Fin 8192) (k : Fin 1024) : EReal := (show FVec Ideal S8192x1024 .f32 from m ((c : Thread nD τ).loc main_arg1)) (ix2 n k)

theorem idx : ∀ t : Fin cfg0.N, win0_0.index t = ![t.val % 4, 0] ∧ win0_1.index t = ![t.val % 4, 0]
    ∧ win0_2.index t = ![0, 0] :=
  (by decide +kernel : ∀ t : Fin grid0.N, _)

/-- Row `r` of point `t`'s blocks. -/
def row (t : Fin cfg0.N) (r : Fin 2048) : Fin 8192 := ⟨t.val % 4 * 2048 + r.val, by omega⟩

theorem b0_at (c : Dev nD) (t : Fin cfg0.N) (r : Fin 2048) (k : Fin 1024) :
    (show FVec Ideal S2048x1024 .bf16 from iblk m c 0 t) (ix2 r k) = X m c (row t r) k := by
  unfold X row
  blk_ext [iblk, V_main_arg0, idx t]
theorem b1_at (c : Dev nD) (t : Fin cfg0.N) (r : Fin 2048) (j : Fin 1024) :
    (show FVec Ideal S2048x1024 .f32 from iblk m c 1 t) (ix2 r j) = Z m c (row t r) j := by
  unfold Z row
  blk_ext [iblk, V_main_arg1, idx t]

/-- One point's share of the gradient. -/
def part (c : Dev nD) (t : Fin cfg0.N) (k : Fin 1024) (j : Fin 1024) : EReal :=
  ∑ r : Fin 2048, X m c (row t r) k * Z m c (row t r) j

theorem pay2_at (x : FVec Ideal S2048x1024 .bf16) (a : FVec Ideal S1024x1024 .f32) (z : FVec Ideal S2048x1024 .f32)
    (k : Fin 1024) (j : Fin 1024) :
    k0_pay2 (F := Ideal) x a z (ix2 k j) = a (ix2 k j) + ∑ r : Fin 2048, x (ix2 r k) * z (ix2 r j) := by
  pointwise [k0_pay2]

theorem step_at (c : Dev nD) (t : Fin cfg0.N) (a : FVec Ideal S1024x1024 .f32) (k : Fin 1024) (j : Fin 1024) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (· * ·) (b0_at m c t r k) (b1_at m c t r j)

theorem acc_A (c : Dev nD) (t : Fin cfg0.N) (h0 : t.val % 4 = 0) (h1 : ¬t.val % 4 = 3) (k : Fin 1024) (j : Fin 1024) :
    (show FVec Ideal S1024x1024 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 4 = 0) (k : Fin 1024) (j : Fin 1024) :
    (show FVec Ideal S1024x1024 .f32 from (outsAt0 m c t.val t.isLt).2) (ix2 k j)
    = (show FVec Ideal S1024x1024 .f32 from (outsAt0 m c (t.val - 1) (Nat.lt_of_le_of_lt (Nat.sub_le _ _) t.isLt)).2) (ix2 k j)
      + part m c t k j := by
  by_cases h1 : t.val % 4 = 3
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 4 = 3) (k : Fin 1024) (j : Fin 1024) :
    (show FVec Ideal S1024x1024 .bf16 from (outsAt0 m c t.val t.isLt).1) (ix2 k j)
    = (show FVec Ideal S1024x1024 .f32 from (outsAt0 m c t.val t.isLt).2) (ix2 k j) := by
  rw [outsAt0_C m c t (by omega) h1]; frame_out
  pointwise [k0_pay3]

/-- The result array. -/
def R (c : Dev nD) : S1024x1024.Idx → EReal := fun i => DwSpec.dw (X m c) (Z m c) (i 0) (i 1)

theorem sum_at (c : Dev nD) (t : Fin cfg0.N) (ht : t.val % 4 = 3) (k : Fin 1024) (j : Fin 1024) :
    (show FVec Ideal S1024x1024 .f32 from (outsAt0 m c t.val t.isLt).2) (ix2 k j)
    = DwSpec.dw (X m c) (Z m c) k j := by
  refine DwSpec.run_dw 4 2048 rfl (fun n hn => (show FVec Ideal S1024x1024 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => X m c s k * Z m c s j) t.val t.isLt ht
    (by decide) (fun s hs hb => ?_)
  refine Finset.sum_congr rfl fun r _ => ?_
  have er : row ⟨t.val / 4 * 4 + s, hb⟩ r = ⟨s * 2048 + r.val, by omega⟩ := Fin.ext (by show (t.val / 4 * 4 + s) % 4 * 2048 + r.val = s * 2048 + r.val; omega)
  rw [er]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v0).slice (win0_2.rect t)).emb (ix2 y0 y1) = ix2 y0 y1 := by
    blk_ext [idx t]
  have ht := (flush0_2 t).mp hf
  exact ((out_C m c t ht y0 y1).trans (sum_at m c t ht y0 y1)).trans (congrArg (R m c) e).symm

end Cert.DwOutIdeal.Hand

end
-- ==== Proof.DwOutClaim.lean ====
/- The attention output projection's weight gradient: the call's result is the reference's, at exact arithmetic. -/
module

public import Idealize.ShloMosaic.Lib.Pointwise
public import proofs.«01_k».proof.Proof.DwOutFinal
public import proofs.«01_k».proof.Proof.Gen.DwOutRefIdeal.Read

@[expose] public section

set_option maxRecDepth 16384

noncomputable section

namespace Cert.DwOutRefIdeal.Hand

open Idealize.ShloMosaic Idealize.SL.Sem
open Cert.DwOutRefIdeal Cert.DwOutRefIdeal.Gen Cert.DwOutRefIdeal.Read

theorem v5_at (x0 : FVec Ideal S8192x1024 .bf16) (x1 : FVec Ideal S8192x1024 .f32) (k j : Fin 1024) :
    val_main_v5 (F := Ideal) x0 x1 (ix2 k j) = DwSpec.dw (fun n k => x0 (ix2 n k)) (fun n k => x1 (ix2 n k)) k j := by
  pointwise [val_main_v5, val_main_v4, val_main_v3, val_main_v1, DwSpec.dw]
  exact Finset.sum_congr rfl fun n _ => mul_comm _ _

end Cert.DwOutRefIdeal.Hand

namespace Cert.DwOutIdeal.Hand

open Idealize.ShloMosaic Idealize.ShloMosaic.TcCoe
open Cert.DwOutIdeal

variable (m : (ℓ : Loc nD τ sig) → Buf (Elt Ideal) ℓ) (c : Dev nD)

theorem ref : Cert.DwOutRefIdeal.Read.val_main_v5 (F := Ideal) (m ((c : Thread nD τ).loc main_arg0)) (m ((c : Thread nD τ).loc main_arg1))
    = R m c := by
  funext i
  idx_vars i
  exact Cert.DwOutRefIdeal.Hand.v5_at _ _ i0 i1

end Cert.DwOutIdeal.Hand

end
-- ==== Proof.DwPleFinal.lean ====
/- The layer embedding's weight gradient: the call's result array as plain mathematics of its arguments. -/
module

public import Idealize.ShloMosaic.Lib.Pipeline.ValueKit
public import proofs.«01_k».proof.Proof.HostRows
public import proofs.«01_k».proof.Proof.Gen.DwPleIdeal.Value

@[expose] public section

set_option maxRecDepth 16384

noncomputable section

namespace Cert.DwPleIdeal.Hand

open Idealize.ShloMosaic Idealize.ShloMosaic.TcCoe Idealize.SL.Sem
open Idealize.ShloMosaic.Pipeline (Dat)
open Cert.DwPleIdeal Cert.DwPleIdeal.Gen Cert.DwPleIdeal.Value

variable (m : (ℓ : Loc nD τ sig) → Buf (Elt Ideal) ℓ)

/-- The two arguments as functions of their indices. -/
def X (c : Dev nD) (n : Fin 8192) (k : Fin 256) : EReal := (show FVec Ideal S2x8192x256 .f32 from m ((c : Thread nD τ).loc main_arg0)) (ix3 0 n k)
def Z (c : Dev nD) (n : Fin 8192) (k : Fin 1024) : EReal := (show FVec Ideal S8192x1024 .bf16 from m ((c : Thread nD τ).loc main_arg1)) (ix2 n k)

theorem idx : ∀ t : Fin cfg0.N, win0_0.index t = ![0, t.val % 4, 0] ∧ win0_1.index t = ![t.val % 4, 0]
    ∧ win0_2.index t = ![0, 0] :=
  (by decide +kernel : ∀ t : Fin grid0.N, _)

/-- Row `r` of point `t`'s blocks. -/
def row (t : Fin cfg0.N) (r : Fin 2048) : Fin 8192 := ⟨t.val % 4 * 2048 + r.val, by omega⟩

theorem b0_at (c : Dev nD) (t : Fin cfg0.N) (r : Fin 2048) (k : Fin 256) :
    (show FVec Ideal S1x2048x256 .f32 from iblk m c 0 t) (ix3 0 r k) = X m c (row t r) k := by
  unfold X row
  blk_ext [iblk, V_main_arg0, idx t]
theorem b1_at (c : Dev nD) (t : Fin cfg0.N) (r : Fin 2048) (j : Fin 1024) :
    (show FVec Ideal S2048x1024 .bf16 from iblk m c 1 t) (ix2 r j) = Z m c (row t r) j := by
  unfold Z row
  blk_ext [iblk, V_main_arg1, idx t]

/-- One point's share of the gradient. -/
def part (c : Dev nD) (t : Fin cfg0.N) (k : Fin 256) (j : Fin 1024) : EReal :=
  ∑ r : Fin 2048, X m c (row t r) k * Z m c (row t r) j

theorem pay2_at (x : FVec Ideal S1x2048x256 .f32) (a : FVec Ideal S256x1024 .f32) (z : FVec Ideal S2048x1024 .bf16)
    (k : Fin 256) (j : Fin 1024) :
    k0_pay2 (F := Ideal) x a z (ix2 k j) = a (ix2 k j) + ∑ r : Fin 2048, x (ix3 0 r k) * z (ix2 r j) := by
  pointwise [k0_pay2]

theorem step_at (c : Dev nD) (t : Fin cfg0.N) (a : FVec Ideal S256x1024 .f32) (k : Fin 256) (j : Fin 1024) :
    k0_pay2 (F := Ideal) (iblk m c 0 t) a (iblk m c 1 t) (ix2 k j) = a (ix2 k j) + part m c t k j := by
  refine (pay2_at (iblk m c 0 t) a (iblk m c 1 t) k j).trans (congrArg (a (ix2 k j) + ·) (Finset.sum_congr rfl fun r _ => ?_))
  exact congrArg₂ (· * ·) (b0_at m c t r k) (b1_at m c t r j)

theorem acc_A (c : Dev nD) (t : Fin cfg0.N) (h0 : t.val % 4 = 0) (h1 : ¬t.val % 4 = 3) (k : Fin 256) (j : Fin 1024) :
    (show FVec Ideal S256x1024 .f32 from (outsAt0 m c t.val t.isLt).2) (ix2 k j) = part m c t k j := by
  rw [outsAt0_A m c t h0 h1]; frame_out
  rw [step_at m c t]
  have e : k0_pay1 (F := Ideal) (ix2 k j) = 0 := by pointwise [k0_pay1]
  rw [e, zero_add]

theorem acc_BC (c : Dev nD) (t : Fin cfg0.N) (h0 : ¬t.val % 4 = 0) (k : Fin 256) (j : Fin 1024) :
    (show FVec Ideal S256x1024 .f32 from (outsAt0 m c t.val t.isLt).2) (ix2 k j)
    = (show FVec Ideal S256x1024 .f32 from (outsAt0 m c (t.val - 1) (Nat.lt_of_le_of_lt (Nat.sub_le _ _) t.isLt)).2) (ix2 k j)
      + part m c t k j := by
  by_cases h1 : t.val % 4 = 3
  · rw [outsAt0_C m c t h0 h1]; frame_out
    refine (step_at m c t _ k j).trans (congrArg (· + _) (congrFun (Memref.IsWhole.read_unread _ _) _))
  · rw [outsAt0_B m c t h0 h1]; frame_out
    refine (step_at m c t _ k j).trans (congrArg (· + _) (congrFun (Memref.IsWhole.read_unread _ _) _))

/-- The block written back is the carried sum. -/
theorem out_C (c : Dev nD) (t : Fin cfg0.N) (h1 : t.val % 4 = 3) (k : Fin 256) (j : Fin 1024) :
    (show FVec Ideal S256x1024 .bf16 from (outsAt0 m c t.val t.isLt).1) (ix2 k j)
    = (show FVec Ideal S256x1024 .f32 from (outsAt0 m c t.val t.isLt).2) (ix2 k j) := by
  rw [outsAt0_C m c t (by omega) h1]; frame_out
  pointwise [k0_pay3]

/-- The result array. -/
def R (c : Dev nD) : S256x1024.Idx → EReal := fun i => DwSpec.dw (X m c) (Z m c) (i 0) (i 1)

theorem sum_at (c : Dev nD) (t : Fin cfg0.N) (ht : t.val % 4 = 3) (k : Fin 256) (j : Fin 1024) :
    (show FVec Ideal S256x1024 .f32 from (outsAt0 m c t.val t.isLt).2) (ix2 k j)
    = DwSpec.dw (X m c) (Z m c) k j := by
  refine DwSpec.run_dw 4 2048 rfl (fun n hn => (show FVec Ideal S256x1024 .f32 from (outsAt0 m c n hn).2) (ix2 k j))
    (fun n hn => part m c ⟨n, hn⟩ k j) (fun n hn h => acc_A m c ⟨n, hn⟩ h (by simp; omega) k j)
    (fun n hn h => acc_BC m c ⟨n + 1, hn⟩ h k j) (fun s => X m c s k * Z m c s j) t.val t.isLt ht
    (by decide) (fun s hs hb => ?_)
  refine Finset.sum_congr rfl fun r _ => ?_
  have er : row ⟨t.val / 4 * 4 + s, hb⟩ r = ⟨s * 2048 + r.val, by omega⟩ := Fin.ext (by show (t.val / 4 * 4 + s) % 4 * 2048 + r.val = s * 2048 + r.val; omega)
  rw [er]

theorem final (c : Dev nD) : (dats m 0 c).arrAt 2 (cfgs 0).N = R m c := by
  refine (dats m 0 c).arrAt_eq_of_covers 2 _ (by decide +kernel) fun t hf y => ?_
  blk_simp
  rw [after0_2]
  idx_vars y
  have e : ((View.whole main_v0).slice (win0_2.rect t)).emb (ix2 y0 y1) = ix2 y0 y1 := by
    blk_ext [idx t]
  have ht := (flush0_2 t).mp hf
  exact ((out_C m c t ht y0 y1).trans (sum_at m c t ht y0 y1)).trans (congrArg (R m c) e).symm

end Cert.DwPleIdeal.Hand

end
-- ==== Proof.DwPleClaim.lean ====
/- The layer embedding's weight gradient: the call's result is the reference's, at exact arithmetic. -/
module

public import Idealize.ShloMosaic.Lib.Pointwise
public import proofs.«01_k».proof.Proof.DwPleFinal
public import proofs.«01_k».proof.Proof.Gen.DwPleRefIdeal.Read

@[expose] public section

set_option maxRecDepth 16384

noncomputable section

namespace Cert.DwPleRefIdeal.Hand

open Idealize.ShloMosaic Idealize.SL.Sem
open Cert.DwPleRefIdeal Cert.DwPleRefIdeal.Gen Cert.DwPleRefIdeal.Read

theorem v7_at (x0 : FVec Ideal S2x8192x256 .f32) (x1 : FVec Ideal S8192x1024 .bf16) (k : Fin 256) (j : Fin 1024) :
    val_main_v7 (F := Ideal) x0 x1 (ix2 k j) = DwSpec.dw (fun n k => x0 (ix3 0 n k)) (fun n k => x1 (ix2 n k)) k j := by
  pointwise [val_main_v7, val_main_v6, val_main_v5, val_main_v4, val_main_v2, val_main_v1, DwSpec.dw]
  exact Finset.sum_congr rfl fun n _ => mul_comm _ _

end Cert.DwPleRefIdeal.Hand

namespace Cert.DwPleIdeal.Hand

open Idealize.ShloMosaic Idealize.ShloMosaic.TcCoe
open Cert.DwPleIdeal

variable (m : (ℓ : Loc nD τ sig) → Buf (Elt Ideal) ℓ) (c : Dev nD)

theorem ref : Cert.DwPleRefIdeal.Read.val_main_v7 (F := Ideal) (m ((c : Thread nD τ).loc main_arg0)) (m ((c : Thread nD τ).loc main_arg1))
    = R m c := by
  funext i
  idx_vars i
  exact Cert.DwPleRefIdeal.Hand.v7_at _ _ i0 i1

end Cert.DwPleIdeal.Hand

end
-- ==== Proof.GateSpec.lean ====
/- The gated layer embedding as plain mathematics over the extended reals: the forward results and the gradients. -/
module

public import proofs.«01_k».proof.Proof.DwSpec

@[expose] public section

noncomputable section

namespace Cert.GateSpec

open Idealize.ShloMosaic
open Cert.MlpSpec (rr)
open Cert.DwSpec (hn)

variable (DH H : Fin 8192 → Fin 1024 → EReal) (G : Fin 1024 → EReal) (WG : Fin 1024 → Fin 1024 → EReal)
  (WP : Fin 256 → Fin 1024 → EReal) (P : Fin 8192 → Fin 256 → EReal)

/-- The sigmoid. -/
def sg (x : EReal) : EReal := Ideal.div 1 (1 + Ideal.exp (-x))

/-- The gate's pre-activation. -/
def gl (n : Fin 8192) (j : Fin 1024) : EReal := ∑ c : Fin 1024, hn H G n c * WG c j

/-- The embedding's projection. -/
def pe (n : Fin 8192) (j : Fin 1024) : EReal := ∑ c : Fin 256, P n c * WP c j

/-- The hidden row after the gated embedding. -/
def fwd (n : Fin 8192) (j : Fin 1024) : EReal := H n j + sg (gl H G WG n j) * pe WP P n j

/-- The projection's gradient. -/
def de (n : Fin 8192) (j : Fin 1024) : EReal := DH n j * sg (gl H G WG n j)

/-- The pre-activation's gradient. -/
def dgl (n : Fin 8192) (j : Fin 1024) : EReal :=
  DH n j * pe WP P n j * (sg (gl H G WG n j) * (1 - sg (gl H G WG n j)))

/-- The normalised row's gradient. -/
def dhn (n : Fin 8192) (d : Fin 1024) : EReal := ∑ c : Fin 1024, dgl DH H G WG WP P n c * WG d c

/-- The gain's gradient. -/
def dg (d : Fin 1024) : EReal := ∑ n : Fin 8192, dhn DH H G WG WP P n d * (H n d * rr H n)

/-- The hidden row's gradient: the residual's plus the norm's. -/
def dh2 (n : Fin 8192) (d : Fin 1024) : EReal :=
  DH n d + rr H n * (dhn DH H G WG WP P n d * G d - (H n d * rr H n)
    * Ideal.div (∑ k : Fin 1024, dhn DH H G WG WP P n k * G k * (H n k * rr H n)) (Ideal.ofBits .f32 0x44800000#32))

end Cert.GateSpec

end
-- ==== Proof.GateBwdPure.lean ====
/- The gated embedding's backward call: its stored blocks entry by entry. -/
module

public import Idealize.ShloMosaic.Lib.Pointwise
public import proofs.«01_k».proof.Proof.GateSpec
public import proofs.«01_k».proof.Proof.Gen.GateBwdIdeal.Skeleton

@[expose] public section

set_option maxRecDepth 16384

noncomputable section

namespace Cert.GateBwdIdeal.Hand

open Idealize.ShloMosaic Idealize.SL.Sem
open Cert.GateBwdIdeal Cert.GateBwdIdeal.Gen Cert.GateSpec
open Cert.MlpSpec (rr)

variable (row : Fin 512 → Fin 8192)
  (DH H : Fin 8192 → Fin 1024 → EReal) (G : Fin 1024 → EReal) (WG : Fin 1024 → Fin 1024 → EReal)
  (WP : Fin 256 → Fin 1024 → EReal) (P : Fin 8192 → Fin 256 → EReal)
  (x0 : FVec Ideal S512x1024 .f32) (x1 : FVec Ideal S512x1024 .bf16) (x2 : FVec Ideal S1x512x256 .f32)
  (x3 : FVec Ideal S1x256x1024 .bf16) (x4 : FVec Ideal S1x1024x1024 .bf16) (h D : FVec Ideal S512x1024 .f32) (g : FVec Ideal S1x1024 .f32)

section gate

variable (h0 : ∀ r k, x0 (ix2 r k) = DH (row r) k) (h1 : ∀ r k, x1 (ix2 r k) = gl H G WG (row r) k)
  (h2 : ∀ r k, x2 (ix3 0 r k) = P (row r) k) (h3 : ∀ k j, x3 (ix3 0 k j) = WP k j) (h4 : ∀ k j, x4 (ix3 0 k j) = WG k j)

include h1 in
theorem sg_point (r : Fin 512) (j : Fin 1024) : k0_pay6 (F := Ideal) x1 (ix2 r j) = sg (gl H G WG (row r) j) := by
  pointwise [k0_pay6, h1, sg, zero_sub]

include h0 h1 in
theorem de_point (r : Fin 512) (j : Fin 1024) : k0_pay7 (F := Ideal) x0 x1 (ix2 r j) = de DH H G WG (row r) j := by
  pointwise [k0_pay7, sg_point row H G WG x1 h1, h0, de]

include h0 h1 h2 h3 in
theorem dgl_point (r : Fin 512) (j : Fin 1024) : k0_pay8 (F := Ideal) x0 x1 x2 x3 (ix2 r j) = dgl DH H G WG WP P (row r) j := by
  pointwise [k0_pay8, sg_point row H G WG x1 h1, h0, h2, h3, dgl, pe]

include h0 h1 h2 h3 h4 in
theorem dhn_point (r : Fin 512) (d : Fin 1024) : k0_pay9 (F := Ideal) x0 x1 x2 x3 x4 (ix2 r d) = dhn DH H G WG WP P (row r) d := by
  pointwise [k0_pay9, dgl_point row DH H G WG WP P x0 x1 x2 x3 h0 h1 h2 h3, h4, dhn]

end gate

/-- The row's reciprocal root mean square. -/
def rrT (h : FVec Ideal S512x1024 .f32) (r : Fin 512) : EReal :=
  Ideal.rsqrt (Ideal.div (∑ k : Fin 1024, h (ix2 r k) * h (ix2 r k)) (Ideal.ofBits .f32 0x44800000#32)
    + Ideal.ofBits .f32 0x358637BD#32)

theorem rrT_eq (hh : ∀ r k, h (ix2 r k) = H (row r) k) (r : Fin 512) : rrT h r = rr H (row r) := by
  simp only [rrT, rr, hh]

theorem pay3_at (v : FVec Ideal S512x1024 .f32) (r : Fin 512) (d : Fin 1024) :
    k0_pay3 (F := Ideal) v D h g (ix2 r d)
    = v (ix2 r d) + rrT h r * (D (ix2 r d) * g (ix2 0 d) - (h (ix2 r d) * rrT h r)
        * Ideal.div (∑ k : Fin 1024, D (ix2 r k) * g (ix2 0 k) * (h (ix2 r k) * rrT h r)) (Ideal.ofBits .f32 0x44800000#32)) := by
  pointwise [k0_pay3, k0_pay2, k0_pay1, rrT]

theorem pay4_at (d : Fin 1024) :
    k0_pay4 (F := Ideal) D h (ix2 0 d) = ∑ r : Fin 512, D (ix2 r d) * (h (ix2 r d) * rrT h r) := by
  pointwise [k0_pay4, k0_pay2, k0_pay1, rrT]

theorem pay5_at (acc : FVec Ideal S1x1024 .f32) (d : Fin 1024) :
    k0_pay5 (F := Ideal) D h acc (ix2 0 d) = acc (ix2 0 d) + k0_pay4 (F := Ideal) D h (ix2 0 d) := by
  pointwise [k0_pay5]

/-- The stored block of the hidden rows' gradient. -/
theorem dh2_point (h0 : ∀ r k, x0 (ix2 r k) = DH (row r) k) (hD : ∀ r d, D (ix2 r d) = dhn DH H G WG WP P (row r) d)
    (hh : ∀ r k, h (ix2 r k) = H (row r) k) (hg : ∀ k, g (ix2 0 k) = G k) (r : Fin 512) (d : Fin 1024) :
    k0_pay3 (F := Ideal) x0 D h g (ix2 r d) = dh2 DH H G WG WP P (row r) d := by
  rw [pay3_at]
  simp only [dh2, rrT_eq row H h hh, h0, hD, hh, hg]

/-- One row block's share of the gain's gradient. -/
theorem dg_point (hD : ∀ r d, D (ix2 r d) = dhn DH H G WG WP P (row r) d) (hh : ∀ r k, h (ix2 r k) = H (row r) k) (d : Fin 1024) :
    k0_pay4 (F := Ideal) D h (ix2 0 d) = ∑ r : Fin 512, dhn DH H G WG WP P (row r) d * (H (row r) d * rr H (row r)) := by
  rw [pay4_at]
  simp only [rrT_eq row H h hh, hD, hh]

end Cert.GateBwdIdeal.Hand

end
-- ==== Proof.GateBwdFinal.lean ====
/- The gated embedding's backward call: its four result arrays as plain mathematics of its arguments. -/
module

public import Idealize.ShloMosaic.Lib.Pipeline.ValueKit
public import proofs.«01_k».proof.Proof.GateBwdPure
public import proofs.«01_k».proof.Proof.Gen.GateBwdIdeal.Value

@[expose] public section

set_option maxRecDepth 16384

noncomputable section

namespace Cert.GateBwdIdeal.Hand

open Idealize.ShloMosaic Idealize.ShloMosaic.TcCoe Idealize.SL.Sem
open Idealize.ShloMosaic.Pipeline (Dat)
open Cert.GateBwdIdeal Cert.GateBwdIdeal.Gen Cert.GateBwdIdeal.Value

/-- The gate's pre-activation as the forward pass saves it. -/
def glTerm (x1 : FVec Ideal S8192x1024 .f32) (x2 : FVec Ideal S1024 .f32) (x3 : FVec Ideal S1024x1024 .f32) : FVec Ideal S8192x1024 .bf16 :=
  truncf .bf16 (Host.dotGeneral dot_S8192x1024_S1024x1024_S8192x1024_1_0_0_1_n_n none
    (mulf (mulf x1 (broadcastInDim S8192x1024 ![0, 1] bcast_S8192x1_S8192x1024_0_1
        (Host.rsqrt (addf (Host.divf (broadcastInDim S8192x1 ![0] bcast_S8192_S8192x1_0
            (Host.reduceAdd (mulf x1 x1) (constant S_ .f32 0x00000000#32) reducesTo_S8192x1024_S8192_d1 h_S_))
          (broadcastInDim S8192x1 ![] bcast_S_S8192x1 (constant S_ .f32 0x44800000#32)))
          (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 x2))) x3) bitsLt_bf16_f32

theorem glTerm_at (x1 : FVec Ideal S8192x1024 .f32) (x2 : FVec Ideal S1024 .f32) (x3 : FVec Ideal S1024x1024 .f32) (n : Fin 8192) (j : Fin 1024) :
    glTerm x1 x2 x3 (ix2 n j) = GateSpec.gl (fun n k => x1 (ix2 n k)) (fun k => x2 (ix1 k)) (fun k j => x3 (ix2 k j)) n j := by
  pointwise [glTerm, GateSpec.gl, DwSpec.hn, MlpSpec.rr, zero_add]

variable (m : (ℓ : Loc nD τ sig) → Buf (Elt Ideal) ℓ)

/-- The six arguments as functions of their indices; of the embeddings, the layer's. -/
def DH (c : Dev nD) (n : Fin 8192) (k : Fin 1024) : EReal := (show FVec Ideal S8192x1024 .f32 from m ((c : Thread nD τ).loc main_arg0)) (ix2 n k)
def H (c : Dev nD) (n : Fin 8192) (k : Fin 1024) : EReal := (show FVec Ideal S8192x1024 .f32 from m ((c : Thread nD τ).loc main_arg1)) (ix2 n k)
def G (c : Dev nD) (k : Fin 1024) : EReal := (show FVec Ideal S1024 .f32 from m ((c : Thread nD τ).loc main_arg2)) (ix1 k)
def WG (c : Dev nD) (k j : Fin 1024) : EReal := (show FVec Ideal S1024x1024 .f32 from m ((c : Thread nD τ).loc main_arg3)) (ix2 k j)
def WP (c : Dev nD) (k : Fin 256) (j : Fin 1024) : EReal := (show FVec Ideal S256x1024 .f32 from m ((c : Thread nD τ).loc main_arg4)) (ix2 k j)
def P (c : Dev nD) (n : Fin 8192) (k : Fin 256) : EReal := (show FVec Ideal S2x8192x256 .f32 from m ((c : Thread nD τ).loc main_arg5)) (ix3 0 n k)

theorem V_v14 (c : Dev nD) : V m c main_v14 = glTerm (m ((c : Thread nD τ).loc main_arg1)) (m ((c : Thread nD τ).loc main_arg2))
    (m ((c : Thread nD τ).loc main_arg3)) := by
  unfold V; after_results; try rfl
theorem V_v16 (c : Dev nD) : V m c main_v16 = (broadcastInDim S1x256x1024 ![1, 2] bcast_S256x1024_S1x256x1024_1_2
    (truncf .bf16 (show FVec Ideal S256x1024 .f32 from m ((c : Thread nD τ).loc main_arg4)) bitsLt_bf16_f32) : FVec Ideal S1x256x1024 .bf16) := by
  unfold V; after_results; try rfl
theorem V_v18 (c : Dev nD) : V m c main_v18 = (broadcastInDim S1x1024x1024 ![1, 2] bcast_S1024x1024_S1x1024x1024_1_2
    (truncf .bf16 (show FVec Ideal S1024x1024 .f32 from m ((c : Thread nD τ).loc main_arg3)) bitsLt_bf16_f32) : FVec Ideal S1x1024x1024 .bf16) := by
  unfold V; after_results; try rfl
theorem V_v19 (c : Dev nD) : V m c main_v19 = (broadcastInDim S1x1024 ![1] bcast_S1024_S1x1024_1
    (show FVec Ideal S1024 .f32 from m ((c : Thread nD τ).loc main_arg2)) : FVec Ideal S1x1024 .f32) := by
  unfold V; after_results; try rfl

theorem idx : ∀ t : Fin cfg0.N, win0_0.index t = ![t.val, 0] ∧ win0_1.index t = ![t.val, 0] ∧ win0_2.index t = ![0, t.val, 0]
    ∧ win0_3.index t = ![0, 0, 0] ∧ win0_4.index t = ![0, 0, 0] ∧ win0_5.index t = ![t.val, 0] ∧ win0_6.index t = ![0, 0]
    ∧ win0_7.index t = ![t.val, 0] ∧ win0_8.index t = ![0, 0] ∧ win0_9.index t = ![t.val, 0] ∧ win0_10.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = DH m c (row t r) k := by
  unfold DH row
  blk_ext [iblk, V_main_arg0, idx t]
theorem b1_at (c : Dev nD) (t : Fin cfg0.N) (r : Fin 512) (k : Fin 1024) :
    (show FVec Ideal S512x1024 .bf16 from iblk m c 1 t) (ix2 r k) = GateSpec.gl (H m c) (G m c) (WG m c) (row t r) k := by
  refine Eq.trans ?_ (glTerm_at (m ((c : Thread nD τ).loc main_arg1)) (m ((c : Thread nD τ).loc main_arg2)) (m ((c : Thread nD τ).loc main_arg3)) (row t r) k)
  unfold row
  blk_ext [iblk, V_v14, idx t]
theorem b2_at (c : Dev nD) (t : Fin cfg0.N) (r : Fin 512) (k : Fin 256) :
    (show FVec Ideal S1x512x256 .f32 from iblk m c 2 t) (ix3 0 r k) = P m c (row t r) k := by
  unfold P row
  blk_ext [iblk, V_main_arg5, idx t]
theorem b3_at (c : Dev nD) (t : Fin cfg0.N) (k : Fin 256) (j : Fin 1024) :
    (show FVec Ideal S1x256x1024 .bf16 from iblk m c 3 t) (ix3 0 k j) = WP m c k j := by
  unfold WP
  blk_simp [iblk, idx t]
  entry_read
  pointwise
  blk_ext [idx t]
theorem b4_at (c : Dev nD) (t : Fin cfg0.N) (k j : Fin 1024) :
    (show FVec Ideal S1x1024x1024 .bf16 from iblk m c 4 t) (ix3 0 k j) = WG m c k j := by
  unfold WG
  blk_simp [iblk, idx t]
  entry_read
  pointwise
  blk_ext [idx t]
theorem b5_at (c : Dev nD) (t : Fin cfg0.N) (r : Fin 512) (k : Fin 1024) :
    (show FVec Ideal S512x1024 .f32 from iblk m c 5 t) (ix2 r k) = H m c (row t r) k := by
  unfold H row
  blk_ext [iblk, V_main_arg1, idx t]
theorem b6_at (c : Dev nD) (t : Fin cfg0.N) (k : Fin 1024) :
    (show FVec Ideal S1x1024 .f32 from iblk m c 6 t) (ix2 0 k) = G m c k := by
  unfold G
  blk_simp [iblk, idx t]
  entry_read
  pointwise
  blk_ext [idx t]

/-- The four result arrays. -/
def R7 (c : Dev nD) : S8192x1024.Idx → EReal := fun i => GateSpec.dh2 (DH m c) (H m c) (G m c) (WG m c) (WP m c) (P m c) (i 0) (i 1)
def R8 (c : Dev nD) : S1x1024.Idx → EReal := fun i => GateSpec.dg (DH m c) (H m c) (G m c) (WG m c) (WP m c) (P m c) (i 1)
def R9 (c : Dev nD) : S8192x1024.Idx → EReal := fun i => GateSpec.de (DH m c) (H m c) (G m c) (WG m c) (i 0) (i 1)
def R10 (c : Dev nD) : S8192x1024.Idx → EReal := fun i => GateSpec.dgl (DH m c) (H m c) (G m c) (WG m c) (WP m c) (P m c) (i 0) (i 1)

/-- The normalised rows' gradient at a point. -/
def D (c : Dev nD) (t : Fin cfg0.N) : FVec Ideal S512x1024 .f32 :=
  k0_pay9 (F := Ideal) (iblk m c 0 t) (iblk m c 1 t) (iblk m c 2 t) (iblk m c 3 t) (iblk m c 4 t)

theorem D_at (c : Dev nD) (t : Fin cfg0.N) (r : Fin 512) (d : Fin 1024) :
    D m c t (ix2 r d) = GateSpec.dhn (DH m c) (H m c) (G m c) (WG m c) (WP m c) (P m c) (row t r) d :=
  dhn_point (row t) (DH m c) (H m c) (G m c) (WG m c) (WP m c) (P m c) (iblk m c 0 t) (iblk m c 1 t) (iblk m c 2 t) (iblk m c 3 t) (iblk m c 4 t)
    (b0_at m c t) (b1_at m c t) (b2_at m c t) (b3_at m c t) (b4_at m c t) r d

theorem outs7 (c : Dev nD) (t : Fin cfg0.N) (r : Fin 512) (d : Fin 1024) :
    (show FVec Ideal S512x1024 .f32 from (outsAt0 m c t.val t.isLt).1) (ix2 r d)
    = GateSpec.dh2 (DH m c) (H m c) (G m c) (WG m c) (WP m c) (P m c) (row t r) d := by
  have hN := lt_of_lt_of_eq t.isLt N_0
  have e := dh2_point (row t) (DH m c) (H m c) (G m c) (WG m c) (WP m c) (P m c) (iblk m c 0 t) (iblk m c 5 t) (D m c t) (iblk m c 6 t)
    (b0_at m c t) (D_at m c t) (b5_at m c t) (b6_at m c t) r d
  unfold D at e
  by_cases h0 : t.val % 16 = 0
  · rw [outsAt0_A m c t h0 (by omega)]; frame_out; exact e
  · rw [outsAt0_B m c t h0 (by omega)]; frame_out; exact e

theorem outs9 (c : Dev nD) (t : Fin cfg0.N) (r : Fin 512) (j : Fin 1024) :
    (show FVec Ideal S512x1024 .bf16 from (outsAt0 m c t.val t.isLt).2.2.1) (ix2 r j)
    = GateSpec.de (DH m c) (H m c) (G m c) (WG m c) (row t r) j := by
  have hN := lt_of_lt_of_eq t.isLt N_0
  have e := de_point (row t) (DH m c) (H m c) (G m c) (WG m c) (iblk m c 0 t) (iblk m c 1 t) (b0_at m c t) (b1_at m c t) r j
  by_cases h0 : t.val % 16 = 0
  · rw [outsAt0_A m c t h0 (by omega)]; frame_out; exact e
  · rw [outsAt0_B m c t h0 (by omega)]; frame_out; exact e

theorem outs10 (c : Dev nD) (t : Fin cfg0.N) (r : Fin 512) (j : Fin 1024) :
    (show FVec Ideal S512x1024 .bf16 from (outsAt0 m c t.val t.isLt).2.2.2) (ix2 r j)
    = GateSpec.dgl (DH m c) (H m c) (G m c) (WG m c) (WP m c) (P m c) (row t r) j := by
  have hN := lt_of_lt_of_eq t.isLt N_0
  have e := dgl_point (row t) (DH m c) (H m c) (G m c) (WG m c) (WP m c) (P m c) (iblk m c 0 t) (iblk m c 1 t) (iblk m c 2 t) (iblk m c 3 t)
    (b0_at m c t) (b1_at m c t) (b2_at m c t) (b3_at m c t) r j
  by_cases h0 : t.val % 16 = 0
  · rw [outsAt0_A m c t h0 (by omega)]; frame_out; exact e
  · rw [outsAt0_B m c t h0 (by omega)]; frame_out; exact e

/-- Row block `t`'s share of the gain's gradient. -/
def part (c : Dev nD) (t : Fin cfg0.N) (d : Fin 1024) : EReal :=
  ∑ r : Fin 512, GateSpec.dhn (DH m c) (H m c) (G m c) (WG m c) (WP m c) (P m c) (row t r) d * (H m c (row t r) d * MlpSpec.rr (H m c) (row t r))

theorem part_at (c : Dev nD) (t : Fin cfg0.N) (d : Fin 1024) :
    k0_pay4 (F := Ideal) (D m c t) (iblk m c 5 t) (ix2 0 d) = part m c t d :=
  dg_point (row t) (DH m c) (H m c) (G m c) (WG m c) (WP m c) (P m c) (iblk m c 5 t) (D m c t) (D_at m c t) (b5_at m c t) d

theorem outs8_A (c : Dev nD) (t : Fin cfg0.N) (h0 : t.val % 16 = 0) (h1 : ¬1 ≤ t.val) (d : Fin 1024) :
    (show FVec Ideal S1x1024 .f32 from (outsAt0 m c t.val t.isLt).2.1) (ix2 0 d) = part m c t d := by
  have e := part_at m c t d
  unfold D at e
  rw [outsAt0_A m c t h0 h1]; frame_out; exact e

theorem outs8_B (c : Dev nD) (t : Fin cfg0.N) (h0 : ¬t.val % 16 = 0) (h1 : 1 ≤ t.val) (d : Fin 1024) :
    (show FVec Ideal S1x1024 .f32 from (outsAt0 m c t.val t.isLt).2.1) (ix2 0 d)
    = (show FVec Ideal S1x1024 .f32 from (outsAt0 m c (t.val - 1) (Nat.lt_of_le_of_lt (Nat.sub_le _ _) t.isLt)).2.1) (ix2 0 d) + part m c t d := by
  have e := part_at m c t d
  unfold D at e
  rw [outsAt0_B m c t h0 h1]; frame_out
  exact (pay5_at _ _ _ d).trans (congrArg _ e)

theorem sum8 (c : Dev nD) (t : Fin cfg0.N) (ht : t.val % 16 = 15) (d : Fin 1024) :
    (show FVec Ideal S1x1024 .f32 from (outsAt0 m c t.val t.isLt).2.1) (ix2 0 d)
    = ∑ s : Fin 16, part m c ⟨s.val, lt_of_lt_of_eq s.isLt N_0.symm⟩ d := by
  have key : ∀ n (hn : n < cfg0.N), (show FVec Ideal S1x1024 .f32 from (outsAt0 m c n hn).2.1) (ix2 0 d)
      = ∑ s : Fin (n + 1), part m c ⟨s.val, lt_of_le_of_lt (Nat.le_of_lt_succ s.isLt) hn⟩ d := by
    intro n
    induction n with
    | zero => intro hn; rw [Fin.sum_univ_one]; exact outs8_A m c ⟨0, hn⟩ rfl (by simp) d
    | succ n ih =>
      intro hn
      have hN := lt_of_lt_of_eq hn N_0
      rw [Fin.sum_univ_castSucc]
      refine (outs8_B m c ⟨n + 1, hn⟩ (by simp; omega) (by simp) d).trans ?_
      exact congrArg (· + _) (ih (Nat.lt_of_succ_lt hn))
  have hN := lt_of_lt_of_eq t.isLt N_0
  obtain ⟨n, hn⟩ := t
  obtain rfl : n = 15 := by simp at ht hN; omega
  exact key 15 hn

theorem sum8' (c : Dev nD) (d : Fin 1024) :
    ∑ s : Fin 16, part m c ⟨s.val, lt_of_lt_of_eq s.isLt N_0.symm⟩ d = GateSpec.dg (DH m c) (H m c) (G m c) (WG m c) (WP m c) (P m c) d := by
  unfold GateSpec.dg part row
  exact (Fin.sum_univ_tiles 16 512 rfl (fun n : Fin 8192 => GateSpec.dhn (DH m c) (H m c) (G m c) (WG m c) (WP m c) (P m c) n d * (H m c n d * MlpSpec.rr (H m c) n))).symm

theorem final7 (c : Dev nD) : (dats m 0 c).arrAt 7 (cfgs 0).N = R7 m c := by
  refine (dats m 0 c).arrAt_eq_of_covers 7 _ (by decide +kernel) fun t hf y => ?_
  blk_simp
  rw [after0_7]
  idx_vars y
  have e : ((View.whole main_v20_0).slice (win0_7.rect t)).emb (ix2 y0 y1) = ix2 (row t y0) y1 := by
    unfold row; blk_ext [idx t]
  refine (outs7 m c t y0 y1).trans (congrArg (R7 m c) e).symm

theorem final9 (c : Dev nD) : (dats m 0 c).arrAt 9 (cfgs 0).N = R9 m c := by
  refine (dats m 0 c).arrAt_eq_of_covers 9 _ (by decide +kernel) fun t hf y => ?_
  blk_simp
  rw [after0_9]
  idx_vars y
  have e : ((View.whole main_v20_2).slice (win0_9.rect t)).emb (ix2 y0 y1) = ix2 (row t y0) y1 := by
    unfold row; blk_ext [idx t]
  refine (outs9 m c t y0 y1).trans (congrArg (R9 m c) e).symm

theorem final10 (c : Dev nD) : (dats m 0 c).arrAt 10 (cfgs 0).N = R10 m c := by
  refine (dats m 0 c).arrAt_eq_of_covers 10 _ (by decide +kernel) fun t hf y => ?_
  blk_simp
  rw [after0_10]
  idx_vars y
  have e : ((View.whole main_v20_3).slice (win0_10.rect t)).emb (ix2 y0 y1) = ix2 (row t y0) y1 := by
    unfold row; blk_ext [idx t]
  refine (outs10 m c t y0 y1).trans (congrArg (R10 m c) e).symm

theorem final8 (c : Dev nD) : (dats m 0 c).arrAt 8 (cfgs 0).N = R8 m c := by
  refine (dats m 0 c).arrAt_eq_of_covers 8 _ (by decide +kernel) fun t hf y => ?_
  blk_simp
  rw [after0_8]
  idx_vars y
  obtain rfl : y0 = 0 := Subsingleton.elim _ _
  have e : ((View.whole main_v20_1).slice (win0_8.rect t)).emb (ix2 0 y1) = ix2 0 y1 := by
    blk_ext [idx t]
  refine ((sum8 m c t ((flush0_8 t).mp hf) y1).trans (sum8' m c y1)).trans (congrArg (R8 m c) e).symm

end Cert.GateBwdIdeal.Hand

end
-- ==== Proof.GateBwdRef.lean ====
/- The gated embedding's reference gradient, its stages read entry by entry over the extended reals. -/
module

public import Idealize.ShloMosaic.Lib.Pointwise
public import proofs.«01_k».proof.Proof.GateSpec
public import proofs.«01_k».proof.Proof.Gen.GateBwdRefIdeal.Read

@[expose] public section

set_option maxRecDepth 16384

noncomputable section

namespace Cert.GateBwdRefIdeal.Hand

open Idealize.ShloMosaic Idealize.SL.Sem
open Cert.GateBwdRefIdeal Cert.GateBwdRefIdeal.Gen Cert.GateBwdRefIdeal.Read

variable (x0 x1 : FVec Ideal S8192x1024 .f32) (x2 : FVec Ideal S1024 .f32) (x3 : FVec Ideal S1024x1024 .f32)
  (x4 : FVec Ideal S256x1024 .f32) (x5 : FVec Ideal S2x8192x256 .f32)

/-- An array of two axes, and of one, as functions of their indices; of three, its first slice. -/
abbrev m2 {a b : ℕ} (x : (⟨2, ![a, b]⟩ : Shape).Idx → EReal) (i : Fin a) (j : Fin b) : EReal := x (ix2 i j)
abbrev m1 {a : ℕ} (x : (⟨1, ![a]⟩ : Shape).Idx → EReal) (i : Fin a) : EReal := x (ix1 i)
abbrev m3 {a b : ℕ} (x : (⟨3, ![2, a, b]⟩ : Shape).Idx → EReal) (i : Fin a) (j : Fin b) : EReal := x (ix3 0 i j)

theorem v7_at (n : Fin 8192) (z : Fin 1) : val_main_v7 (F := Ideal) x1 (ix2 n z) = MlpSpec.rr (m2 x1) n := by
  pointwise [val_main_v7, val_main_v6, val_main_v5, val_main_v4, val_main_v3, val_main_v2, val_main_v1, val_main_v0,
    val_main_cst, val_main_cst_0, val_main_cst_1, MlpSpec.rr, zero_add]

theorem v16_at (n : Fin 8192) (j : Fin 1024) : val_main_v16 (F := Ideal) x1 x2 x3 (ix2 n j) = GateSpec.gl (m2 x1) (m1 x2) (m2 x3) n j := by
  pointwise [val_main_v16, val_main_v15, val_main_v14, val_main_v13, val_main_v12, val_main_v11, v7_at, GateSpec.gl, DwSpec.hn]

theorem v19_at (n : Fin 8192) (j : Fin 1024) : val_main_v19 (F := Ideal) x4 x5 (ix2 n j) = GateSpec.pe (m2 x4) (m3 x5) n j := by
  pointwise [val_main_v19, val_main_v18, val_main_v17, GateSpec.pe]

theorem v25_at (n : Fin 8192) (j : Fin 1024) :
    val_main_v25 (F := Ideal) x1 x2 x3 (ix2 n j) = GateSpec.sg (GateSpec.gl (m2 x1) (m1 x2) (m2 x3) n j) := by
  pointwise [val_main_v25, val_main_v24, val_main_v23, val_main_v22, val_main_v21, val_main_v20, val_main_cst_3, val_main_cst_4, v16_at, GateSpec.sg]

theorem v56_at (n : Fin 8192) (j : Fin 1024) :
    val_main_v56 (F := Ideal) x0 x1 x2 x3 (ix2 n j) = GateSpec.de (m2 x0) (m2 x1) (m1 x2) (m2 x3) n j := by
  pointwise [val_main_v56, val_main_v30, v25_at, GateSpec.de]
  exact mul_comm _ _

theorem v32_at (n : Fin 8192) (j : Fin 1024) :
    val_main_v32 (F := Ideal) x0 x1 x2 x3 x4 x5 (ix2 n j) = GateSpec.dgl (m2 x0) (m2 x1) (m1 x2) (m2 x3) (m2 x4) (m3 x5) n j := by
  pointwise [val_main_v32, val_main_v31, val_main_v28, val_main_v27, val_main_v26, val_main_cst_5, v19_at, v25_at, GateSpec.dgl]

theorem v57_at (n : Fin 8192) (j : Fin 1024) :
    val_main_v57 (F := Ideal) x0 x1 x2 x3 x4 x5 (ix2 n j) = GateSpec.dgl (m2 x0) (m2 x1) (m1 x2) (m2 x3) (m2 x4) (m3 x5) n j := by
  pointwise [val_main_v57, v32_at]

theorem v33_at (n : Fin 8192) (d : Fin 1024) :
    val_main_v33 (F := Ideal) x0 x1 x2 x3 x4 x5 (ix2 n d) = GateSpec.dhn (m2 x0) (m2 x1) (m1 x2) (m2 x3) (m2 x4) (m3 x5) n d := by
  pointwise [val_main_v33, v32_at, GateSpec.dhn]

theorem v55_at (d : Fin 1024) :
    val_main_v55 (F := Ideal) x0 x1 x2 x3 x4 x5 (ix2 0 d) = GateSpec.dg (m2 x0) (m2 x1) (m1 x2) (m2 x3) (m2 x4) (m3 x5) d := by
  pointwise [val_main_v55, val_main_v39, val_main_cst_7, val_main_v36, val_main_v35, val_main_cst_6, val_main_v34, val_main_v12, val_main_v11,
    v7_at, v33_at, GateSpec.dg, zero_add]
  rw [Fin.sum_univ_one]
  exact Finset.sum_congr rfl fun n _ => mul_comm _ _

theorem v54_at (n : Fin 8192) (d : Fin 1024) :
    val_main_v54 (F := Ideal) x0 x1 x2 x3 x4 x5 (ix2 n d)
    = m2 x0 n d + (GateSpec.dhn (m2 x0) (m2 x1) (m1 x2) (m2 x3) (m2 x4) (m3 x5) n d * m1 x2 d * MlpSpec.rr (m2 x1) n
      + m2 x1 n d * Ideal.div ((∑ k : Fin 1024, m2 x1 n k * (GateSpec.dhn (m2 x0) (m2 x1) (m1 x2) (m2 x3) (m2 x4) (m3 x5) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32)
      + Ideal.div ((∑ k : Fin 1024, m2 x1 n k * (GateSpec.dhn (m2 x0) (m2 x1) (m1 x2) (m2 x3) (m2 x4) (m3 x5) n k * m1 x2 k))
          * (Ideal.ofBits .f32 0xBF000000#32 * Ideal.div (MlpSpec.rr (m2 x1) n)
            (Ideal.div (∑ k : Fin 1024, m2 x1 n k * m2 x1 n k) (Ideal.ofBits .f32 0x44800000#32) + Ideal.ofBits .f32 0x358637BD#32)))
        (Ideal.ofBits .f32 0x44800000#32) * m2 x1 n d) := by
  pointwise [val_main_v54, val_main_v53, val_main_v52, val_main_v51, val_main_v50, val_main_v49, val_main_v48, val_main_cst_10,
    val_main_v47, val_main_v46, val_main_cst_9, val_main_v45, val_main_v44, val_main_v43, val_main_v42, val_main_v41, val_main_cst_8,
    val_main_v40, val_main_v38, val_main_v37, val_main_v13, val_main_v10, val_main_v9, val_main_cst_2, val_main_v8, v7_at, v33_at,
    val_main_v6, val_main_v5, val_main_v4, val_main_v3, val_main_v2, val_main_v1, val_main_v0,
    val_main_cst, val_main_cst_0, val_main_cst_1, zero_add, Fin.sum_univ_one]

end Cert.GateBwdRefIdeal.Hand

end
-- ==== Proof.GateBwdClaim.lean ====
/- The gated embedding's backward call gives the reference's four results, at exact arithmetic on finite arguments. -/
module

public import Idealize.ShloMosaic.Lib.ReduceAll
public import proofs.«01_k».proof.Proof.MlpAlg
public import proofs.«01_k».proof.Proof.GateBwdFinal
public import proofs.«01_k».proof.Proof.GateBwdRef
public import proofs.«01_k».proof.Proof.Gen.Pre_finite_gate

@[expose] public section

set_option maxRecDepth 16384

noncomputable section

namespace Cert.Pre_finite_gate.Hand

open Idealize.ShloMosaic Cert.Pre_finite_gate Cert.Pre_finite_gate.Facts

instance : Subsingleton S_.Idx := ⟨fun a b => funext fun i => i.elim0⟩

variable [Facts]

/-- What the precondition says: every entry of the six arguments is a real number. -/
theorem all_real {x0 x1 : FVec Ideal S8192x1024 .f32} {x2 : FVec Ideal S1024 .f32} {x3 : FVec Ideal S1024x1024 .f32}
    {x4 : FVec Ideal S256x1024 .f32} {x5 : FVec Ideal S2x8192x256 .f32} (h : fn (F := Ideal) x0 x1 x2 x3 x4 x5 = fun _ => 1#1) :
    (∀ i, MlpSpec.IsR (x0 i)) ∧ (∀ i, MlpSpec.IsR (x1 i)) ∧ (∀ i, MlpSpec.IsR (x2 i)) ∧ (∀ i, MlpSpec.IsR (x3 i))
      ∧ (∀ i, MlpSpec.IsR (x4 i)) ∧ ∀ i, MlpSpec.IsR (x5 i) := by
  have h := congrFun h (fun i => i.elim0)
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => MlpSpec.isR_of_lt (Host.reduce_andi_all _ _ _ _ _ h0 i), fun i => MlpSpec.isR_of_lt (Host.reduce_andi_all _ _ _ _ _ h1 i),
    fun i => MlpSpec.isR_of_lt (Host.reduce_andi_all _ _ _ _ _ h2 i), fun i => MlpSpec.isR_of_lt (Host.reduce_andi_all _ _ _ _ _ h3 i),
    fun i => MlpSpec.isR_of_lt (Host.reduce_andi_all _ _ _ _ _ h4 i), fun i => MlpSpec.isR_of_lt (Host.reduce_andi_all _ _ _ _ _ h5 i)⟩

end Cert.Pre_finite_gate.Hand

namespace Cert.GateSpec

open Idealize.ShloMosaic
open Cert.MlpSpec (IsR isR_rr)

variable {DH H : Fin 8192 → Fin 1024 → EReal} {G : Fin 1024 → EReal} {WG : Fin 1024 → Fin 1024 → EReal}
  {WP : Fin 256 → Fin 1024 → EReal} {P : Fin 8192 → Fin 256 → EReal}

/-- The sigmoid of a real number, and one less it, are real numbers. -/
theorem isR_sg {x : EReal} (h : IsR x) : IsR (sg x * (1 - sg x)) := by
  obtain ⟨r, rfl⟩ := h
  have e : sg (r : EReal) = (((1 + Real.exp (-r))⁻¹ : ℝ) : EReal) := Ideal.logistic_coe r
  exact IsR.mul ⟨_, e⟩ ⟨1 - (1 + Real.exp (-r))⁻¹, by rw [e, EReal.coe_sub, EReal.coe_one]⟩

theorem isR_gl (hH : ∀ n k, IsR (H n k)) (hG : ∀ k, IsR (G k)) (hW : ∀ k j, IsR (WG k j)) (n : Fin 8192) (j : Fin 1024) : IsR (gl H G WG n j) :=
  .sum fun k => (((hH n k).mul (isR_rr hH n)).mul (hG k)).mul (hW k j)

theorem isR_dhn (hD : ∀ n k, IsR (DH n k)) (hH : ∀ n k, IsR (H n k)) (hG : ∀ k, IsR (G k)) (hW : ∀ k j, IsR (WG k j))
    (hE : ∀ k j, IsR (WP k j)) (hP : ∀ n k, IsR (P n k)) (n : Fin 8192) (d : Fin 1024) : IsR (dhn DH H G WG WP P n d) :=
  .sum fun c => (((hD n c).mul (.sum fun k => (hP n k).mul (hE k c))).mul (isR_sg (isR_gl hH hG hW n c))).mul (hW d c)

end Cert.GateSpec

namespace Cert.GateBwdIdeal.Hand

open Idealize.ShloMosaic Idealize.ShloMosaic.TcCoe
open Cert.GateBwdIdeal

variable (m : (ℓ : Loc nD τ sig) → Buf (Elt Ideal) ℓ) (c : Dev nD)

theorem ref8 : Cert.GateBwdRefIdeal.Read.val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = R8 m c := by
  funext i
  idx_vars i
  obtain rfl : i0 = 0 := Subsingleton.elim _ _
  exact Cert.GateBwdRefIdeal.Hand.v55_at _ _ _ _ _ _ i1

theorem ref9 : Cert.GateBwdRefIdeal.Read.val_main_v56 (F := Ideal) (m ((c : Thread nD τ).loc main_arg0)) (m ((c : Thread nD τ).loc main_arg1))
    (m ((c : Thread nD τ).loc main_arg2)) (m ((c : Thread nD τ).loc main_arg3)) = R9 m c := by
  funext i
  idx_vars i
  exact Cert.GateBwdRefIdeal.Hand.v56_at _ _ _ _ i0 i1

theorem ref10 : Cert.GateBwdRefIdeal.Read.val_main_v57 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = R10 m c := by
  funext i
  idx_vars i
  exact Cert.GateBwdRefIdeal.Hand.v57_at _ _ _ _ _ _ i0 i1

theorem ref7 [Cert.Pre_finite_gate.Facts]
    (h : Cert.Pre_finite_gate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.GateBwdRefIdeal.Read.val_main_v54 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = R7 m c := by
  obtain ⟨h0, h1, h2, h3, h4, h5⟩ := Cert.Pre_finite_gate.Hand.all_real h
  have hD : ∀ n k, MlpSpec.IsR (DH m c n k) := fun n k => h0 _
  have hH : ∀ n k, MlpSpec.IsR (H m c n k) := fun n k => h1 _
  have hG : ∀ k, MlpSpec.IsR (G m c k) := fun k => h2 _
  have hW : ∀ k j, MlpSpec.IsR (WG m c k j) := fun k j => h3 _
  have hE : ∀ k j, MlpSpec.IsR (WP m c k j) := fun k j => h4 _
  have hP : ∀ n k, MlpSpec.IsR (P m c n k) := fun n k => h5 _
  funext i
  idx_vars i
  obtain ⟨a, ha, hx⟩ := MlpSpec.ms_pos hH i0
  refine (Cert.GateBwdRefIdeal.Hand.v54_at _ _ _ _ _ _ i0 i1).trans ?_
  exact congrArg (DH m c i0 i1 + ·) (MlpSpec.norm_grad _ (MlpSpec.rr (H m c) i0) (H m c i0)
    (fun k => GateSpec.dhn (DH m c) (H m c) (G m c) (WG m c) (WP m c) (P m c) i0 k * G m c k) i1 (hH i0)
    (fun k => (GateSpec.isR_dhn hD hH hG hW hE hP i0 k).mul (hG k)) a ha hx rfl).symm

end Cert.GateBwdIdeal.Hand

end
-- ==== Proof.GateFwdFinal.lean ====
/- The gated embedding's forward call: its three result arrays as plain mathematics of its arguments. -/
module

public import Idealize.ShloMosaic.Lib.Pipeline.ValueKit
public import Idealize.ShloMosaic.Lib.Pointwise
public import proofs.«01_k».proof.Proof.GateSpec
public import proofs.«01_k».proof.Proof.Gen.GateFwdIdeal.Value

@[expose] public section

set_option maxRecDepth 16384

noncomputable section

namespace Cert.GateFwdIdeal.Hand

open Idealize.ShloMosaic Idealize.ShloMosaic.TcCoe Idealize.SL.Sem
open Idealize.ShloMosaic.Pipeline (Dat)
open Cert.GateFwdIdeal Cert.GateFwdIdeal.Gen Cert.GateFwdIdeal.Value

variable (m : (ℓ : Loc nD τ sig) → Buf (Elt Ideal) ℓ)

/-- The five arguments as functions of their indices; of the embeddings, the layer's. -/
def H (c : Dev nD) (n : Fin 8192) (k : Fin 1024) : EReal := (show FVec Ideal S8192x1024 .f32 from m ((c : Thread nD τ).loc main_arg0)) (ix2 n k)
def G (c : Dev nD) (k : Fin 1024) : EReal := (show FVec Ideal S1024 .f32 from m ((c : Thread nD τ).loc main_arg1)) (ix1 k)
def WG (c : Dev nD) (k j : Fin 1024) : EReal := (show FVec Ideal S1024x1024 .f32 from m ((c : Thread nD τ).loc main_arg2)) (ix2 k j)
def WP (c : Dev nD) (k : Fin 256) (j : Fin 1024) : EReal := (show FVec Ideal S256x1024 .f32 from m ((c : Thread nD τ).loc main_arg3)) (ix2 k j)
def P (c : Dev nD) (n : Fin 8192) (k : Fin 256) : EReal := (show FVec Ideal S2x8192x256 .f32 from m ((c : Thread nD τ).loc main_arg4)) (ix3 0 n k)

theorem V_v0 (c : Dev nD) : V m c main_v0 = (broadcastInDim S1x1024 ![1] bcast_S1024_S1x1024_1
    (show FVec Ideal S1024 .f32 from m ((c : Thread nD τ).loc main_arg1)) : FVec Ideal S1x1024 .f32) := by
  unfold V; after_results; try rfl
theorem V_v2 (c : Dev nD) : V m c main_v2 = (broadcastInDim S1x1024x1024 ![1, 2] bcast_S1024x1024_S1x1024x1024_1_2
    (truncf .bf16 (show FVec Ideal S1024x1024 .f32 from m ((c : Thread nD τ).loc main_arg2)) bitsLt_bf16_f32) : FVec Ideal S1x1024x1024 .bf16) := by
  unfold V; after_results; try rfl
theorem V_v4 (c : Dev nD) : V m c main_v4 = (broadcastInDim S1x256x1024 ![1, 2] bcast_S256x1024_S1x256x1024_1_2
    (truncf .bf16 (show FVec Ideal S256x1024 .f32 from m ((c : Thread nD τ).loc main_arg3)) bitsLt_bf16_f32) : FVec Ideal S1x256x1024 .bf16) := by
  unfold V; after_results; try rfl

theorem idx : ∀ t : Fin cfg0.N, win0_0.index t = ![t.val, 0] ∧ win0_1.index t = ![0, 0] ∧ win0_2.index t = ![0, 0, 0]
    ∧ win0_3.index t = ![0, t.val, 0] ∧ win0_4.index t = ![0, 0, 0] ∧ win0_5.index t = ![t.val, 0] ∧ win0_6.index t = ![t.val, 0]
    ∧ win0_7.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = H m c (row t r) k := by
  unfold H row
  blk_ext [iblk, V_main_arg0, idx t]
theorem b1_at (c : Dev nD) (t : Fin cfg0.N) (k : Fin 1024) :
    (show FVec Ideal S1x1024 .f32 from iblk m c 1 t) (ix2 0 k) = G m c k := by
  unfold G
  blk_simp [iblk, idx t]
  entry_read
  pointwise
  blk_ext [idx t]
theorem b2_at (c : Dev nD) (t : Fin cfg0.N) (k j : Fin 1024) :
    (show FVec Ideal S1x1024x1024 .bf16 from iblk m c 2 t) (ix3 0 k j) = WG m c k j := by
  unfold WG
  blk_simp [iblk, idx t]
  entry_read
  pointwise
  blk_ext [idx t]
theorem b3_at (c : Dev nD) (t : Fin cfg0.N) (r : Fin 512) (k : Fin 256) :
    (show FVec Ideal S1x512x256 .f32 from iblk m c 3 t) (ix3 0 r k) = P m c (row t r) k := by
  unfold P row
  blk_ext [iblk, V_main_arg4, idx t]
theorem b4_at (c : Dev nD) (t : Fin cfg0.N) (k : Fin 256) (j : Fin 1024) :
    (show FVec Ideal S1x256x1024 .bf16 from iblk m c 4 t) (ix3 0 k j) = WP m c k j := by
  unfold WP
  blk_simp [iblk, idx t]
  entry_read
  pointwise
  blk_ext [idx t]

/-- The three result arrays. -/
def R5 (c : Dev nD) : S8192x1024.Idx → EReal := fun i => GateSpec.fwd (H m c) (G m c) (WG m c) (WP m c) (P m c) (i 0) (i 1)
def R6 (c : Dev nD) : S8192x1024.Idx → EReal := fun i => GateSpec.gl (H m c) (G m c) (WG m c) (i 0) (i 1)
def R7 (c : Dev nD) : S8192x1024.Idx → EReal := fun i => DwSpec.hn (H m c) (G m c) (i 0) (i 1)

section point

variable (row : Fin 512 → Fin 8192)
  (H : Fin 8192 → Fin 1024 → EReal) (G : Fin 1024 → EReal) (WG : Fin 1024 → Fin 1024 → EReal)
  (WP : Fin 256 → Fin 1024 → EReal) (P : Fin 8192 → Fin 256 → EReal)
  (x0 : FVec Ideal S512x1024 .f32) (x1 : FVec Ideal S1x1024 .f32) (x2 : FVec Ideal S1x1024x1024 .bf16)
  (x3 : FVec Ideal S1x512x256 .f32) (x4 : FVec Ideal S1x256x1024 .bf16)
  (h0 : ∀ r k, x0 (ix2 r k) = H (row r) k) (h1 : ∀ k, x1 (ix2 0 k) = G k) (h2 : ∀ k j, x2 (ix3 0 k j) = WG k j)
  (h3 : ∀ r k, x3 (ix3 0 r k) = P (row r) k) (h4 : ∀ k j, x4 (ix3 0 k j) = WP k j)

include h0 h1 in
theorem hn_point (r : Fin 512) (k : Fin 1024) : k0_pay2 (F := Ideal) x0 x1 (ix2 r k) = DwSpec.hn H G (row r) k := by
  pointwise [k0_pay2, DwSpec.hn, MlpSpec.rr, h0, h1]

include h0 h1 h2 in
theorem gl_point (r : Fin 512) (j : Fin 1024) : k0_pay3 (F := Ideal) x0 x1 x2 (ix2 r j) = GateSpec.gl H G WG (row r) j := by
  pointwise [k0_pay3, hn_point row H G x0 x1 h0 h1, h2, GateSpec.gl]

include h0 h1 h2 in
theorem glb_point (r : Fin 512) (j : Fin 1024) : k0_pay4 (F := Ideal) x0 x1 x2 (ix2 r j) = GateSpec.gl H G WG (row r) j := by
  pointwise [k0_pay4, gl_point row H G WG x0 x1 x2 h0 h1 h2]

include h0 h1 h2 in
theorem sg_point (r : Fin 512) (j : Fin 1024) :
    k0_pay5 (F := Ideal) x0 x1 x2 (ix2 r j) = GateSpec.sg (GateSpec.gl H G WG (row r) j) := by
  pointwise [k0_pay5, gl_point row H G WG x0 x1 x2 h0 h1 h2, GateSpec.sg, zero_sub]

include h0 h1 h2 h3 h4 in
theorem fwd_point (r : Fin 512) (j : Fin 1024) :
    k0_pay1 (F := Ideal) x0 (k0_pay5 x0 x1 x2) (k0_pay6 x3) x4 (ix2 r j) = GateSpec.fwd H G WG WP P (row r) j := by
  pointwise [k0_pay1, k0_pay6, sg_point row H G WG x0 x1 x2 h0 h1 h2, h0, h3, h4, GateSpec.fwd, GateSpec.pe]

end point

theorem outs5 (c : Dev nD) (t : Fin cfg0.N) (r : Fin 512) (d : Fin 1024) :
    (show FVec Ideal S512x1024 .f32 from out0_5 (iblk m c 0 t) (iblk m c 1 t) (iblk m c 2 t) (iblk m c 3 t) (iblk m c 4 t)) (ix2 r d)
    = GateSpec.fwd (H m c) (G m c) (WG m c) (WP m c) (P m c) (row t r) d := by
  frame_out
  exact fwd_point (row t) (H m c) (G m c) (WG m c) (WP m c) (P m c) _ _ _ _ _ (b0_at m c t) (b1_at m c t) (b2_at m c t) (b3_at m c t) (b4_at m c t) r d

theorem outs6 (c : Dev nD) (t : Fin cfg0.N) (r : Fin 512) (d : Fin 1024) :
    (show FVec Ideal S512x1024 .bf16 from out0_6 (iblk m c 0 t) (iblk m c 1 t) (iblk m c 2 t) (iblk m c 3 t) (iblk m c 4 t)) (ix2 r d)
    = GateSpec.gl (H m c) (G m c) (WG m c) (row t r) d := by
  frame_out
  exact glb_point (row t) (H m c) (G m c) (WG m c) _ _ _ (b0_at m c t) (b1_at m c t) (b2_at m c t) r d

theorem outs7 (c : Dev nD) (t : Fin cfg0.N) (r : Fin 512) (d : Fin 1024) :
    (show FVec Ideal S512x1024 .bf16 from out0_7 (iblk m c 0 t) (iblk m c 1 t) (iblk m c 2 t) (iblk m c 3 t) (iblk m c 4 t)) (ix2 r d)
    = DwSpec.hn (H m c) (G m c) (row t r) d := by
  frame_out
  exact hn_point (row t) (H m c) (G m c) _ _ (b0_at m c t) (b1_at m c t) r d

theorem final5 (c : Dev nD) : (dats m 0 c).arrAt 5 (cfgs 0).N = R5 m c := by
  refine (dats m 0 c).arrAt_eq_of_covers 5 _ (by decide +kernel) fun t hf y => ?_
  blk_simp
  rw [after0_5]
  idx_vars y
  have e : ((View.whole main_v5_0).slice (win0_5.rect t)).emb (ix2 y0 y1) = ix2 (row t y0) y1 := by
    unfold row; blk_ext [idx t]
  refine (outs5 m c t y0 y1).trans (congrArg (R5 m c) e).symm

theorem final6 (c : Dev nD) : (dats m 0 c).arrAt 6 (cfgs 0).N = R6 m c := by
  refine (dats m 0 c).arrAt_eq_of_covers 6 _ (by decide +kernel) fun t hf y => ?_
  blk_simp
  rw [after0_6]
  idx_vars y
  have e : ((View.whole main_v5_1).slice (win0_6.rect t)).emb (ix2 y0 y1) = ix2 (row t y0) y1 := by
    unfold row; blk_ext [idx t]
  refine (outs6 m c t y0 y1).trans (congrArg (R6 m c) e).symm

theorem final7 (c : Dev nD) : (dats m 0 c).arrAt 7 (cfgs 0).N = R7 m c := by
  refine (dats m 0 c).arrAt_eq_of_covers 7 _ (by decide +kernel) fun t hf y => ?_
  blk_simp
  rw [after0_7]
  idx_vars y
  have e : ((View.whole main_v5_2).slice (win0_7.rect t)).emb (ix2 y0 y1) = ix2 (row t y0) y1 := by
    unfold row; blk_ext [idx t]
  refine (outs7 m c t y0 y1).trans (congrArg (R7 m c) e).symm

end Cert.GateFwdIdeal.Hand

end
-- ==== Proof.GateFwdClaim.lean ====
/- The gated embedding's forward call: its three results are the reference's, at exact arithmetic. -/
module

public import Idealize.ShloMosaic.Lib.Pointwise
public import proofs.«01_k».proof.Proof.GateFwdFinal
public import proofs.«01_k».proof.Proof.Gen.GateFwdRefIdeal.Read

@[expose] public section

set_option maxRecDepth 16384

noncomputable section

namespace Cert.GateFwdRefIdeal.Hand

open Idealize.ShloMosaic Idealize.SL.Sem
open Cert.GateFwdRefIdeal Cert.GateFwdRefIdeal.Gen Cert.GateFwdRefIdeal.Read

variable (x0 : FVec Ideal S8192x1024 .f32) (x1 : FVec Ideal S1024 .f32) (x2 : FVec Ideal S1024x1024 .f32)
  (x3 : FVec Ideal S256x1024 .f32) (x4 : FVec Ideal S2x8192x256 .f32)

theorem v7_at (n : Fin 8192) (z : Fin 1) : val_main_v7 (F := Ideal) x0 (ix2 n z) = MlpSpec.rr (fun n k => x0 (ix2 n k)) n := by
  pointwise [val_main_v7, val_main_v6, val_main_v5, val_main_v4, val_main_v3, val_main_v2, val_main_v1, val_main_v0,
    val_main_cst, val_main_cst_0, val_main_cst_1, MlpSpec.rr, zero_add]

theorem v12_at (n : Fin 8192) (k : Fin 1024) :
    val_main_v12 (F := Ideal) x0 x1 (ix2 n k) = DwSpec.hn (fun n k => x0 (ix2 n k)) (fun k => x1 (ix1 k)) n k := by
  pointwise [val_main_v12, val_main_v11, val_main_v10, val_main_v9, val_main_v8, v7_at, DwSpec.hn]

theorem v13_at (n : Fin 8192) (j : Fin 1024) : val_main_v13 (F := Ideal) x0 x1 x2 (ix2 n j)
    = GateSpec.gl (fun n k => x0 (ix2 n k)) (fun k => x1 (ix1 k)) (fun k j => x2 (ix2 k j)) n j := by
  pointwise [val_main_v13, v12_at, GateSpec.gl]

theorem v24_at (n : Fin 8192) (j : Fin 1024) : val_main_v24 (F := Ideal) x0 x1 x2 x3 x4 (ix2 n j)
    = GateSpec.fwd (fun n k => x0 (ix2 n k)) (fun k => x1 (ix1 k)) (fun k j => x2 (ix2 k j)) (fun k j => x3 (ix2 k j))
      (fun n k => x4 (ix3 0 n k)) n j := by
  pointwise [val_main_v24, val_main_v23, val_main_v22, val_main_v21, val_main_v20, val_main_v19, val_main_v18, val_main_v17,
    val_main_v16, val_main_v15, val_main_v14, val_main_cst_2, val_main_cst_3, v13_at, GateSpec.fwd, GateSpec.pe, GateSpec.sg]

theorem v25_at (n : Fin 8192) (j : Fin 1024) : val_main_v25 (F := Ideal) x0 x1 x2 (ix2 n j)
    = GateSpec.gl (fun n k => x0 (ix2 n k)) (fun k => x1 (ix1 k)) (fun k j => x2 (ix2 k j)) n j := by
  pointwise [val_main_v25, v13_at]

theorem v26_at (n : Fin 8192) (k : Fin 1024) :
    val_main_v26 (F := Ideal) x0 x1 (ix2 n k) = DwSpec.hn (fun n k => x0 (ix2 n k)) (fun k => x1 (ix1 k)) n k := by
  pointwise [val_main_v26, v12_at]

end Cert.GateFwdRefIdeal.Hand

namespace Cert.GateFwdIdeal.Hand

open Idealize.ShloMosaic Idealize.ShloMosaic.TcCoe
open Cert.GateFwdIdeal

variable (m : (ℓ : Loc nD τ sig) → Buf (Elt Ideal) ℓ) (c : Dev nD)

theorem ref5 : Cert.GateFwdRefIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R5 m c := by
  funext i
  idx_vars i
  exact Cert.GateFwdRefIdeal.Hand.v24_at _ _ _ _ _ i0 i1

theorem ref6 : Cert.GateFwdRefIdeal.Read.val_main_v25 (F := Ideal) (m ((c : Thread nD τ).loc main_arg0)) (m ((c : Thread nD τ).loc main_arg1))
    (m ((c : Thread nD τ).loc main_arg2)) = R6 m c := by
  funext i
  idx_vars i
  exact Cert.GateFwdRefIdeal.Hand.v25_at _ _ _ i0 i1

theorem ref7 : Cert.GateFwdRefIdeal.Read.val_main_v26 (F := Ideal) (m ((c : Thread nD τ).loc main_arg0)) (m ((c : Thread nD τ).loc main_arg1))
    = R7 m c := by
  funext i
  idx_vars i
  exact Cert.GateFwdRefIdeal.Hand.v26_at _ _ i0 i1

end Cert.GateFwdIdeal.Hand

end
-- ==== Proof.InProjPure.lean ====
/- The stored blocks of the input projection's forward call, which rotates the queries and keys, read entry by entry over the extended reals. -/
module

public import Idealize.ShloMosaic.Lib.Pointwise
public import proofs.«01_k».proof.Proof.DwSpec
public import proofs.«01_k».proof.Proof.Gen.InProjIdeal.Skeleton

@[expose] public section

set_option maxRecDepth 16384

noncomputable section

namespace Cert.RopeSpec

open Idealize.ShloMosaic

/-- The projected rows. -/
def proj (H : Fin 8192 → Fin 1024 → EReal) (G : Fin 1024 → EReal) (W : Fin 1024 → Fin 2560 → EReal) (n : Fin 8192) (j : Fin 2560) : EReal :=
  ∑ k : Fin 1024, DwSpec.hn H G n k * W k j

variable (Z : Fin 8192 → Fin 2560 → EReal) (C S : Fin 8192 → Fin 8 → EReal)

/-- The first sixteen columns of each head of the queries and keys, rotated by the row's angles; every other column as it is. -/
def rope (n : Fin 8192) (j : Fin 2560) : EReal :=
  if h : 256 ≤ j.val ∧ j.val < 1792 then
    if h1 : j.val % 64 < 8 then Z n j * C n ⟨j.val % 64, h1⟩ - Z n ⟨j.val + 8, by omega⟩ * S n ⟨j.val % 64, h1⟩
    else if h2 : j.val % 64 < 16 then
      Z n j * C n ⟨j.val % 64 - 8, by omega⟩ + Z n ⟨j.val - 8, by omega⟩ * S n ⟨j.val % 64 - 8, by omega⟩
    else Z n j
  else Z n j

/-- The three tables at column `e` of a head: the cosines, the negated sines of the first half, the sines of the second. -/
def tabC (n : Fin 8192) (e : ℕ) : EReal := if h : e < 8 then C n ⟨e, h⟩ else if h : e < 16 then C n ⟨e - 8, by omega⟩ else 1
def tabN (n : Fin 8192) (e : ℕ) : EReal := if h : e < 8 then -S n ⟨e, h⟩ else 0
def tabP (n : Fin 8192) (e : ℕ) : EReal := if e < 8 then 0 else if h : e < 16 then S n ⟨e - 8, by omega⟩ else 0

/-- Column `c` of the `j`-th of the ten column tiles. -/
abbrev col (j : Fin 10) (c : Fin 256) : Fin 2560 := ⟨(j : ℕ) * 256 + (c : ℕ), by omega⟩

/-- A tile of whole heads times its cosines, plus its two shifts times the sines, is the rotation: the shifts that leave a head meet a zero. -/
theorem rope_tile (k : Fin 10) (hk : 1 ≤ k.val ∧ k.val ≤ 6) (n : Fin 8192) (c a b : Fin 256)
    (ha : a.val = (c.val + 256 - 248) % 256) (hb : b.val = (c.val + 256 - 8) % 256) :
    Z n (col k c) * tabC C n (c.val % 64) + Z n (col k a) * tabN S n (c.val % 64) + Z n (col k b) * tabP S n (c.val % 64)
    = rope Z C S n (col k c) := by
  have e : (col k c).val % 64 = c.val % 64 := by simp only [col]; omega
  have hc := c.isLt
  unfold rope
  rw [dif_pos (show 256 ≤ (col k c).val ∧ (col k c).val < 1792 by simp only [col]; omega)]
  unfold tabC tabN tabP
  by_cases h1 : c.val % 64 < 8
  · simp only [e, dif_pos h1, if_pos h1, mul_zero, add_zero, mul_neg, sub_eq_add_neg]
    rw [show col k a = ⟨(col k c).val + 8, by simp only [col]; omega⟩ from Fin.ext (by simp only [col]; omega)]
  · by_cases h2 : c.val % 64 < 16
    · simp only [e, dif_neg h1, if_neg h1, dif_pos h2, mul_zero, add_zero]
      rw [show col k b = ⟨(col k c).val - 8, by simp only [col]; omega⟩ from Fin.ext (by simp only [col]; omega)]
    · simp only [e, dif_neg h1, if_neg h1, dif_neg h2, mul_zero, add_zero, mul_one]

/-- The columns before the first rotated tile and after the last are as they are. -/
theorem rope_plain (k : Fin 10) (hk : k.val < 1 ∨ 6 < k.val) (n : Fin 8192) (c : Fin 256) : rope Z C S n (col k c) = Z n (col k c) := by
  have hc := c.isLt
  unfold rope
  rw [dif_neg (show ¬(256 ≤ (col k c).val ∧ (col k c).val < 1792) by simp only [col]; omega)]

end Cert.RopeSpec

namespace Cert.InProjIdeal.Hand

open Idealize.ShloMosaic Idealize.SL.Sem
open Cert.InProjIdeal Cert.InProjIdeal.Gen Cert.RopeSpec

variable (row : Fin 512 → Fin 8192)
  (H : Fin 8192 → Fin 1024 → EReal) (G : Fin 1024 → EReal) (W : Fin 1024 → Fin 2560 → EReal) (C S : Fin 8192 → Fin 8 → EReal)
  (h : FVec Ideal S512x1024 .f32) (g : FVec Ideal S1x1024 .f32) (x : FVec Ideal S512x1024 .bf16)
  (u : FVec Ideal S1x1024x256 .bf16) (t : FVec Ideal S512x128 .f32) (p q s : FVec Ideal S512x256 .f32)

theorem pay7_at (hh : ∀ r k, h (ix2 r k) = H (row r) k) (hg : ∀ k, g (ix2 0 k) = G k) (r : Fin 512) (k : Fin 1024) :
    k0_pay7 (F := Ideal) h g (ix2 r k) = DwSpec.hn H G (row r) k := by
  pointwise [k0_pay7]
  simp only [DwSpec.hn, MlpSpec.rr, hh, hg, zero_add]

/-- A table's row stands twice in the row of a tile. -/
theorem pay4_at (f : ℕ → EReal) (r : Fin 512) (ht : ∀ e : Fin 128, t (ix2 r e) = f (e.val % 64)) (c : Fin 256) :
    k0_pay4 (F := Ideal) t (ix2 r c) = f (c.val % 64) := by
  pointwise [k0_pay4]
  by_cases h1 : c.val < 128
  · simp only [dif_pos h1, ht]
  · simp only [dif_neg h1, ht]
    congr 1; omega

/-- A product of the normalised rows with a column tile of the weight is the projection's tile. -/
theorem pay2_at (j : Fin 10) (hx : ∀ r k, x (ix2 r k) = DwSpec.hn H G (row r) k) (hu : ∀ k c, u (ix3 0 k c) = W k (col j c))
    (r : Fin 512) (c : Fin 256) : k0_pay2 (F := Ideal) x u (ix2 r c) = proj H G W (row r) (col j c) := by
  pointwise [k0_pay2]
  simp only [hx, hu, proj]

/-- A rotated tile from the product tile and the three tables. -/
theorem pay11_at (r : Fin 512) (c : Fin 256) : k0_pay11 (F := Ideal) p q s x u (ix2 r c)
    = k0_pay2 (F := Ideal) x u (ix2 r c) * p (ix2 r c)
      + k0_pay2 (F := Ideal) x u (ix2 r ⟨(c.val + 256 - 248) % 256, by omega⟩) * q (ix2 r c)
      + k0_pay2 (F := Ideal) x u (ix2 r ⟨(c.val + 256 - 8) % 256, by omega⟩) * s (ix2 r c) := by
  pointwise [k0_pay11, k0_pay2]

/-- A stored tile of the queries and keys is the rotated projection's. -/
theorem tile_at (j : Fin 10) (hj : 1 ≤ j.val ∧ j.val ≤ 6) (hx : ∀ r k, x (ix2 r k) = DwSpec.hn H G (row r) k)
    (hu : ∀ k c, u (ix3 0 k c) = W k (col j c)) (r : Fin 512) (c : Fin 256)
    (hp : p (ix2 r c) = tabC C (row r) (c.val % 64)) (hq : q (ix2 r c) = tabN S (row r) (c.val % 64))
    (hs : s (ix2 r c) = tabP S (row r) (c.val % 64)) :
    k0_pay11 (F := Ideal) p q s x u (ix2 r c) = rope (proj H G W) C S (row r) (col j c) := by
  rw [pay11_at, hp, hq, hs, pay2_at row H G W x u j hx hu, pay2_at row H G W x u j hx hu, pay2_at row H G W x u j hx hu]
  exact rope_tile (proj H G W) C S j hj (row r) c _ _ rfl rfl

/-- A stored tile of the other columns is the projection's. -/
theorem plain_at (j : Fin 10) (hj : j.val < 1 ∨ 6 < j.val) (hx : ∀ r k, x (ix2 r k) = DwSpec.hn H G (row r) k)
    (hu : ∀ k c, u (ix3 0 k c) = W k (col j c)) (r : Fin 512) (c : Fin 256) :
    k0_pay2 (F := Ideal) x u (ix2 r c) = rope (proj H G W) C S (row r) (col j c) :=
  (pay2_at row H G W x u j hx hu r c).trans (rope_plain (proj H G W) C S j hj (row r) c).symm

/-- The stored tiles are those two. -/
theorem pay1_eq : k0_pay1 (F := Ideal) x (k0_pay17 u) (constant S512x256 .f32 0x00000000#32) = k0_pay2 x u := rfl
theorem pay3_eq : k0_pay3 (F := Ideal) x u = k0_pay2 x u := rfl
theorem pay8_eq : k0_pay8 (F := Ideal) h g u = k0_pay2 (k0_pay7 h g) u := rfl
theorem pay5_eq : k0_pay5 (F := Ideal) t = k0_pay4 t := rfl
theorem pay6_eq : k0_pay6 (F := Ideal) t = k0_pay4 t := rfl
theorem pay10_eq : k0_pay10 (F := Ideal) p q s x (k0_pay9 u) (constant S512x256 .f32 0x00000000#32) = k0_pay11 p q s x u := rfl
theorem pay12_eq : k0_pay12 (F := Ideal) p q s x u = k0_pay11 p q s x u := rfl
theorem pay14_eq : k0_pay14 (F := Ideal) p q s x (k0_pay13 u) (constant S512x256 .f32 0x00000000#32) = k0_pay11 p q s x u := rfl
theorem pay15_eq : k0_pay15 (F := Ideal) p q s x u = k0_pay11 p q s x u := rfl
theorem pay16_eq : k0_pay16 (F := Ideal) p q s x u = k0_pay11 p q s x u := rfl

end Cert.InProjIdeal.Hand

end
-- ==== Proof.InProjFinal.lean ====
/- The input projection's forward call's two result arrays as plain mathematics of its arguments. -/
module

public import Idealize.ShloMosaic.Lib.Pipeline.ValueKit
public import proofs.«01_k».proof.Proof.InProjPure
public import proofs.«01_k».proof.Proof.Gen.InProjIdeal.Value

@[expose] public section

set_option maxRecDepth 16384

noncomputable section

namespace Cert.InProjIdeal.Hand

open Idealize.ShloMosaic Idealize.ShloMosaic.TcCoe Idealize.SL.Sem
open Idealize.ShloMosaic.Pipeline (Dat)
open Cert.InProjIdeal Cert.InProjIdeal.Gen Cert.InProjIdeal.Value Cert.RopeSpec

/-- A table of one head's 64 columns, twice in a row of 128. -/
def twice (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

theorem twice_at (x : FVec Ideal S8192x64 .f32) (n : Fin 8192) (e : Fin 128) : twice x (ix2 n e) = x (ix2 n ⟨e.val % 64, by omega⟩) := by
  pointwise [twice]

/-- The three tables as the host prepares them. -/
def cTerm (x3 : FVec Ideal S1x8192x1x8 .f32) : FVec Ideal S8192x64 .f32 :=
  concatenate S8192x64 1 [⟨S8192x8, shapeCast S8192x8 x3 shapeCasts_S1x8192x1x8_S8192x8⟩,
    ⟨S8192x8, shapeCast S8192x8 x3 shapeCasts_S1x8192x1x8_S8192x8⟩,
    ⟨S8192x48, broadcastInDim S8192x48 ![] bcast_S_S8192x48 (constant S_ .f32 0x3F800000#32)⟩] concatenates_S8192x8_S8192x8_S8192x48_S8192x64_d1
def nTerm (x4 : FVec Ideal S1x8192x1x8 .f32) : FVec Ideal S8192x64 .f32 :=
  concatenate S8192x64 1 [⟨S8192x8, Host.negf (shapeCast S8192x8 x4 shapeCasts_S1x8192x1x8_S8192x8)⟩,
    ⟨S8192x8, broadcastInDim S8192x8 ![] bcast_S_S8192x8 (constant S_ .f32 0x00000000#32)⟩,
    ⟨S8192x48, broadcastInDim S8192x48 ![] bcast_S_S8192x48 (constant S_ .f32 0x00000000#32)⟩] concatenates_S8192x8_S8192x8_S8192x48_S8192x64_d1
def pTerm (x4 : FVec Ideal S1x8192x1x8 .f32) : FVec Ideal S8192x64 .f32 :=
  concatenate S8192x64 1 [⟨S8192x8, broadcastInDim S8192x8 ![] bcast_S_S8192x8 (constant S_ .f32 0x00000000#32)⟩,
    ⟨S8192x8, shapeCast S8192x8 x4 shapeCasts_S1x8192x1x8_S8192x8⟩,
    ⟨S8192x48, broadcastInDim S8192x48 ![] bcast_S_S8192x48 (constant S_ .f32 0x00000000#32)⟩] concatenates_S8192x8_S8192x8_S8192x48_S8192x64_d1

theorem cTerm_at (x3 : FVec Ideal S1x8192x1x8 .f32) (n : Fin 8192) (e : Fin 64) :
    cTerm x3 (ix2 n e) = tabC (fun n k => x3 (ix4 0 n 0 k)) n e.val := by
  pointwise [cTerm, tabC]
  by_cases h : e.val < 8
  · simp only [dif_pos h]
  · simp only [dif_neg h, show (e.val - 8 < 8) = (e.val < 16) from propext (by omega)]
theorem nTerm_at (x4 : FVec Ideal S1x8192x1x8 .f32) (n : Fin 8192) (e : Fin 64) :
    nTerm x4 (ix2 n e) = tabN (fun n k => x4 (ix4 0 n 0 k)) n e.val := by
  pointwise [nTerm, tabN]
  by_cases h : e.val < 8
  · simp only [dif_pos h]
  · simp only [dif_neg h, dite_eq_ite, ite_self]
theorem pTerm_at (x4 : FVec Ideal S1x8192x1x8 .f32) (n : Fin 8192) (e : Fin 64) :
    pTerm x4 (ix2 n e) = tabP (fun n k => x4 (ix4 0 n 0 k)) n e.val := by
  pointwise [pTerm, tabP]
  by_cases h : e.val < 8
  · simp only [dif_pos h, if_pos h]
  · simp only [dif_neg h, if_neg h, show (e.val - 8 < 8) = (e.val < 16) from propext (by omega)]

variable (m : (ℓ : Loc nD τ sig) → Buf (Elt Ideal) ℓ)

/-- The five arguments as functions of their indices. -/
def H (c : Dev nD) (n : Fin 8192) (k : Fin 1024) : EReal := (show FVec Ideal S8192x1024 .f32 from m ((c : Thread nD τ).loc main_arg0)) (ix2 n k)
def G (c : Dev nD) (k : Fin 1024) : EReal := (show FVec Ideal S1024 .f32 from m ((c : Thread nD τ).loc main_arg1)) (ix1 k)
def W (c : Dev nD) (k : Fin 1024) (j : Fin 2560) : EReal := (show FVec Ideal S1024x2560 .f32 from m ((c : Thread nD τ).loc main_arg2)) (ix2 k j)
def C (c : Dev nD) (n : Fin 8192) (k : Fin 8) : EReal := (show FVec Ideal S1x8192x1x8 .f32 from m ((c : Thread nD τ).loc main_arg3)) (ix4 0 n 0 k)
def S (c : Dev nD) (n : Fin 8192) (k : Fin 8) : EReal := (show FVec Ideal S1x8192x1x8 .f32 from m ((c : Thread nD τ).loc main_arg4)) (ix4 0 n 0 k)

theorem V_v0 (c : Dev nD) : V m c main_v0 = (broadcastInDim S1x1024 ![1] bcast_S1024_S1x1024_1
    (show FVec Ideal S1024 .f32 from m ((c : Thread nD τ).loc main_arg1)) : FVec Ideal S1x1024 .f32) := by
  unfold V; after_results; try rfl
theorem V_v2 (c : Dev nD) : V m c main_v2 = (broadcastInDim S1x1024x2560 ![1, 2] bcast_S1024x2560_S1x1024x2560_1_2
    (truncf .bf16 (show FVec Ideal S1024x2560 .f32 from m ((c : Thread nD τ).loc main_arg2)) bitsLt_bf16_f32) : FVec Ideal S1x1024x2560 .bf16) := by
  unfold V; after_results; try rfl
theorem V_v14 (c : Dev nD) : V m c main_v14 = twice (cTerm (m ((c : Thread nD τ).loc main_arg3))) := by
  unfold V; after_results; try rfl
theorem V_v17 (c : Dev nD) : V m c main_v17 = twice (nTerm (m ((c : Thread nD τ).loc main_arg4))) := by
  unfold V; after_results; try rfl
theorem V_v20 (c : Dev nD) : V m c main_v20 = twice (pTerm (m ((c : Thread nD τ).loc main_arg4))) := by
  unfold V; after_results; try rfl

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = H m c (row t r) k := by
  unfold H row
  blk_ext [iblk, V_main_arg0, idx t]
theorem b1_at (c : Dev nD) (t : Fin cfg0.N) (k : Fin 1024) :
    (show FVec Ideal S1x1024 .f32 from iblk m c 1 t) (ix2 0 k) = G m c k := by
  unfold G
  blk_simp [iblk, idx t]
  entry_read
  pointwise
  blk_ext [idx t]
theorem b2_at (c : Dev nD) (t : Fin cfg0.N) (k : Fin 1024) (j : Fin 2560) :
    (show FVec Ideal S1x1024x2560 .bf16 from iblk m c 2 t) (ix3 0 k j) = W m c k j := by
  unfold W
  blk_simp [iblk, idx t]
  entry_read
  pointwise
  blk_ext [idx t]
theorem b3_at (c : Dev nD) (t : Fin cfg0.N) (r : Fin 512) (e : Fin 128) :
    (show FVec Ideal S512x128 .f32 from iblk m c 3 t) (ix2 r e) = tabC (C m c) (row t r) (e.val % 64) := by
  refine Eq.trans ?_ ((twice_at (cTerm (m ((c : Thread nD τ).loc main_arg3))) (row t r) e).trans (cTerm_at _ _ _))
  unfold row
  blk_ext [iblk, V_v14, idx t]
theorem b4_at (c : Dev nD) (t : Fin cfg0.N) (r : Fin 512) (e : Fin 128) :
    (show FVec Ideal S512x128 .f32 from iblk m c 4 t) (ix2 r e) = tabN (S m c) (row t r) (e.val % 64) := by
  refine Eq.trans ?_ ((twice_at (nTerm (m ((c : Thread nD τ).loc main_arg4))) (row t r) e).trans (nTerm_at _ _ _))
  unfold row
  blk_ext [iblk, V_v17, idx t]
theorem b5_at (c : Dev nD) (t : Fin cfg0.N) (r : Fin 512) (e : Fin 128) :
    (show FVec Ideal S512x128 .f32 from iblk m c 5 t) (ix2 r e) = tabP (S m c) (row t r) (e.val % 64) := by
  refine Eq.trans ?_ ((twice_at (pTerm (m ((c : Thread nD τ).loc main_arg4))) (row t r) e).trans (pTerm_at _ _ _))
  unfold row
  blk_ext [iblk, V_v20, idx t]

/-- The two result arrays. -/
def R6 (c : Dev nD) : S8192x2560.Idx → EReal := fun i => rope (proj (H m c) (G m c) (W m c)) (C m c) (S m c) (i 0) (i 1)
def R7 (c : Dev nD) : S8192x1024.Idx → EReal := fun i => DwSpec.hn (H m c) (G m c) (i 0) (i 1)

theorem outs7 (c : Dev nD) (t : Fin cfg0.N) (r : Fin 512) (d : Fin 1024) :
    (show FVec Ideal S512x1024 .bf16 from out0_7 (iblk m c 0 t) (iblk m c 1 t) (iblk m c 2 t) (iblk m c 3 t) (iblk m c 4 t) (iblk m c 5 t)) (ix2 r d)
    = DwSpec.hn (H m c) (G m c) (row t r) d := by
  frame_out
  exact pay7_at (row t) (H m c) (G m c) _ _ (fun a b => b0_at m c t a b) (fun b => b1_at m c t b) r d

set_option maxHeartbeats 1000000 in
theorem outs6 (c : Dev nD) (t : Fin cfg0.N) (r : Fin 512) (j : Fin 2560) :
    (show FVec Ideal S512x2560 .f32 from out0_6 (iblk m c 0 t) (iblk m c 1 t) (iblk m c 2 t) (iblk m c 3 t) (iblk m c 4 t) (iblk m c 5 t)) (ix2 r j)
    = rope (proj (H m c) (G m c) (W m c)) (C m c) (S m c) (row t r) j := by
  have hx := pay7_at (row t) (H m c) (G m c) _ _ (fun a b => b0_at m c t a b) (fun b => b1_at m c t b)
  have hp := fun r c' => pay4_at (iblk m c 3 t) (tabC (C m c) (row t r)) r (b3_at m c t r) c'
  have hq := fun r c' => pay4_at (iblk m c 4 t) (tabN (S m c) (row t r)) r (b4_at m c t r) c'
  have hs := fun r c' => pay4_at (iblk m c 5 t) (tabP (S m c) (row t r)) r (b5_at m c t r) c'
  have tile : ∀ (k : Fin 10) (_ : 1 ≤ k.val ∧ k.val ≤ 6) (u : FVec Ideal S1x1024x256 .bf16) (_ : ∀ a b, u (ix3 0 a b) = W m c a (col k b))
      (x0 : Fin 512) (x1 : Fin 256) (_ : r = x0) (_ : j.val = k.val * 256 + x1.val),
      k0_pay11 (F := Ideal) (k0_pay4 (iblk m c 3 t)) (k0_pay4 (iblk m c 4 t)) (k0_pay4 (iblk m c 5 t)) (k0_pay7 (iblk m c 0 t) (iblk m c 1 t)) u (ix2 x0 x1)
      = rope (proj (H m c) (G m c) (W m c)) (C m c) (S m c) (row t r) j := by
    intro k hk u hu x0 x1 e0 e1
    rw [show j = col k x1 from Fin.ext e1, ← e0]
    exact tile_at (row t) (H m c) (G m c) (W m c) (C m c) (S m c) _ u _ _ _ k hk hx hu r x1 (hp r x1) (hq r x1) (hs r x1)
  have plain : ∀ (k : Fin 10) (_ : k.val < 1 ∨ 6 < k.val) (u : FVec Ideal S1x1024x256 .bf16) (_ : ∀ a b, u (ix3 0 a b) = W m c a (col k b))
      (x0 : Fin 512) (x1 : Fin 256) (_ : r = x0) (_ : j.val = k.val * 256 + x1.val),
      k0_pay2 (F := Ideal) (k0_pay7 (iblk m c 0 t) (iblk m c 1 t)) u (ix2 x0 x1)
      = rope (proj (H m c) (G m c) (W m c)) (C m c) (S m c) (row t r) j := by
    intro k hk u hu x0 x1 e0 e1
    rw [show j = col k x1 from Fin.ext e1, ← e0]
    exact plain_at (row t) (H m c) (G m c) (W m c) (C m c) (S m c) _ u k hk hx hu r x1
  unfold out0_6 k0_pay21 k0_pay20 k0_pay19 k0_pay18; frame_out
  canon_tiles x h
  all_goals idx_vars x
  · rw [pay3_eq]
    refine plain 9 (by decide) _ ?_ x0 x1 (Fin.ext h0) (by simp at h1 ⊢; omega)
    intro a b; refine Eq.trans ?_ (b2_at m c t a (col 9 b)); pointwise; blk_ext
  · refine plain 8 (by decide) _ ?_ x0 x1 (Fin.ext h0) (by simp at h1 ⊢; omega)
    intro a b; refine Eq.trans ?_ (b2_at m c t a (col 8 b)); pointwise; blk_ext
  · rw [pay1_eq]
    refine plain 7 (by decide) _ ?_ x0 x1 (Fin.ext h0) (by simp at h1 ⊢; omega)
    intro a b; refine Eq.trans ?_ (b2_at m c t a (col 7 b)); pointwise; blk_ext
  · rw [pay16_eq, pay5_eq, pay6_eq]
    refine tile 6 (by decide) _ ?_ x0 x1 (Fin.ext h0) (by simp at h1 ⊢; omega)
    intro a b; refine Eq.trans ?_ (b2_at m c t a (col 6 b)); pointwise; blk_ext
  · rw [pay15_eq, pay5_eq, pay6_eq]
    refine tile 5 (by decide) _ ?_ x0 x1 (Fin.ext h0) (by simp at h1 ⊢; omega)
    intro a b; refine Eq.trans ?_ (b2_at m c t a (col 5 b)); pointwise; blk_ext
  · rw [pay14_eq, pay5_eq, pay6_eq]
    refine tile 4 (by decide) _ ?_ x0 x1 (Fin.ext h0) (by simp at h1 ⊢; omega)
    intro a b; refine Eq.trans ?_ (b2_at m c t a (col 4 b)); pointwise; blk_ext
  · rw [pay12_eq, pay5_eq, pay6_eq]
    refine tile 3 (by decide) _ ?_ x0 x1 (Fin.ext h0) (by simp at h1 ⊢; omega)
    intro a b; refine Eq.trans ?_ (b2_at m c t a (col 3 b)); pointwise; blk_ext
  · rw [pay5_eq, pay6_eq]
    refine tile 2 (by decide) _ ?_ x0 x1 (Fin.ext h0) (by simp at h1 ⊢; omega)
    intro a b; refine Eq.trans ?_ (b2_at m c t a (col 2 b)); pointwise; blk_ext
  · rw [pay10_eq, pay5_eq, pay6_eq]
    refine tile 1 (by decide) _ ?_ x0 x1 (Fin.ext h0) (by simp at h1 ⊢; omega)
    intro a b; refine Eq.trans ?_ (b2_at m c t a (col 1 b)); pointwise; blk_ext
  · rw [pay8_eq]
    refine plain 0 (by decide) _ ?_ x0 x1 (Fin.ext h0) (by simp at h1 ⊢; omega)
    intro a b; refine Eq.trans ?_ (b2_at m c t a (col 0 b)); pointwise; blk_ext

theorem final6 (c : Dev nD) : (dats m 0 c).arrAt 6 (cfgs 0).N = R6 m c := by
  refine (dats m 0 c).arrAt_eq_of_covers 6 _ (by decide +kernel) fun t hf y => ?_
  blk_simp
  rw [after0_6]
  idx_vars y
  have e : ((View.whole main_v21_0).slice (win0_6.rect t)).emb (ix2 y0 y1) = ix2 (row t y0) y1 := by
    unfold row; blk_ext [idx t]
  refine (outs6 m c t y0 y1).trans (congrArg (R6 m c) e).symm

theorem final7 (c : Dev nD) : (dats m 0 c).arrAt 7 (cfgs 0).N = R7 m c := by
  refine (dats m 0 c).arrAt_eq_of_covers 7 _ (by decide +kernel) fun t hf y => ?_
  blk_simp
  rw [after0_7]
  idx_vars y
  have e : ((View.whole main_v21_1).slice (win0_7.rect t)).emb (ix2 y0 y1) = ix2 (row t y0) y1 := by
    unfold row; blk_ext [idx t]
  refine (outs7 m c t y0 y1).trans (congrArg (R7 m c) e).symm

end Cert.InProjIdeal.Hand

end
-- ==== Proof.InProjRef.lean ====
/- The input projection's reference read entry by entry: the projection with the queries and keys rotated, and the normalised rows. -/
module

public import Idealize.ShloMosaic.Lib.Pointwise
public import proofs.«01_k».proof.Proof.InProjPure
public import proofs.«01_k».proof.Proof.Gen.InProjRefIdeal.Read

@[expose] public section

set_option maxRecDepth 16384

noncomputable section

namespace Cert.InProjRefIdeal.Hand

open Idealize.ShloMosaic Idealize.SL.Sem
open Cert.InProjRefIdeal Cert.InProjRefIdeal.Gen Cert.InProjRefIdeal.Read Cert.RopeSpec

variable (x0 : FVec Ideal S8192x1024 .f32) (x1 : FVec Ideal S1024 .f32) (x2 : FVec Ideal S1024x2560 .f32)
  (x3 x4 : FVec Ideal S1x8192x1x8 .f32)

/-- The projection and its rotation, of the reference's arguments. -/
abbrev Z : Fin 8192 → Fin 2560 → EReal := proj (fun n k => x0 (ix2 n k)) (fun k => x1 (ix1 k)) (fun k j => x2 (ix2 k j))
abbrev O : Fin 8192 → Fin 2560 → EReal := rope (Z x0 x1 x2) (fun n k => x3 (ix4 0 n 0 k)) (fun n k => x4 (ix4 0 n 0 k))

theorem v7_at (n : Fin 8192) (z : Fin 1) : val_main_v7 (F := Ideal) x0 (ix2 n z) = MlpSpec.rr (fun n k => x0 (ix2 n k)) n := by
  pointwise [val_main_v7, val_main_v6, val_main_v5, val_main_v4, val_main_v3, val_main_v2, val_main_v1, val_main_v0,
    val_main_cst, val_main_cst_0, val_main_cst_1, MlpSpec.rr, zero_add]

theorem v12_at (n : Fin 8192) (k : Fin 1024) :
    val_main_v12 (F := Ideal) x0 x1 (ix2 n k) = DwSpec.hn (fun n k => x0 (ix2 n k)) (fun k => x1 (ix1 k)) n k := by
  pointwise [val_main_v12, val_main_v11, val_main_v10, val_main_v9, val_main_v8, v7_at, DwSpec.hn]

theorem v58_at (n : Fin 8192) (k : Fin 1024) :
    val_main_v58 (F := Ideal) x0 x1 (ix2 n k) = DwSpec.hn (fun n k => x0 (ix2 n k)) (fun k => x1 (ix1 k)) n k := by
  pointwise [val_main_v58, v12_at]

theorem v13_at (n : Fin 8192) (j : Fin 2560) : val_main_v13 (F := Ideal) x0 x1 x2 (ix2 n j) = Z x0 x1 x2 n j := by
  pointwise [val_main_v13, v12_at, Z, proj]

/-- The heads before the rotation. -/
theorem v19_at (n : Fin 8192) (h : Fin 12) (d : Fin 64) :
    val_main_v19 (F := Ideal) x0 x1 x2 (ix4 0 n h d) = Z x0 x1 x2 n ⟨256 + h.val * 64 + d.val, by omega⟩ := by
  pointwise [val_main_v19, val_main_v16, val_main_v15, val_main_v14, v13_at]
  congr 1; apply Fin.ext; simp; omega
theorem v20_at (n : Fin 8192) (h : Fin 12) (d : Fin 64) :
    val_main_v20 (F := Ideal) x0 x1 x2 (ix4 0 n h d) = Z x0 x1 x2 n ⟨1024 + h.val * 64 + d.val, by omega⟩ := by
  pointwise [val_main_v20, val_main_v17, val_main_v15, val_main_v14, v13_at]
  congr 1; apply Fin.ext; simp; omega
theorem v21_at (n : Fin 8192) (h : Fin 12) (d : Fin 64) :
    val_main_v21 (F := Ideal) x0 x1 x2 (ix4 0 n h d) = Z x0 x1 x2 n ⟨1792 + h.val * 64 + d.val, by omega⟩ := by
  pointwise [val_main_v21, val_main_v18, val_main_v15, val_main_v14, v13_at]
  congr 1; apply Fin.ext; simp; omega

/-- The rotation at column `d` of a head that starts at column `b`. -/
theorem rope_head (Z : Fin 8192 → Fin 2560 → EReal) (C S : Fin 8192 → Fin 8 → EReal) (n : Fin 8192) (b : ℕ) (d : Fin 64)
    (hb : 256 ≤ b ∧ b + 63 < 1792) (hm : b % 64 = 0) :
    rope Z C S n ⟨b + d.val, by omega⟩
    = if h1 : d.val < 16 then
        if h2 : d.val < 8 then Z n ⟨b + d.val, by omega⟩ * C n ⟨d.val, h2⟩ - Z n ⟨b + (8 + d.val), by omega⟩ * S n ⟨d.val, h2⟩
        else Z n ⟨b + (8 + (d.val - 8)), by omega⟩ * C n ⟨d.val - 8, by omega⟩ + Z n ⟨b + (d.val - 8), by omega⟩ * S n ⟨d.val - 8, by omega⟩
      else Z n ⟨b + (16 + (d.val - 16)), by omega⟩ := by
  have hd := d.isLt
  have e : (b + d.val) % 64 = d.val := by omega
  unfold rope
  rw [dif_pos (show 256 ≤ b + d.val ∧ b + d.val < 1792 by omega)]
  by_cases h2 : d.val < 8
  · have h1 : d.val < 16 := by omega
    simp only [e, dif_pos h1, dif_pos h2]
    rw [show (⟨b + (8 + d.val), by omega⟩ : Fin 2560) = ⟨b + d.val + 8, by omega⟩ from Fin.ext (by simp only []; omega)]
  · by_cases h1 : d.val < 16
    · simp only [e, dif_pos h1, dif_neg h2]
      rw [show (⟨b + (8 + (d.val - 8)), by omega⟩ : Fin 2560) = ⟨b + d.val, by omega⟩ from Fin.ext (by simp only []; omega),
        show (⟨b + (d.val - 8), by omega⟩ : Fin 2560) = ⟨b + d.val - 8, by omega⟩ from Fin.ext (by simp only []; omega)]
    · simp only [e, dif_neg h1, dif_neg h2]
      rw [show (⟨b + (16 + (d.val - 16)), by omega⟩ : Fin 2560) = ⟨b + d.val, by omega⟩ from Fin.ext (by simp only []; omega)]

/-- The rotated heads. -/
theorem v36_at (n : Fin 8192) (h : Fin 12) (d : Fin 64) :
    val_main_v36 (F := Ideal) x0 x1 x2 x3 x4 (ix4 0 n h d) = O x0 x1 x2 x3 x4 n ⟨256 + h.val * 64 + d.val, by omega⟩ := by
  refine Eq.trans ?_ (rope_head (Z x0 x1 x2) _ _ n (256 + h.val * 64) d (by omega) (by omega)).symm
  pointwise [val_main_v36, val_main_v35, val_main_v34, val_main_v33, val_main_v32, val_main_v31, val_main_v30, val_main_v29, val_main_v28,
    val_main_v27, val_main_v26, val_main_v25, val_main_v24, val_main_v23, val_main_v22, v19_at]
theorem v51_at (n : Fin 8192) (h : Fin 12) (d : Fin 64) :
    val_main_v51 (F := Ideal) x0 x1 x2 x3 x4 (ix4 0 n h d) = O x0 x1 x2 x3 x4 n ⟨1024 + h.val * 64 + d.val, by omega⟩ := by
  refine Eq.trans ?_ (rope_head (Z x0 x1 x2) _ _ n (1024 + h.val * 64) d (by omega) (by omega)).symm
  pointwise [val_main_v51, val_main_v50, val_main_v49, val_main_v48, val_main_v47, val_main_v46, val_main_v45, val_main_v44, val_main_v43,
    val_main_v42, val_main_v41, val_main_v40, val_main_v39, val_main_v38, val_main_v37, v20_at]

/-- The heads laid side by side again. -/
theorem v54_at (n : Fin 8192) (e : Fin 768) :
    val_main_v54 (F := Ideal) x0 x1 x2 x3 x4 (ix2 n e) = O x0 x1 x2 x3 x4 n ⟨256 + e.val, by omega⟩ := by
  pointwise [val_main_v54, v36_at]
  congr 1; apply Fin.ext; simp only []; omega
theorem v55_at (n : Fin 8192) (e : Fin 768) :
    val_main_v55 (F := Ideal) x0 x1 x2 x3 x4 (ix2 n e) = O x0 x1 x2 x3 x4 n ⟨1024 + e.val, by omega⟩ := by
  pointwise [val_main_v55, v51_at]
  congr 1; apply Fin.ext; simp only []; omega
theorem v56_at (n : Fin 8192) (e : Fin 768) :
    val_main_v56 (F := Ideal) x0 x1 x2 (ix2 n e) = O x0 x1 x2 x3 x4 n ⟨1792 + e.val, by omega⟩ := by
  have he := e.isLt
  unfold O rope
  rw [dif_neg (show ¬(256 ≤ 1792 + e.val ∧ 1792 + e.val < 1792) by omega)]
  pointwise [val_main_v56, v21_at]
  congr 1; apply Fin.ext; simp only []; omega
theorem v53_at (n : Fin 8192) (e : Fin 256) :
    val_main_v53 (F := Ideal) x0 x1 x2 (ix2 n e) = O x0 x1 x2 x3 x4 n ⟨e.val, by omega⟩ := by
  have he := e.isLt
  unfold O rope
  rw [dif_neg (show ¬(256 ≤ e.val ∧ e.val < 1792) by omega)]
  pointwise [val_main_v53, val_main_v52, val_main_v14, v13_at]

theorem v57_at (n : Fin 8192) (j : Fin 2560) :
    val_main_v57 (F := Ideal) x0 x1 x2 x3 x4 (ix2 n j) = O x0 x1 x2 x3 x4 n j := by
  pointwise [val_main_v57, v53_at x0 x1 x2 x3 x4, v54_at, v55_at, v56_at x0 x1 x2 x3 x4]
  have hj := j.isLt
  by_cases h1 : j.val < 256
  · rw [dif_pos h1]
  · rw [dif_neg h1]
    by_cases h2 : j.val - 256 < 768
    · rw [dif_pos h2]
      congr 1; apply Fin.ext; simp only []; omega
    · rw [dif_neg h2]
      by_cases h3 : j.val - 256 - 768 < 768
      · rw [dif_pos h3]
        congr 1; apply Fin.ext; simp only []; omega
      · rw [dif_neg h3]
        congr 1; apply Fin.ext; simp only []; omega

end Cert.InProjRefIdeal.Hand

end
-- ==== Proof.InProjClaim.lean ====
/- The input projection's forward call gives the reference's two results, at exact arithmetic. -/
module

public import proofs.«01_k».proof.Proof.InProjFinal
public import proofs.«01_k».proof.Proof.InProjRef

@[expose] public section

set_option maxRecDepth 16384

noncomputable section

namespace Cert.InProjIdeal.Hand

open Idealize.ShloMosaic Idealize.ShloMosaic.TcCoe
open Cert.InProjIdeal

variable (m : (ℓ : Loc nD τ sig) → Buf (Elt Ideal) ℓ) (c : Dev nD)

theorem ref6 : Cert.InProjRefIdeal.Read.val_main_v57 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R6 m c := by
  funext i
  idx_vars i
  exact Cert.InProjRefIdeal.Hand.v57_at _ _ _ _ _ i0 i1

theorem ref7 : Cert.InProjRefIdeal.Read.val_main_v58 (F := Ideal) (m ((c : Thread nD τ).loc main_arg0)) (m ((c : Thread nD τ).loc main_arg1))
    = R7 m c := by
  funext i
  idx_vars i
  exact Cert.InProjRefIdeal.Hand.v58_at _ _ i0 i1

end Cert.InProjIdeal.Hand

end
-- ==== Proof.OutSpec.lean ====
/- The output projection's backward pass as plain mathematics over the extended reals. -/
module

public import proofs.«01_k».proof.Proof.DwSpec

@[expose] public section

noncomputable section

namespace Cert.OutSpec

open Idealize.ShloMosaic

variable (DH : Fin 8192 → Fin 1024 → EReal) (W : Fin 1024 → Fin 1024 → EReal) (O : Fin 8192 → Fin 768 → EReal) (L : Fin 8192 → Fin 12 → EReal)

/-- The gradient of the mixed rows, and its columns past the pooled ones. -/
def dm (n : Fin 8192) (i : Fin 1024) : EReal := ∑ k : Fin 1024, DH n k * W i k
def da (n : Fin 8192) (c : Fin 768) : EReal := dm DH W n ⟨256 + c.val, by omega⟩

/-- A column of one group's 256, in the whole row of 768; and one head's column. -/
def col (g : Fin 3) (c : Fin 256) : Fin 768 := ⟨g.val * 256 + c.val, by omega⟩
def lane (g : Fin 3) (j : Fin 4) (d : Fin 64) : Fin 768 := ⟨g.val * 256 + j.val * 64 + d.val, by omega⟩

/-- The head of a group's column. -/
def hd (c : Fin 256) : Fin 4 := ⟨c.val / 64, by omega⟩

/-- One head's logarithm of its denominator; the shares of the three groups. -/
def lg (n : Fin 8192) (g : Fin 3) (j : Fin 4) : EReal := L n ⟨g.val * 4 + j.val, by omega⟩
def mx (n : Fin 8192) (j : Fin 4) : EReal := max (max (lg L n 0 j) (lg L n 1 j)) (lg L n 2 j)
def ex (n : Fin 8192) (g : Fin 3) (j : Fin 4) : EReal := Ideal.exp (lg L n g j - mx L n j)
def den (n : Fin 8192) (j : Fin 4) : EReal := ex L n 0 j + ex L n 1 j + ex L n 2 j
def wt (n : Fin 8192) (g : Fin 3) (j : Fin 4) : EReal := Ideal.div (ex L n g j) (den L n j)

/-- The outputs' gradient. -/
def dout (n : Fin 8192) (g : Fin 3) (c : Fin 256) : EReal := da DH W n (col g c) * wt L n g (hd c)

/-- The gradient of one head's share, and the shares' mean of the three groups'. -/
def dw (n : Fin 8192) (g : Fin 3) (j : Fin 4) : EReal := ∑ d : Fin 64, da DH W n (lane g j d) * O n (lane g j d)
def tt (n : Fin 8192) (j : Fin 4) : EReal :=
  wt L n 0 j * dw DH W O n 0 j + wt L n 1 j * dw DH W O n 1 j + wt L n 2 j * dw DH W O n 2 j

/-- Each head's sum of products of the outputs' gradient with the outputs, less the gradient of its logarithm. -/
def dlt (n : Fin 8192) (g : Fin 3) (j : Fin 4) : EReal := wt L n g j * tt DH W O L n j

end Cert.OutSpec

end
-- ==== Proof.OutBwdPure.lean ====
/- The output projection's backward call: its stored blocks entry by entry. -/
module

public import Idealize.ShloMosaic.Lib.Pointwise
public import proofs.«01_k».proof.Proof.OutSpec
public import proofs.«01_k».proof.Proof.MlpAlg
public import proofs.«01_k».proof.Proof.Gen.OutBwdIdeal.Skeleton

@[expose] public section

set_option maxRecDepth 16384

noncomputable section

namespace Cert.OutBwdIdeal.Hand

open Idealize.ShloMosaic Idealize.SL.Sem
open Cert.OutBwdIdeal Cert.OutBwdIdeal.Gen Cert.OutSpec

/-- The table that says which pairs of a group's columns are of one head. -/
def mask : IVec S256x256 1 := k0_pay21 (iota .tc S256x256 32 [0] iota_S256x256_d0_w32) 64#32 k0_pay20 0#32

theorem pay28_eq (x : FVec Ideal S512x256 .f32) :
    k0_pay28 (F := Ideal) x k0_pay24 (iota .tc S256x256 32 [1] iota_S256x256_d1_w32) 64#32 k0_pay25 k0_pay26 k0_pay27
    = k0_pay22 (F := Ideal) x mask := rfl
theorem pay33_eq (x : FVec Ideal S512x256 .f32) :
    k0_pay33 (F := Ideal) x (iota .tc S256x256 32 [0] iota_S256x256_d0_w32) k0_pay30 k0_pay31 k0_pay32
    = k0_pay22 (F := Ideal) x mask := rfl

/-- A number under 256 divided by 64, rounded down, as the table computes it. -/
def fl (r : ℕ) : BitVec 32 :=
  Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 r) 64#32) 0#32))
    (IntOp.subi (IntOp.divsi ArithUnit.vector (BitVec.ofNat 32 r) 64#32) 1#32)
    (IntOp.divsi ArithUnit.vector (BitVec.ofNat 32 r) 64#32)

theorem fl_eq : ∀ r : Fin 256, fl r.val = BitVec.ofNat 32 (r.val / 64) := by decide +kernel

theorem eq_at : ∀ a b : Fin 4, IntOp.cmpi CmpIPredicate.eq (BitVec.ofNat 32 a.val) (BitVec.ofNat 32 b.val) = if a.val = b.val then 1#1 else 0#1 := by
  decide +kernel

theorem mask_at (r c : Fin 256) : mask (ix2 r c) = if r.val / 64 = c.val / 64 then 1#1 else 0#1 := by
  have e : mask (ix2 r c) = IntOp.cmpi CmpIPredicate.eq (fl r.val) (fl c.val) := by
    pointwise [mask, k0_pay21, k0_pay20, fl]
  rw [e, fl_eq, fl_eq]
  exact eq_at ⟨r.val / 64, by omega⟩ ⟨c.val / 64, by omega⟩

theorem sel_at {p : Prop} [Decidable p] (a : EReal) : Scalar.select (if p then 1#1 else 0#1) a 0 = if p then a else 0 := by
  by_cases h : p
  · rw [if_pos h, if_pos h]; rfl
  · rw [if_neg h, if_neg h]; rfl

theorem sums_at (x : FVec Ideal S512x256 .f32) (r : Fin 512) (c : Fin 256) :
    k0_pay22 (F := Ideal) x mask (ix2 r c)
    = (∑ k : Fin 256, if k.val / 64 = c.val / 64 then x (ix2 r k) else 0)
      + ∑ k : Fin 256, if k.val / 64 = c.val / 64 then x (ix2 r k) - x (ix2 r k) else 0 := by
  pointwise [k0_pay22, mask_at, sel_at]
  simp only [mul_ite, mul_one, mul_zero]

/-- A sum over a group's columns of those of one head is a sum over the head's. -/
theorem sum_head (f : Fin 256 → EReal) (j : Fin 4) :
    (∑ k : Fin 256, if k.val / 64 = j.val then f k else 0) = ∑ d : Fin 64, f ⟨j.val * 64 + d.val, by omega⟩ := by
  rw [← Finset.sum_filter]
  refine (Finset.sum_bij (fun (d : Fin 64) _ => (⟨j.val * 64 + d.val, by omega⟩ : Fin 256)) ?_ ?_ ?_ ?_).symm
  · intro d _
    simp only [Finset.mem_filter, Finset.mem_univ, true_and]
    omega
  · intro d _ d' _ h
    have := congrArg Fin.val h
    exact Fin.ext (by simpa using this)
  · intro k hk
    have hk := (Finset.mem_filter.1 hk).2
    exact ⟨⟨k.val % 64, by omega⟩, Finset.mem_univ _, Fin.ext (by simp only; omega)⟩
  · intro d _; rfl

/-- A number less itself is zero where it is real. -/
theorem sub_self_real {x : EReal} (h : MlpSpec.IsR x) : x - x = 0 := by
  obtain ⟨a, rfl⟩ := h
  rw [← EReal.coe_sub, sub_self, EReal.coe_zero]

/-- The head's sum, on real numbers. -/
theorem sums_real (x : FVec Ideal S512x256 .f32) (r : Fin 512) (hx : ∀ k, MlpSpec.IsR (x (ix2 r k))) (c : Fin 256) :
    k0_pay22 (F := Ideal) x mask (ix2 r c) = ∑ d : Fin 64, x (ix2 r ⟨(hd c).val * 64 + d.val, by omega⟩) := by
  rw [sums_at]
  have z : (∑ k : Fin 256, if k.val / 64 = c.val / 64 then x (ix2 r k) - x (ix2 r k) else 0) = 0 :=
    Finset.sum_eq_zero fun k _ => by rw [sub_self_real (hx k), ite_self]
  rw [z, add_zero]
  exact sum_head (fun k => x (ix2 r k)) (hd c)

variable (row : Fin 512 → Fin 8192)
  (DH : Fin 8192 → Fin 1024 → EReal) (W : Fin 1024 → Fin 1024 → EReal) (O : Fin 8192 → Fin 768 → EReal) (L : Fin 8192 → Fin 12 → EReal)
  (x0 : FVec Ideal S512x1024 .f32) (x1 : FVec Ideal S1x1024x1024 .bf16) (x2 x3 x4 x5 x6 x7 : FVec Ideal S512x256 .f32)

section dots

variable (h0 : ∀ r k, x0 (ix2 r k) = DH (row r) k) (h1 : ∀ i k, x1 (ix3 0 i k) = W i k)

include h0 h1

theorem dm_point (r : Fin 512) (i : Fin 1024) : k0_pay3 (F := Ideal) x0 x1 (ix2 r i) = dm DH W (row r) i := by
  pointwise [k0_pay3, h0, h1, dm]

theorem dpool_point (r : Fin 512) (c : Fin 256) : k0_pay4 (F := Ideal) x0 x1 (ix2 r c) = dm DH W (row r) ⟨c.val, by omega⟩ := by
  pointwise [k0_pay4, dm_point row DH W x0 x1 h0 h1]

theorem da0_point (r : Fin 512) (c : Fin 256) : k0_pay16 (F := Ideal) x0 x1 (ix2 r c) = da DH W (row r) (col 0 c) := by
  pointwise [k0_pay16, dm_point row DH W x0 x1 h0 h1, da, col]
theorem da1_point (r : Fin 512) (c : Fin 256) : k0_pay17 (F := Ideal) x0 x1 (ix2 r c) = da DH W (row r) (col 1 c) := by
  pointwise [k0_pay17, dm_point row DH W x0 x1 h0 h1, da, col]
  exact congrArg (dm DH W (row r)) (Fin.ext (by simp only; omega))
theorem da2_point (r : Fin 512) (c : Fin 256) : k0_pay18 (F := Ideal) x0 x1 (ix2 r c) = da DH W (row r) (col 2 c) := by
  pointwise [k0_pay18, dm_point row DH W x0 x1 h0 h1, da, col]
  exact congrArg (dm DH W (row r)) (Fin.ext (by simp only; omega))

end dots

section shares

variable (h5 : ∀ r c, x5 (ix2 r c) = lg L (row r) 0 (hd c)) (h6 : ∀ r c, x6 (ix2 r c) = lg L (row r) 1 (hd c))
  (h7 : ∀ r c, x7 (ix2 r c) = lg L (row r) 2 (hd c))

include h5 h6 h7

theorem mx_point (r : Fin 512) (c : Fin 256) : k0_pay8 (F := Ideal) x5 x6 x7 (ix2 r c) = mx L (row r) (hd c) := by
  pointwise [k0_pay8, k0_pay7, k0_pay6, k0_pay5, h5, h6, h7, mx]
theorem ex0_point (r : Fin 512) (c : Fin 256) : k0_pay9 (F := Ideal) x5 x6 x7 (ix2 r c) = ex L (row r) 0 (hd c) := by
  pointwise [k0_pay9, k0_pay5, mx_point row L x5 x6 x7 h5 h6 h7, h5, ex]
theorem ex1_point (r : Fin 512) (c : Fin 256) : k0_pay10 (F := Ideal) x5 x6 x7 (ix2 r c) = ex L (row r) 1 (hd c) := by
  pointwise [k0_pay10, k0_pay6, mx_point row L x5 x6 x7 h5 h6 h7, h6, ex]
theorem ex2_point (r : Fin 512) (c : Fin 256) : k0_pay11 (F := Ideal) x5 x6 x7 (ix2 r c) = ex L (row r) 2 (hd c) := by
  pointwise [k0_pay11, k0_pay7, mx_point row L x5 x6 x7 h5 h6 h7, h7, ex]
theorem den_point (r : Fin 512) (c : Fin 256) : k0_pay12 (F := Ideal) x5 x6 x7 (ix2 r c) = den L (row r) (hd c) := by
  pointwise [k0_pay12, ex0_point row L x5 x6 x7 h5 h6 h7, ex1_point row L x5 x6 x7 h5 h6 h7, ex2_point row L x5 x6 x7 h5 h6 h7, den]
theorem wt0_point (r : Fin 512) (c : Fin 256) : k0_pay13 (F := Ideal) x5 x6 x7 (ix2 r c) = wt L (row r) 0 (hd c) := by
  pointwise [k0_pay13, ex0_point row L x5 x6 x7 h5 h6 h7, den_point row L x5 x6 x7 h5 h6 h7, wt]
theorem wt1_point (r : Fin 512) (c : Fin 256) : k0_pay14 (F := Ideal) x5 x6 x7 (ix2 r c) = wt L (row r) 1 (hd c) := by
  pointwise [k0_pay14, ex1_point row L x5 x6 x7 h5 h6 h7, den_point row L x5 x6 x7 h5 h6 h7, wt]
theorem wt2_point (r : Fin 512) (c : Fin 256) : k0_pay15 (F := Ideal) x5 x6 x7 (ix2 r c) = wt L (row r) 2 (hd c) := by
  pointwise [k0_pay15, ex2_point row L x5 x6 x7 h5 h6 h7, den_point row L x5 x6 x7 h5 h6 h7, wt]

end shares

/-- The stored row of the three groups' gradients, by group. -/
theorem pay1_at (a b c a' b' c' : FVec Ideal S512x256 .f32) (r : Fin 512) (y : Fin 256) :
    k0_pay1 (F := Ideal) a b c a' b' c' (ix2 r (col 0 y)) = a' (ix2 r y) * a (ix2 r y)
    ∧ k0_pay1 (F := Ideal) a b c a' b' c' (ix2 r (col 1 y)) = b' (ix2 r y) * b (ix2 r y)
    ∧ k0_pay1 (F := Ideal) a b c a' b' c' (ix2 r (col 2 y)) = c' (ix2 r y) * c (ix2 r y) := by
  refine ⟨?_, ?_, ?_⟩ <;> pointwise [k0_pay1, col]
  rw [dif_neg (by omega), dif_neg (by omega)]
  simp only [show ∀ h, (⟨512 + y.val - 256 - 256, h⟩ : Fin 256) = y from fun h => Fin.ext (by simp only; omega)]

theorem pay2_at (a b c p q : FVec Ideal S512x256 .f32) (r : Fin 512) (y : Fin 256) :
    k0_pay2 (F := Ideal) a b c p q (ix2 r (col 0 y)) = a (ix2 r y) * (q (ix2 r y) + c (ix2 r y) * p (ix2 r y))
    ∧ k0_pay2 (F := Ideal) a b c p q (ix2 r (col 1 y)) = b (ix2 r y) * (q (ix2 r y) + c (ix2 r y) * p (ix2 r y))
    ∧ k0_pay2 (F := Ideal) a b c p q (ix2 r (col 2 y)) = c (ix2 r y) * (q (ix2 r y) + c (ix2 r y) * p (ix2 r y)) := by
  refine ⟨?_, ?_, ?_⟩ <;> pointwise [k0_pay2, col]
  rw [dif_neg (by omega), dif_neg (by omega)]
  simp only [show ∀ h, (⟨512 + y.val - 256 - 256, h⟩ : Fin 256) = y from fun h => Fin.ext (by simp only; omega)]

theorem pay34_at (a b p q : FVec Ideal S512x256 .f32) (r : Fin 512) (y : Fin 256) :
    k0_pay34 (F := Ideal) a b p q (ix2 r y) = a (ix2 r y) * p (ix2 r y) + b (ix2 r y) * q (ix2 r y) := by
  pointwise [k0_pay34]

section all

variable (h0 : ∀ r k, x0 (ix2 r k) = DH (row r) k) (h1 : ∀ i k, x1 (ix3 0 i k) = W i k)
  (h2 : ∀ r c, x2 (ix2 r c) = O (row r) (col 0 c)) (h3 : ∀ r c, x3 (ix2 r c) = O (row r) (col 1 c))
  (h4 : ∀ r c, x4 (ix2 r c) = O (row r) (col 2 c))
  (h5 : ∀ r c, x5 (ix2 r c) = lg L (row r) 0 (hd c)) (h6 : ∀ r c, x6 (ix2 r c) = lg L (row r) 1 (hd c))
  (h7 : ∀ r c, x7 (ix2 r c) = lg L (row r) 2 (hd c))

include h0 h1 h5 h6 h7 in
theorem dout_point (r : Fin 512) (g : Fin 3) (c : Fin 256) :
    k0_pay1 (F := Ideal) (k0_pay13 x5 x6 x7) (k0_pay14 x5 x6 x7) (k0_pay15 x5 x6 x7) (k0_pay16 x0 x1) (k0_pay17 x0 x1) (k0_pay18 x0 x1)
      (ix2 r (col g c)) = dout DH W L (row r) g c := by
  obtain ⟨e0, e1, e2⟩ := pay1_at (k0_pay13 x5 x6 x7) (k0_pay14 x5 x6 x7) (k0_pay15 x5 x6 x7) (k0_pay16 x0 x1) (k0_pay17 x0 x1) (k0_pay18 x0 x1) r c
  rw [da0_point row DH W x0 x1 h0 h1, wt0_point row L x5 x6 x7 h5 h6 h7] at e0
  rw [da1_point row DH W x0 x1 h0 h1, wt1_point row L x5 x6 x7 h5 h6 h7] at e1
  rw [da2_point row DH W x0 x1 h0 h1, wt2_point row L x5 x6 x7 h5 h6 h7] at e2
  fin_cases g
  · exact e0
  · exact e1
  · exact e2

/-- One group's head sums. -/
theorem dw_point (g : Fin 3) (X : FVec Ideal S512x256 .f32) (r : Fin 512)
    (hX : ∀ k, X (ix2 r k) = da DH W (row r) (col g k) * O (row r) (col g k))
    (hr : ∀ k, MlpSpec.IsR (da DH W (row r) (col g k) * O (row r) (col g k))) (c : Fin 256) :
    k0_pay22 (F := Ideal) X mask (ix2 r c) = dw DH W O (row r) g (hd c) := by
  rw [sums_real X r (fun k => (hX k).symm ▸ hr k) c]
  refine Finset.sum_congr rfl fun d _ => ?_
  rw [hX]
  have e : col g ⟨(hd c).val * 64 + d.val, by omega⟩ = lane g (hd c) d := Fin.ext (by simp only [col, lane]; omega)
  rw [e]

include h0 h1 h2 h3 h4 h5 h6 h7 in
theorem dlt_point (r : Fin 512) (hr : ∀ c, MlpSpec.IsR (da DH W (row r) c * O (row r) c)) (g : Fin 3) (c : Fin 256) :
    k0_pay2 (F := Ideal) (k0_pay13 x5 x6 x7) (k0_pay14 x5 x6 x7) (k0_pay15 x5 x6 x7)
      (k0_pay22 (k0_pay29 (k0_pay18 x0 x1) x4) mask)
      (k0_pay34 (k0_pay13 x5 x6 x7) (k0_pay14 x5 x6 x7) (k0_pay22 (k0_pay19 x0 x1 x2) mask) (k0_pay22 (k0_pay23 (k0_pay17 x0 x1) x3) mask))
      (ix2 r (col g c)) = dlt DH W O L (row r) g (hd c) := by
  have w0 := dw_point row DH W O 0 (k0_pay19 x0 x1 x2) r
    (fun k => by pointwise [k0_pay19, da0_point row DH W x0 x1 h0 h1, h2]) (fun k => hr _) c
  have w1 := dw_point row DH W O 1 (k0_pay23 (k0_pay17 x0 x1) x3) r
    (fun k => by pointwise [k0_pay23, da1_point row DH W x0 x1 h0 h1, h3]) (fun k => hr _) c
  have w2 := dw_point row DH W O 2 (k0_pay29 (k0_pay18 x0 x1) x4) r
    (fun k => by pointwise [k0_pay29, da2_point row DH W x0 x1 h0 h1, h4]) (fun k => hr _) c
  obtain ⟨e0, e1, e2⟩ := pay2_at (k0_pay13 x5 x6 x7) (k0_pay14 x5 x6 x7) (k0_pay15 x5 x6 x7)
    (k0_pay22 (k0_pay29 (k0_pay18 x0 x1) x4) mask)
    (k0_pay34 (k0_pay13 x5 x6 x7) (k0_pay14 x5 x6 x7) (k0_pay22 (k0_pay19 x0 x1 x2) mask) (k0_pay22 (k0_pay23 (k0_pay17 x0 x1) x3) mask)) r c
  rw [pay34_at, w0, w1, w2, wt0_point row L x5 x6 x7 h5 h6 h7, wt1_point row L x5 x6 x7 h5 h6 h7, wt2_point row L x5 x6 x7 h5 h6 h7] at e0 e1 e2
  fin_cases g
  · exact e0
  · exact e1
  · exact e2

end all

end Cert.OutBwdIdeal.Hand

end
-- ==== Proof.OutBwdFinal.lean ====
/- The output projection's backward call's three result arrays as plain mathematics of its arguments. -/
module

public import Idealize.ShloMosaic.Lib.Pipeline.ValueKit
public import proofs.«01_k».proof.Proof.OutBwdPure
public import proofs.«01_k».proof.Proof.Gen.OutBwdIdeal.Value

@[expose] public section

set_option maxRecDepth 16384

noncomputable section

namespace Cert.OutBwdIdeal.Hand

open Idealize.ShloMosaic Idealize.ShloMosaic.TcCoe Idealize.SL.Sem
open Idealize.ShloMosaic.Pipeline (Dat)
open Cert.OutBwdIdeal Cert.OutBwdIdeal.Gen Cert.OutBwdIdeal.Value Cert.OutSpec

/-- Each head's logarithm over the head's columns, as the host prepares it. -/
def wide (x : FVec Ideal S8192x12 .f32) : FVec Ideal S8192x768 .f32 :=
  shapeCast S8192x768 (broadcastInDim S8192x12x64 ![0, 1, 2] bcast_S8192x12x1_S8192x12x64_0_1_2
    (broadcastInDim S8192x12x1 ![0, 1] bcast_S8192x12_S8192x12x1_0_1 x)) shapeCasts_S8192x12x64_S8192x768

theorem wide_at (x : FVec Ideal S8192x12 .f32) (n : Fin 8192) (g : Fin 3) (c : Fin 256) :
    wide x (ix2 n (col g c)) = lg (fun n a => x (ix2 n a)) n g (hd c) := by
  pointwise [wide, lg]
  exact congrArg (fun a => x (ix2 n a)) (Fin.ext (by simp only [col, hd]; omega))

variable (m : (ℓ : Loc nD τ sig) → Buf (Elt Ideal) ℓ)

/-- The four arguments as functions of their indices. -/
def DH (c : Dev nD) (n : Fin 8192) (k : Fin 1024) : EReal := (show FVec Ideal S8192x1024 .f32 from m ((c : Thread nD τ).loc main_arg0)) (ix2 n k)
def W (c : Dev nD) (i k : Fin 1024) : EReal := (show FVec Ideal S1024x1024 .f32 from m ((c : Thread nD τ).loc main_arg1)) (ix2 i k)
def O (c : Dev nD) (n : Fin 8192) (k : Fin 768) : EReal := (show FVec Ideal S8192x768 .f32 from m ((c : Thread nD τ).loc main_arg2)) (ix2 n k)
def L (c : Dev nD) (n : Fin 8192) (a : Fin 12) : EReal := (show FVec Ideal S8192x12 .f32 from m ((c : Thread nD τ).loc main_arg3)) (ix2 n a)

theorem V_v2 (c : Dev nD) : V m c main_v2 = wide (m ((c : Thread nD τ).loc main_arg3)) := by
  unfold V; after_results; try rfl
theorem V_v4 (c : Dev nD) : V m c main_v4 = (broadcastInDim S1x1024x1024 ![1, 2] bcast_S1024x1024_S1x1024x1024_1_2
    (truncf .bf16 (show FVec Ideal S1024x1024 .f32 from m ((c : Thread nD τ).loc main_arg1)) bitsLt_bf16_f32) : FVec Ideal S1x1024x1024 .bf16) := by
  unfold V; after_results; try rfl

theorem idx : ∀ t : Fin cfg0.N, win0_0.index t = ![t.val, 0] ∧ win0_1.index t = ![0, 0, 0] ∧ win0_2.index t = ![t.val, 0]
    ∧ win0_3.index t = ![t.val, 1] ∧ win0_4.index t = ![t.val, 2] ∧ win0_5.index t = ![t.val, 0] ∧ win0_6.index t = ![t.val, 1]
    ∧ win0_7.index t = ![t.val, 2] ∧ win0_8.index t = ![t.val, 0] ∧ win0_9.index t = ![t.val, 0] ∧ win0_10.index t = ![t.val, 0] :=
  (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem b0_at (c : Dev nD) (t : Fin cfg0.N) (r : Fin 512) (k : Fin 1024) :
    (show FVec Ideal S512x1024 .f32 from iblk m c 0 t) (ix2 r k) = DH m c (row t r) k := by
  unfold DH row
  blk_ext [iblk, V_main_arg0, idx t]
theorem b1_at (c : Dev nD) (t : Fin cfg0.N) (i k : Fin 1024) :
    (show FVec Ideal S1x1024x1024 .bf16 from iblk m c 1 t) (ix3 0 i k) = W m c i k := by
  unfold W
  blk_simp [iblk, idx t]
  entry_read
  pointwise
  blk_ext [idx t]
theorem b2_at (c : Dev nD) (t : Fin cfg0.N) (r : Fin 512) (k : Fin 256) :
    (show FVec Ideal S512x256 .f32 from iblk m c 2 t) (ix2 r k) = O m c (row t r) (col 0 k) := by
  unfold O row col
  blk_ext [iblk, V_main_arg2, idx t]
theorem b3_at (c : Dev nD) (t : Fin cfg0.N) (r : Fin 512) (k : Fin 256) :
    (show FVec Ideal S512x256 .f32 from iblk m c 3 t) (ix2 r k) = O m c (row t r) (col 1 k) := by
  unfold O row col
  blk_ext [iblk, V_main_arg2, idx t]
theorem b4_at (c : Dev nD) (t : Fin cfg0.N) (r : Fin 512) (k : Fin 256) :
    (show FVec Ideal S512x256 .f32 from iblk m c 4 t) (ix2 r k) = O m c (row t r) (col 2 k) := by
  unfold O row col
  blk_ext [iblk, V_main_arg2, idx t]
theorem b5_at (c : Dev nD) (t : Fin cfg0.N) (r : Fin 512) (k : Fin 256) :
    (show FVec Ideal S512x256 .f32 from iblk m c 5 t) (ix2 r k) = lg (L m c) (row t r) 0 (hd k) := by
  refine Eq.trans ?_ (wide_at (m ((c : Thread nD τ).loc main_arg3)) (row t r) 0 k)
  unfold row col
  blk_ext [iblk, V_v2, idx t]
theorem b6_at (c : Dev nD) (t : Fin cfg0.N) (r : Fin 512) (k : Fin 256) :
    (show FVec Ideal S512x256 .f32 from iblk m c 6 t) (ix2 r k) = lg (L m c) (row t r) 1 (hd k) := by
  refine Eq.trans ?_ (wide_at (m ((c : Thread nD τ).loc main_arg3)) (row t r) 1 k)
  unfold row col
  blk_ext [iblk, V_v2, idx t]
theorem b7_at (c : Dev nD) (t : Fin cfg0.N) (r : Fin 512) (k : Fin 256) :
    (show FVec Ideal S512x256 .f32 from iblk m c 7 t) (ix2 r k) = lg (L m c) (row t r) 2 (hd k) := by
  refine Eq.trans ?_ (wide_at (m ((c : Thread nD τ).loc main_arg3)) (row t r) 2 k)
  unfold row col
  blk_ext [iblk, V_v2, idx t]

/-- A column of 768 as a group and the group's column. -/
def gr (c : Fin 768) : Fin 3 := ⟨c.val / 256, by omega⟩
def cl (c : Fin 768) : Fin 256 := ⟨c.val % 256, by omega⟩
theorem col_gr (c : Fin 768) : col (gr c) (cl c) = c := Fin.ext (by simp only [col, gr, cl]; omega)

/-- The three result arrays. -/
def R8 (c : Dev nD) : S8192x256.Idx → EReal := fun i => dm (DH m c) (W m c) (i 0) ⟨(i 1).val, lt_trans (i 1).isLt (by decide)⟩
def R9 (c : Dev nD) : S8192x768.Idx → EReal := fun i => dout (DH m c) (W m c) (L m c) (i 0) (gr (i 1)) (cl (i 1))
def R10 (c : Dev nD) : S8192x768.Idx → EReal := fun i => dlt (DH m c) (W m c) (O m c) (L m c) (i 0) (gr (i 1)) (hd (cl (i 1)))

theorem outs8 (c : Dev nD) (t : Fin cfg0.N) (r : Fin 512) (k : Fin 256) :
    (show FVec Ideal S512x256 .f32 from out0_8 (iblk m c 0 t) (iblk m c 1 t) (iblk m c 2 t) (iblk m c 3 t) (iblk m c 4 t) (iblk m c 5 t) (iblk m c 6 t) (iblk m c 7 t)) (ix2 r k)
    = dm (DH m c) (W m c) (row t r) ⟨k.val, by omega⟩ := by
  frame_out
  exact dpool_point (row t) (DH m c) (W m c) _ _ (b0_at m c t) (b1_at m c t) r k

theorem outs9 (c : Dev nD) (t : Fin cfg0.N) (r : Fin 512) (k : Fin 768) :
    (show FVec Ideal S512x768 .f32 from out0_9 (iblk m c 0 t) (iblk m c 1 t) (iblk m c 2 t) (iblk m c 3 t) (iblk m c 4 t) (iblk m c 5 t) (iblk m c 6 t) (iblk m c 7 t)) (ix2 r k)
    = dout (DH m c) (W m c) (L m c) (row t r) (gr k) (cl k) := by
  unfold_out out0_9; frame_out
  have h := dout_point (row t) (DH m c) (W m c) (L m c) (iblk m c 0 t) (iblk m c 1 t) (iblk m c 5 t) (iblk m c 6 t) (iblk m c 7 t)
    (b0_at m c t) (b1_at m c t) (b5_at m c t) (b6_at m c t) (b7_at m c t) r (gr k) (cl k)
  rw [col_gr] at h
  exact h

theorem outs10 (c : Dev nD) (t : Fin cfg0.N) (r : Fin 512) (hr : ∀ k, MlpSpec.IsR (da (DH m c) (W m c) (row t r) k * O m c (row t r) k)) (k : Fin 768) :
    (show FVec Ideal S512x768 .f32 from out0_10 (iblk m c 0 t) (iblk m c 1 t) (iblk m c 2 t) (iblk m c 3 t) (iblk m c 4 t) (iblk m c 5 t) (iblk m c 6 t) (iblk m c 7 t)) (ix2 r k)
    = dlt (DH m c) (W m c) (O m c) (L m c) (row t r) (gr k) (hd (cl k)) := by
  unfold_out out0_10; frame_out
  rw [pay28_eq, pay33_eq]
  have h := dlt_point (row t) (DH m c) (W m c) (O m c) (L m c) (iblk m c 0 t) (iblk m c 1 t) (iblk m c 2 t) (iblk m c 3 t) (iblk m c 4 t) (iblk m c 5 t) (iblk m c 6 t) (iblk m c 7 t)
    (b0_at m c t) (b1_at m c t) (b2_at m c t) (b3_at m c t) (b4_at m c t) (b5_at m c t) (b6_at m c t) (b7_at m c t) r hr (gr k) (cl k)
  rw [col_gr] at h
  exact h

theorem final8 (c : Dev nD) : (dats m 0 c).arrAt 8 (cfgs 0).N = R8 m c := by
  refine (dats m 0 c).arrAt_eq_of_covers 8 _ (by decide +kernel) fun t hf y => ?_
  blk_simp
  rw [after0_8]
  idx_vars y
  have e : ((View.whole main_v5_0).slice (win0_8.rect t)).emb (ix2 y0 y1) = ix2 (row t y0) y1 := by
    unfold row; blk_ext [idx t]
  refine (outs8 m c t y0 y1).trans (congrArg (R8 m c) e).symm

theorem final9 (c : Dev nD) : (dats m 0 c).arrAt 9 (cfgs 0).N = R9 m c := by
  refine (dats m 0 c).arrAt_eq_of_covers 9 _ (by decide +kernel) fun t hf y => ?_
  blk_simp
  rw [after0_9]
  idx_vars y
  have e : ((View.whole main_v5_1).slice (win0_9.rect t)).emb (ix2 y0 y1) = ix2 (row t y0) y1 := by
    unfold row; blk_ext [idx t]
  refine (outs9 m c t y0 y1).trans (congrArg (R9 m c) e).symm

theorem final10 (c : Dev nD) (hr : ∀ n k, MlpSpec.IsR (da (DH m c) (W m c) n k * O m c n k)) : (dats m 0 c).arrAt 10 (cfgs 0).N = R10 m c := by
  refine (dats m 0 c).arrAt_eq_of_covers 10 _ (by decide +kernel) fun t hf y => ?_
  blk_simp
  rw [after0_10]
  idx_vars y
  have e : ((View.whole main_v5_2).slice (win0_10.rect t)).emb (ix2 y0 y1) = ix2 (row t y0) y1 := by
    unfold row; blk_ext [idx t]
  refine (outs10 m c t y0 (hr _) y1).trans (congrArg (R10 m c) e).symm

end Cert.OutBwdIdeal.Hand

end
-- ==== Proof.OutBwdRef.lean ====
/- The output projection's reference gradient, its stages read entry by entry over the extended reals. -/
module

public import Idealize.ShloMosaic.Lib.Pointwise
public import proofs.«01_k».proof.Proof.OutSpec
public import proofs.«01_k».proof.Proof.MlpAlg
public import proofs.«01_k».proof.Proof.Gen.OutBwdRefIdeal.Read

@[expose] public section

set_option maxRecDepth 16384

noncomputable section

namespace Cert.OutBwdRefIdeal.Hand

open Idealize.ShloMosaic Idealize.SL.Sem
open Cert.OutBwdRefIdeal Cert.OutBwdRefIdeal.Gen Cert.OutBwdRefIdeal.Read Cert.OutSpec

variable (x0 : FVec Ideal S8192x1024 .f32) (x1 : FVec Ideal S1024x1024 .f32) (x2 : FVec Ideal S8192x768 .f32) (x3 : FVec Ideal S8192x12 .f32)

/-- An array of two axes as a function of its indices. -/
abbrev m2 {a b : ℕ} (x : (⟨2, ![a, b]⟩ : Shape).Idx → EReal) (i : Fin a) (j : Fin b) : EReal := x (ix2 i j)

theorem v2_at (n : Fin 8192) (g : Fin 3) (j : Fin 4) : val_main_v2 (F := Ideal) x3 (ix3 n g j) = lg (m2 x3) n g j := by
  pointwise [val_main_v2, lg]

/-- The greatest of three, folded. -/
theorem fold_three (f : Fin 3 → EReal) : Finset.univ.fold max ⊥ f = max (max (f 0) (f 1)) (f 2) := by
  rw [show (Finset.univ : Finset (Fin 3)) = insert 0 (insert 1 {2}) from rfl, Finset.fold_insert (by decide), Finset.fold_insert (by decide),
    Finset.fold_singleton, max_bot_right, max_assoc]

theorem v10_at (n : Fin 8192) (j : Fin 4) : val_main_v10 (F := Ideal) x3 (ix2 n j) = mx (m2 x3) n j := by
  pointwise [val_main_v10, val_main_v9, val_main_cst_2, val_main_v3, val_main_cst_0, v2_at, mx]
  rw [MlpSpec.cninf, max_bot_left]
  exact fold_three (fun x => lg (m2 x3) n x j)

theorem v23_at (n : Fin 8192) (g : Fin 3) (j : Fin 4) : val_main_v23 (F := Ideal) x3 (ix3 n g j) = ex (m2 x3) n g j := by
  pointwise [val_main_v23, val_main_v22, val_main_v21, val_main_v20, v10_at, v2_at, ex]

theorem v24_at (n : Fin 8192) (j : Fin 4) : val_main_v24 (F := Ideal) x3 (ix2 n j) = den (m2 x3) n j := by
  pointwise [val_main_v24, val_main_cst_8, v23_at, den, zero_add, Fin.sum_univ_three]

theorem v27_at (n : Fin 8192) (g : Fin 3) (j : Fin 4) : val_main_v27 (F := Ideal) x3 (ix3 n g j) = wt (m2 x3) n g j := by
  pointwise [val_main_v27, val_main_v26, val_main_v25, v23_at, v24_at, wt]

theorem v37_at (n : Fin 8192) (i : Fin 1024) : val_main_v37 (F := Ideal) x0 x1 (ix2 n i) = dm (m2 x0) (m2 x1) n i := by
  pointwise [val_main_v37, dm]

theorem v38_at (n : Fin 8192) (i : Fin 256) : val_main_v38 (F := Ideal) x0 x1 (ix2 n i) = dm (m2 x0) (m2 x1) n ⟨i.val, by omega⟩ := by
  pointwise [val_main_v38, v37_at]

theorem v40_at (n : Fin 8192) (g : Fin 3) (j : Fin 4) (d : Fin 64) :
    val_main_v40 (F := Ideal) x0 x1 (ix4 n g j d) = da (m2 x0) (m2 x1) n (lane g j d) := by
  pointwise [val_main_v40, val_main_v39, v37_at, da, lane]

theorem v0_at (n : Fin 8192) (g : Fin 3) (j : Fin 4) (d : Fin 64) : val_main_v0 (F := Ideal) x2 (ix4 n g j d) = m2 x2 n (lane g j d) := by
  pointwise [val_main_v0, lane]

theorem v45_at (n : Fin 8192) (g : Fin 3) (j : Fin 4) (d : Fin 64) :
    val_main_v45 (F := Ideal) x0 x1 x3 (ix4 n g j d) = da (m2 x0) (m2 x1) n (lane g j d) * wt (m2 x3) n g j := by
  pointwise [val_main_v45, val_main_v44, val_main_v31, v40_at, v27_at]

theorem gr_col (g : Fin 3) (c : Fin 256) (h : (col g c).val / 256 < 3) : (⟨(col g c).val / 256, h⟩ : Fin 3) = g :=
  Fin.ext (by simp only [col]; omega)
theorem hd_col (g : Fin 3) (c : Fin 256) (h : (col g c).val / 64 % 4 < 4) : (⟨(col g c).val / 64 % 4, h⟩ : Fin 4) = hd c :=
  Fin.ext (by simp only [col, hd]; omega)
theorem lane_col (g : Fin 3) (c : Fin 256) (h : (col g c).val % 64 < 64) : lane g (hd c) ⟨(col g c).val % 64, h⟩ = col g c :=
  Fin.ext (by simp only [col, hd, lane]; omega)

theorem v62_at (n : Fin 8192) (g : Fin 3) (c : Fin 256) :
    val_main_v62 (F := Ideal) x0 x1 x3 (ix2 n (col g c)) = dout (m2 x0) (m2 x1) (m2 x3) n g c := by
  pointwise [val_main_v62, v45_at, dout]
  rw [gr_col, hd_col, lane_col]

theorem v46_at (n : Fin 8192) (g : Fin 3) (j : Fin 4) :
    val_main_v46 (F := Ideal) x0 x1 x2 (ix3 n g j) = dw (m2 x0) (m2 x1) (m2 x2) n g j := by
  pointwise [val_main_v46, val_main_cst_11, val_main_v43, val_main_v42, val_main_cst_10, val_main_v41, v0_at, v40_at, zero_add, Fin.sum_univ_one, dw]
  exact Finset.sum_congr rfl fun d _ => mul_comm _ _

/-- The gradient of one head's logarithm, as the reference forms it. -/
def dlg (D : Fin 3 → EReal) (E : Fin 3 → EReal) (S : EReal) (g : Fin 3) : EReal :=
  (Ideal.div (D g) S + -(D 0 * Ideal.div 1 (S * S) * E 0 + D 1 * Ideal.div 1 (S * S) * E 1 + D 2 * Ideal.div 1 (S * S) * E 2)) * E g

theorem v58_at (n : Fin 8192) (g : Fin 3) (j : Fin 4) :
    val_main_v58 (F := Ideal) x0 x1 x2 x3 (ix3 n g j)
    = dlg (fun g => dw (m2 x0) (m2 x1) (m2 x2) n g j) (fun g => ex (m2 x3) n g j) (den (m2 x3) n j) g := by
  pointwise [val_main_v58, val_main_v57, val_main_v56, val_main_v55, val_main_cst_13, val_main_v54, val_main_v53, val_main_v52, val_main_v51,
    val_main_v50, val_main_cst_12, val_main_v49, val_main_v48, val_main_v47, val_main_v30, val_main_v29, val_main_cst_9, val_main_v28,
    val_main_v25, v46_at, v23_at, v24_at, zero_add, Fin.sum_univ_one, Fin.sum_univ_three, dlg]

/-- The third result's entry, as the reference forms it. -/
def rdlt (n : Fin 8192) (g : Fin 3) (j : Fin 4) : EReal :=
  (∑ d : Fin 64, da (m2 x0) (m2 x1) n (lane g j d) * wt (m2 x3) n g j * m2 x2 n (lane g j d))
    - dlg (fun g => dw (m2 x0) (m2 x1) (m2 x2) n g j) (fun g => ex (m2 x3) n g j) (den (m2 x3) n j) g

theorem v61_at (n : Fin 8192) (g : Fin 3) (j : Fin 4) :
    val_main_v61 (F := Ideal) x0 x1 x2 x3 (ix3 n g j) = rdlt x0 x1 x2 x3 n g j := by
  pointwise [val_main_v61, val_main_v60, val_main_cst_14, val_main_v59, v45_at, v0_at, v58_at, zero_add, rdlt]

theorem v65_at (n : Fin 8192) (g : Fin 3) (c : Fin 256) :
    val_main_v65 (F := Ideal) x0 x1 x2 x3 (ix2 n (col g c)) = rdlt x0 x1 x2 x3 n g (hd c) := by
  pointwise [val_main_v65, val_main_v64, val_main_v63, v61_at]
  rw [gr_col, hd_col]

end Cert.OutBwdRefIdeal.Hand

end
-- ==== Proof.OutBwdClaim.lean ====
/- The output projection's backward call gives the reference's three results, at exact arithmetic on finite arguments. -/
module

public import Idealize.ShloMosaic.Lib.ReduceAll
public import proofs.«01_k».proof.Proof.OutBwdFinal
public import proofs.«01_k».proof.Proof.OutBwdRef
public import proofs.«01_k».proof.Proof.Gen.Pre_finite_out

@[expose] public section

set_option maxRecDepth 16384

noncomputable section

namespace Cert.Pre_finite_out.Hand

open Idealize.ShloMosaic Cert.Pre_finite_out Cert.Pre_finite_out.Facts

instance : Subsingleton S_.Idx := ⟨fun a b => funext fun i => i.elim0⟩

variable [Facts]

/-- What the precondition says: every entry of the four arguments is a real number. -/
theorem all_real {x0 : FVec Ideal S8192x1024 .f32} {x1 : FVec Ideal S1024x1024 .f32} {x2 : FVec Ideal S8192x768 .f32}
    {x3 : FVec Ideal S8192x12 .f32} (h : fn (F := Ideal) x0 x1 x2 x3 = fun _ => 1#1) :
    (∀ i, MlpSpec.IsR (x0 i)) ∧ (∀ i, MlpSpec.IsR (x1 i)) ∧ (∀ i, MlpSpec.IsR (x2 i)) ∧ ∀ i, MlpSpec.IsR (x3 i) := by
  have h := congrFun h (fun i => i.elim0)
  dsimp only [fn, fn_part1] at h
  obtain ⟨h, h3⟩ := IntOp.andi_eq_one.1 h
  obtain ⟨h, h2⟩ := IntOp.andi_eq_one.1 h
  obtain ⟨h0, h1⟩ := IntOp.andi_eq_one.1 h
  exact ⟨fun i => MlpSpec.isR_of_lt (Host.reduce_andi_all _ _ _ _ _ h0 i), fun i => MlpSpec.isR_of_lt (Host.reduce_andi_all _ _ _ _ _ h1 i),
    fun i => MlpSpec.isR_of_lt (Host.reduce_andi_all _ _ _ _ _ h2 i), fun i => MlpSpec.isR_of_lt (Host.reduce_andi_all _ _ _ _ _ h3 i)⟩

end Cert.Pre_finite_out.Hand

namespace Cert.OutSpec

open Idealize.ShloMosaic
open Cert.MlpSpec (IsR coe_sum div_coe_coe)

variable {DH : Fin 8192 → Fin 1024 → EReal} {W : Fin 1024 → Fin 1024 → EReal} {O : Fin 8192 → Fin 768 → EReal} {L : Fin 8192 → Fin 12 → EReal}

theorem isR_da (hD : ∀ n k, IsR (DH n k)) (hW : ∀ i k, IsR (W i k)) (n : Fin 8192) (c : Fin 768) : IsR (da DH W n c) := by
  unfold da dm
  exact .sum fun k => (hD n k).mul (hW _ k)

/-- A share's numerator is a positive real. -/
theorem ex_pos (hL : ∀ n a, IsR (L n a)) (n : Fin 8192) (g : Fin 3) (j : Fin 4) : ∃ r : ℝ, 0 < r ∧ ex L n g j = (r : EReal) := by
  have hm : IsR (mx L n j) := ((hL _ _).max (hL _ _)).max (hL _ _)
  obtain ⟨a, ha⟩ : IsR (lg L n g j) := hL _ _
  obtain ⟨b, hb⟩ := hm
  exact ⟨Real.exp (a - b), Real.exp_pos _, by rw [ex, ha, hb, ← EReal.coe_sub, Ideal.exp_coe]⟩

/-- The third result: each head's sum of products less the gradient of its logarithm is its share of the shares' mean. -/
theorem dlt_eq (S : EReal) (D E : Fin 3 → EReal) (a o : Fin 64 → EReal) (g : Fin 3) (ha : ∀ d, IsR (a d)) (ho : ∀ d, IsR (o d))
    (hD : ∀ g, IsR (D g)) (hg : D g = ∑ d, a d * o d) (hE : ∀ g, ∃ r : ℝ, 0 < r ∧ E g = (r : EReal)) (hS : S = E 0 + E 1 + E 2) :
    (∑ d, a d * Ideal.div (E g) S * o d) - Cert.OutBwdRefIdeal.Hand.dlg D E S g
    = Ideal.div (E g) S * (Ideal.div (E 0) S * D 0 + Ideal.div (E 1) S * D 1 + Ideal.div (E 2) S * D 2) := by
  choose x hx using ha
  choose y hy using ho
  choose D' hD' using hD
  choose e he hE using hE
  have hs : e 0 + e 1 + e 2 ≠ 0 := (add_pos (add_pos (he 0) (he 1)) (he 2)).ne'
  have hs2 : (e 0 + e 1 + e 2) * (e 0 + e 1 + e 2) ≠ 0 := mul_ne_zero hs hs
  have hg' : D' g = ∑ d, x d * y d := by
    rw [hD'] at hg
    have : ((D' g : ℝ) : EReal) = ((∑ d, x d * y d : ℝ) : EReal) := by
      rw [hg, coe_sum]; simp only [hx, hy, EReal.coe_mul]
    exact EReal.coe_injective this
  rw [hE 0, hE 1, hE 2, ← EReal.coe_add, ← EReal.coe_add] at hS
  have e1 : (∑ d, a d * Ideal.div (E g) S * o d) = ((∑ d, x d * (e g / (e 0 + e 1 + e 2)) * y d : ℝ) : EReal) := by
    rw [coe_sum, hE, hS, div_coe_coe _ hs]; simp only [hx, hy, EReal.coe_mul]
  have e2 : ∑ d, x d * (e g / (e 0 + e 1 + e 2)) * y d = D' g * (e g / (e 0 + e 1 + e 2)) := by
    rw [hg', Finset.sum_mul]; exact Finset.sum_congr rfl fun d _ => by ring
  rw [e1, e2, Cert.OutBwdRefIdeal.Hand.dlg, hS, ← EReal.coe_mul, ← EReal.coe_one, div_coe_coe _ hs2]
  simp only [hD', hE, div_coe_coe _ hs]
  simp only [← EReal.coe_mul, ← EReal.coe_neg, ← EReal.coe_sub, ← EReal.coe_add]
  congr 1
  field_simp
  ring

end Cert.OutSpec

namespace Cert.OutBwdIdeal.Hand

open Idealize.ShloMosaic Idealize.ShloMosaic.TcCoe
open Cert.OutBwdIdeal Cert.OutSpec

variable (m : (ℓ : Loc nD τ sig) → Buf (Elt Ideal) ℓ) (c : Dev nD)

theorem ref8 : Cert.OutBwdRefIdeal.Read.val_main_v38 (F := Ideal) (m ((c : Thread nD τ).loc main_arg0)) (m ((c : Thread nD τ).loc main_arg1))
    = R8 m c := by
  funext i
  idx_vars i
  exact Cert.OutBwdRefIdeal.Hand.v38_at _ _ i0 i1

theorem ref9 : Cert.OutBwdRefIdeal.Read.val_main_v62 (F := Ideal) (m ((c : Thread nD τ).loc main_arg0)) (m ((c : Thread nD τ).loc main_arg1))
    (m ((c : Thread nD τ).loc main_arg3)) = R9 m c := by
  funext i
  idx_vars i
  have h := Cert.OutBwdRefIdeal.Hand.v62_at (m ((c : Thread nD τ).loc main_arg0)) (m ((c : Thread nD τ).loc main_arg1))
    (m ((c : Thread nD τ).loc main_arg3)) i0 (gr i1) (cl i1)
  rw [col_gr] at h
  exact h

/-- The precondition on the launched memory. -/
abbrev Fin4 [Cert.Pre_finite_out.Facts] : Prop :=
  Cert.Pre_finite_out.fn (F := Ideal) (m ((c : Thread nD τ).loc main_arg0)) (m ((c : Thread nD τ).loc main_arg1))
    (m ((c : Thread nD τ).loc main_arg2)) (m ((c : Thread nD τ).loc main_arg3)) = fun _ => 1#1

theorem finalR10 [Cert.Pre_finite_out.Facts] (h : Fin4 m c) : (Gen.dats m 0 c).arrAt 10 (cfgs 0).N = R10 m c := by
  obtain ⟨h0, h1, h2, -⟩ := Cert.Pre_finite_out.Hand.all_real h
  exact final10 m c fun n k => (isR_da (fun n k => h0 _) (fun i k => h1 _) n k).mul (h2 _)

theorem ref10 [Cert.Pre_finite_out.Facts] (h : Fin4 m c) :
    Cert.OutBwdRefIdeal.Read.val_main_v65 (F := Ideal) (m ((c : Thread nD τ).loc main_arg0)) (m ((c : Thread nD τ).loc main_arg1))
    (m ((c : Thread nD τ).loc main_arg2)) (m ((c : Thread nD τ).loc main_arg3)) = R10 m c := by
  obtain ⟨h0, h1, h2, h3⟩ := Cert.Pre_finite_out.Hand.all_real h
  have hD : ∀ n k, MlpSpec.IsR (DH m c n k) := fun n k => h0 _
  have hW : ∀ i k, MlpSpec.IsR (W m c i k) := fun i k => h1 _
  have hO : ∀ n k, MlpSpec.IsR (O m c n k) := fun n k => h2 _
  have hL : ∀ n a, MlpSpec.IsR (L m c n a) := fun n a => h3 _
  funext i
  idx_vars i
  have h := Cert.OutBwdRefIdeal.Hand.v65_at (m ((c : Thread nD τ).loc main_arg0)) (m ((c : Thread nD τ).loc main_arg1))
    (m ((c : Thread nD τ).loc main_arg2)) (m ((c : Thread nD τ).loc main_arg3)) i0 (gr i1) (cl i1)
  rw [col_gr] at h
  refine h.trans ?_
  exact dlt_eq (den (L m c) i0 (hd (cl i1))) (fun g => dw (DH m c) (W m c) (O m c) i0 g (hd (cl i1))) (fun g => ex (L m c) i0 g (hd (cl i1)))
    (fun d => da (DH m c) (W m c) i0 (lane (gr i1) (hd (cl i1)) d)) (fun d => O m c i0 (lane (gr i1) (hd (cl i1)) d)) (gr i1)
    (fun d => isR_da hD hW _ _) (fun d => hO _ _) (fun g => .sum fun d => (isR_da hD hW _ _).mul (hO _ _)) rfl
    (fun g => ex_pos hL _ _ _) rfl

end Cert.OutBwdIdeal.Hand

end
-- ==== Proof.MixSpec.lean ====
/- The output projection's forward call with the pooling mixer, as plain mathematics over the extended reals. -/
module

public import proofs.«01_k».proof.Proof.OutSpec

@[expose] public section

noncomputable section

namespace Cert.MixSpec

open Idealize.ShloMosaic Cert.OutSpec

variable (Z : Fin 8192 → Fin 2560 → EReal) (P : Fin 4 → Fin 64 → Fin 64 → EReal) (S : Fin 256 → EReal)
  (O : Fin 8192 → Fin 768 → EReal) (L : Fin 8192 → Fin 12 → EReal) (W : Fin 1024 → Fin 1024 → EReal) (H : Fin 8192 → Fin 1024 → EReal)

/-- A pooled column in the whole row of 2560. -/
def zc (c : Fin 256) : Fin 2560 := ⟨c.val, by omega⟩

/-- The pooled columns with fifteen rows of zeros on top. -/
def U (x : ℕ) (c : Fin 256) : EReal := if h : 15 ≤ x ∧ x < 8207 then Z ⟨x - 15, by omega⟩ (zc c) else 0

/-- A row's sum with the one, three, seven and fifteen rows above it. -/
def s2 (x : ℕ) (c : Fin 256) : EReal := U Z x c + U Z (x - 1) c
def s4 (x : ℕ) (c : Fin 256) : EReal := s2 Z x c + s2 Z (x - 2) c
def s8 (x : ℕ) (c : Fin 256) : EReal := s4 Z x c + s4 Z (x - 4) c
def s16 (x : ℕ) (c : Fin 256) : EReal := s8 Z x c + s8 Z (x - 8) c

/-- The sum over the group's window, and the window's length where it is whole. -/
def ws (g : Fin 4) (x : ℕ) (c : Fin 256) : EReal := if g.val = 0 then s2 Z x c else if g.val = 1 then s4 Z x c else if g.val = 2 then s8 Z x c else s16 Z x c
def len (g : Fin 4) : BitVec 32 := if g.val = 0 then 2#32 else if g.val = 1 then 4#32 else if g.val = 2 then 8#32 else 16#32

/-- How many rows the window holds at a row. -/
def cnt (g : Fin 4) (n : ℕ) : EReal := FloatOps.sitofp (F := Ideal) .f32 (IntOp.minsi (len g) (IntOp.addi (BitVec.ofNat 32 n) 1#32))

/-- The window's mean less the row, its product with the group's matrix, and the scaled result. -/
def dev (n : Fin 8192) (c : Fin 256) : EReal :=
  Ideal.div (ws Z (hd c) (n.val + 15) c) (cnt (hd c) n.val) - Z n (zc c)
def gcol (g : Fin 4) (d : Fin 64) : Fin 256 := ⟨g.val * 64 + d.val, by omega⟩
def lo (c : Fin 256) : Fin 64 := ⟨c.val % 64, by omega⟩
def mixg (n : Fin 8192) (g : Fin 4) (d : Fin 64) : EReal := ∑ k : Fin 64, dev Z n (gcol g k) * P g k d
def pool (n : Fin 8192) (c : Fin 256) : EReal := mixg Z P n (hd c) (lo c) * S c

/-- A column of 768 as a group and the group's column. -/
def gr (c : Fin 768) : Fin 3 := ⟨c.val / 256, by omega⟩
def cl (c : Fin 768) : Fin 256 := ⟨c.val % 256, by omega⟩
theorem col_gr (c : Fin 768) : col (gr c) (cl c) = c := Fin.ext (by simp only [col, gr, cl]; omega)

/-- The attention's outputs by their groups' shares; the mixed row; the stream after the call. -/
def att (n : Fin 8192) (c : Fin 768) : EReal := O n c * wt L n (gr c) (hd (cl c))
def mixed (n : Fin 8192) (i : Fin 1024) : EReal :=
  if h : i.val < 256 then pool Z P S n ⟨i.val, h⟩ else att O L n ⟨i.val - 256, by omega⟩
def next (n : Fin 8192) (k : Fin 1024) : EReal := H n k + ∑ i : Fin 1024, mixed Z P S O L n i * W i k

end Cert.MixSpec

end
-- ==== Proof.MixOutPure.lean ====
/- The output projection's forward call with the pooling mixer: its stored blocks entry by entry. -/
module

public import Idealize.ShloMosaic.Lib.Pointwise
public import Idealize.ShloMosaic.Lib.KernelVsHost
public import proofs.«01_k».proof.Proof.MixSpec
public import proofs.«01_k».proof.Proof.OutBwdPure
public import proofs.«01_k».proof.Proof.Gen.MixOutIdeal.Skeleton

@[expose] public section

set_option maxRecDepth 16384

noncomputable section

namespace Cert.MixOutIdeal.Hand

open Idealize.ShloMosaic Idealize.SL.Sem
open Cert.MixOutIdeal Cert.MixOutIdeal.Gen Cert.OutSpec Cert.MixSpec
open Cert.OutBwdIdeal.Hand (fl fl_eq eq_at sum_head)

/-- A rotation down the rows, past the rows it brings around. -/
theorem rot_at (x : FVec Ideal S528x256 .f32) (s : ℕ) (hs : s < 528) (i : Fin 528) (hi : s ≤ i.val) (c : Fin 256) :
    dynamicRotate 0 (BitVec.ofNat 32 s) none x rotates_S528x256_d0 (ix2 i c) = x (ix2 ⟨i.val - s, by omega⟩ c) := by
  refine dynamicRotate_apply 0 _ _ _ (ix2 i c) _ fun b => ?_
  match b with
  | ⟨0, _⟩ =>
    have e : (BitVec.ofNat 32 s).toNat = s := by rw [BitVec.toNat_ofNat]; omega
    rw [e]
    show i.val - s = (i.val + 528 - s % 528) % 528
    omega
  | ⟨1, _⟩ => rfl

theorem pos_at : ∀ a : Fin 16, Scalar.cmpi CmpIPredicate.sgt (BitVec.ofNat 32 a.val) 0#32 = if a.val = 0 then 0#1 else 1#1 := by decide +kernel

/-- The first of four values whose number is a column's head. -/
theorem sel4 {α : Type} (a b c d : α) (j : Fin 4) :
    Scalar.select (IntOp.cmpi CmpIPredicate.eq (BitVec.ofNat 32 j.val) 0#32) a
      (Scalar.select (IntOp.cmpi CmpIPredicate.eq (BitVec.ofNat 32 j.val) 1#32) b
        (Scalar.select (IntOp.cmpi CmpIPredicate.eq (BitVec.ofNat 32 j.val) 2#32) c d))
    = if j.val = 0 then a else if j.val = 1 then b else if j.val = 2 then c else d := by
  fin_cases j <;> rfl

theorem pay7_at (x : Fin 528) (c : Fin 256) : k0_pay7 (ix2 x c) = BitVec.ofNat 32 (hd c).val := by
  have e : k0_pay7 (ix2 x c) = fl c.val := by pointwise [k0_pay7, fl]
  rw [e, fl_eq]; rfl
theorem pay11_at (x : Fin 512) (c : Fin 256) : k0_pay11 (ix2 x c) = BitVec.ofNat 32 (hd c).val := by
  have e : k0_pay11 (ix2 x c) = fl c.val := by pointwise [k0_pay11, fl]
  rw [e, fl_eq]; rfl

variable (i : grid0.Coords) (row : Fin 512 → Fin 8192)
  (Z : Fin 8192 → Fin 2560 → EReal) (P : Fin 4 → Fin 64 → Fin 64 → EReal) (S : Fin 256 → EReal)
  (O : Fin 8192 → Fin 768 → EReal) (L : Fin 8192 → Fin 12 → EReal) (W : Fin 1024 → Fin 1024 → EReal) (H : Fin 8192 → Fin 1024 → EReal)
  (x0 : FVec Ideal S512x256 .f32) (x1 : FVec Ideal S16x256 .f32) (x2 : FVec Ideal S256x256 .bf16) (x3 : FVec Ideal S1x256 .f32)
  (x4 x5 x6 x7 x8 x9 : FVec Ideal S512x256 .f32) (x10 : FVec Ideal S1x1024x1024 .bf16) (x11 : FVec Ideal S512x1024 .f32)

/-- The block with the sixteen rows above it, zeros above the first block. -/
def ext : FVec Ideal S528x256 .f32 :=
  concatenate S528x256 0 [⟨S16x256, (Scalar.select (Scalar.cmpi .sgt (BitVec.ofNat 32 (i 0).val) 0#32) x1
    (broadcast S16x256 (Scalar.ofBits (F := Ideal) .f32 0x00000000#32)) : FVec Ideal S16x256 .f32)⟩, ⟨S512x256, x0⟩] concatenates_S16x256_S512x256_S528x256_d0

section rows

variable (hrow : ∀ r, (row r).val = (i 0).val * 512 + r.val)
  (h0 : ∀ r (k : Fin 256), x0 (ix2 r k) = Z (row r) (zc k))
  (h1 : (i 0).val ≠ 0 → ∀ (x : Fin 16) (k : Fin 256), x1 (ix2 x k) = U Z ((i 0).val * 512 + x.val - 1) k)

include hrow h0 h1

theorem ext_at (x : Fin 528) (c : Fin 256) : ext i x0 x1 (ix2 x c) = U Z ((i 0).val * 512 + x.val - 1) c := by
  have hi : (i 0).val < 16 := (i 0).isLt
  unfold ext
  rw [pos_at ⟨(i 0).val, hi⟩]
  pointwise
  split
  · rename_i hx
    by_cases hz : (i 0).val = 0
    · rw [if_pos hz]
      have e : U Z ((i 0).val * 512 + x.val - 1) c = 0 := by
        unfold U; rw [dif_neg]; omega
      rw [e]
      rfl
    · rw [if_neg hz]
      exact h1 hz ⟨x.val, hx⟩ c
  · rename_i hx
    rw [h0]
    unfold U
    rw [dif_pos (by omega)]
    exact congrArg (fun n => Z n (zc c)) (Fin.ext (by rw [hrow]; simp only; omega))

theorem s2_at (x : Fin 528) (hx : 1 ≤ x.val) (c : Fin 256) : k0_pay3 (F := Ideal) i x0 x1 (ix2 x c) = s2 Z ((i 0).val * 512 + x.val - 1) c := by
  have e : k0_pay3 (F := Ideal) i x0 x1 (ix2 x c)
      = ext i x0 x1 (ix2 x c) + dynamicRotate 0 (BitVec.ofNat 32 1) none (ext i x0 x1) rotates_S528x256_d0 (ix2 x c) := rfl
  rw [e, rot_at _ 1 (by omega) x hx, ext_at i row Z x0 x1 hrow h0 h1, ext_at i row Z x0 x1 hrow h0 h1, s2]
  congr 2
  simp only; omega
theorem s4_at (x : Fin 528) (hx : 3 ≤ x.val) (c : Fin 256) : k0_pay4 (F := Ideal) i x0 x1 (ix2 x c) = s4 Z ((i 0).val * 512 + x.val - 1) c := by
  have e : k0_pay4 (F := Ideal) i x0 x1 (ix2 x c)
      = k0_pay3 (F := Ideal) i x0 x1 (ix2 x c) + dynamicRotate 0 (BitVec.ofNat 32 2) none (k0_pay3 (F := Ideal) i x0 x1) rotates_S528x256_d0 (ix2 x c) := rfl
  rw [e, rot_at _ 2 (by omega) x (by omega), s2_at i row Z x0 x1 hrow h0 h1 _ (by omega), s2_at i row Z x0 x1 hrow h0 h1 _ (by simp only; omega), s4]
  congr 2
  simp only; omega
theorem s8_at (x : Fin 528) (hx : 7 ≤ x.val) (c : Fin 256) : k0_pay5 (F := Ideal) i x0 x1 (ix2 x c) = s8 Z ((i 0).val * 512 + x.val - 1) c := by
  have e : k0_pay5 (F := Ideal) i x0 x1 (ix2 x c)
      = k0_pay4 (F := Ideal) i x0 x1 (ix2 x c) + dynamicRotate 0 (BitVec.ofNat 32 4) none (k0_pay4 (F := Ideal) i x0 x1) rotates_S528x256_d0 (ix2 x c) := rfl
  rw [e, rot_at _ 4 (by omega) x (by omega), s4_at i row Z x0 x1 hrow h0 h1 _ (by omega), s4_at i row Z x0 x1 hrow h0 h1 _ (by simp only; omega), s8]
  congr 2
  simp only; omega
theorem s16_at (x : Fin 528) (hx : 15 ≤ x.val) (c : Fin 256) : k0_pay6 (F := Ideal) i x0 x1 (ix2 x c) = s16 Z ((i 0).val * 512 + x.val - 1) c := by
  have e : k0_pay6 (F := Ideal) i x0 x1 (ix2 x c)
      = k0_pay5 (F := Ideal) i x0 x1 (ix2 x c) + dynamicRotate 0 (BitVec.ofNat 32 8) none (k0_pay5 (F := Ideal) i x0 x1) rotates_S528x256_d0 (ix2 x c) := rfl
  rw [e, rot_at _ 8 (by omega) x (by omega), s8_at i row Z x0 x1 hrow h0 h1 _ (by omega), s8_at i row Z x0 x1 hrow h0 h1 _ (by simp only; omega), s16]
  congr 2
  simp only; omega

/-- The sum over the group's window. -/
def sums : FVec Ideal S512x256 .f32 :=
  k0_pay9 (F := Ideal) (k0_pay3 i x0 x1) (k0_pay4 i x0 x1) (k0_pay5 i x0 x1) (k0_pay6 i x0 x1) k0_pay7 k0_pay8

theorem sums_at (r : Fin 512) (c : Fin 256) : sums i x0 x1 (ix2 r c) = ws Z (hd c) ((row r).val + 15) c := by
  have e : (i 0).val * 512 + (⟨16 + r.val, by omega⟩ : Fin 528).val - 1 = (row r).val + 15 := by rw [hrow]; simp only; omega
  have a2 := s2_at i row Z x0 x1 hrow h0 h1 ⟨16 + r.val, by omega⟩ (by simp only; omega) c
  have a4 := s4_at i row Z x0 x1 hrow h0 h1 ⟨16 + r.val, by omega⟩ (by simp only; omega) c
  have a8 := s8_at i row Z x0 x1 hrow h0 h1 ⟨16 + r.val, by omega⟩ (by simp only; omega) c
  have a16 := s16_at i row Z x0 x1 hrow h0 h1 ⟨16 + r.val, by omega⟩ (by simp only; omega) c
  rw [e] at a2 a4 a8 a16
  unfold ws
  rw [← a2, ← a4, ← a8, ← a16, ← sel4]
  pointwise [sums, k0_pay9, k0_pay8, pay7_at]

end rows

/-- The rows' mean less the row, as the call computes it. -/
def devs : FVec Ideal S512x256 .f32 :=
  subf (divf (sums i x0 x1) (sitofp .f32 (minsi (select k0_pay12 (broadcast S512x256 2#32) (select k0_pay13 (broadcast S512x256 4#32) (select k0_pay14 k0_pay15 k0_pay16)))
    (addi (k0_pay10 (BitVec.ofNat 32 (i 0).val)) (broadcast S512x256 1#32))))) x0

theorem word_row (t r : ℕ) : IntOp.addi (IntOp.muli (BitVec.ofNat 32 t) 512#32) (BitVec.ofNat 32 r) = BitVec.ofNat 32 (t * 512 + r) := by
  show BitVec.ofNat 32 t * 512#32 + BitVec.ofNat 32 r = _
  rw [BitVec.ofNat_add, BitVec.ofNat_mul]

theorem len_at (r : Fin 512) (c : Fin 256) :
    select k0_pay12 (broadcast S512x256 2#32) (select k0_pay13 (broadcast S512x256 4#32) (select k0_pay14 k0_pay15 k0_pay16)) (ix2 r c) = len (hd c) := by
  unfold len
  rw [← sel4]
  pointwise [k0_pay12, k0_pay13, k0_pay14, k0_pay15, k0_pay16, pay11_at]

theorem pay10_at (t : ℕ) (r : Fin 512) (c : Fin 256) : k0_pay10 (BitVec.ofNat 32 t) (ix2 r c) = BitVec.ofNat 32 (t * 512 + r.val) := by
  rw [← word_row]
  pointwise [k0_pay10]
  rfl

section pool

variable (hrow : ∀ r, (row r).val = (i 0).val * 512 + r.val)
  (h0 : ∀ r (k : Fin 256), x0 (ix2 r k) = Z (row r) (zc k))
  (h1 : (i 0).val ≠ 0 → ∀ (x : Fin 16) (k : Fin 256), x1 (ix2 x k) = U Z ((i 0).val * 512 + x.val - 1) k)
  (h2 : ∀ k c : Fin 256, x2 (ix2 k c) = if k.val / 64 = c.val / 64 then P (hd c) (lo k) (lo c) else 0)
  (h3 : ∀ c, x3 (ix2 0 c) = S c)

include hrow h0 h1

theorem devs_at (r : Fin 512) (c : Fin 256) : devs i x0 x1 (ix2 r c) = dev Z (row r) c := by
  have e : devs i x0 x1 (ix2 r c) = Ideal.div (sums i x0 x1 (ix2 r c)) (FloatOps.sitofp (F := Ideal) .f32
      (IntOp.minsi (select k0_pay12 (broadcast S512x256 2#32) (select k0_pay13 (broadcast S512x256 4#32) (select k0_pay14 k0_pay15 k0_pay16)) (ix2 r c))
        (IntOp.addi (k0_pay10 (BitVec.ofNat 32 (i 0).val) (ix2 r c)) 1#32))) - x0 (ix2 r c) := rfl
  rw [e, len_at, pay10_at, sums_at i row Z x0 x1 hrow h0 h1, h0, dev, cnt, hrow]

include h2 h3

theorem pool_at (r : Fin 512) (c : Fin 256) :
    k0_pay17 (F := Ideal) x0 (sums i x0 x1) (k0_pay10 (BitVec.ofNat 32 (i 0).val)) k0_pay12 k0_pay13 k0_pay14 k0_pay15 k0_pay16 x2 x3 (ix2 r c)
    = pool Z P S (row r) c := by
  have e : k0_pay17 (F := Ideal) x0 (sums i x0 x1) (k0_pay10 (BitVec.ofNat 32 (i 0).val)) k0_pay12 k0_pay13 k0_pay14 k0_pay15 k0_pay16 x2 x3
      = mulf (matmul dot_S512x256_S256x256_S512x256_1_0_0_1_n_n none (truncf .bf16 (devs i x0 x1) bitsLt_bf16_f32)
          (shapeCast S256x256 x2 shapeCasts_S256x256_S256x256) (constant S512x256 .f32 0x00000000#32))
        (broadcastTo S512x256 (shapeCast S1x256 x3 shapeCasts_S1x256_S1x256) broadcasts_S1x256_S512x256) := rfl
  rw [e]
  pointwise [devs_at i row Z x0 x1 hrow h0 h1, h2, h3]
  simp only [mul_ite, mul_zero]
  unfold MixSpec.pool mixg
  congr 1
  refine (sum_head (fun k => dev Z (row r) k * P (hd c) (lo k) (lo c)) (hd c)).trans (Finset.sum_congr rfl fun d _ => ?_)
  have e : lo ⟨(hd c).val * 64 + d.val, by omega⟩ = d := Fin.ext (by simp only [lo]; omega)
  rw [e]; rfl

end pool

section shares

variable (h7 : ∀ r c, x7 (ix2 r c) = lg L (row r) 0 (hd c)) (h8 : ∀ r c, x8 (ix2 r c) = lg L (row r) 1 (hd c))
  (h9 : ∀ r c, x9 (ix2 r c) = lg L (row r) 2 (hd c))

include h7 h8 h9

theorem mx_point (r : Fin 512) (c : Fin 256) : k0_pay21 (F := Ideal) x7 x8 x9 (ix2 r c) = mx L (row r) (hd c) := by
  pointwise [k0_pay21, k0_pay20, k0_pay19, k0_pay18, h7, h8, h9, mx]
theorem ex0_point (r : Fin 512) (c : Fin 256) : k0_pay22 (F := Ideal) x7 x8 x9 (ix2 r c) = ex L (row r) 0 (hd c) := by
  pointwise [k0_pay22, k0_pay18, mx_point row L x7 x8 x9 h7 h8 h9, h7, ex]
theorem ex1_point (r : Fin 512) (c : Fin 256) : k0_pay23 (F := Ideal) x7 x8 x9 (ix2 r c) = ex L (row r) 1 (hd c) := by
  pointwise [k0_pay23, k0_pay19, mx_point row L x7 x8 x9 h7 h8 h9, h8, ex]
theorem ex2_point (r : Fin 512) (c : Fin 256) : k0_pay24 (F := Ideal) x7 x8 x9 (ix2 r c) = ex L (row r) 2 (hd c) := by
  pointwise [k0_pay24, k0_pay20, mx_point row L x7 x8 x9 h7 h8 h9, h9, ex]
theorem den_point (r : Fin 512) (c : Fin 256) : k0_pay25 (F := Ideal) x7 x8 x9 (ix2 r c) = den L (row r) (hd c) := by
  pointwise [k0_pay25, ex0_point row L x7 x8 x9 h7 h8 h9, ex1_point row L x7 x8 x9 h7 h8 h9, ex2_point row L x7 x8 x9 h7 h8 h9, den]
theorem wt2_point (r : Fin 512) (c : Fin 256) : k0_pay26 (F := Ideal) x7 x8 x9 (ix2 r c) = wt L (row r) 2 (hd c) := by
  pointwise [k0_pay26, ex2_point row L x7 x8 x9 h7 h8 h9, den_point row L x7 x8 x9 h7 h8 h9, wt]
theorem att0_point (h4 : ∀ r c, x4 (ix2 r c) = O (row r) (col 0 c)) (r : Fin 512) (c : Fin 256) :
    k0_pay27 (F := Ideal) x7 x8 x9 x4 (ix2 r c) = O (row r) (col 0 c) * wt L (row r) 0 (hd c) := by
  pointwise [k0_pay27, ex0_point row L x7 x8 x9 h7 h8 h9, den_point row L x7 x8 x9 h7 h8 h9, wt, h4]
theorem att1_point (h5 : ∀ r c, x5 (ix2 r c) = O (row r) (col 1 c)) (r : Fin 512) (c : Fin 256) :
    k0_pay28 (F := Ideal) x7 x8 x9 x5 (ix2 r c) = O (row r) (col 1 c) * wt L (row r) 1 (hd c) := by
  pointwise [k0_pay28, ex1_point row L x7 x8 x9 h7 h8 h9, den_point row L x7 x8 x9 h7 h8 h9, wt, h5]

end shares

/-- A column past the pooled ones. -/
def past (c : Fin 768) : Fin 1024 := ⟨256 + c.val, by omega⟩

theorem pay1_pool (p w a b o : FVec Ideal S512x256 .f32) (r : Fin 512) (y : Fin 256) :
    k0_pay1 (F := Ideal) p w a b o (ix2 r ⟨y.val, by omega⟩) = p (ix2 r y) := by
  pointwise [k0_pay1]

theorem pay1_att (p w a b o : FVec Ideal S512x256 .f32) (r : Fin 512) (y : Fin 256) :
    k0_pay1 (F := Ideal) p w a b o (ix2 r (past (col 0 y))) = a (ix2 r y)
    ∧ k0_pay1 (F := Ideal) p w a b o (ix2 r (past (col 1 y))) = b (ix2 r y)
    ∧ k0_pay1 (F := Ideal) p w a b o (ix2 r (past (col 2 y))) = o (ix2 r y) * w (ix2 r y) := by
  refine ⟨?_, ?_, ?_⟩ <;> pointwise [k0_pay1, col, past]
  rw [dif_neg (by omega), dif_neg (by omega)]
  simp only [show ∀ h, (⟨512 + y.val - 256 - 256, h⟩ : Fin 256) = y from fun h => Fin.ext (by simp only; omega)]

section all

variable (hrow : ∀ r, (row r).val = (i 0).val * 512 + r.val)
  (h0 : ∀ r (k : Fin 256), x0 (ix2 r k) = Z (row r) (zc k))
  (h1 : (i 0).val ≠ 0 → ∀ (x : Fin 16) (k : Fin 256), x1 (ix2 x k) = U Z ((i 0).val * 512 + x.val - 1) k)
  (h2 : ∀ k c : Fin 256, x2 (ix2 k c) = if k.val / 64 = c.val / 64 then P (hd c) (lo k) (lo c) else 0)
  (h3 : ∀ c, x3 (ix2 0 c) = S c)
  (h4 : ∀ r c, x4 (ix2 r c) = O (row r) (col 0 c)) (h5 : ∀ r c, x5 (ix2 r c) = O (row r) (col 1 c))
  (h6 : ∀ r c, x6 (ix2 r c) = O (row r) (col 2 c))
  (h7 : ∀ r c, x7 (ix2 r c) = lg L (row r) 0 (hd c)) (h8 : ∀ r c, x8 (ix2 r c) = lg L (row r) 1 (hd c))
  (h9 : ∀ r c, x9 (ix2 r c) = lg L (row r) 2 (hd c))
  (h10 : ∀ i k, x10 (ix3 0 i k) = W i k) (h11 : ∀ r k, x11 (ix2 r k) = H (row r) k)

/-- The mixed rows of a block. -/
def rows : FVec Ideal S512x1024 .bf16 :=
  k0_pay1 (F := Ideal)
    (k0_pay17 x0 (sums i x0 x1) (k0_pay10 (BitVec.ofNat 32 (i 0).val)) k0_pay12 k0_pay13 k0_pay14 k0_pay15 k0_pay16 x2 x3)
    (k0_pay26 x7 x8 x9) (k0_pay27 x7 x8 x9 x4) (k0_pay28 x7 x8 x9 x5) x6

include hrow h0 h1 h2 h3 h4 h5 h6 h7 h8 h9 in
theorem rows_at (r : Fin 512) (k : Fin 1024) : rows i x0 x1 x2 x3 x4 x5 x6 x7 x8 x9 (ix2 r k) = mixed Z P S O L (row r) k := by
  unfold mixed
  split
  · rename_i hk
    exact (pay1_pool _ _ _ _ _ r ⟨k.val, hk⟩).trans (pool_at i row Z P S x0 x1 x2 x3 hrow h0 h1 h2 h3 r _)
  · rename_i hk
    obtain ⟨c, rfl⟩ : ∃ c, k = past c := ⟨⟨k.val - 256, by omega⟩, Fin.ext (by simp only [past]; omega)⟩
    have ec : (⟨(past c).val - 256, by simp only [past]; omega⟩ : Fin 768) = c := Fin.ext (by simp only [past]; omega)
    obtain ⟨g, y, rfl⟩ : ∃ g y, c = col g y := ⟨gr c, cl c, (col_gr c).symm⟩
    have eg : gr (col g y) = g := Fin.ext (by simp only [col, gr]; omega)
    have ey : cl (col g y) = y := Fin.ext (by simp only [col, cl]; omega)
    obtain ⟨e0, e1, e2⟩ := pay1_att
      (k0_pay17 (F := Ideal) x0 (sums i x0 x1) (k0_pay10 (BitVec.ofNat 32 (i 0).val)) k0_pay12 k0_pay13 k0_pay14 k0_pay15 k0_pay16 x2 x3)
      (k0_pay26 x7 x8 x9) (k0_pay27 x7 x8 x9 x4) (k0_pay28 x7 x8 x9 x5) x6 r y
    rw [att0_point row O L x4 x7 x8 x9 h7 h8 h9 h4] at e0
    rw [att1_point row O L x5 x7 x8 x9 h7 h8 h9 h5] at e1
    rw [wt2_point row L x7 x8 x9 h7 h8 h9, h6] at e2
    rw [ec, att, eg, ey]
    fin_cases g
    · exact e0
    · exact e1
    · exact e2

include hrow h0 h1 h2 h3 h4 h5 h6 h7 h8 h9 h10 h11 in
theorem next_at (r : Fin 512) (k : Fin 1024) :
    k0_pay2 (F := Ideal)
      (k0_pay17 x0 (sums i x0 x1) (k0_pay10 (BitVec.ofNat 32 (i 0).val)) k0_pay12 k0_pay13 k0_pay14 k0_pay15 k0_pay16 x2 x3)
      (k0_pay26 x7 x8 x9) (k0_pay27 x7 x8 x9 x4) (k0_pay28 x7 x8 x9 x5) x6 x11 x10 (ix2 r k)
    = next Z P S O L W H (row r) k := by
  have e : k0_pay2 (F := Ideal)
      (k0_pay17 x0 (sums i x0 x1) (k0_pay10 (BitVec.ofNat 32 (i 0).val)) k0_pay12 k0_pay13 k0_pay14 k0_pay15 k0_pay16 x2 x3)
      (k0_pay26 x7 x8 x9) (k0_pay27 x7 x8 x9 x4) (k0_pay28 x7 x8 x9 x5) x6 x11 x10
      = addf x11 (matmul dot_S512x1024_S1024x1024_S512x1024_1_0_0_1_n_n none (rows i x0 x1 x2 x3 x4 x5 x6 x7 x8 x9)
        (shapeCast S1024x1024 x10 shapeCasts_S1x1024x1024_S1024x1024) (constant S512x1024 .f32 0x00000000#32)) := rfl
  rw [e]
  pointwise [rows_at i row Z P S O L x0 x1 x2 x3 x4 x5 x6 x7 x8 x9 hrow h0 h1 h2 h3 h4 h5 h6 h7 h8 h9, h10, h11, next]

end all

end Cert.MixOutIdeal.Hand

end
-- ==== Proof.MixOutFinal.lean ====
/- The output projection's forward call with the pooling mixer: its two result arrays as plain mathematics of its arguments. -/
module

public import Idealize.ShloMosaic.Lib.Pipeline.ValueKit
public import Idealize.ShloMosaic.Lib.WordCmp
public import proofs.«01_k».proof.Proof.MixOutPure
public import proofs.«01_k».proof.Proof.Gen.MixOutIdeal.Value

@[expose] public section

set_option maxRecDepth 16384

noncomputable section

namespace Cert.MixOutIdeal.Hand

open Idealize.ShloMosaic Idealize.ShloMosaic.TcCoe Idealize.SL.Sem
open Idealize.ShloMosaic.Pipeline (Dat)
open Cert.MixOutIdeal Cert.MixOutIdeal.Gen Cert.MixOutIdeal.Value Cert.OutSpec Cert.MixSpec

/-- Each head's logarithm over the head's columns, as the host prepares it. -/
def wide (x : FVec Ideal S8192x12 .f32) : FVec Ideal S8192x768 .f32 :=
  shapeCast S8192x768 (broadcastInDim S8192x12x64 ![0, 1, 2] bcast_S8192x12x1_S8192x12x64_0_1_2
    (broadcastInDim S8192x12x1 ![0, 1] bcast_S8192x12_S8192x12x1_0_1 x)) shapeCasts_S8192x12x64_S8192x768

theorem wide_at (x : FVec Ideal S8192x12 .f32) (n : Fin 8192) (g : Fin 3) (c : Fin 256) :
    wide x (ix2 n (col g c)) = lg (fun n a => x (ix2 n a)) n g (hd c) := by
  pointwise [wide, lg]
  exact congrArg (fun a => x (ix2 n a)) (Fin.ext (by simp only [col, hd]; omega))

/-- A block of 64 rows and columns written at a place on the diagonal. -/
def put (a : BitVec 32) (x : FVec Ideal S256x256 .f32) (u : FVec Ideal S64x64 .f32) : FVec Ideal S256x256 .f32 :=
  Host.dynamicUpdateSlice x u (fun _ => a.toInt) updateFits_S256x256_S64x64

theorem put_of (a : BitVec 32) (x : FVec Ideal S256x256 .f32) (u : FVec Ideal S64x64 .f32) (s : Fin 2 → Int) (h : ∀ k, s k = a.toInt) :
    Host.dynamicUpdateSlice x u s updateFits_S256x256_S64x64 = put a x u := by
  obtain rfl : s = fun _ => a.toInt := funext h
  rfl

theorem put_at (g : Fin 4) (x : FVec Ideal S256x256 .f32) (u : FVec Ideal S64x64 .f32) (k c : Fin 256) :
    put (BitVec.ofNat 32 (g.val * 64)) x u (ix2 k c)
    = if k.val / 64 = g.val ∧ c.val / 64 = g.val then u (ix2 (lo k) (lo c)) else x (ix2 k c) := by
  have hs : (⟨2, ![256, 256]⟩ : Shape).Slices (fun _ => g.val * 64) (⟨2, ![64, 64]⟩ : Shape) := by
    refine ⟨rfl, fun a => ?_⟩
    match a with
    | ⟨0, _⟩ => show g.val * 64 + 64 ≤ 256; omega
    | ⟨1, _⟩ => show g.val * 64 + 64 ≤ 256; omega
  have e : put (BitVec.ofNat 32 (g.val * 64)) x u = updateSlice x u (fun _ => g.val * 64) hs :=
    WordCmp.dynamicUpdateSlice_eq_update x u _ _ _ hs fun _ => by fin_cases g <;> rfl
  rw [e, updateSlice_apply]
  by_cases h : k.val / 64 = g.val ∧ c.val / 64 = g.val
  · rw [if_pos h, dif_pos (fun a => by
      match a with
      | ⟨0, _⟩ => show g.val * 64 ≤ k.val ∧ k.val < g.val * 64 + 64; omega
      | ⟨1, _⟩ => show g.val * 64 ≤ c.val ∧ c.val < g.val * 64 + 64; omega)]
    refine congrArg u (funext fun a => Fin.ext ?_)
    match a with
    | ⟨0, _⟩ => show k.val - g.val * 64 = k.val % 64; omega
    | ⟨1, _⟩ => show c.val - g.val * 64 = c.val % 64; omega
  · rw [if_neg h, dif_neg fun hin => h ?_]
    have h0 : g.val * 64 ≤ k.val ∧ k.val < g.val * 64 + 64 := hin (0 : Fin 2)
    have h1 : g.val * 64 ≤ c.val ∧ c.val < g.val * 64 + 64 := hin (1 : Fin 2)
    omega

/-- The four groups' matrices on the diagonal of one table of zeros, as the host prepares it. -/
def table (x : FVec Ideal S4x64x64 .f32) : FVec Ideal S256x256 .f32 :=
  put 192#32 (put 128#32 (put 64#32 (put 0#32 (broadcastInDim S256x256 ![] bcast_S_S256x256 (constant S_ .f32 0x00000000#32))
    (shapeCast S64x64 (extractStridedSlice S1x64x64 ![0, 0, 0] x slices_S4x64x64_S1x64x64_0_0_0) shapeCasts_S1x64x64_S64x64))
    (shapeCast S64x64 (extractStridedSlice S1x64x64 ![1, 0, 0] x slices_S4x64x64_S1x64x64_1_0_0) shapeCasts_S1x64x64_S64x64))
    (shapeCast S64x64 (extractStridedSlice S1x64x64 ![2, 0, 0] x slices_S4x64x64_S1x64x64_2_0_0) shapeCasts_S1x64x64_S64x64))
    (shapeCast S64x64 (extractStridedSlice S1x64x64 ![3, 0, 0] x slices_S4x64x64_S1x64x64_3_0_0) shapeCasts_S1x64x64_S64x64)

theorem mat0 (x : FVec Ideal S4x64x64 .f32) (a b : Fin 64) :
    shapeCast S64x64 (extractStridedSlice S1x64x64 ![0, 0, 0] x slices_S4x64x64_S1x64x64_0_0_0) shapeCasts_S1x64x64_S64x64 (ix2 a b) = x (ix3 0 a b) := by
  pointwise
theorem mat1 (x : FVec Ideal S4x64x64 .f32) (a b : Fin 64) :
    shapeCast S64x64 (extractStridedSlice S1x64x64 ![1, 0, 0] x slices_S4x64x64_S1x64x64_1_0_0) shapeCasts_S1x64x64_S64x64 (ix2 a b) = x (ix3 1 a b) := by
  pointwise
theorem mat2 (x : FVec Ideal S4x64x64 .f32) (a b : Fin 64) :
    shapeCast S64x64 (extractStridedSlice S1x64x64 ![2, 0, 0] x slices_S4x64x64_S1x64x64_2_0_0) shapeCasts_S1x64x64_S64x64 (ix2 a b) = x (ix3 2 a b) := by
  pointwise
theorem mat3 (x : FVec Ideal S4x64x64 .f32) (a b : Fin 64) :
    shapeCast S64x64 (extractStridedSlice S1x64x64 ![3, 0, 0] x slices_S4x64x64_S1x64x64_3_0_0) shapeCasts_S1x64x64_S64x64 (ix2 a b) = x (ix3 3 a b) := by
  pointwise

theorem table_at (x : FVec Ideal S4x64x64 .f32) (k c : Fin 256) :
    table x (ix2 k c) = if k.val / 64 = c.val / 64 then x (ix3 (hd c) (lo k) (lo c)) else 0 := by
  have z : (broadcastInDim S256x256 ![] bcast_S_S256x256 (constant S_ .f32 0x00000000#32) : FVec Ideal S256x256 .f32) (ix2 k c) = 0 := by
    pointwise
  have p0 := fun y u => put_at 0 y u k c
  have p1 := fun y u => put_at 1 y u k c
  have p2 := fun y u => put_at 2 y u k c
  have p3 := fun y u => put_at 3 y u k c
  unfold table
  refine (p3 _ _).trans ?_
  rw [show put 128#32 = put (BitVec.ofNat 32 ((2 : Fin 4).val * 64)) from rfl, p2, show put 64#32 = put (BitVec.ofNat 32 ((1 : Fin 4).val * 64)) from rfl, p1,
    show put 0#32 = put (BitVec.ofNat 32 ((0 : Fin 4).val * 64)) from rfl, p0, mat0, mat1, mat2, mat3, z]
  obtain ⟨j, hj⟩ : ∃ j, hd c = j := ⟨_, rfl⟩
  have hc : c.val / 64 = j.val := congrArg Fin.val hj
  rw [hj, hc]
  generalize k.val / 64 = q
  fin_cases j <;> simp

variable (m : (ℓ : Loc nD τ sig) → Buf (Elt Ideal) ℓ)

/-- The seven arguments as functions of their indices. -/
def Z (c : Dev nD) (n : Fin 8192) (k : Fin 2560) : EReal := (show FVec Ideal S8192x2560 .f32 from m ((c : Thread nD τ).loc main_arg0)) (ix2 n k)
def P (c : Dev nD) (g : Fin 4) (i k : Fin 64) : EReal := (show FVec Ideal S4x64x64 .f32 from m ((c : Thread nD τ).loc main_arg1)) (ix3 g i k)
def S (c : Dev nD) (k : Fin 256) : EReal := (show FVec Ideal S256 .f32 from m ((c : Thread nD τ).loc main_arg2)) (ix1 k)
def O (c : Dev nD) (n : Fin 8192) (k : Fin 768) : EReal := (show FVec Ideal S8192x768 .f32 from m ((c : Thread nD τ).loc main_arg3)) (ix2 n k)
def L (c : Dev nD) (n : Fin 8192) (a : Fin 12) : EReal := (show FVec Ideal S8192x12 .f32 from m ((c : Thread nD τ).loc main_arg4)) (ix2 n a)
def W (c : Dev nD) (i k : Fin 1024) : EReal := (show FVec Ideal S1024x1024 .f32 from m ((c : Thread nD τ).loc main_arg5)) (ix2 i k)
def H (c : Dev nD) (n : Fin 8192) (k : Fin 1024) : EReal := (show FVec Ideal S8192x1024 .f32 from m ((c : Thread nD τ).loc main_arg6)) (ix2 n k)

theorem V_v2 (c : Dev nD) : V m c main_v2 = wide (m ((c : Thread nD τ).loc main_arg4)) := by
  unfold V; after_results; try rfl
theorem V_v16 (c : Dev nD) : V m c main_v16
    = (truncf .bf16 (table (m ((c : Thread nD τ).loc main_arg1))) bitsLt_bf16_f32 : FVec Ideal S256x256 .bf16) := by
  unfold V; after_results
  rw [put_of 192#32 _ _ _ (by intro k; fin_cases k <;> (after_results; rfl))]
  rw [put_of 128#32 _ _ _ (by intro k; fin_cases k <;> (after_results; rfl))]
  rw [put_of 64#32 _ _ _ (by intro k; fin_cases k <;> (after_results; rfl))]
  rw [put_of 0#32 _ _ _ (by intro k; fin_cases k <;> (after_results; rfl))]
  rfl
theorem V_v17 (c : Dev nD) : V m c main_v17 = (broadcastInDim S1x256 ![1] bcast_S256_S1x256_1
    (show FVec Ideal S256 .f32 from m ((c : Thread nD τ).loc main_arg2)) : FVec Ideal S1x256 .f32) := by
  unfold V; after_results; try rfl
theorem V_v19 (c : Dev nD) : V m c main_v19 = (broadcastInDim S1x1024x1024 ![1, 2] bcast_S1024x1024_S1x1024x1024_1_2
    (truncf .bf16 (show FVec Ideal S1024x1024 .f32 from m ((c : Thread nD τ).loc main_arg5)) bitsLt_bf16_f32) : FVec Ideal S1x1024x1024 .bf16) := by
  unfold V; after_results; try rfl

theorem idx : ∀ t : Fin cfg0.N, win0_0.index t = ![t.val, 0] ∧ win0_1.index t = ![t.val * 32 - 1, 0] ∧ win0_2.index t = ![0, 0]
    ∧ win0_3.index t = ![0, 0] ∧ win0_4.index t = ![t.val, 0] ∧ win0_5.index t = ![t.val, 1] ∧ win0_6.index t = ![t.val, 2]
    ∧ win0_7.index t = ![t.val, 0] ∧ win0_8.index t = ![t.val, 1] ∧ win0_9.index t = ![t.val, 2] ∧ win0_10.index t = ![0, 0, 0]
    ∧ win0_11.index t = ![t.val, 0] ∧ win0_12.index t = ![t.val, 0] ∧ win0_13.index t = ![t.val, 0] :=
  (by decide +kernel : ∀ t : Fin grid0.N, _)

theorem crd : ∀ t : Fin cfg0.N, (grid0.coords t 0).val = t.val := (by decide +kernel : ∀ t : Fin grid0.N, _)

/-- Row `r` of point `t`'s block. -/
def row (t : Fin cfg0.N) (r : Fin 512) : Fin 8192 :=
  ⟨t.val * 512 + r.val, by have := lt_of_lt_of_eq t.isLt N_0; omega⟩

theorem row_at (t : Fin cfg0.N) (r : Fin 512) : (row t r).val = (grid0.coords t 0).val * 512 + r.val := by rw [crd]; rfl

theorem b0_at (c : Dev nD) (t : Fin cfg0.N) (r : Fin 512) (k : Fin 256) :
    (show FVec Ideal S512x256 .f32 from iblk m c 0 t) (ix2 r k) = Z m c (row t r) (zc k) := by
  unfold Z row zc
  blk_ext [iblk, V_main_arg0, idx t]

/-- Row `x` of the sixteen above point `t`'s block. -/
def above (t : Fin cfg0.N) (x : Fin 16) : Fin 8192 :=
  ⟨(t.val * 32 - 1) * 16 + x.val, by have := lt_of_lt_of_eq t.isLt N_0; omega⟩

theorem b1_at' (c : Dev nD) (t : Fin cfg0.N) (x : Fin 16) (k : Fin 256) :
    (show FVec Ideal S16x256 .f32 from iblk m c 1 t) (ix2 x k) = Z m c (above t x) (zc k) := by
  unfold Z above zc
  blk_ext [iblk, V_main_arg0, idx t]

theorem b1_at (c : Dev nD) (t : Fin cfg0.N) (ht : (grid0.coords t 0).val ≠ 0) (x : Fin 16) (k : Fin 256) :
    (show FVec Ideal S16x256 .f32 from iblk m c 1 t) (ix2 x k) = U (Z m c) ((grid0.coords t 0).val * 512 + x.val - 1) k := by
  rw [b1_at', U]
  rw [crd] at ht ⊢
  have hN := lt_of_lt_of_eq t.isLt N_0
  rw [dif_pos (by omega)]
  exact congrArg (fun n => Z m c n (zc k)) (Fin.ext (by simp only [above]; omega))

theorem b2_at (c : Dev nD) (t : Fin cfg0.N) (k d : Fin 256) :
    (show FVec Ideal S256x256 .bf16 from iblk m c 2 t) (ix2 k d) = if k.val / 64 = d.val / 64 then P m c (hd d) (lo k) (lo d) else 0 := by
  have h := V_v16 m c
  have e := table_at (m ((c : Thread nD τ).loc main_arg1)) k d
  unfold P
  refine Eq.trans ?_ e
  clear e
  generalize table (m ((c : Thread nD τ).loc main_arg1)) = T at h ⊢
  have e : (show FVec Ideal S256x256 .bf16 from iblk m c 2 t) (ix2 k d) = (truncf .bf16 T bitsLt_bf16_f32 : FVec Ideal S256x256 .bf16) (ix2 k d) := by
    blk_ext [iblk, h, idx t]
  exact e
theorem b3_at (c : Dev nD) (t : Fin cfg0.N) (k : Fin 256) :
    (show FVec Ideal S1x256 .f32 from iblk m c 3 t) (ix2 0 k) = S m c k := by
  have e : (show FVec Ideal S1x256 .f32 from iblk m c 3 t) (ix2 0 k) = (broadcastInDim S1x256 ![1] bcast_S256_S1x256_1
    (show FVec Ideal S256 .f32 from m ((c : Thread nD τ).loc main_arg2)) : FVec Ideal S1x256 .f32) (ix2 0 k) := by
    blk_ext [iblk, V_v17, idx t]
  rw [e]
  unfold S
  pointwise
theorem b4_at (c : Dev nD) (t : Fin cfg0.N) (r : Fin 512) (k : Fin 256) :
    (show FVec Ideal S512x256 .f32 from iblk m c 4 t) (ix2 r k) = O m c (row t r) (col 0 k) := by
  unfold O row col
  blk_ext [iblk, V_main_arg3, idx t]
theorem b5_at (c : Dev nD) (t : Fin cfg0.N) (r : Fin 512) (k : Fin 256) :
    (show FVec Ideal S512x256 .f32 from iblk m c 5 t) (ix2 r k) = O m c (row t r) (col 1 k) := by
  unfold O row col
  blk_ext [iblk, V_main_arg3, idx t]
theorem b6_at (c : Dev nD) (t : Fin cfg0.N) (r : Fin 512) (k : Fin 256) :
    (show FVec Ideal S512x256 .f32 from iblk m c 6 t) (ix2 r k) = O m c (row t r) (col 2 k) := by
  unfold O row col
  blk_ext [iblk, V_main_arg3, idx t]
theorem b7_at (c : Dev nD) (t : Fin cfg0.N) (r : Fin 512) (k : Fin 256) :
    (show FVec Ideal S512x256 .f32 from iblk m c 7 t) (ix2 r k) = lg (L m c) (row t r) 0 (hd k) := by
  refine Eq.trans ?_ (wide_at (m ((c : Thread nD τ).loc main_arg4)) (row t r) 0 k)
  unfold row col
  blk_ext [iblk, V_v2, idx t]
theorem b8_at (c : Dev nD) (t : Fin cfg0.N) (r : Fin 512) (k : Fin 256) :
    (show FVec Ideal S512x256 .f32 from iblk m c 8 t) (ix2 r k) = lg (L m c) (row t r) 1 (hd k) := by
  refine Eq.trans ?_ (wide_at (m ((c : Thread nD τ).loc main_arg4)) (row t r) 1 k)
  unfold row col
  blk_ext [iblk, V_v2, idx t]
theorem b9_at (c : Dev nD) (t : Fin cfg0.N) (r : Fin 512) (k : Fin 256) :
    (show FVec Ideal S512x256 .f32 from iblk m c 9 t) (ix2 r k) = lg (L m c) (row t r) 2 (hd k) := by
  refine Eq.trans ?_ (wide_at (m ((c : Thread nD τ).loc main_arg4)) (row t r) 2 k)
  unfold row col
  blk_ext [iblk, V_v2, idx t]
theorem b10_at (c : Dev nD) (t : Fin cfg0.N) (i k : Fin 1024) :
    (show FVec Ideal S1x1024x1024 .bf16 from iblk m c 10 t) (ix3 0 i k) = W m c i k := by
  have e : (show FVec Ideal S1x1024x1024 .bf16 from iblk m c 10 t) (ix3 0 i k) = (broadcastInDim S1x1024x1024 ![1, 2] bcast_S1024x1024_S1x1024x1024_1_2
    (truncf .bf16 (show FVec Ideal S1024x1024 .f32 from m ((c : Thread nD τ).loc main_arg5)) bitsLt_bf16_f32) : FVec Ideal S1x1024x1024 .bf16) (ix3 0 i k) := by
    blk_ext [iblk, V_v19, idx t]
  rw [e]
  unfold W
  pointwise
theorem b11_at (c : Dev nD) (t : Fin cfg0.N) (r : Fin 512) (k : Fin 1024) :
    (show FVec Ideal S512x1024 .f32 from iblk m c 11 t) (ix2 r k) = H m c (row t r) k := by
  unfold H row
  blk_ext [iblk, V_main_arg6, idx t]

/-- The two result arrays. -/
def R12 (c : Dev nD) : S8192x1024.Idx → EReal := fun i => mixed (Z m c) (P m c) (S m c) (O m c) (L m c) (i 0) (i 1)
def R13 (c : Dev nD) : S8192x1024.Idx → EReal := fun i => next (Z m c) (P m c) (S m c) (O m c) (L m c) (W m c) (H m c) (i 0) (i 1)

theorem outs12 (c : Dev nD) (t : Fin cfg0.N) (r : Fin 512) (k : Fin 1024) :
    (show FVec Ideal S512x1024 .bf16 from out0_12 (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)) (ix2 r k)
    = mixed (Z m c) (P m c) (S m c) (O m c) (L m c) (row t r) k := by
  unfold_out out0_12; frame_out
  exact rows_at (grid0.coords t) (row t) (Z m c) (P m c) (S m c) (O m c) (L m c)
    (iblk m c 0 t) (iblk m c 1 t) (iblk m c 2 t) (iblk m c 3 t) (iblk m c 4 t) (iblk m c 5 t) (iblk m c 6 t) (iblk m c 7 t) (iblk m c 8 t) (iblk m c 9 t)
    (row_at t) (b0_at m c t) (b1_at m c t) (b2_at m c t) (b3_at m c t) (b4_at m c t) (b5_at m c t) (b6_at m c t) (b7_at m c t) (b8_at m c t) (b9_at m c t) r k

theorem outs13 (c : Dev nD) (t : Fin cfg0.N) (r : Fin 512) (k : Fin 1024) :
    (show FVec Ideal S512x1024 .f32 from out0_13 (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)) (ix2 r k)
    = next (Z m c) (P m c) (S m c) (O m c) (L m c) (W m c) (H m c) (row t r) k := by
  unfold_out out0_13; frame_out
  exact next_at (grid0.coords t) (row t) (Z m c) (P m c) (S m c) (O m c) (L m c) (W m c) (H m c)
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t)
    (row_at t) (b0_at m c t) (b1_at m c t) (b2_at m c t) (b3_at m c t) (b4_at m c t) (b5_at m c t) (b6_at m c t) (b7_at m c t) (b8_at m c t) (b9_at m c t)
    (b10_at m c t) (b11_at m c t) r k

theorem final12 (c : Dev nD) : (dats m 0 c).arrAt 12 (cfgs 0).N = R12 m c := by
  refine (dats m 0 c).arrAt_eq_of_covers 12 _ (by decide +kernel) fun t hf y => ?_
  blk_simp
  rw [after0_12]
  idx_vars y
  have e : ((View.whole main_v20_0).slice (win0_12.rect t)).emb (ix2 y0 y1) = ix2 (row t y0) y1 := by
    unfold row; blk_ext [idx t]
  refine (outs12 m c t y0 y1).trans (congrArg (R12 m c) e).symm

theorem final13 (c : Dev nD) : (dats m 0 c).arrAt 13 (cfgs 0).N = R13 m c := by
  refine (dats m 0 c).arrAt_eq_of_covers 13 _ (by decide +kernel) fun t hf y => ?_
  blk_simp
  rw [after0_13]
  idx_vars y
  have e : ((View.whole main_v20_1).slice (win0_13.rect t)).emb (ix2 y0 y1) = ix2 (row t y0) y1 := by
    unfold row; blk_ext [idx t]
  refine (outs13 m c t y0 y1).trans (congrArg (R13 m c) e).symm

end Cert.MixOutIdeal.Hand

end
-- ==== Proof.MixOutRef.lean ====
/- The output projection's reference with the pooling mixer, its stages read entry by entry over the extended reals. -/
module

public import Idealize.ShloMosaic.Lib.Pointwise
public import Idealize.ShloMosaic.Lib.KernelVsHost
public import proofs.«01_k».proof.Proof.MixSpec
public import proofs.«01_k».proof.Proof.OutBwdRef
public import proofs.«01_k».proof.Proof.MlpAlg
public import proofs.«01_k».proof.Proof.Gen.MixOutRefIdeal.Read

@[expose] public section

set_option maxRecDepth 16384

noncomputable section

namespace Cert.MixOutRefIdeal.Hand

open Idealize.ShloMosaic Idealize.SL.Sem
open Cert.MixOutRefIdeal Cert.MixOutRefIdeal.Gen Cert.MixOutRefIdeal.Read Cert.OutSpec Cert.MixSpec
open Cert.OutBwdRefIdeal.Hand (m2 fold_three)

variable (x0 : FVec Ideal S8192x2560 .f32) (x1 : FVec Ideal S4x64x64 .f32) (x2 : FVec Ideal S256 .f32) (x3 : FVec Ideal S8192x768 .f32)
  (x4 : FVec Ideal S8192x12 .f32) (x5 : FVec Ideal S1024x1024 .f32) (x6 : FVec Ideal S8192x1024 .f32)

/-- An array of three axes, and of one, as a function of its indices. -/
abbrev m3 {a b c : ℕ} (x : (⟨3, ![a, b, c]⟩ : Shape).Idx → EReal) (i : Fin a) (j : Fin b) (k : Fin c) : EReal := x (ix3 i j k)
abbrev m1 {a : ℕ} (x : (⟨1, ![a]⟩ : Shape).Idx → EReal) (i : Fin a) : EReal := x (ix1 i)

theorem v0_at (n : Fin 8192) (g : Fin 3) (j : Fin 4) : val_main_v0 (F := Ideal) x4 (ix3 n g j) = lg (m2 x4) n g j := by
  pointwise [val_main_v0, lg]
theorem v3_at (n : Fin 8192) (j : Fin 4) : val_main_v3 (F := Ideal) x4 (ix2 n j) = mx (m2 x4) n j := by
  pointwise [val_main_v3, val_main_v2, val_main_cst_0, val_main_v1, val_main_cst, v0_at, mx]
  rw [MlpSpec.cninf, max_bot_left]
  exact fold_three (fun x => lg (m2 x4) n x j)
theorem v7_at (n : Fin 8192) (g : Fin 3) (j : Fin 4) : val_main_v7 (F := Ideal) x4 (ix3 n g j) = ex (m2 x4) n g j := by
  pointwise [val_main_v7, val_main_v6, val_main_v5, val_main_v4, v3_at, v0_at, ex]
theorem v8_at (n : Fin 8192) (j : Fin 4) : val_main_v8 (F := Ideal) x4 (ix2 n j) = den (m2 x4) n j := by
  pointwise [val_main_v8, val_main_cst_1, v7_at, den]
  try rw [Fin.sum_univ_three]
theorem v11_at (n : Fin 8192) (g : Fin 3) (j : Fin 4) : val_main_v11 (F := Ideal) x4 (ix3 n g j) = wt (m2 x4) n g j := by
  pointwise [val_main_v11, val_main_v10, val_main_v9, v8_at, v7_at, wt]
theorem v15_at (n : Fin 8192) (g : Fin 3) (j : Fin 4) (d : Fin 64) :
    val_main_v15 (F := Ideal) x3 x4 (ix4 n g j d) = x3 (ix2 n (lane g j d)) * wt (m2 x4) n g j := by
  pointwise [val_main_v15, val_main_v14, val_main_v13, val_main_v12, v11_at, lane]
theorem v131_at (n : Fin 8192) (c : Fin 768) : val_main_v131 (F := Ideal) x3 x4 (ix2 n c) = att (m2 x3) (m2 x4) n c := by
  have e : val_main_v131 (F := Ideal) x3 x4 (ix2 n c) = val_main_v15 (F := Ideal) x3 x4 (ix4 n (gr c) (hd (cl c)) (lo (cl c))) := by
    unfold val_main_v131
    refine shapeCast_apply _ _ _ _ ?_
    rw [Shape.rowMajor_val_two, Shape.rowMajor_val_four]
    show ((n.val * 3 + c.val / 256) * 4 + (c.val % 256) / 64) * 64 + (c.val % 256) % 64 = n.val * 768 + c.val
    omega
  rw [e, v15_at, att]
  have l : lane (gr c) (hd (cl c)) (lo (cl c)) = c := Fin.ext (by
    show c.val / 256 * 256 + (c.val % 256) / 64 * 64 + (c.val % 256) % 64 = c.val
    omega)
  rw [l]

/-- The padding value is zero. -/
theorem zero_at (i : S_.Idx) : val_main_call0_v0 (F := Ideal) i = 0 := by
  exact sitofp_zero (φ := .f32)

theorem v16_at (n : Fin 8192) (c : Fin 256) : val_main_v16 (F := Ideal) x0 (ix2 n c) = x0 (ix2 n (zc c)) := by
  pointwise [val_main_v16, zc]
theorem v18_at (x : Fin 8207) (c : Fin 256) : val_main_v18 (F := Ideal) x0 (ix2 x c) = U (m2 x0) x.val c := by
  unfold U
  by_cases h : 15 ≤ x.val ∧ x.val < 8207
  · rw [dif_pos h]
    unfold val_main_v18
    refine (pad_apply_of_inside _ _ _ _ _ _ _ (ix2 x c) (ix2 (⟨x.val - 15, by omega⟩ : Fin 8192) c) fun a => ?_).trans (v16_at x0 _ c)
    match a with
    | ⟨0, _⟩ => show x.val = 15 + (x.val - 15) * (0 + 1); omega
    | ⟨1, _⟩ => show c.val = 0 + c.val * (0 + 1); omega
  · rw [dif_neg h]
    unfold val_main_v18
    refine (pad_apply_of_not_inside _ _ _ _ _ _ _ (ix2 x c) (0 : Fin 2) ?_).trans (zero_at _)
    show ¬(15 ≤ x.val ∧ _ ∧ _)
    omega

theorem add_at (a b : EReal) : FloatOps.addf (F := Ideal) (φ := .f32) a b = a + b := rfl

/-- The row of a shifted slice. -/
theorem U_at (s : ℕ) (n : Fin 8192) (h : s + n.val < 8207) (c : Fin 256) : val_main_v18 (F := Ideal) x0 (ix2 ⟨s + n.val, h⟩ c) = U (m2 x0) (s + n.val) c :=
  v18_at x0 ⟨s + n.val, h⟩ c

theorem v19_at (n : Fin 8192) (d : Fin 64) : val_main_v19 (F := Ideal) x0 (ix2 n d) = U (m2 x0) (n.val + 15 - 0) (gcol 0 d) := by
  rw [val_main_v19_apply]
  have e : idx_main_v19 (ix2 n d) = ix2 (⟨15 + n.val, by omega⟩ : Fin 8207) (gcol 0 d) := by
    funext a
    match a with
    | ⟨0, _⟩ => rfl
    | ⟨1, _⟩ => exact Fin.ext (by show d.val = 0 * 64 + d.val; omega)
  rw [e, U_at]
  congr 1; omega

theorem v20_at (n : Fin 8192) (d : Fin 64) : val_main_v20 (F := Ideal) x0 (ix2 n d) = U (m2 x0) (n.val + 15 - 1) (gcol 0 d) := by
  rw [val_main_v20_apply]
  have e : idx_main_v20 (ix2 n d) = ix2 (⟨14 + n.val, by omega⟩ : Fin 8207) (gcol 0 d) := by
    funext a
    match a with
    | ⟨0, _⟩ => rfl
    | ⟨1, _⟩ => exact Fin.ext (by show d.val = 0 * 64 + d.val; omega)
  rw [e, U_at]
  congr 1; omega

theorem v21_at (n : Fin 8192) (d : Fin 64) : val_main_v21 (F := Ideal) x0 (ix2 n d) = s2 (m2 x0) (n.val + 15) (gcol 0 d) := by
  rw [val_main_v21_apply, v19_at, v20_at]
  simp only [s2, Nat.sub_sub]
  simp only [add_at, add_assoc, Nat.reduceAdd, Nat.sub_zero]

theorem v28_at (n : Fin 8192) (d : Fin 64) : val_main_v28 (F := Ideal) (ix2 n d) = cnt 0 n.val := by
  pointwise [val_main_v28, val_main_v27, val_main_v26, val_main_v25, val_main_v24, val_main_v23, val_main_v22, val_main_v17, val_main_c_2, val_main_c_3, cnt, len]
theorem v31_at (n : Fin 8192) (d : Fin 64) : val_main_v31 (F := Ideal) x0 (ix2 n d) = dev (m2 x0) n (gcol 0 d) := by
  have e : hd (gcol 0 d) = 0 := Fin.ext (by show (0 * 64 + d.val) / 64 = 0; omega)
  have u : val_main_v30 (F := Ideal) x0 (ix2 n d) = x0 (ix2 n (zc (gcol 0 d))) := by
    refine Eq.trans ?_ (v16_at x0 n (gcol 0 d))
    pointwise [val_main_v30, gcol]
  have q : val_main_v31 (F := Ideal) x0 (ix2 n d)
      = Ideal.div (val_main_v21 (F := Ideal) x0 (ix2 n d)) (val_main_v28 (F := Ideal) (ix2 n d)) - val_main_v30 (F := Ideal) x0 (ix2 n d) := rfl
  rw [q, v21_at, v28_at, u, dev, e]
  rfl
theorem v34_at (n : Fin 8192) (d : Fin 64) : val_main_v34 (F := Ideal) x0 x1 (ix2 n d) = mixg (m2 x0) (m3 x1) n 0 d := by
  pointwise [val_main_v34, val_main_v33, val_main_v32, v31_at, mixg]

theorem v35_at (n : Fin 8192) (d : Fin 64) : val_main_v35 (F := Ideal) x0 (ix2 n d) = U (m2 x0) (n.val + 15 - 0) (gcol 1 d) := by
  rw [val_main_v35_apply]
  have e : idx_main_v35 (ix2 n d) = ix2 (⟨15 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v36_at (n : Fin 8192) (d : Fin 64) : val_main_v36 (F := Ideal) x0 (ix2 n d) = U (m2 x0) (n.val + 15 - 1) (gcol 1 d) := by
  rw [val_main_v36_apply]
  have e : idx_main_v36 (ix2 n d) = ix2 (⟨14 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v38_at (n : Fin 8192) (d : Fin 64) : val_main_v38 (F := Ideal) x0 (ix2 n d) = U (m2 x0) (n.val + 15 - 2) (gcol 1 d) := by
  rw [val_main_v38_apply]
  have e : idx_main_v38 (ix2 n d) = ix2 (⟨13 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v40_at (n : Fin 8192) (d : Fin 64) : val_main_v40 (F := Ideal) x0 (ix2 n d) = U (m2 x0) (n.val + 15 - 3) (gcol 1 d) := by
  rw [val_main_v40_apply]
  have e : idx_main_v40 (ix2 n d) = ix2 (⟨12 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v41_at (n : Fin 8192) (d : Fin 64) : val_main_v41 (F := Ideal) x0 (ix2 n d) = s4 (m2 x0) (n.val + 15) (gcol 1 d) := by
  rw [val_main_v41_apply, val_main_v39_apply, val_main_v37_apply, v35_at, v36_at, v38_at, v40_at]
  simp only [s4, s2, Nat.sub_sub]
  simp only [add_at, add_assoc, Nat.reduceAdd, Nat.sub_zero]

theorem v48_at (n : Fin 8192) (d : Fin 64) : val_main_v48 (F := Ideal) (ix2 n d) = cnt 1 n.val := by
  pointwise [val_main_v48, val_main_v47, val_main_v46, val_main_v45, val_main_v44, val_main_v43, val_main_v42, val_main_v17, val_main_c_4, val_main_c_5, cnt, len]
theorem v51_at (n : Fin 8192) (d : Fin 64) : val_main_v51 (F := Ideal) x0 (ix2 n d) = dev (m2 x0) n (gcol 1 d) := by
  have e : hd (gcol 1 d) = 1 := Fin.ext (by show (1 * 64 + d.val) / 64 = 1; omega)
  have u : val_main_v50 (F := Ideal) x0 (ix2 n d) = x0 (ix2 n (zc (gcol 1 d))) := by
    refine Eq.trans ?_ (v16_at x0 n (gcol 1 d))
    pointwise [val_main_v50, gcol]
  have q : val_main_v51 (F := Ideal) x0 (ix2 n d)
      = Ideal.div (val_main_v41 (F := Ideal) x0 (ix2 n d)) (val_main_v48 (F := Ideal) (ix2 n d)) - val_main_v50 (F := Ideal) x0 (ix2 n d) := rfl
  rw [q, v41_at, v48_at, u, dev, e]
  rfl
theorem v54_at (n : Fin 8192) (d : Fin 64) : val_main_v54 (F := Ideal) x0 x1 (ix2 n d) = mixg (m2 x0) (m3 x1) n 1 d := by
  pointwise [val_main_v54, val_main_v53, val_main_v52, v51_at, mixg]

theorem v55_at (n : Fin 8192) (d : Fin 64) : val_main_v55 (F := Ideal) x0 (ix2 n d) = U (m2 x0) (n.val + 15 - 0) (gcol 2 d) := by
  rw [val_main_v55_apply]
  have e : idx_main_v55 (ix2 n d) = ix2 (⟨15 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v56_at (n : Fin 8192) (d : Fin 64) : val_main_v56 (F := Ideal) x0 (ix2 n d) = U (m2 x0) (n.val + 15 - 1) (gcol 2 d) := by
  rw [val_main_v56_apply]
  have e : idx_main_v56 (ix2 n d) = ix2 (⟨14 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v58_at (n : Fin 8192) (d : Fin 64) : val_main_v58 (F := Ideal) x0 (ix2 n d) = U (m2 x0) (n.val + 15 - 2) (gcol 2 d) := by
  rw [val_main_v58_apply]
  have e : idx_main_v58 (ix2 n d) = ix2 (⟨13 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v60_at (n : Fin 8192) (d : Fin 64) : val_main_v60 (F := Ideal) x0 (ix2 n d) = U (m2 x0) (n.val + 15 - 3) (gcol 2 d) := by
  rw [val_main_v60_apply]
  have e : idx_main_v60 (ix2 n d) = ix2 (⟨12 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v62_at (n : Fin 8192) (d : Fin 64) : val_main_v62 (F := Ideal) x0 (ix2 n d) = U (m2 x0) (n.val + 15 - 4) (gcol 2 d) := by
  rw [val_main_v62_apply]
  have e : idx_main_v62 (ix2 n d) = ix2 (⟨11 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v64_at (n : Fin 8192) (d : Fin 64) : val_main_v64 (F := Ideal) x0 (ix2 n d) = U (m2 x0) (n.val + 15 - 5) (gcol 2 d) := by
  rw [val_main_v64_apply]
  have e : idx_main_v64 (ix2 n d) = ix2 (⟨10 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v66_at (n : Fin 8192) (d : Fin 64) : val_main_v66 (F := Ideal) x0 (ix2 n d) = U (m2 x0) (n.val + 15 - 6) (gcol 2 d) := by
  rw [val_main_v66_apply]
  have e : idx_main_v66 (ix2 n d) = ix2 (⟨9 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v68_at (n : Fin 8192) (d : Fin 64) : val_main_v68 (F := Ideal) x0 (ix2 n d) = U (m2 x0) (n.val + 15 - 7) (gcol 2 d) := by
  rw [val_main_v68_apply]
  have e : idx_main_v68 (ix2 n d) = ix2 (⟨8 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v69_at (n : Fin 8192) (d : Fin 64) : val_main_v69 (F := Ideal) x0 (ix2 n d) = s8 (m2 x0) (n.val + 15) (gcol 2 d) := by
  rw [val_main_v69_apply, val_main_v67_apply, val_main_v65_apply, val_main_v63_apply, val_main_v61_apply, val_main_v59_apply, val_main_v57_apply, v55_at, v56_at, v58_at, v60_at, v62_at, v64_at, v66_at, v68_at]
  simp only [s8, s4, s2, Nat.sub_sub]
  simp only [add_at, add_assoc, Nat.reduceAdd, Nat.sub_zero]

theorem v76_at (n : Fin 8192) (d : Fin 64) : val_main_v76 (F := Ideal) (ix2 n d) = cnt 2 n.val := by
  pointwise [val_main_v76, val_main_v75, val_main_v74, val_main_v73, val_main_v72, val_main_v71, val_main_v70, val_main_v17, val_main_c_6, val_main_c_7, cnt, len]
theorem v79_at (n : Fin 8192) (d : Fin 64) : val_main_v79 (F := Ideal) x0 (ix2 n d) = dev (m2 x0) n (gcol 2 d) := by
  have e : hd (gcol 2 d) = 2 := Fin.ext (by show (2 * 64 + d.val) / 64 = 2; omega)
  have u : val_main_v78 (F := Ideal) x0 (ix2 n d) = x0 (ix2 n (zc (gcol 2 d))) := by
    refine Eq.trans ?_ (v16_at x0 n (gcol 2 d))
    pointwise [val_main_v78, gcol]
  have q : val_main_v79 (F := Ideal) x0 (ix2 n d)
      = Ideal.div (val_main_v69 (F := Ideal) x0 (ix2 n d)) (val_main_v76 (F := Ideal) (ix2 n d)) - val_main_v78 (F := Ideal) x0 (ix2 n d) := rfl
  rw [q, v69_at, v76_at, u, dev, e]
  rfl
theorem v82_at (n : Fin 8192) (d : Fin 64) : val_main_v82 (F := Ideal) x0 x1 (ix2 n d) = mixg (m2 x0) (m3 x1) n 2 d := by
  pointwise [val_main_v82, val_main_v81, val_main_v80, v79_at, mixg]

theorem v83_at (n : Fin 8192) (d : Fin 64) : val_main_v83 (F := Ideal) x0 (ix2 n d) = U (m2 x0) (n.val + 15 - 0) (gcol 3 d) := by
  rw [val_main_v83_apply]
  have e : idx_main_v83 (ix2 n d) = ix2 (⟨15 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v84_at (n : Fin 8192) (d : Fin 64) : val_main_v84 (F := Ideal) x0 (ix2 n d) = U (m2 x0) (n.val + 15 - 1) (gcol 3 d) := by
  rw [val_main_v84_apply]
  have e : idx_main_v84 (ix2 n d) = ix2 (⟨14 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v86_at (n : Fin 8192) (d : Fin 64) : val_main_v86 (F := Ideal) x0 (ix2 n d) = U (m2 x0) (n.val + 15 - 2) (gcol 3 d) := by
  rw [val_main_v86_apply]
  have e : idx_main_v86 (ix2 n d) = ix2 (⟨13 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v88_at (n : Fin 8192) (d : Fin 64) : val_main_v88 (F := Ideal) x0 (ix2 n d) = U (m2 x0) (n.val + 15 - 3) (gcol 3 d) := by
  rw [val_main_v88_apply]
  have e : idx_main_v88 (ix2 n d) = ix2 (⟨12 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v90_at (n : Fin 8192) (d : Fin 64) : val_main_v90 (F := Ideal) x0 (ix2 n d) = U (m2 x0) (n.val + 15 - 4) (gcol 3 d) := by
  rw [val_main_v90_apply]
  have e : idx_main_v90 (ix2 n d) = ix2 (⟨11 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v92_at (n : Fin 8192) (d : Fin 64) : val_main_v92 (F := Ideal) x0 (ix2 n d) = U (m2 x0) (n.val + 15 - 5) (gcol 3 d) := by
  rw [val_main_v92_apply]
  have e : idx_main_v92 (ix2 n d) = ix2 (⟨10 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v94_at (n : Fin 8192) (d : Fin 64) : val_main_v94 (F := Ideal) x0 (ix2 n d) = U (m2 x0) (n.val + 15 - 6) (gcol 3 d) := by
  rw [val_main_v94_apply]
  have e : idx_main_v94 (ix2 n d) = ix2 (⟨9 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v96_at (n : Fin 8192) (d : Fin 64) : val_main_v96 (F := Ideal) x0 (ix2 n d) = U (m2 x0) (n.val + 15 - 7) (gcol 3 d) := by
  rw [val_main_v96_apply]
  have e : idx_main_v96 (ix2 n d) = ix2 (⟨8 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v98_at (n : Fin 8192) (d : Fin 64) : val_main_v98 (F := Ideal) x0 (ix2 n d) = U (m2 x0) (n.val + 15 - 8) (gcol 3 d) := by
  rw [val_main_v98_apply]
  have e : idx_main_v98 (ix2 n d) = ix2 (⟨7 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v100_at (n : Fin 8192) (d : Fin 64) : val_main_v100 (F := Ideal) x0 (ix2 n d) = U (m2 x0) (n.val + 15 - 9) (gcol 3 d) := by
  rw [val_main_v100_apply]
  have e : idx_main_v100 (ix2 n d) = ix2 (⟨6 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v102_at (n : Fin 8192) (d : Fin 64) : val_main_v102 (F := Ideal) x0 (ix2 n d) = U (m2 x0) (n.val + 15 - 10) (gcol 3 d) := by
  rw [val_main_v102_apply]
  have e : idx_main_v102 (ix2 n d) = ix2 (⟨5 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v104_at (n : Fin 8192) (d : Fin 64) : val_main_v104 (F := Ideal) x0 (ix2 n d) = U (m2 x0) (n.val + 15 - 11) (gcol 3 d) := by
  rw [val_main_v104_apply]
  have e : idx_main_v104 (ix2 n d) = ix2 (⟨4 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v106_at (n : Fin 8192) (d : Fin 64) : val_main_v106 (F := Ideal) x0 (ix2 n d) = U (m2 x0) (n.val + 15 - 12) (gcol 3 d) := by
  rw [val_main_v106_apply]
  have e : idx_main_v106 (ix2 n d) = ix2 (⟨3 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v108_at (n : Fin 8192) (d : Fin 64) : val_main_v108 (F := Ideal) x0 (ix2 n d) = U (m2 x0) (n.val + 15 - 13) (gcol 3 d) := by
  rw [val_main_v108_apply]
  have e : idx_main_v108 (ix2 n d) = ix2 (⟨2 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v110_at (n : Fin 8192) (d : Fin 64) : val_main_v110 (F := Ideal) x0 (ix2 n d) = U (m2 x0) (n.val + 15 - 14) (gcol 3 d) := by
  rw [val_main_v110_apply]
  have e : idx_main_v110 (ix2 n d) = ix2 (⟨1 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v112_at (n : Fin 8192) (d : Fin 64) : val_main_v112 (F := Ideal) x0 (ix2 n d) = U (m2 x0) (n.val + 15 - 15) (gcol 3 d) := by
  rw [val_main_v112_apply]
  have e : idx_main_v112 (ix2 n d) = ix2 (⟨0 + n.val, by omega⟩ : Fin 8207) (gcol 3 d) := by
    funext a
    match a with
    | ⟨0, _⟩ => exact Fin.ext (by show n.val = 0 + n.val; omega)
    | ⟨1, _⟩ => exact Fin.ext (by show 192 + d.val = 3 * 64 + d.val; omega)
  rw [e, U_at]
  congr 1; omega

theorem v113_at (n : Fin 8192) (d : Fin 64) : val_main_v113 (F := Ideal) x0 (ix2 n d) = s16 (m2 x0) (n.val + 15) (gcol 3 d) := by
  rw [val_main_v113_apply, val_main_v111_apply, val_main_v109_apply, val_main_v107_apply, val_main_v105_apply, val_main_v103_apply, val_main_v101_apply, val_main_v99_apply, val_main_v97_apply, val_main_v95_apply, val_main_v93_apply, val_main_v91_apply, val_main_v89_apply, val_main_v87_apply, val_main_v85_apply, v83_at, v84_at, v86_at, v88_at, v90_at, v92_at, v94_at, v96_at, v98_at, v100_at, v102_at, v104_at, v106_at, v108_at, v110_at, v112_at]
  simp only [s16, s8, s4, s2, Nat.sub_sub]
  simp only [add_at, add_assoc, Nat.reduceAdd, Nat.sub_zero]

theorem v120_at (n : Fin 8192) (d : Fin 64) : val_main_v120 (F := Ideal) (ix2 n d) = cnt 3 n.val := by
  pointwise [val_main_v120, val_main_v119, val_main_v118, val_main_v117, val_main_v116, val_main_v115, val_main_v114, val_main_v17, val_main_c_8, val_main_c_9, cnt, len]
theorem v123_at (n : Fin 8192) (d : Fin 64) : val_main_v123 (F := Ideal) x0 (ix2 n d) = dev (m2 x0) n (gcol 3 d) := by
  have e : hd (gcol 3 d) = 3 := Fin.ext (by show (3 * 64 + d.val) / 64 = 3; omega)
  have u : val_main_v122 (F := Ideal) x0 (ix2 n d) = x0 (ix2 n (zc (gcol 3 d))) := by
    refine Eq.trans ?_ (v16_at x0 n (gcol 3 d))
    pointwise [val_main_v122, gcol]
  have q : val_main_v123 (F := Ideal) x0 (ix2 n d)
      = Ideal.div (val_main_v113 (F := Ideal) x0 (ix2 n d)) (val_main_v120 (F := Ideal) (ix2 n d)) - val_main_v122 (F := Ideal) x0 (ix2 n d) := rfl
  rw [q, v113_at, v120_at, u, dev, e]
  rfl
theorem v126_at (n : Fin 8192) (d : Fin 64) : val_main_v126 (F := Ideal) x0 x1 (ix2 n d) = mixg (m2 x0) (m3 x1) n 3 d := by
  pointwise [val_main_v126, val_main_v125, val_main_v124, v123_at, mixg]

theorem v127_at (n : Fin 8192) (c : Fin 256) : val_main_v127 (F := Ideal) x0 x1 (ix2 n c) = mixg (m2 x0) (m3 x1) n (hd c) (lo c) := by
  obtain ⟨g, d, rfl⟩ : ∃ g d, c = gcol g d := ⟨hd c, lo c, Fin.ext (by simp only [gcol, hd, lo]; omega)⟩
  have eg : hd (gcol g d) = g := Fin.ext (by simp only [gcol, hd]; omega)
  have ed : lo (gcol g d) = d := Fin.ext (by simp only [gcol, lo]; omega)
  rw [eg, ed]
  have p0 := v34_at x0 x1 n d
  have p1 := v54_at x0 x1 n d
  have p2 := v82_at x0 x1 n d
  have p3 := v126_at x0 x1 n d
  fin_cases g
  · refine Eq.trans ?_ p0
    pointwise [val_main_v127, gcol]
  · refine Eq.trans ?_ p1
    pointwise [val_main_v127, gcol]
  · refine Eq.trans ?_ p2
    pointwise [val_main_v127, gcol]
    rw [dif_neg (by omega), dif_neg (by omega), dif_pos (by omega)]
    exact congrArg (fun d => val_main_v82 (F := Ideal) x0 x1 (ix2 n d)) (Fin.ext (by simp only; omega))
  · refine Eq.trans ?_ p3
    pointwise [val_main_v127, gcol]
    rw [dif_neg (by omega), dif_neg (by omega), dif_neg (by omega)]
    exact congrArg (fun d => val_main_v126 (F := Ideal) x0 x1 (ix2 n d)) (Fin.ext (by simp only; omega))

theorem v132_at (n : Fin 8192) (k : Fin 1024) :
    val_main_v132 (F := Ideal) x0 x1 x2 x3 x4 (ix2 n k) = mixed (m2 x0) (m3 x1) (m1 x2) (m2 x3) (m2 x4) n k := by
  pointwise [val_main_v132, val_main_v130, val_main_v129, val_main_v128, v127_at, v131_at, mixed, MixSpec.pool]

theorem v133_at (n : Fin 8192) (k : Fin 1024) :
    val_main_v133 (F := Ideal) x0 x1 x2 x3 x4 (ix2 n k) = mixed (m2 x0) (m3 x1) (m1 x2) (m2 x3) (m2 x4) n k := by
  pointwise [val_main_v133, v132_at]

theorem v135_at (n : Fin 8192) (k : Fin 1024) :
    val_main_v135 (F := Ideal) x0 x1 x2 x3 x4 x5 x6 (ix2 n k) = next (m2 x0) (m3 x1) (m1 x2) (m2 x3) (m2 x4) (m2 x5) (m2 x6) n k := by
  pointwise [val_main_v135, val_main_v134, v132_at, next]

end Cert.MixOutRefIdeal.Hand

end
-- ==== Proof.MixOutClaim.lean ====
/- The output projection's forward call gives the reference's two results, at exact arithmetic on any arguments. -/
module

public import proofs.«01_k».proof.Proof.MixOutFinal
public import proofs.«01_k».proof.Proof.MixOutRef

@[expose] public section

set_option maxRecDepth 16384

noncomputable section

namespace Cert.MixOutIdeal.Hand

open Idealize.ShloMosaic Idealize.ShloMosaic.TcCoe
open Cert.MixOutIdeal Cert.OutSpec Cert.MixSpec

variable (m : (ℓ : Loc nD τ sig) → Buf (Elt Ideal) ℓ) (c : Dev nD)

theorem ref12 : Cert.MixOutRefIdeal.Read.val_main_v133 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = R12 m c := by
  funext i
  idx_vars i
  exact Cert.MixOutRefIdeal.Hand.v133_at _ _ _ _ _ i0 i1

theorem ref13 : Cert.MixOutRefIdeal.Read.val_main_v135 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = R13 m c := by
  funext i
  idx_vars i
  exact Cert.MixOutRefIdeal.Hand.v135_at _ _ _ _ _ _ _ i0 i1

end Cert.MixOutIdeal.Hand

end
-- ==== Proof.PoolSpec.lean ====
/- The pooling mixer's derivative in the table of its matrices and in its scale, as plain mathematics over the extended reals. -/
module

public import proofs.«01_k».proof.Proof.MixSpec

@[expose] public section

noncomputable section

namespace Cert.PoolSpec

open Idealize.ShloMosaic Cert.MixSpec

variable (Z : Fin 8192 → Fin 2560 → EReal) (D : Fin 8192 → Fin 256 → EReal) (T : Fin 256 → Fin 256 → EReal) (S : Fin 256 → EReal)

/-- The rows less their means, transposed, times the scaled gradient. -/
def dtab (k c : Fin 256) : EReal := ∑ n : Fin 8192, dev Z n k * (D n c * S c)

/-- The gradient times the product that the scale multiplies, over the rows. -/
def dscale (c : Fin 256) : EReal := ∑ n : Fin 8192, D n c * ∑ k : Fin 256, dev Z n k * T k c

end Cert.PoolSpec

end
-- ==== Proof.PoolBwdPure.lean ====
/- The pooling mixer's backward call: what each row block adds to the two gradients, entry by entry. -/
module

public import proofs.«01_k».proof.Proof.MixOutPure
public import proofs.«01_k».proof.Proof.PoolSpec
public import proofs.«01_k».proof.Proof.Gen.PoolBwdIdeal.Skeleton

@[expose] public section

set_option maxRecDepth 16384

noncomputable section

namespace Cert.PoolBwdIdeal.Hand

open Idealize.ShloMosaic Idealize.SL.Sem
open Cert.PoolBwdIdeal Cert.PoolBwdIdeal.Gen Cert.OutSpec Cert.MixSpec Cert.PoolSpec

variable (i : grid0.Coords) (row : Fin 512 → Fin 8192)
  (Z : Fin 8192 → Fin 2560 → EReal) (DP : Fin 8192 → Fin 256 → EReal) (T : Fin 256 → Fin 256 → EReal) (S : Fin 256 → EReal)
  (x0 : FVec Ideal S512x256 .f32) (x1 : FVec Ideal S16x256 .f32) (x2 : FVec Ideal S512x256 .f32)
  (x4 : FVec Ideal S256x256 .bf16) (x5 : FVec Ideal S1x256 .f32)

/-- The windows' sums over a row block. -/
def sums : FVec Ideal S512x256 .f32 :=
  k0_pay8 (k0_pay2 i x0 x1) (k0_pay3 i x0 x1) (k0_pay4 i x0 x1) (k0_pay5 i x0 x1) k0_pay6 k0_pay7

/-- The rows less their means, rounded. -/
def devs : FVec Ideal S512x256 .bf16 :=
  k0_pay16 x0 (sums i x0 x1) (k0_pay9 (BitVec.ofNat 32 (i 0).val)) k0_pay11 k0_pay12 k0_pay13 k0_pay14 k0_pay15

/-- What a row block adds to the scale's gradient, and to the table's. -/
def dsc : FVec Ideal S1x256 .f32 :=
  k0_pay18 x0 (sums i x0 x1) (k0_pay9 (BitVec.ofNat 32 (i 0).val)) k0_pay11 k0_pay12 k0_pay13 k0_pay14 k0_pay15 x2 x4
def dtb : FVec Ideal S256x256 .f32 :=
  k0_pay19 x0 (sums i x0 x1) (k0_pay9 (BitVec.ofNat 32 (i 0).val)) k0_pay11 k0_pay12 k0_pay13 k0_pay14 k0_pay15 x2 x5

section tile

variable (hrow : ∀ r, (row r).val = (i 0).val * 512 + r.val)
  (h0 : ∀ r (k : Fin 256), x0 (ix2 r k) = Z (row r) (zc k))
  (h1 : (i 0).val ≠ 0 → ∀ (x : Fin 16) (k : Fin 256), x1 (ix2 x k) = U Z ((i 0).val * 512 + x.val - 1) k)
  (h2 : ∀ r c, x2 (ix2 r c) = DP (row r) c) (h4 : ∀ k c, x4 (ix2 k c) = T k c) (h5 : ∀ c, x5 (ix2 0 c) = S c)

theorem devs_eq : devs i x0 x1 = truncf .bf16 (Cert.MixOutIdeal.Hand.devs i x0 x1) bitsLt_bf16_f32 := rfl

include hrow h0 h1 in
theorem devs_at (r : Fin 512) (c : Fin 256) : devs i x0 x1 (ix2 r c) = dev Z (row r) c :=
  (congrFun (devs_eq i x0 x1) (ix2 r c)).trans (Cert.MixOutIdeal.Hand.devs_at i row Z x0 x1 hrow h0 h1 r c)

include hrow h0 h1 h2 h4 in
theorem dsc_at (c : Fin 256) : dsc i x0 x1 x2 x4 (ix2 0 c) = ∑ r : Fin 512, DP (row r) c * ∑ k : Fin 256, dev Z (row r) k * T k c := by
  have e : dsc i x0 x1 x2 x4 = shapeCast S1x256 (multiReduction .add [0] S256 (mulf x2
      (matmul dot_S512x256_S256x256_S512x256_1_0_0_1_n_n none (devs i x0 x1) (shapeCast S256x256 x4 shapeCasts_S256x256_S256x256)
        (constant S512x256 .f32 0x00000000#32))) 0x00000000#32 reduces_S512x256_S256 (.inl rfl) rfl) shapeCasts_S256_S1x256 := rfl
  rw [e]
  pointwise [devs_at i row Z x0 x1 hrow h0 h1, h2, h4]

include hrow h0 h1 h2 h5 in
theorem dtb_at (k c : Fin 256) : dtb i x0 x1 x2 x5 (ix2 k c) = ∑ r : Fin 512, dev Z (row r) k * (DP (row r) c * S c) := by
  have e : dtb i x0 x1 x2 x5 = matmul dot_S512x256_S512x256_S256x256_0_0_1_1_n_n none (devs i x0 x1)
      (truncf .bf16 (mulf x2 (broadcastTo S512x256 (shapeCast S1x256 x5 shapeCasts_S1x256_S1x256) broadcasts_S1x256_S512x256)) bitsLt_bf16_f32)
      (constant S256x256 .f32 0x00000000#32) := rfl
  rw [e]
  pointwise [devs_at i row Z x0 x1 hrow h0 h1, h2, h5]

end tile

/-- The later row blocks add to what is there. -/
theorem pay20_at (v : FVec Ideal S1x256 .f32) (c : Fin 256) :
    k0_pay20 x0 (sums i x0 x1) (k0_pay9 (BitVec.ofNat 32 (i 0).val)) k0_pay11 k0_pay12 k0_pay13 k0_pay14 k0_pay15 x2 x4 v (ix2 0 c)
    = v (ix2 0 c) + dsc i x0 x1 x2 x4 (ix2 0 c) := by
  have e : k0_pay20 x0 (sums i x0 x1) (k0_pay9 (BitVec.ofNat 32 (i 0).val)) k0_pay11 k0_pay12 k0_pay13 k0_pay14 k0_pay15 x2 x4 v
      = addf (shapeCast S1x256 v shapeCasts_S1x256_S1x256) (dsc i x0 x1 x2 x4) := rfl
  rw [e]
  generalize dsc i x0 x1 x2 x4 = w
  pointwise
theorem pay21_at (v : FVec Ideal S256x256 .f32) (k c : Fin 256) :
    k0_pay21 x0 (sums i x0 x1) (k0_pay9 (BitVec.ofNat 32 (i 0).val)) k0_pay11 k0_pay12 k0_pay13 k0_pay14 k0_pay15 x2 x5 v (ix2 k c)
    = v (ix2 k c) + dtb i x0 x1 x2 x5 (ix2 k c) := by
  have e : k0_pay21 x0 (sums i x0 x1) (k0_pay9 (BitVec.ofNat 32 (i 0).val)) k0_pay11 k0_pay12 k0_pay13 k0_pay14 k0_pay15 x2 x5 v
      = addf (shapeCast S256x256 v shapeCasts_S256x256_S256x256) (dtb i x0 x1 x2 x5) := rfl
  rw [e]
  generalize dtb i x0 x1 x2 x5 = w
  pointwise

end Cert.PoolBwdIdeal.Hand

end
-- ==== Proof.PoolBwdFinal.lean ====
/- The pooling mixer's backward call: its two gradients as plain mathematics of its arguments. -/
module

public import Idealize.ShloMosaic.Lib.Pipeline.ValueKit
public import Idealize.ShloMosaic.Lib.KernelVsHost
public import proofs.«01_k».proof.Proof.PoolBwdPure
public import proofs.«01_k».proof.Proof.Gen.PoolBwdIdeal.Value

@[expose] public section

set_option maxRecDepth 16384

noncomputable section

namespace Cert.PoolBwdIdeal.Hand

open Idealize.ShloMosaic Idealize.ShloMosaic.TcCoe Idealize.SL.Sem
open Idealize.ShloMosaic.Pipeline (Dat)
open Cert.PoolBwdIdeal Cert.PoolBwdIdeal.Gen Cert.PoolBwdIdeal.Value Cert.OutSpec Cert.MixSpec Cert.PoolSpec

variable (m : (ℓ : Loc nD τ sig) → Buf (Elt Ideal) ℓ)

/-- The four arguments as functions of their indices. -/
def Z (c : Dev nD) (n : Fin 8192) (k : Fin 2560) : EReal := (show FVec Ideal S8192x2560 .f32 from m ((c : Thread nD τ).loc main_arg0)) (ix2 n k)
def DP (c : Dev nD) (n : Fin 8192) (k : Fin 256) : EReal := (show FVec Ideal S8192x256 .f32 from m ((c : Thread nD τ).loc main_arg1)) (ix2 n k)
def T (c : Dev nD) (k d : Fin 256) : EReal := (show FVec Ideal S256x256 .f32 from m ((c : Thread nD τ).loc main_arg2)) (ix2 k d)
def S (c : Dev nD) (k : Fin 256) : EReal := (show FVec Ideal S256 .f32 from m ((c : Thread nD τ).loc main_arg3)) (ix1 k)

theorem V_v0 (c : Dev nD) : V m c main_v0 = (truncf .bf16 (show FVec Ideal S256x256 .f32 from m ((c : Thread nD τ).loc main_arg2)) bitsLt_bf16_f32 : FVec Ideal S256x256 .bf16) := by
  unfold V; after_results; try rfl
theorem V_v1 (c : Dev nD) : V m c main_v1 = (broadcastInDim S1x256 ![1] bcast_S256_S1x256_1
    (show FVec Ideal S256 .f32 from m ((c : Thread nD τ).loc main_arg3)) : FVec Ideal S1x256 .f32) := by
  unfold V; after_results; try rfl

theorem idx : ∀ t : Fin cfg0.N, win0_0.index t = ![t.val, 0] ∧ win0_1.index t = ![t.val * 32 - 1, 0] ∧ win0_2.index t = ![t.val, 0]
    ∧ win0_4.index t = ![0, 0] ∧ win0_5.index t = ![0, 0] ∧ win0_7.index t = ![0, 0] ∧ win0_8.index t = ![0, 0] :=
  (by decide +kernel : ∀ t : Fin grid0.N, _)
theorem crd : ∀ t : Fin cfg0.N, (grid0.coords t 0).val = t.val :=
  (by decide +kernel : ∀ t : Fin grid0.N, (grid0.coords t 0).val = t.val)

/-- Row `r` of point `t`'s block. -/
def row (t : Fin cfg0.N) (r : Fin 512) : Fin 8192 :=
  ⟨t.val * 512 + r.val, by have := lt_of_lt_of_eq t.isLt N_0; omega⟩
theorem row_at (t : Fin cfg0.N) (r : Fin 512) : (row t r).val = (grid0.coords t 0).val * 512 + r.val := by
  rw [crd]; rfl

theorem b0_at (c : Dev nD) (t : Fin cfg0.N) (r : Fin 512) (k : Fin 256) :
    (show FVec Ideal S512x256 .f32 from iblk m c 0 t) (ix2 r k) = Z m c (row t r) (zc k) := by
  unfold Z row zc
  blk_ext [iblk, V_main_arg0, idx t]

/-- Row `x` of the sixteen above point `t`'s block. -/
def above (t : Fin cfg0.N) (x : Fin 16) : Fin 8192 :=
  ⟨(t.val * 32 - 1) * 16 + x.val, by have := lt_of_lt_of_eq t.isLt N_0; omega⟩

theorem b1_at' (c : Dev nD) (t : Fin cfg0.N) (x : Fin 16) (k : Fin 256) :
    (show FVec Ideal S16x256 .f32 from iblk m c 1 t) (ix2 x k) = Z m c (above t x) (zc k) := by
  unfold Z above zc
  blk_ext [iblk, V_main_arg0, idx t]

theorem b1_at (c : Dev nD) (t : Fin cfg0.N) (ht : (grid0.coords t 0).val ≠ 0) (x : Fin 16) (k : Fin 256) :
    (show FVec Ideal S16x256 .f32 from iblk m c 1 t) (ix2 x k) = U (Z m c) ((grid0.coords t 0).val * 512 + x.val - 1) k := by
  rw [b1_at', U]
  rw [crd] at ht ⊢
  have hN := lt_of_lt_of_eq t.isLt N_0
  rw [dif_pos (by omega)]
  exact congrArg (fun n => Z m c n (zc k)) (Fin.ext (by simp only [above]; omega))

theorem b2_at (c : Dev nD) (t : Fin cfg0.N) (r : Fin 512) (k : Fin 256) :
    (show FVec Ideal S512x256 .f32 from iblk m c 2 t) (ix2 r k) = DP m c (row t r) k := by
  unfold DP row
  blk_ext [iblk, V_main_arg1, idx t]
theorem b4_at (c : Dev nD) (t : Fin cfg0.N) (k d : Fin 256) :
    (show FVec Ideal S256x256 .bf16 from iblk m c 4 t) (ix2 k d) = T m c k d := by
  have e : (show FVec Ideal S256x256 .bf16 from iblk m c 4 t) (ix2 k d)
      = (truncf .bf16 (show FVec Ideal S256x256 .f32 from m ((c : Thread nD τ).loc main_arg2)) bitsLt_bf16_f32 : FVec Ideal S256x256 .bf16) (ix2 k d) := by
    blk_ext [iblk, V_v0, idx t]
  exact e
theorem b5_at (c : Dev nD) (t : Fin cfg0.N) (k : Fin 256) :
    (show FVec Ideal S1x256 .f32 from iblk m c 5 t) (ix2 0 k) = S m c k := by
  have e : (show FVec Ideal S1x256 .f32 from iblk m c 5 t) (ix2 0 k) = (broadcastInDim S1x256 ![1] bcast_S256_S1x256_1
    (show FVec Ideal S256 .f32 from m ((c : Thread nD τ).loc main_arg3)) : FVec Ideal S1x256 .f32) (ix2 0 k) := by
    blk_ext [iblk, V_v1, idx t]
  rw [e]
  unfold S
  pointwise

/-- The two gradients. -/
def R7 (c : Dev nD) : S256x256.Idx → EReal := fun i => dtab (Z m c) (DP m c) (S m c) (i 0) (i 1)
def R8 (c : Dev nD) : S1x256.Idx → EReal := fun i => dscale (Z m c) (DP m c) (T m c) (i 1)

/-- Row block `t`'s share of each gradient. -/
def part7 (c : Dev nD) (t : Fin cfg0.N) (k d : Fin 256) : EReal := ∑ r : Fin 512, dev (Z m c) (row t r) k * (DP m c (row t r) d * S m c d)
def part8 (c : Dev nD) (t : Fin cfg0.N) (d : Fin 256) : EReal :=
  ∑ r : Fin 512, DP m c (row t r) d * ∑ k : Fin 256, dev (Z m c) (row t r) k * T m c k d

theorem part7_at (c : Dev nD) (t : Fin cfg0.N) (k d : Fin 256) :
    dtb (grid0.coords t) (iblk m c 0 t) (iblk m c 1 t) (iblk m c 2 t) (iblk m c 5 t) (ix2 k d) = part7 m c t k d :=
  dtb_at (grid0.coords t) (row t) (Z m c) (DP m c) (S m c) (iblk m c 0 t) (iblk m c 1 t) (iblk m c 2 t) (iblk m c 5 t)
    (row_at t) (b0_at m c t) (b1_at m c t) (b2_at m c t) (b5_at m c t) k d
theorem part8_at (c : Dev nD) (t : Fin cfg0.N) (d : Fin 256) :
    dsc (grid0.coords t) (iblk m c 0 t) (iblk m c 1 t) (iblk m c 2 t) (iblk m c 4 t) (ix2 0 d) = part8 m c t d :=
  dsc_at (grid0.coords t) (row t) (Z m c) (DP m c) (T m c) (iblk m c 0 t) (iblk m c 1 t) (iblk m c 2 t) (iblk m c 4 t)
    (row_at t) (b0_at m c t) (b1_at m c t) (b2_at m c t) (b4_at m c t) d

theorem outs7_A (c : Dev nD) (t : Fin cfg0.N) (h0 : t.val % 16 = 0) (h1 : ¬1 ≤ t.val) (k d : Fin 256) :
    (show FVec Ideal S256x256 .f32 from (outsAt0 m c t.val t.isLt).2.1) (ix2 k d) = part7 m c t k d := by
  have e := part7_at m c t k d
  rw [outsAt0_A m c t h0 h1]; frame_out; exact e

theorem outs7_B (c : Dev nD) (t : Fin cfg0.N) (h0 : ¬t.val % 16 = 0) (h1 : 1 ≤ t.val) (k d : Fin 256) :
    (show FVec Ideal S256x256 .f32 from (outsAt0 m c t.val t.isLt).2.1) (ix2 k d)
    = (show FVec Ideal S256x256 .f32 from (outsAt0 m c (t.val - 1) (Nat.lt_of_le_of_lt (Nat.sub_le _ _) t.isLt)).2.1) (ix2 k d) + part7 m c t k d := by
  have e := part7_at m c t k d
  rw [outsAt0_B m c t h0 h1]; frame_out
  exact (pay21_at (grid0.coords t) (iblk m c 0 t) (iblk m c 1 t) (iblk m c 2 t) (iblk m c 5 t) _ k d).trans (congrArg _ e)

theorem outs8_A (c : Dev nD) (t : Fin cfg0.N) (h0 : t.val % 16 = 0) (h1 : ¬1 ≤ t.val) (d : Fin 256) :
    (show FVec Ideal S1x256 .f32 from (outsAt0 m c t.val t.isLt).2.2) (ix2 0 d) = part8 m c t d := by
  have e := part8_at m c t d
  rw [outsAt0_A m c t h0 h1]; frame_out; exact e

theorem outs8_B (c : Dev nD) (t : Fin cfg0.N) (h0 : ¬t.val % 16 = 0) (h1 : 1 ≤ t.val) (d : Fin 256) :
    (show FVec Ideal S1x256 .f32 from (outsAt0 m c t.val t.isLt).2.2) (ix2 0 d)
    = (show FVec Ideal S1x256 .f32 from (outsAt0 m c (t.val - 1) (Nat.lt_of_le_of_lt (Nat.sub_le _ _) t.isLt)).2.2) (ix2 0 d) + part8 m c t d := by
  have e := part8_at m c t d
  rw [outsAt0_B m c t h0 h1]; frame_out
  exact (pay20_at (grid0.coords t) (iblk m c 0 t) (iblk m c 1 t) (iblk m c 2 t) (iblk m c 4 t) _ d).trans (congrArg _ e)

/-- A running sum over the grid's points is the sum of their shares. -/
theorem running (f : (n : ℕ) → n < cfg0.N → EReal) (p : Fin cfg0.N → EReal) (hA : ∀ h, f 0 h = p ⟨0, h⟩)
    (hB : ∀ n (h : n + 1 < cfg0.N), f (n + 1) h = f n (Nat.lt_of_succ_lt h) + p ⟨n + 1, h⟩) (t : Fin cfg0.N) (ht : t.val % 16 = 15) :
    f t.val t.isLt = ∑ s : Fin 16, p ⟨s.val, lt_of_lt_of_eq s.isLt N_0.symm⟩ := by
  have key : ∀ n (hn : n < cfg0.N), f n hn = ∑ s : Fin (n + 1), p ⟨s.val, lt_of_le_of_lt (Nat.le_of_lt_succ s.isLt) hn⟩ := by
    intro n
    induction n with
    | zero => intro hn; rw [Fin.sum_univ_one]; exact hA hn
    | succ n ih =>
      intro hn
      rw [Fin.sum_univ_castSucc, hB n hn, ih]
      rfl
  have hN := lt_of_lt_of_eq t.isLt N_0
  obtain ⟨n, hn⟩ := t
  obtain rfl : n = 15 := by simp at ht hN; omega
  exact key 15 hn

/-- The two accumulators after a point. -/
def acc7 (c : Dev nD) (k d : Fin 256) (n : ℕ) (hn : n < cfg0.N) : EReal := (show FVec Ideal S256x256 .f32 from (outsAt0 m c n hn).2.1) (ix2 k d)
def acc8 (c : Dev nD) (d : Fin 256) (n : ℕ) (hn : n < cfg0.N) : EReal := (show FVec Ideal S1x256 .f32 from (outsAt0 m c n hn).2.2) (ix2 0 d)

theorem acc7_B (c : Dev nD) (t : Fin cfg0.N) (h0 : ¬t.val % 16 = 0) (h1 : 1 ≤ t.val) (k d : Fin 256) :
    acc7 m c k d t.val t.isLt = acc7 m c k d (t.val - 1) (Nat.lt_of_le_of_lt (Nat.sub_le _ _) t.isLt) + part7 m c t k d := outs7_B m c t h0 h1 k d
theorem acc8_B (c : Dev nD) (t : Fin cfg0.N) (h0 : ¬t.val % 16 = 0) (h1 : 1 ≤ t.val) (d : Fin 256) :
    acc8 m c d t.val t.isLt = acc8 m c d (t.val - 1) (Nat.lt_of_le_of_lt (Nat.sub_le _ _) t.isLt) + part8 m c t d := outs8_B m c t h0 h1 d
theorem acc7_A (c : Dev nD) (t : Fin cfg0.N) (h0 : t.val % 16 = 0) (h1 : ¬1 ≤ t.val) (k d : Fin 256) :
    acc7 m c k d t.val t.isLt = part7 m c t k d := outs7_A m c t h0 h1 k d
theorem acc8_A (c : Dev nD) (t : Fin cfg0.N) (h0 : t.val % 16 = 0) (h1 : ¬1 ≤ t.val) (d : Fin 256) :
    acc8 m c d t.val t.isLt = part8 m c t d := outs8_A m c t h0 h1 d

attribute [local irreducible] acc7 acc8 part7 part8

theorem sum7_acc (c : Dev nD) (t : Fin cfg0.N) (ht : t.val % 16 = 15) (k d : Fin 256) :
    acc7 m c k d t.val t.isLt = ∑ s : Fin 16, part7 m c ⟨s.val, lt_of_lt_of_eq s.isLt N_0.symm⟩ k d := by
  refine running (acc7 m c k d) (fun t => part7 m c t k d) (fun h => acc7_A m c ⟨0, h⟩ rfl (by simp) k d) (fun n h => ?_) t ht
  have hN := lt_of_lt_of_eq h N_0
  exact acc7_B m c ⟨n + 1, h⟩ (by simp; omega) (by simp) k d
theorem sum8_acc (c : Dev nD) (t : Fin cfg0.N) (ht : t.val % 16 = 15) (d : Fin 256) :
    acc8 m c d t.val t.isLt = ∑ s : Fin 16, part8 m c ⟨s.val, lt_of_lt_of_eq s.isLt N_0.symm⟩ d := by
  refine running (acc8 m c d) (fun t => part8 m c t d) (fun h => acc8_A m c ⟨0, h⟩ rfl (by simp) d) (fun n h => ?_) t ht
  have hN := lt_of_lt_of_eq h N_0
  exact acc8_B m c ⟨n + 1, h⟩ (by simp; omega) (by simp) d

attribute [local semireducible] acc7 acc8 part7 part8

theorem sum7 (c : Dev nD) (t : Fin cfg0.N) (ht : t.val % 16 = 15) (k d : Fin 256) :
    (show FVec Ideal S256x256 .f32 from (outsAt0 m c t.val t.isLt).2.1) (ix2 k d)
    = ∑ s : Fin 16, part7 m c ⟨s.val, lt_of_lt_of_eq s.isLt N_0.symm⟩ k d := by
  have e := sum7_acc m c t ht k d
  unfold acc7 at e
  exact e
theorem sum8 (c : Dev nD) (t : Fin cfg0.N) (ht : t.val % 16 = 15) (d : Fin 256) :
    (show FVec Ideal S1x256 .f32 from (outsAt0 m c t.val t.isLt).2.2) (ix2 0 d)
    = ∑ s : Fin 16, part8 m c ⟨s.val, lt_of_lt_of_eq s.isLt N_0.symm⟩ d := by
  have e := sum8_acc m c t ht d
  unfold acc8 at e
  exact e

theorem sum7' (c : Dev nD) (k d : Fin 256) :
    ∑ s : Fin 16, part7 m c ⟨s.val, lt_of_lt_of_eq s.isLt N_0.symm⟩ k d = dtab (Z m c) (DP m c) (S m c) k d := by
  unfold dtab part7 row
  exact (Fin.sum_univ_tiles 16 512 rfl (fun n : Fin 8192 => dev (Z m c) n k * (DP m c n d * S m c d))).symm
theorem sum8' (c : Dev nD) (d : Fin 256) :
    ∑ s : Fin 16, part8 m c ⟨s.val, lt_of_lt_of_eq s.isLt N_0.symm⟩ d = dscale (Z m c) (DP m c) (T m c) d := by
  unfold dscale part8 row
  exact (Fin.sum_univ_tiles 16 512 rfl (fun n : Fin 8192 => DP m c n d * ∑ k : Fin 256, dev (Z m c) n k * T m c k d)).symm

theorem final7 (c : Dev nD) : (dats m 0 c).arrAt 7 (cfgs 0).N = R7 m c := by
  refine (dats m 0 c).arrAt_eq_of_covers 7 _ (by decide +kernel) fun t hf y => ?_
  blk_simp
  rw [after0_7]
  idx_vars y
  have e : ((View.whole main_v2_1).slice (win0_7.rect t)).emb (ix2 y0 y1) = ix2 y0 y1 := by
    blk_ext [idx t]
  refine ((sum7 m c t ((flush0_7 t).mp hf) y0 y1).trans (sum7' m c y0 y1)).trans (congrArg (R7 m c) e).symm

theorem final8 (c : Dev nD) : (dats m 0 c).arrAt 8 (cfgs 0).N = R8 m c := by
  refine (dats m 0 c).arrAt_eq_of_covers 8 _ (by decide +kernel) fun t hf y => ?_
  blk_simp
  rw [after0_8]
  idx_vars y
  obtain rfl : y0 = 0 := Subsingleton.elim _ _
  have e : ((View.whole main_v2_2).slice (win0_8.rect t)).emb (ix2 0 y1) = ix2 0 y1 := by
    blk_ext [idx t]
  refine ((sum8 m c t ((flush0_8 t).mp hf) y1).trans (sum8' m c y1)).trans (congrArg (R8 m c) e).symm

end Cert.PoolBwdIdeal.Hand

end
-- ==== Proof.PoolBwdRef.lean ====
/- The pooling mixer's derivative as the reference takes it, read entry by entry over the extended reals. -/
module

public import Idealize.ShloMosaic.Lib.Pointwise
public import Idealize.ShloMosaic.Lib.KernelVsHost
public import proofs.«01_k».proof.Proof.PoolSpec
public import proofs.«01_k».proof.Proof.MlpAlg
public import proofs.«01_k».proof.Proof.Gen.PoolBwdRefIdeal.Read

@[expose] public section

set_option maxRecDepth 16384

noncomputable section

namespace Cert.PoolBwdRefIdeal.Hand

open Idealize.ShloMosaic Idealize.SL.Sem
open Cert.PoolBwdRefIdeal Cert.PoolBwdRefIdeal.Gen Cert.PoolBwdRefIdeal.Read Cert.OutSpec Cert.MixSpec Cert.PoolSpec

variable (x0 : FVec Ideal S8192x2560 .f32) (x1 : FVec Ideal S8192x256 .f32) (x2 : FVec Ideal S256x256 .f32) (x3 : FVec Ideal S256 .f32)

/-- An array of two axes, and of one, as a function of its indices. -/
abbrev m2 {a b : ℕ} (x : (⟨2, ![a, b]⟩ : Shape).Idx → EReal) (i : Fin a) (j : Fin b) : EReal := x (ix2 i j)
abbrev m1 {a : ℕ} (x : (⟨1, ![a]⟩ : Shape).Idx → EReal) (i : Fin a) : EReal := x (ix1 i)

/-- The padding value is zero. -/
theorem zero_at (i : S_.Idx) : val_main_call0_v0 (F := Ideal) i = 0 := by
  exact sitofp_zero (φ := .f32)

theorem v0_at (n : Fin 8192) (c : Fin 256) : val_main_v0 (F := Ideal) x0 (ix2 n c) = x0 (ix2 n (zc c)) := by
  pointwise [val_main_v0, zc]
theorem v2_at (x : Fin 8207) (c : Fin 256) : val_main_v2 (F := Ideal) x0 (ix2 x c) = U (m2 x0) x.val c := by
  unfold U
  by_cases h : 15 ≤ x.val ∧ x.val < 8207
  · rw [dif_pos h]
    unfold val_main_v2
    refine (pad_apply_of_inside _ _ _ _ _ _ _ (ix2 x c) (ix2 (⟨x.val - 15, by omega⟩ : Fin 8192) c) fun a => ?_).trans (v0_at x0 _ c)
    match a with
    | ⟨0, _⟩ => show x.val = 15 + (x.val - 15) * (0 + 1); omega
    | ⟨1, _⟩ => show c.val = 0 + c.val * (0 + 1); omega
  · rw [dif_neg h]
    unfold val_main_v2
    refine (pad_apply_of_not_inside _ _ _ _ _ _ _ (ix2 x c) (0 : Fin 2) ?_).trans (zero_at _)
    show ¬(15 ≤ x.val ∧ _ ∧ _)
    omega

theorem add_at (a b : EReal) : FloatOps.addf (F := Ideal) (φ := .f32) a b = a + b := rfl

/-- The row of a shifted slice. -/
theorem U_at (s : ℕ) (n : Fin 8192) (h : s + n.val < 8207) (c : Fin 256) : val_main_v2 (F := Ideal) x0 (ix2 ⟨s + n.val, h⟩ c) = U (m2 x0) (s + n.val) c :=
  v2_at x0 ⟨s + n.val, h⟩ c

theorem v3_at (n : Fin 8192) (d : Fin 64) : val_main_v3 (F := Ideal) x0 (ix2 n d) = U (m2 x0) (n.val + 15 - 0) (gcol 0 d) := by
  rw [val_main_v3_apply]
  have e : idx_main_v3 (ix2 n d) = ix2 (⟨15 + n.val, by omega⟩ : Fin 8207) (gcol 0 d) := by
    funext a
    match a with
    | ⟨0, _⟩ => rfl
    | ⟨1, _⟩ => exact Fin.ext (by show d.val = 0 * 64 + d.val; omega)
  rw [e, U_at]
  congr 1; omega

theorem v4_at (n : Fin 8192) (d : Fin 64) : val_main_v4 (F := Ideal) x0 (ix2 n d) = U (m2 x0) (n.val + 15 - 1) (gcol 0 d) := by
  rw [val_main_v4_apply]
  have e : idx_main_v4 (ix2 n d) = ix2 (⟨14 + n.val, by omega⟩ : Fin 8207) (gcol 0 d) := by
    funext a
    match a with
    | ⟨0, _⟩ => rfl
    | ⟨1, _⟩ => exact Fin.ext (by show d.val = 0 * 64 + d.val; omega)
  rw [e, U_at]
  congr 1; omega

theorem v5_at (n : Fin 8192) (d : Fin 64) : val_main_v5 (F := Ideal) x0 (ix2 n d) = s2 (m2 x0) (n.val + 15) (gcol 0 d) := by
  rw [val_main_v5_apply, v3_at, v4_at]
  simp only [s2, Nat.sub_sub]
  simp only [add_at, add_assoc, Nat.reduceAdd, Nat.sub_zero]

theorem v12_at (n : Fin 8192) (d : Fin 64) : val_main_v12 (F := Ideal) (ix2 n d) = cnt 0 n.val := by
  pointwise [val_main_v12, val_main_v11, val_main_v10, val_main_v9, val_main_v8, val_main_v7, val_main_v6, val_main_v1, val_main_c_0, val_main_c_1, cnt, len]
theorem v15_at (n : Fin 8192) (d : Fin 64) : val_main_v15 (F := Ideal) x0 (ix2 n d) = dev (m2 x0) n (gcol 0 d) := by
  have e : hd (gcol 0 d) = 0 := Fin.ext (by show (0 * 64 + d.val) / 64 = 0; omega)
  have u : val_main_v14 (F := Ideal) x0 (ix2 n d) = x0 (ix2 n (zc (gcol 0 d))) := by
    refine Eq.trans ?_ (v0_at x0 n (gcol 0 d))
    pointwise [val_main_v14, gcol]
  have q : val_main_v15 (F := Ideal) x0 (ix2 n d)
      = Ideal.div (val_main_v5 (F := Ideal) x0 (ix2 n d)) (val_main_v12 (F := Ideal) (ix2 n d)) - val_main_v14 (F := Ideal) x0 (ix2 n d) := rfl
  rw [q, v5_at, v12_at, u, dev, e]
  rfl

theorem v16_at (n : Fin 8192) (d : Fin 64) : val_main_v16 (F := Ideal) x0 (ix2 n d) = U (m2 x0) (n.val + 15 - 0) (gcol 1 d) := by
  rw [val_main_v16_apply]
  have e : idx_main_v16 (ix2 n d) = ix2 (⟨15 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v17_at (n : Fin 8192) (d : Fin 64) : val_main_v17 (F := Ideal) x0 (ix2 n d) = U (m2 x0) (n.val + 15 - 1) (gcol 1 d) := by
  rw [val_main_v17_apply]
  have e : idx_main_v17 (ix2 n d) = ix2 (⟨14 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v19_at (n : Fin 8192) (d : Fin 64) : val_main_v19 (F := Ideal) x0 (ix2 n d) = U (m2 x0) (n.val + 15 - 2) (gcol 1 d) := by
  rw [val_main_v19_apply]
  have e : idx_main_v19 (ix2 n d) = ix2 (⟨13 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v21_at (n : Fin 8192) (d : Fin 64) : val_main_v21 (F := Ideal) x0 (ix2 n d) = U (m2 x0) (n.val + 15 - 3) (gcol 1 d) := by
  rw [val_main_v21_apply]
  have e : idx_main_v21 (ix2 n d) = ix2 (⟨12 + n.val, by omega⟩ : Fin 8207) (gcol 1 d) := by
    funext a
    match a with
    | ⟨0, _⟩ => rfl
    | ⟨1, _⟩ => exact Fin.ext (by show 64 + d.val = 1 * 64 + d.val; omega)
  rw [e, U_at]
  congr 1; omega

theorem v22_at (n : Fin 8192) (d : Fin 64) : val_main_v22 (F := Ideal) x0 (ix2 n d) = s4 (m2 x0) (n.val + 15) (gcol 1 d) := by
  rw [val_main_v22_apply, val_main_v20_apply, val_main_v18_apply, v16_at, v17_at, v19_at, v21_at]
  simp only [s4, s2, Nat.sub_sub]
  simp only [add_at, add_assoc, Nat.reduceAdd, Nat.sub_zero]

theorem v29_at (n : Fin 8192) (d : Fin 64) : val_main_v29 (F := Ideal) (ix2 n d) = cnt 1 n.val := by
  pointwise [val_main_v29, val_main_v28, val_main_v27, val_main_v26, val_main_v25, val_main_v24, val_main_v23, val_main_v1, val_main_c_2, val_main_c_3, cnt, len]
theorem v32_at (n : Fin 8192) (d : Fin 64) : val_main_v32 (F := Ideal) x0 (ix2 n d) = dev (m2 x0) n (gcol 1 d) := by
  have e : hd (gcol 1 d) = 1 := Fin.ext (by show (1 * 64 + d.val) / 64 = 1; omega)
  have u : val_main_v31 (F := Ideal) x0 (ix2 n d) = x0 (ix2 n (zc (gcol 1 d))) := by
    refine Eq.trans ?_ (v0_at x0 n (gcol 1 d))
    pointwise [val_main_v31, gcol]
  have q : val_main_v32 (F := Ideal) x0 (ix2 n d)
      = Ideal.div (val_main_v22 (F := Ideal) x0 (ix2 n d)) (val_main_v29 (F := Ideal) (ix2 n d)) - val_main_v31 (F := Ideal) x0 (ix2 n d) := rfl
  rw [q, v22_at, v29_at, u, dev, e]
  rfl

theorem v33_at (n : Fin 8192) (d : Fin 64) : val_main_v33 (F := Ideal) x0 (ix2 n d) = U (m2 x0) (n.val + 15 - 0) (gcol 2 d) := by
  rw [val_main_v33_apply]
  have e : idx_main_v33 (ix2 n d) = ix2 (⟨15 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v34_at (n : Fin 8192) (d : Fin 64) : val_main_v34 (F := Ideal) x0 (ix2 n d) = U (m2 x0) (n.val + 15 - 1) (gcol 2 d) := by
  rw [val_main_v34_apply]
  have e : idx_main_v34 (ix2 n d) = ix2 (⟨14 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v36_at (n : Fin 8192) (d : Fin 64) : val_main_v36 (F := Ideal) x0 (ix2 n d) = U (m2 x0) (n.val + 15 - 2) (gcol 2 d) := by
  rw [val_main_v36_apply]
  have e : idx_main_v36 (ix2 n d) = ix2 (⟨13 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v38_at (n : Fin 8192) (d : Fin 64) : val_main_v38 (F := Ideal) x0 (ix2 n d) = U (m2 x0) (n.val + 15 - 3) (gcol 2 d) := by
  rw [val_main_v38_apply]
  have e : idx_main_v38 (ix2 n d) = ix2 (⟨12 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v40_at (n : Fin 8192) (d : Fin 64) : val_main_v40 (F := Ideal) x0 (ix2 n d) = U (m2 x0) (n.val + 15 - 4) (gcol 2 d) := by
  rw [val_main_v40_apply]
  have e : idx_main_v40 (ix2 n d) = ix2 (⟨11 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v42_at (n : Fin 8192) (d : Fin 64) : val_main_v42 (F := Ideal) x0 (ix2 n d) = U (m2 x0) (n.val + 15 - 5) (gcol 2 d) := by
  rw [val_main_v42_apply]
  have e : idx_main_v42 (ix2 n d) = ix2 (⟨10 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v44_at (n : Fin 8192) (d : Fin 64) : val_main_v44 (F := Ideal) x0 (ix2 n d) = U (m2 x0) (n.val + 15 - 6) (gcol 2 d) := by
  rw [val_main_v44_apply]
  have e : idx_main_v44 (ix2 n d) = ix2 (⟨9 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v46_at (n : Fin 8192) (d : Fin 64) : val_main_v46 (F := Ideal) x0 (ix2 n d) = U (m2 x0) (n.val + 15 - 7) (gcol 2 d) := by
  rw [val_main_v46_apply]
  have e : idx_main_v46 (ix2 n d) = ix2 (⟨8 + n.val, by omega⟩ : Fin 8207) (gcol 2 d) := by
    funext a
    match a with
    | ⟨0, _⟩ => rfl
    | ⟨1, _⟩ => exact Fin.ext (by show 128 + d.val = 2 * 64 + d.val; omega)
  rw [e, U_at]
  congr 1; omega

theorem v47_at (n : Fin 8192) (d : Fin 64) : val_main_v47 (F := Ideal) x0 (ix2 n d) = s8 (m2 x0) (n.val + 15) (gcol 2 d) := by
  rw [val_main_v47_apply, val_main_v45_apply, val_main_v43_apply, val_main_v41_apply, val_main_v39_apply, val_main_v37_apply, val_main_v35_apply, v33_at, v34_at, v36_at, v38_at, v40_at, v42_at, v44_at, v46_at]
  simp only [s8, s4, s2, Nat.sub_sub]
  simp only [add_at, add_assoc, Nat.reduceAdd, Nat.sub_zero]

theorem v54_at (n : Fin 8192) (d : Fin 64) : val_main_v54 (F := Ideal) (ix2 n d) = cnt 2 n.val := by
  pointwise [val_main_v54, val_main_v53, val_main_v52, val_main_v51, val_main_v50, val_main_v49, val_main_v48, val_main_v1, val_main_c_4, val_main_c_5, cnt, len]
theorem v57_at (n : Fin 8192) (d : Fin 64) : val_main_v57 (F := Ideal) x0 (ix2 n d) = dev (m2 x0) n (gcol 2 d) := by
  have e : hd (gcol 2 d) = 2 := Fin.ext (by show (2 * 64 + d.val) / 64 = 2; omega)
  have u : val_main_v56 (F := Ideal) x0 (ix2 n d) = x0 (ix2 n (zc (gcol 2 d))) := by
    refine Eq.trans ?_ (v0_at x0 n (gcol 2 d))
    pointwise [val_main_v56, gcol]
  have q : val_main_v57 (F := Ideal) x0 (ix2 n d)
      = Ideal.div (val_main_v47 (F := Ideal) x0 (ix2 n d)) (val_main_v54 (F := Ideal) (ix2 n d)) - val_main_v56 (F := Ideal) x0 (ix2 n d) := rfl
  rw [q, v47_at, v54_at, u, dev, e]
  rfl

theorem v58_at (n : Fin 8192) (d : Fin 64) : val_main_v58 (F := Ideal) x0 (ix2 n d) = U (m2 x0) (n.val + 15 - 0) (gcol 3 d) := by
  rw [val_main_v58_apply]
  have e : idx_main_v58 (ix2 n d) = ix2 (⟨15 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v59_at (n : Fin 8192) (d : Fin 64) : val_main_v59 (F := Ideal) x0 (ix2 n d) = U (m2 x0) (n.val + 15 - 1) (gcol 3 d) := by
  rw [val_main_v59_apply]
  have e : idx_main_v59 (ix2 n d) = ix2 (⟨14 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v61_at (n : Fin 8192) (d : Fin 64) : val_main_v61 (F := Ideal) x0 (ix2 n d) = U (m2 x0) (n.val + 15 - 2) (gcol 3 d) := by
  rw [val_main_v61_apply]
  have e : idx_main_v61 (ix2 n d) = ix2 (⟨13 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v63_at (n : Fin 8192) (d : Fin 64) : val_main_v63 (F := Ideal) x0 (ix2 n d) = U (m2 x0) (n.val + 15 - 3) (gcol 3 d) := by
  rw [val_main_v63_apply]
  have e : idx_main_v63 (ix2 n d) = ix2 (⟨12 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v65_at (n : Fin 8192) (d : Fin 64) : val_main_v65 (F := Ideal) x0 (ix2 n d) = U (m2 x0) (n.val + 15 - 4) (gcol 3 d) := by
  rw [val_main_v65_apply]
  have e : idx_main_v65 (ix2 n d) = ix2 (⟨11 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v67_at (n : Fin 8192) (d : Fin 64) : val_main_v67 (F := Ideal) x0 (ix2 n d) = U (m2 x0) (n.val + 15 - 5) (gcol 3 d) := by
  rw [val_main_v67_apply]
  have e : idx_main_v67 (ix2 n d) = ix2 (⟨10 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v69_at (n : Fin 8192) (d : Fin 64) : val_main_v69 (F := Ideal) x0 (ix2 n d) = U (m2 x0) (n.val + 15 - 6) (gcol 3 d) := by
  rw [val_main_v69_apply]
  have e : idx_main_v69 (ix2 n d) = ix2 (⟨9 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v71_at (n : Fin 8192) (d : Fin 64) : val_main_v71 (F := Ideal) x0 (ix2 n d) = U (m2 x0) (n.val + 15 - 7) (gcol 3 d) := by
  rw [val_main_v71_apply]
  have e : idx_main_v71 (ix2 n d) = ix2 (⟨8 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v73_at (n : Fin 8192) (d : Fin 64) : val_main_v73 (F := Ideal) x0 (ix2 n d) = U (m2 x0) (n.val + 15 - 8) (gcol 3 d) := by
  rw [val_main_v73_apply]
  have e : idx_main_v73 (ix2 n d) = ix2 (⟨7 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v75_at (n : Fin 8192) (d : Fin 64) : val_main_v75 (F := Ideal) x0 (ix2 n d) = U (m2 x0) (n.val + 15 - 9) (gcol 3 d) := by
  rw [val_main_v75_apply]
  have e : idx_main_v75 (ix2 n d) = ix2 (⟨6 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v77_at (n : Fin 8192) (d : Fin 64) : val_main_v77 (F := Ideal) x0 (ix2 n d) = U (m2 x0) (n.val + 15 - 10) (gcol 3 d) := by
  rw [val_main_v77_apply]
  have e : idx_main_v77 (ix2 n d) = ix2 (⟨5 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v79_at (n : Fin 8192) (d : Fin 64) : val_main_v79 (F := Ideal) x0 (ix2 n d) = U (m2 x0) (n.val + 15 - 11) (gcol 3 d) := by
  rw [val_main_v79_apply]
  have e : idx_main_v79 (ix2 n d) = ix2 (⟨4 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v81_at (n : Fin 8192) (d : Fin 64) : val_main_v81 (F := Ideal) x0 (ix2 n d) = U (m2 x0) (n.val + 15 - 12) (gcol 3 d) := by
  rw [val_main_v81_apply]
  have e : idx_main_v81 (ix2 n d) = ix2 (⟨3 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v83_at (n : Fin 8192) (d : Fin 64) : val_main_v83 (F := Ideal) x0 (ix2 n d) = U (m2 x0) (n.val + 15 - 13) (gcol 3 d) := by
  rw [val_main_v83_apply]
  have e : idx_main_v83 (ix2 n d) = ix2 (⟨2 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v85_at (n : Fin 8192) (d : Fin 64) : val_main_v85 (F := Ideal) x0 (ix2 n d) = U (m2 x0) (n.val + 15 - 14) (gcol 3 d) := by
  rw [val_main_v85_apply]
  have e : idx_main_v85 (ix2 n d) = ix2 (⟨1 + n.val, by omega⟩ : Fin 8207) (gcol 3 d) := by
    funext a
    match a with
    | ⟨0, _⟩ => rfl
    | ⟨1, _⟩ => exact Fin.ext (by show 192 + d.val = 3 * 64 + d.val; omega)
  rw [e, U_at]
  congr 1; omega

theorem v87_at (n : Fin 8192) (d : Fin 64) : val_main_v87 (F := Ideal) x0 (ix2 n d) = U (m2 x0) (n.val + 15 - 15) (gcol 3 d) := by
  rw [val_main_v87_apply]
  have e : idx_main_v87 (ix2 n d) = ix2 (⟨0 + n.val, by omega⟩ : Fin 8207) (gcol 3 d) := by
    funext a
    match a with
    | ⟨0, _⟩ => exact Fin.ext (by show n.val = 0 + n.val; omega)
    | ⟨1, _⟩ => exact Fin.ext (by show 192 + d.val = 3 * 64 + d.val; omega)
  rw [e, U_at]
  congr 1; omega

theorem v88_at (n : Fin 8192) (d : Fin 64) : val_main_v88 (F := Ideal) x0 (ix2 n d) = s16 (m2 x0) (n.val + 15) (gcol 3 d) := by
  rw [val_main_v88_apply, val_main_v86_apply, val_main_v84_apply, val_main_v82_apply, val_main_v80_apply, val_main_v78_apply, val_main_v76_apply, val_main_v74_apply, val_main_v72_apply, val_main_v70_apply, val_main_v68_apply, val_main_v66_apply, val_main_v64_apply, val_main_v62_apply, val_main_v60_apply, v58_at, v59_at, v61_at, v63_at, v65_at, v67_at, v69_at, v71_at, v73_at, v75_at, v77_at, v79_at, v81_at, v83_at, v85_at, v87_at]
  simp only [s16, s8, s4, s2, Nat.sub_sub]
  simp only [add_at, add_assoc, Nat.reduceAdd, Nat.sub_zero]

theorem v95_at (n : Fin 8192) (d : Fin 64) : val_main_v95 (F := Ideal) (ix2 n d) = cnt 3 n.val := by
  pointwise [val_main_v95, val_main_v94, val_main_v93, val_main_v92, val_main_v91, val_main_v90, val_main_v89, val_main_v1, val_main_c_6, val_main_c_7, cnt, len]
theorem v98_at (n : Fin 8192) (d : Fin 64) : val_main_v98 (F := Ideal) x0 (ix2 n d) = dev (m2 x0) n (gcol 3 d) := by
  have e : hd (gcol 3 d) = 3 := Fin.ext (by show (3 * 64 + d.val) / 64 = 3; omega)
  have u : val_main_v97 (F := Ideal) x0 (ix2 n d) = x0 (ix2 n (zc (gcol 3 d))) := by
    refine Eq.trans ?_ (v0_at x0 n (gcol 3 d))
    pointwise [val_main_v97, gcol]
  have q : val_main_v98 (F := Ideal) x0 (ix2 n d)
      = Ideal.div (val_main_v88 (F := Ideal) x0 (ix2 n d)) (val_main_v95 (F := Ideal) (ix2 n d)) - val_main_v97 (F := Ideal) x0 (ix2 n d) := rfl
  rw [q, v88_at, v95_at, u, dev, e]
  rfl

theorem v99_at (n : Fin 8192) (c : Fin 256) : val_main_v99 (F := Ideal) x0 (ix2 n c) = dev (m2 x0) n c := by
  obtain ⟨g, d, rfl⟩ : ∃ g d, c = gcol g d := ⟨hd c, lo c, Fin.ext (by simp only [gcol, hd, lo]; omega)⟩
  fin_cases g
  · refine Eq.trans ?_ (v15_at x0 n d)
    pointwise [val_main_v99, gcol]
  · refine Eq.trans ?_ (v32_at x0 n d)
    pointwise [val_main_v99, gcol]
  · refine Eq.trans ?_ (v57_at x0 n d)
    pointwise [val_main_v99, gcol]
    rw [dif_neg (by omega), dif_neg (by omega), dif_pos (by omega)]
    exact congrArg (fun d => val_main_v57 (F := Ideal) x0 (ix2 n d)) (Fin.ext (by simp only; omega))
  · refine Eq.trans ?_ (v98_at x0 n d)
    pointwise [val_main_v99, gcol]
    rw [dif_neg (by omega), dif_neg (by omega), dif_neg (by omega)]
    exact congrArg (fun d => val_main_v98 (F := Ideal) x0 (ix2 n d)) (Fin.ext (by simp only; omega))

end Cert.PoolBwdRefIdeal.Hand

end
-- ==== Proof.PoolBwdRefGrad.lean ====
/- The pooling mixer's gradients as the reference takes them, read entry by entry over the extended reals. -/
module

public import proofs.«01_k».proof.Proof.PoolBwdRef

@[expose] public section

set_option maxRecDepth 16384

noncomputable section

namespace Cert.PoolBwdRefIdeal.Hand

open Idealize.ShloMosaic Idealize.SL.Sem
open Cert.PoolBwdRefIdeal Cert.PoolBwdRefIdeal.Gen Cert.PoolBwdRefIdeal.Read Cert.OutSpec Cert.MixSpec Cert.PoolSpec

variable (x0 : FVec Ideal S8192x2560 .f32) (x1 : FVec Ideal S8192x256 .f32) (x2 : FVec Ideal S256x256 .f32) (x3 : FVec Ideal S256 .f32)

theorem v111_at (k c : Fin 256) : val_main_v111 (F := Ideal) x0 x1 x3 (ix2 k c) = dtab (m2 x0) (m2 x1) (m1 x3) k c := by
  pointwise [val_main_v111, val_main_v110, val_main_v108, val_main_v107, val_main_v101, v99_at, dtab]
  exact Finset.sum_congr rfl fun n _ => mul_comm _ _

theorem v104_at (n : Fin 8192) (c : Fin 256) : val_main_v104 (F := Ideal) x0 x1 x2 (ix2 n c) = x1 (ix2 n c) * ∑ k : Fin 256, dev (m2 x0) n k * x2 (ix2 k c) := by
  refine Eq.trans ?_ (mul_comm _ _)
  pointwise [val_main_v104, val_main_v100, v99_at]

theorem v106_at (c : Fin 256) : val_main_v106 (F := Ideal) x0 x1 x2 (ix2 0 c) = dscale (m2 x0) (m2 x1) (m2 x2) c := by
  pointwise [val_main_v106, val_main_v105, val_main_cst, v104_at, dscale, zero_add]

theorem v112_at (c : Fin 256) : val_main_v112 (F := Ideal) x0 x1 x2 (ix2 0 c) = dscale (m2 x0) (m2 x1) (m2 x2) c := by
  have e : idx_main_v109 (idx_main_v112 (ix2 0 c)) 0 = ix2 0 c := by
    funext a
    match a with
    | ⟨0, _⟩ => rfl
    | ⟨1, _⟩ => rfl
  have z : val_main_cst_8 (F := Ideal) (Shape.Idx.first h_S_) = 0 := by
    pointwise [val_main_cst_8]
  rw [val_main_v112_apply, val_main_v109_apply, Fin.sum_univ_one, e, z, zero_add, v106_at]

end Cert.PoolBwdRefIdeal.Hand

end
-- ==== Proof.PoolBwdClaim.lean ====
/- The pooling mixer's backward call gives the reference's two gradients, at exact arithmetic on any arguments. -/
module

public import proofs.«01_k».proof.Proof.PoolBwdFinal
public import proofs.«01_k».proof.Proof.PoolBwdRefGrad

@[expose] public section

set_option maxRecDepth 16384

noncomputable section

namespace Cert.PoolBwdIdeal.Hand

open Idealize.ShloMosaic Idealize.ShloMosaic.TcCoe
open Cert.PoolBwdIdeal Cert.OutSpec Cert.MixSpec Cert.PoolSpec

variable (m : (ℓ : Loc nD τ sig) → Buf (Elt Ideal) ℓ) (c : Dev nD)

theorem ref7 : Cert.PoolBwdRefIdeal.Read.val_main_v111 (F := Ideal) (m ((c : Thread nD τ).loc main_arg0)) (m ((c : Thread nD τ).loc main_arg1))
    (m ((c : Thread nD τ).loc main_arg3)) = R7 m c := by
  funext i
  idx_vars i
  exact Cert.PoolBwdRefIdeal.Hand.v111_at _ _ _ i0 i1

theorem ref8 : Cert.PoolBwdRefIdeal.Read.val_main_v112 (F := Ideal) (m ((c : Thread nD τ).loc main_arg0)) (m ((c : Thread nD τ).loc main_arg1))
    (m ((c : Thread nD τ).loc main_arg2)) = R8 m c := by
  funext i
  idx_vars i
  obtain rfl : i0 = 0 := Subsingleton.elim _ _
  exact Cert.PoolBwdRefIdeal.Hand.v112_at _ _ _ i1

end Cert.PoolBwdIdeal.Hand

end
-- ==== Proof.lean ====
/-
  The certificate's claim, assembled from the modules under Proof/.
-/
module

public import proofs.«01_k».proof.Defs
public import proofs.«01_k».proof.Proof.Gen.Kernel
public import proofs.«01_k».proof.Proof.Gen.KernelIdeal
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.Pre_finite
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.MlpFwd
public import proofs.«01_k».proof.Proof.Gen.MlpFwd.Frame
public import proofs.«01_k».proof.Proof.Gen.MlpFwdIdeal
public import proofs.«01_k».proof.Proof.Gen.MlpFwdIdeal.Frame
public import proofs.«01_k».proof.Proof.Gen.MlpFwdIdeal.Value
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.Gen.Pre_finite_in
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.Pre_finite_out
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.Gen.DwGate
public import proofs.«01_k».proof.Proof.Gen.DwGate.Frame
public import proofs.«01_k».proof.Proof.Gen.DwGateIdeal
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwPle
public import proofs.«01_k».proof.Proof.Gen.DwPle.Frame
public import proofs.«01_k».proof.Proof.Gen.DwPleIdeal
public import proofs.«01_k».proof.Proof.Gen.DwPleIdeal.Frame
public import proofs.«01_k».proof.Proof.Gen.DwPleIdeal.Value
public import proofs.«01_k».proof.Proof.Gen.DwPleRefIdeal
public import proofs.«01_k».proof.Proof.Gen.DwPleRefIdeal.Run
public import proofs.«01_k».proof.Proof.Gen.DwPleRefIdeal.Read
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.GateFwd
public import proofs.«01_k».proof.Proof.Gen.GateFwd.Frame
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_finite_gate
public import proofs.«01_k».proof.Proof.AttnQuiet
public import proofs.«01_k».proof.Proof.PAttnQuiet
public import proofs.«01_k».proof.Proof.MlpClaim
public import proofs.«01_k».proof.Proof.DwDownClaim
public import proofs.«01_k».proof.Proof.DwUpClaim
public import proofs.«01_k».proof.Proof.DwInClaim
public import proofs.«01_k».proof.Proof.InBwdClaim
public import proofs.«01_k».proof.Proof.MlpFwdClaim
public import Idealize.ShloMosaic.Adequacy
public import Idealize.ShloMosaic.Init
public import proofs.«01_k».proof.Proof.DwGateClaim
public import proofs.«01_k».proof.Proof.DwOutClaim
public import proofs.«01_k».proof.Proof.DwPleClaim
public import proofs.«01_k».proof.Proof.GateBwdClaim
public import proofs.«01_k».proof.Proof.GateFwdClaim
public import proofs.«01_k».proof.Proof.InProjClaim
public import proofs.«01_k».proof.Proof.OutBwdClaim
public import proofs.«01_k».proof.Proof.MixOutClaim
public import proofs.«01_k».proof.Proof.PoolBwdClaim

@[expose] public section

noncomputable section

namespace Cert.Proof

open Idealize.ShloMosaic Idealize.SL.Sem

/-- The idealized attention call terminates, keeps its arguments and leaves every counter at zero. -/
theorem frame_kernelIdeal : Cert.quiescent_KernelIdeal := fun m ρ _ => Cert.KernelIdeal.Hand.frame (F := Ideal) m ρ

/-- The printed attention call, likewise. -/
theorem frame_kernel : Cert.quiescent_Kernel := fun m ρ _ => Cert.Kernel.Hand.frame (F := Bits) m ρ

/-- The MLP backward call terminates, keeps its arguments and leaves every counter at zero. -/
theorem frame_mlpIdeal : Cert.quiescent_MlpIdeal := fun m ρ _ => Cert.MlpIdeal.Gen.frame (F := Ideal) m ρ

theorem frame_mlpIdeal_finite : Cert.quiescent_MlpIdeal_pre_finite (hPre_finite := Cert.Pre_finite.Gen.facts) := fun m ρ _ =>
  Cert.MlpIdeal.Gen.frame (F := Ideal) m ρ

/-- The printed MLP call, likewise. -/
theorem frame_mlp : Cert.quiescent_Mlp := fun m ρ _ => Cert.Mlp.Gen.frame (F := Bits) m ρ

/-- The MLP reference, a host program, likewise. -/
theorem frame_mlpRef : Cert.quiescent_MlpRefIdeal := fun m ρ _ =>
  (θ_run Cert.MlpRefIdeal.defs _ _).mono (fun r h => ⟨fun c => (h c).2.2.2, sem_eq_zero_of_no_sems rfl r.2⟩)
    (Cert.MlpRefIdeal.Value.run (F := Ideal) m ρ)

theorem frame_mlpRef_finite : Cert.quiescent_MlpRefIdeal_pre_finite (hPre_finite := Cert.Pre_finite.Gen.facts) := fun m ρ _ =>
  (θ_run Cert.MlpRefIdeal.defs _ _).mono (fun r h => ⟨fun c => (h c).2.2.2, sem_eq_zero_of_no_sems rfl r.2⟩)
    (Cert.MlpRefIdeal.Value.run (F := Ideal) m ρ)

/-- On finite arguments the MLP backward call's three results are the reference's. -/
theorem value_mlp : Cert.algebraic_MlpIdeal_MlpRefIdeal_pre_finite (hPre_finite := Cert.Pre_finite.Gen.facts) := by
  intro m g m' g' hpre hargs
  refine ⟨fun c => Cert.MlpIdeal.Hand.R6 m c, fun c => Cert.MlpIdeal.Hand.R7 m c, fun c => Cert.MlpIdeal.Hand.R8 m c, ?_, ?_⟩
  · exact (θ_run Cert.MlpIdeal.defs _ _).mono (fun r h c =>
      ⟨(h c).1.trans (Cert.MlpIdeal.Hand.final6 m c), (h c).2.1.trans (Cert.MlpIdeal.Hand.final7 m c),
        (h c).2.2.1.trans (Cert.MlpIdeal.Hand.final8 m c), (h c).2.2.2⟩)
      (Cert.MlpIdeal.Value.run_blocks (F := Ideal) m g)
  · refine (θ_run Cert.MlpRefIdeal.defs _ _).mono (fun r h c => ?_) (Cert.MlpRefIdeal.Value.run (F := Ideal) m' g')
    obtain ⟨a0, a1, a2, a3, a4⟩ := hargs c
    refine ⟨(h c).1.trans ?_, (h c).2.1.trans ?_, (h c).2.2.1.trans ?_, (h c).2.2.2⟩
    · rw [Cert.MlpRefIdeal.Read.val_main_v50_eq, a0, a1, a2, a3, a4]
      exact Cert.MlpIdeal.Hand.ref6 m c (hpre c)
    · refine (Cert.MlpRefIdeal.Read.val_main_v51_eq _ _ _ _ _).trans ?_
      rw [a0, a1, a2, a3, a4]
      exact Cert.MlpIdeal.Hand.ref7 m c
    · refine (Cert.MlpRefIdeal.Read.val_main_v52_eq _ _ _ _ _).trans ?_
      rw [a0, a1, a2, a3, a4]
      exact Cert.MlpIdeal.Hand.ref8 m c

/-- The call for the gradient of the MLP's second weight, as printed, idealized, and its reference: each terminates, keeps its arguments and leaves every counter at zero. -/
theorem frame_dwDown : Cert.quiescent_DwDown := fun m ρ _ => Cert.DwDown.Gen.frame (F := Bits) m ρ

theorem frame_dwDownIdeal : Cert.quiescent_DwDownIdeal := fun m ρ _ => Cert.DwDownIdeal.Gen.frame (F := Ideal) m ρ

theorem frame_dwDownRef : Cert.quiescent_DwDownRefIdeal := fun m ρ _ =>
  (θ_run Cert.DwDownRefIdeal.defs _ _).mono (fun r h => ⟨fun c => (h c).2, sem_eq_zero_of_no_sems rfl r.2⟩)
    (Cert.DwDownRefIdeal.Value.run (F := Ideal) m ρ)

/-- The call for the gradient of the MLP's first weight, as printed, idealized, and its reference: each terminates, keeps its arguments and leaves every counter at zero. -/
theorem frame_dwUp : Cert.quiescent_DwUp := fun m ρ _ => Cert.DwUp.Gen.frame (F := Bits) m ρ

theorem frame_dwUpIdeal : Cert.quiescent_DwUpIdeal := fun m ρ _ => Cert.DwUpIdeal.Gen.frame (F := Ideal) m ρ

theorem frame_dwUpRef : Cert.quiescent_DwUpRefIdeal := fun m ρ _ =>
  (θ_run Cert.DwUpRefIdeal.defs _ _).mono (fun r h => ⟨fun c => (h c).2, sem_eq_zero_of_no_sems rfl r.2⟩)
    (Cert.DwUpRefIdeal.Value.run (F := Ideal) m ρ)

/-- The call for the gradient of the input projection's weight, as printed, idealized, and its reference: each terminates, keeps its arguments and leaves every counter at zero. -/
theorem frame_dwIn : Cert.quiescent_DwIn := fun m ρ _ => Cert.DwIn.Gen.frame (F := Bits) m ρ

theorem frame_dwInIdeal : Cert.quiescent_DwInIdeal := fun m ρ _ => Cert.DwInIdeal.Gen.frame (F := Ideal) m ρ

theorem frame_dwInRef : Cert.quiescent_DwInRefIdeal := fun m ρ _ =>
  (θ_run Cert.DwInRefIdeal.defs _ _).mono (fun r h => ⟨fun c => (h c).2, sem_eq_zero_of_no_sems rfl r.2⟩)
    (Cert.DwInRefIdeal.Value.run (F := Ideal) m ρ)

/-- The input projection's backward call, as printed, idealized, and its reference: each terminates, keeps its arguments and leaves every counter at zero. -/
theorem frame_inBwd : Cert.quiescent_InBwd := fun m ρ _ => Cert.InBwd.Gen.frame (F := Bits) m ρ

theorem frame_inBwdIdeal : Cert.quiescent_InBwdIdeal := fun m ρ _ => Cert.InBwdIdeal.Gen.frame (F := Ideal) m ρ

theorem frame_inBwdRef : Cert.quiescent_InBwdRefIdeal := fun m ρ _ =>
  (θ_run Cert.InBwdRefIdeal.defs _ _).mono (fun r h => ⟨fun c => (h c).2.2, sem_eq_zero_of_no_sems rfl r.2⟩)
    (Cert.InBwdRefIdeal.Value.run (F := Ideal) m ρ)

theorem frame_inBwdIdeal_finite : Cert.quiescent_InBwdIdeal_pre_finite_in (hPre_finite_in := Cert.Pre_finite_in.Gen.facts) := fun m ρ _ =>
  Cert.InBwdIdeal.Gen.frame (F := Ideal) m ρ

theorem frame_inBwdRef_finite : Cert.quiescent_InBwdRefIdeal_pre_finite_in (hPre_finite_in := Cert.Pre_finite_in.Gen.facts) := fun m ρ _ =>
  (θ_run Cert.InBwdRefIdeal.defs _ _).mono (fun r h => ⟨fun c => (h c).2.2, sem_eq_zero_of_no_sems rfl r.2⟩)
    (Cert.InBwdRefIdeal.Value.run (F := Ideal) m ρ)

/-- The MLP forward call, as printed, idealized, and its reference: each terminates, keeps its arguments and leaves every counter at zero. -/
theorem frame_mlpFwd : Cert.quiescent_MlpFwd := fun m ρ _ => Cert.MlpFwd.Gen.frame (F := Bits) m ρ

theorem frame_mlpFwdIdeal : Cert.quiescent_MlpFwdIdeal := fun m ρ _ => Cert.MlpFwdIdeal.Gen.frame (F := Ideal) m ρ

theorem frame_mlpFwdRef : Cert.quiescent_MlpFwdRefIdeal := fun m ρ _ =>
  (θ_run Cert.MlpFwdRefIdeal.defs _ _).mono (fun r h => ⟨fun c => (h c).2.2.2, sem_eq_zero_of_no_sems rfl r.2⟩)
    (Cert.MlpFwdRefIdeal.Value.run (F := Ideal) m ρ)

/-- The call for the gradient of the MLP's second weight gives the reference's gradient. -/
theorem value_dwDown : Cert.algebraic_DwDownIdeal_DwDownRefIdeal := by
  intro m g m' g' _ hargs
  refine ⟨fun c => Cert.DwDownIdeal.Hand.R m c, ?_, ?_⟩
  · exact (θ_run Cert.DwDownIdeal.defs _ _).mono (fun r h c => ⟨(h c).1.trans (Cert.DwDownIdeal.Hand.final m c), (h c).2⟩)
      (Cert.DwDownIdeal.Value.run_blocks (F := Ideal) m g)
  · refine (θ_run Cert.DwDownRefIdeal.defs _ _).mono (fun r h c => ?_) (Cert.DwDownRefIdeal.Value.run (F := Ideal) m' g')
    obtain ⟨a0, a1, a2, a3⟩ := hargs c
    refine ⟨(h c).1.trans ?_, (h c).2⟩
    refine (Cert.DwDownRefIdeal.Read.val_main_v20_eq _ _ _ _ ).trans ?_
    rw [a0, a1, a2, a3]
    exact Cert.DwDownIdeal.Hand.ref m c

/-- The call for the gradient of the MLP's first weight gives the reference's gradient. -/
theorem value_dwUp : Cert.algebraic_DwUpIdeal_DwUpRefIdeal := by
  intro m g m' g' _ hargs
  refine ⟨fun c => Cert.DwUpIdeal.Hand.R m c, ?_, ?_⟩
  · exact (θ_run Cert.DwUpIdeal.defs _ _).mono (fun r h c => ⟨(h c).1.trans (Cert.DwUpIdeal.Hand.final m c), (h c).2⟩)
      (Cert.DwUpIdeal.Value.run_blocks (F := Ideal) m g)
  · refine (θ_run Cert.DwUpRefIdeal.defs _ _).mono (fun r h c => ?_) (Cert.DwUpRefIdeal.Value.run (F := Ideal) m' g')
    obtain ⟨a0, a1, a2⟩ := hargs c
    refine ⟨(h c).1.trans ?_, (h c).2⟩
    refine (Cert.DwUpRefIdeal.Read.val_main_v18_eq _ _ _ ).trans ?_
    rw [a0, a1, a2]
    exact Cert.DwUpIdeal.Hand.ref m c

/-- The call for the gradient of the input projection's weight gives the reference's gradient. -/
theorem value_dwIn : Cert.algebraic_DwInIdeal_DwInRefIdeal := by
  intro m g m' g' _ hargs
  refine ⟨fun c => Cert.DwInIdeal.Hand.R m c, ?_, ?_⟩
  · exact (θ_run Cert.DwInIdeal.defs _ _).mono (fun r h c => ⟨(h c).1.trans (Cert.DwInIdeal.Hand.final m c), (h c).2⟩)
      (Cert.DwInIdeal.Value.run_blocks (F := Ideal) m g)
  · refine (θ_run Cert.DwInRefIdeal.defs _ _).mono (fun r h c => ?_) (Cert.DwInRefIdeal.Value.run (F := Ideal) m' g')
    obtain ⟨a0, a1, a2⟩ := hargs c
    refine ⟨(h c).1.trans ?_, (h c).2⟩
    refine (Cert.DwInRefIdeal.Read.val_main_v18_eq _ _ _ ).trans ?_
    rw [a0, a1, a2]
    exact Cert.DwInIdeal.Hand.ref m c

/-- On finite arguments the input projection's backward call gives the reference's two results. -/
theorem value_inBwd : Cert.algebraic_InBwdIdeal_InBwdRefIdeal_pre_finite_in (hPre_finite_in := Cert.Pre_finite_in.Gen.facts) := by
  intro m g m' g' hpre hargs
  refine ⟨fun c => Cert.InBwdIdeal.Hand.R5 m c, fun c => Cert.InBwdIdeal.Hand.R6 m c, ?_, ?_⟩
  · exact (θ_run Cert.InBwdIdeal.defs _ _).mono (fun r h c =>
      ⟨(h c).1.trans (Cert.InBwdIdeal.Hand.final5 m c), (h c).2.1.trans (Cert.InBwdIdeal.Hand.final6 m c), (h c).2.2⟩)
      (Cert.InBwdIdeal.Value.run_blocks (F := Ideal) m g)
  · refine (θ_run Cert.InBwdRefIdeal.defs _ _).mono (fun r h c => ?_) (Cert.InBwdRefIdeal.Value.run (F := Ideal) m' g')
    obtain ⟨a0, a1, a2, a3, a4⟩ := hargs c
    refine ⟨(h c).1.trans ?_, (h c).2.1.trans ?_, (h c).2.2⟩
    · rw [Cert.InBwdRefIdeal.Read.val_main_v39_eq, a0, a1, a2, a3, a4]
      exact Cert.InBwdIdeal.Hand.ref5 m c (hpre c)
    · refine (Cert.InBwdRefIdeal.Read.val_main_v40_eq _ _ _).trans ?_
      rw [a0, a1, a3]
      exact Cert.InBwdIdeal.Hand.ref6 m c

/-- The MLP forward call gives the reference's three results. -/
theorem value_mlpFwd : Cert.algebraic_MlpFwdIdeal_MlpFwdRefIdeal := by
  intro m g m' g' _ hargs
  refine ⟨fun c => Cert.MlpFwdIdeal.Hand.R4 m c, fun c => Cert.MlpFwdIdeal.Hand.R5 m c, fun c => Cert.MlpFwdIdeal.Hand.R6 m c, ?_, ?_⟩
  · exact (θ_run Cert.MlpFwdIdeal.defs _ _).mono (fun r h c =>
      ⟨(h c).1.trans (Cert.MlpFwdIdeal.Hand.final4 m c), (h c).2.1.trans (Cert.MlpFwdIdeal.Hand.final5 m c),
        (h c).2.2.1.trans (Cert.MlpFwdIdeal.Hand.final6 m c), (h c).2.2.2⟩)
      (Cert.MlpFwdIdeal.Value.run_blocks (F := Ideal) m g)
  · refine (θ_run Cert.MlpFwdRefIdeal.defs _ _).mono (fun r h c => ?_) (Cert.MlpFwdRefIdeal.Value.run (F := Ideal) m' g')
    obtain ⟨a0, a1, a2, a3⟩ := hargs c
    refine ⟨(h c).1.trans ?_, (h c).2.1.trans ?_, (h c).2.2.1.trans ?_, (h c).2.2.2⟩
    · refine (Cert.MlpFwdRefIdeal.Read.val_main_v17_eq _ _ _ _).trans ?_
      rw [a0, a1, a2, a3]
      exact Cert.MlpFwdIdeal.Hand.ref4 m c
    · refine (Cert.MlpFwdRefIdeal.Read.val_main_v18_eq _ _ _).trans ?_
      rw [a0, a1, a2]
      exact Cert.MlpFwdIdeal.Hand.ref5 m c
    · refine (Cert.MlpFwdRefIdeal.Read.val_main_v32_eq _ _).trans ?_
      rw [a0, a1]
      exact Cert.MlpFwdIdeal.Hand.ref6 m c

/-- The call for the gradient of the gate's weight, as printed, idealized, and its reference: each terminates, keeps its arguments and leaves every counter at zero. -/
theorem frame_dwGate : Cert.quiescent_DwGate := fun m ρ _ => Cert.DwGate.Gen.frame (F := Bits) m ρ

theorem frame_dwGateIdeal : Cert.quiescent_DwGateIdeal := fun m ρ _ => Cert.DwGateIdeal.Gen.frame (F := Ideal) m ρ

theorem frame_dwGateRef : Cert.quiescent_DwGateRefIdeal := fun m ρ _ =>
  (θ_run Cert.DwGateRefIdeal.defs _ _).mono (fun r h => ⟨fun c => (h c).2, sem_eq_zero_of_no_sems rfl r.2⟩)
    (Cert.DwGateRefIdeal.Value.run (F := Ideal) m ρ)

/-- The call for the gradient of the output projection's weight, as printed, idealized, and its reference: each terminates, keeps its arguments and leaves every counter at zero. -/
theorem frame_dwOut : Cert.quiescent_DwOut := fun m ρ _ => Cert.DwOut.Gen.frame (F := Bits) m ρ

theorem frame_dwOutIdeal : Cert.quiescent_DwOutIdeal := fun m ρ _ => Cert.DwOutIdeal.Gen.frame (F := Ideal) m ρ

theorem frame_dwOutRef : Cert.quiescent_DwOutRefIdeal := fun m ρ _ =>
  (θ_run Cert.DwOutRefIdeal.defs _ _).mono (fun r h => ⟨fun c => (h c).2, sem_eq_zero_of_no_sems rfl r.2⟩)
    (Cert.DwOutRefIdeal.Value.run (F := Ideal) m ρ)

/-- The call for the gradient of the per-layer embedding's weight, as printed, idealized, and its reference: each terminates, keeps its arguments and leaves every counter at zero. -/
theorem frame_dwPle : Cert.quiescent_DwPle := fun m ρ _ => Cert.DwPle.Gen.frame (F := Bits) m ρ

theorem frame_dwPleIdeal : Cert.quiescent_DwPleIdeal := fun m ρ _ => Cert.DwPleIdeal.Gen.frame (F := Ideal) m ρ

theorem frame_dwPleRef : Cert.quiescent_DwPleRefIdeal := fun m ρ _ =>
  (θ_run Cert.DwPleRefIdeal.defs _ _).mono (fun r h => ⟨fun c => (h c).2, sem_eq_zero_of_no_sems rfl r.2⟩)
    (Cert.DwPleRefIdeal.Value.run (F := Ideal) m ρ)

/-- The gated embedding's backward call, as printed, idealized, and its reference: each terminates, keeps its arguments and leaves every counter at zero. -/
theorem frame_gateBwd : Cert.quiescent_GateBwd := fun m ρ _ => Cert.GateBwd.Gen.frame (F := Bits) m ρ

theorem frame_gateBwdIdeal : Cert.quiescent_GateBwdIdeal := fun m ρ _ => Cert.GateBwdIdeal.Gen.frame (F := Ideal) m ρ

theorem frame_gateBwdRef : Cert.quiescent_GateBwdRefIdeal := fun m ρ _ =>
  (θ_run Cert.GateBwdRefIdeal.defs _ _).mono (fun r h => ⟨fun c => (h c).2.2.2.2, sem_eq_zero_of_no_sems rfl r.2⟩)
    (Cert.GateBwdRefIdeal.Value.run (F := Ideal) m ρ)

theorem frame_gateBwdIdeal_finite : Cert.quiescent_GateBwdIdeal_pre_finite_gate (hPre_finite_gate := Cert.Pre_finite_gate.Gen.facts) := fun m ρ _ =>
  Cert.GateBwdIdeal.Gen.frame (F := Ideal) m ρ

theorem frame_gateBwdRef_finite : Cert.quiescent_GateBwdRefIdeal_pre_finite_gate (hPre_finite_gate := Cert.Pre_finite_gate.Gen.facts) := fun m ρ _ =>
  (θ_run Cert.GateBwdRefIdeal.defs _ _).mono (fun r h => ⟨fun c => (h c).2.2.2.2, sem_eq_zero_of_no_sems rfl r.2⟩)
    (Cert.GateBwdRefIdeal.Value.run (F := Ideal) m ρ)

/-- The gated embedding's forward call, as printed, idealized, and its reference: each terminates, keeps its arguments and leaves every counter at zero. -/
theorem frame_gateFwd : Cert.quiescent_GateFwd := fun m ρ _ => Cert.GateFwd.Gen.frame (F := Bits) m ρ

theorem frame_gateFwdIdeal : Cert.quiescent_GateFwdIdeal := fun m ρ _ => Cert.GateFwdIdeal.Gen.frame (F := Ideal) m ρ

theorem frame_gateFwdRef : Cert.quiescent_GateFwdRefIdeal := fun m ρ _ =>
  (θ_run Cert.GateFwdRefIdeal.defs _ _).mono (fun r h => ⟨fun c => (h c).2.2.2, sem_eq_zero_of_no_sems rfl r.2⟩)
    (Cert.GateFwdRefIdeal.Value.run (F := Ideal) m ρ)

/-- The input projection's forward call, as printed, idealized, and its reference: each terminates, keeps its arguments and leaves every counter at zero. -/
theorem frame_inProj : Cert.quiescent_InProj := fun m ρ _ => Cert.InProj.Gen.frame (F := Bits) m ρ

theorem frame_inProjIdeal : Cert.quiescent_InProjIdeal := fun m ρ _ => Cert.InProjIdeal.Gen.frame (F := Ideal) m ρ

theorem frame_inProjRef : Cert.quiescent_InProjRefIdeal := fun m ρ _ =>
  (θ_run Cert.InProjRefIdeal.defs _ _).mono (fun r h => ⟨fun c => (h c).2.2, sem_eq_zero_of_no_sems rfl r.2⟩)
    (Cert.InProjRefIdeal.Value.run (F := Ideal) m ρ)

/-- The call for the gradient of the gate's weight gives the reference's gradient. -/
theorem value_dwGate : Cert.algebraic_DwGateIdeal_DwGateRefIdeal := by
  intro m g m' g' _ hargs
  refine ⟨fun c => Cert.DwGateIdeal.Hand.R m c, ?_, ?_⟩
  · exact (θ_run Cert.DwGateIdeal.defs _ _).mono (fun r h c => ⟨(h c).1.trans (Cert.DwGateIdeal.Hand.final m c), (h c).2⟩)
      (Cert.DwGateIdeal.Value.run_blocks (F := Ideal) m g)
  · refine (θ_run Cert.DwGateRefIdeal.defs _ _).mono (fun r h c => ?_) (Cert.DwGateRefIdeal.Value.run (F := Ideal) m' g')
    obtain ⟨a0, a1, a2⟩ := hargs c
    refine ⟨(h c).1.trans ?_, (h c).2⟩
    refine (Cert.DwGateRefIdeal.Read.val_main_v18_eq _ _ _).trans ?_
    rw [a0, a1, a2]
    exact Cert.DwGateIdeal.Hand.ref m c

/-- The call for the gradient of the output projection's weight gives the reference's gradient. -/
theorem value_dwOut : Cert.algebraic_DwOutIdeal_DwOutRefIdeal := by
  intro m g m' g' _ hargs
  refine ⟨fun c => Cert.DwOutIdeal.Hand.R m c, ?_, ?_⟩
  · exact (θ_run Cert.DwOutIdeal.defs _ _).mono (fun r h c => ⟨(h c).1.trans (Cert.DwOutIdeal.Hand.final m c), (h c).2⟩)
      (Cert.DwOutIdeal.Value.run_blocks (F := Ideal) m g)
  · refine (θ_run Cert.DwOutRefIdeal.defs _ _).mono (fun r h c => ?_) (Cert.DwOutRefIdeal.Value.run (F := Ideal) m' g')
    obtain ⟨a0, a1⟩ := hargs c
    refine ⟨(h c).1.trans ?_, (h c).2⟩
    refine (Cert.DwOutRefIdeal.Read.val_main_v5_eq _ _).trans ?_
    rw [a0, a1]
    exact Cert.DwOutIdeal.Hand.ref m c

/-- The call for the gradient of the per-layer embedding's weight gives the reference's gradient. -/
theorem value_dwPle : Cert.algebraic_DwPleIdeal_DwPleRefIdeal := by
  intro m g m' g' _ hargs
  refine ⟨fun c => Cert.DwPleIdeal.Hand.R m c, ?_, ?_⟩
  · exact (θ_run Cert.DwPleIdeal.defs _ _).mono (fun r h c => ⟨(h c).1.trans (Cert.DwPleIdeal.Hand.final m c), (h c).2⟩)
      (Cert.DwPleIdeal.Value.run_blocks (F := Ideal) m g)
  · refine (θ_run Cert.DwPleRefIdeal.defs _ _).mono (fun r h c => ?_) (Cert.DwPleRefIdeal.Value.run (F := Ideal) m' g')
    obtain ⟨a0, a1⟩ := hargs c
    refine ⟨(h c).1.trans ?_, (h c).2⟩
    refine (Cert.DwPleRefIdeal.Read.val_main_v7_eq _ _).trans ?_
    rw [a0, a1]
    exact Cert.DwPleIdeal.Hand.ref m c

/-- On finite arguments the gated embedding's backward call gives the reference's four results. -/
theorem value_gateBwd : Cert.algebraic_GateBwdIdeal_GateBwdRefIdeal_pre_finite_gate (hPre_finite_gate := Cert.Pre_finite_gate.Gen.facts) := by
  intro m g m' g' hpre hargs
  refine ⟨fun c => Cert.GateBwdIdeal.Hand.R7 m c, fun c => Cert.GateBwdIdeal.Hand.R8 m c, fun c => Cert.GateBwdIdeal.Hand.R9 m c, fun c => Cert.GateBwdIdeal.Hand.R10 m c, ?_, ?_⟩
  · exact (θ_run Cert.GateBwdIdeal.defs _ _).mono (fun r h c =>
      ⟨(h c).1.trans (Cert.GateBwdIdeal.Hand.final7 m c), (h c).2.1.trans (Cert.GateBwdIdeal.Hand.final8 m c), (h c).2.2.1.trans (Cert.GateBwdIdeal.Hand.final9 m c), (h c).2.2.2.1.trans (Cert.GateBwdIdeal.Hand.final10 m c), (h c).2.2.2.2⟩)
      (Cert.GateBwdIdeal.Value.run_blocks (F := Ideal) m g)
  · refine (θ_run Cert.GateBwdRefIdeal.defs _ _).mono (fun r h c => ?_) (Cert.GateBwdRefIdeal.Value.run (F := Ideal) m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [Cert.GateBwdRefIdeal.Read.val_main_v54_eq, a0, a1, a2, a3, a4, a5]
      exact Cert.GateBwdIdeal.Hand.ref7 m c (hpre c)
    · refine (Cert.GateBwdRefIdeal.Read.val_main_v55_eq _ _ _ _ _ _).trans ?_
      rw [a0, a1, a2, a3, a4, a5]
      exact Cert.GateBwdIdeal.Hand.ref8 m c
    · refine (Cert.GateBwdRefIdeal.Read.val_main_v56_eq _ _ _ _).trans ?_
      rw [a0, a1, a2, a3]
      exact Cert.GateBwdIdeal.Hand.ref9 m c
    · refine (Cert.GateBwdRefIdeal.Read.val_main_v57_eq _ _ _ _ _ _).trans ?_
      rw [a0, a1, a2, a3, a4, a5]
      exact Cert.GateBwdIdeal.Hand.ref10 m c

/-- The gated embedding's forward call gives the reference's three results. -/
theorem value_gateFwd : Cert.algebraic_GateFwdIdeal_GateFwdRefIdeal := by
  intro m g m' g' _ hargs
  refine ⟨fun c => Cert.GateFwdIdeal.Hand.R5 m c, fun c => Cert.GateFwdIdeal.Hand.R6 m c, fun c => Cert.GateFwdIdeal.Hand.R7 m c, ?_, ?_⟩
  · exact (θ_run Cert.GateFwdIdeal.defs _ _).mono (fun r h c =>
      ⟨(h c).1.trans (Cert.GateFwdIdeal.Hand.final5 m c), (h c).2.1.trans (Cert.GateFwdIdeal.Hand.final6 m c), (h c).2.2.1.trans (Cert.GateFwdIdeal.Hand.final7 m c), (h c).2.2.2⟩)
      (Cert.GateFwdIdeal.Value.run_blocks (F := Ideal) m g)
  · refine (θ_run Cert.GateFwdRefIdeal.defs _ _).mono (fun r h c => ?_) (Cert.GateFwdRefIdeal.Value.run (F := Ideal) m' g')
    obtain ⟨a0, a1, a2, a3, a4⟩ := hargs c
    refine ⟨(h c).1.trans ?_, (h c).2.1.trans ?_, (h c).2.2.1.trans ?_, (h c).2.2.2⟩
    · refine (Cert.GateFwdRefIdeal.Read.val_main_v24_eq _ _ _ _ _).trans ?_
      rw [a0, a1, a2, a3, a4]
      exact Cert.GateFwdIdeal.Hand.ref5 m c
    · refine (Cert.GateFwdRefIdeal.Read.val_main_v25_eq _ _ _).trans ?_
      rw [a0, a1, a2]
      exact Cert.GateFwdIdeal.Hand.ref6 m c
    · refine (Cert.GateFwdRefIdeal.Read.val_main_v26_eq _ _).trans ?_
      rw [a0, a1]
      exact Cert.GateFwdIdeal.Hand.ref7 m c

/-- The input projection's forward call gives the reference's two results. -/
theorem value_inProj : Cert.algebraic_InProjIdeal_InProjRefIdeal := by
  intro m g m' g' _ hargs
  refine ⟨fun c => Cert.InProjIdeal.Hand.R6 m c, fun c => Cert.InProjIdeal.Hand.R7 m c, ?_, ?_⟩
  · exact (θ_run Cert.InProjIdeal.defs _ _).mono (fun r h c =>
      ⟨(h c).1.trans (Cert.InProjIdeal.Hand.final6 m c), (h c).2.1.trans (Cert.InProjIdeal.Hand.final7 m c), (h c).2.2⟩)
      (Cert.InProjIdeal.Value.run_blocks (F := Ideal) m g)
  · refine (θ_run Cert.InProjRefIdeal.defs _ _).mono (fun r h c => ?_) (Cert.InProjRefIdeal.Value.run (F := Ideal) m' g')
    obtain ⟨a0, a1, a2, a3, a4⟩ := hargs c
    refine ⟨(h c).1.trans ?_, (h c).2.1.trans ?_, (h c).2.2⟩
    · rw [Cert.InProjRefIdeal.Read.val_main_v57_eq, a0, a1, a2, a3, a4]
      exact Cert.InProjIdeal.Hand.ref6 m c
    · refine (Cert.InProjRefIdeal.Read.val_main_v58_eq _ _).trans ?_
      rw [a0, a1]
      exact Cert.InProjIdeal.Hand.ref7 m c

/-- The output projection's backward call, as printed, idealized, and its reference: each terminates, keeps its arguments and leaves every counter at zero. -/
theorem frame_outBwd : Cert.quiescent_OutBwd := fun m ρ _ => Cert.OutBwd.Gen.frame (F := Bits) m ρ

theorem frame_outBwdIdeal : Cert.quiescent_OutBwdIdeal := fun m ρ _ => Cert.OutBwdIdeal.Gen.frame (F := Ideal) m ρ

theorem frame_outBwdRef : Cert.quiescent_OutBwdRefIdeal := fun m ρ _ =>
  (θ_run Cert.OutBwdRefIdeal.defs _ _).mono (fun r h => ⟨fun c => (h c).2.2.2, sem_eq_zero_of_no_sems rfl r.2⟩)
    (Cert.OutBwdRefIdeal.Value.run (F := Ideal) m ρ)

theorem frame_outBwdIdeal_finite : Cert.quiescent_OutBwdIdeal_pre_finite_out (hPre_finite_out := Cert.Pre_finite_out.Gen.facts) := fun m ρ _ =>
  Cert.OutBwdIdeal.Gen.frame (F := Ideal) m ρ

theorem frame_outBwdRef_finite : Cert.quiescent_OutBwdRefIdeal_pre_finite_out (hPre_finite_out := Cert.Pre_finite_out.Gen.facts) := fun m ρ _ =>
  (θ_run Cert.OutBwdRefIdeal.defs _ _).mono (fun r h => ⟨fun c => (h c).2.2.2, sem_eq_zero_of_no_sems rfl r.2⟩)
    (Cert.OutBwdRefIdeal.Value.run (F := Ideal) m ρ)

/-- On finite arguments the output projection's backward call gives the reference's three results. -/
theorem value_outBwd : Cert.algebraic_OutBwdIdeal_OutBwdRefIdeal_pre_finite_out (hPre_finite_out := Cert.Pre_finite_out.Gen.facts) := by
  intro m g m' g' hpre hargs
  refine ⟨fun c => Cert.OutBwdIdeal.Hand.R8 m c, fun c => Cert.OutBwdIdeal.Hand.R9 m c, fun c => Cert.OutBwdIdeal.Hand.R10 m c, ?_, ?_⟩
  · exact (θ_run Cert.OutBwdIdeal.defs _ _).mono (fun r h c =>
      ⟨(h c).1.trans (Cert.OutBwdIdeal.Hand.final8 m c), (h c).2.1.trans (Cert.OutBwdIdeal.Hand.final9 m c),
        (h c).2.2.1.trans (Cert.OutBwdIdeal.Hand.finalR10 m c (hpre c)), (h c).2.2.2⟩)
      (Cert.OutBwdIdeal.Value.run_blocks (F := Ideal) m g)
  · refine (θ_run Cert.OutBwdRefIdeal.defs _ _).mono (fun r h c => ?_) (Cert.OutBwdRefIdeal.Value.run (F := Ideal) m' g')
    obtain ⟨a0, a1, a2, a3⟩ := hargs c
    refine ⟨(h c).1.trans ?_, (h c).2.1.trans ?_, (h c).2.2.1.trans ?_, (h c).2.2.2⟩
    · refine (Cert.OutBwdRefIdeal.Read.val_main_v38_eq _ _).trans ?_
      rw [a0, a1]
      exact Cert.OutBwdIdeal.Hand.ref8 m c
    · refine (Cert.OutBwdRefIdeal.Read.val_main_v62_eq _ _ _).trans ?_
      rw [a0, a1, a3]
      exact Cert.OutBwdIdeal.Hand.ref9 m c
    · rw [Cert.OutBwdRefIdeal.Read.val_main_v65_eq, a0, a1, a2, a3]
      exact Cert.OutBwdIdeal.Hand.ref10 m c (hpre c)

/-- The output projection's forward call, as printed, idealized, and its reference: each terminates, keeps its arguments and leaves every counter at zero. -/
theorem frame_mixOut : Cert.quiescent_MixOut := fun m ρ _ => Cert.MixOut.Gen.frame (F := Bits) m ρ

theorem frame_mixOutIdeal : Cert.quiescent_MixOutIdeal := fun m ρ _ => Cert.MixOutIdeal.Gen.frame (F := Ideal) m ρ

theorem frame_mixOutRef : Cert.quiescent_MixOutRefIdeal := fun m ρ _ =>
  (θ_run Cert.MixOutRefIdeal.defs _ _).mono (fun r h => ⟨fun c => (h c).2.2, sem_eq_zero_of_no_sems rfl r.2⟩)
    (Cert.MixOutRefIdeal.Value.run (F := Ideal) m ρ)

/-- The output projection's forward call gives the reference's two results. -/
theorem value_mixOut : Cert.algebraic_MixOutIdeal_MixOutRefIdeal := by
  intro m g m' g' _ hargs
  refine ⟨fun c => Cert.MixOutIdeal.Hand.R12 m c, fun c => Cert.MixOutIdeal.Hand.R13 m c, ?_, ?_⟩
  · exact (θ_run Cert.MixOutIdeal.defs _ _).mono (fun r h c =>
      ⟨(h c).1.trans (Cert.MixOutIdeal.Hand.final12 m c), (h c).2.1.trans (Cert.MixOutIdeal.Hand.final13 m c), (h c).2.2⟩)
      (Cert.MixOutIdeal.Value.run_blocks (F := Ideal) m g)
  · refine (θ_run Cert.MixOutRefIdeal.defs _ _).mono (fun r h c => ?_) (Cert.MixOutRefIdeal.Value.run (F := Ideal) m' g')
    obtain ⟨a0, a1, a2, a3, a4, a5, a6⟩ := hargs c
    refine ⟨(h c).1.trans ?_, (h c).2.1.trans ?_, (h c).2.2⟩
    · rw [Cert.MixOutRefIdeal.Read.val_main_v133_eq, a0, a1, a2, a3, a4]
      exact Cert.MixOutIdeal.Hand.ref12 m c
    · rw [Cert.MixOutRefIdeal.Read.val_main_v135_eq, a0, a1, a2, a3, a4, a5, a6]
      exact Cert.MixOutIdeal.Hand.ref13 m c

/-- The pooling mixer's backward call, as printed, idealized, and its reference: each terminates, keeps its arguments and leaves every counter at zero. -/
theorem frame_poolBwd : Cert.quiescent_PoolBwd := fun m ρ _ => Cert.PoolBwd.Gen.frame (F := Bits) m ρ

theorem frame_poolBwdIdeal : Cert.quiescent_PoolBwdIdeal := fun m ρ _ => Cert.PoolBwdIdeal.Gen.frame (F := Ideal) m ρ

theorem frame_poolBwdRef : Cert.quiescent_PoolBwdRefIdeal := fun m ρ _ =>
  (θ_run Cert.PoolBwdRefIdeal.defs _ _).mono (fun r h => ⟨fun c => (h c).2.2, sem_eq_zero_of_no_sems rfl r.2⟩)
    (Cert.PoolBwdRefIdeal.Value.run (F := Ideal) m ρ)

/-- The pooling mixer's backward call gives the reference's gradients of the table and of the scale. -/
theorem value_poolBwd : Cert.algebraic_PoolBwdIdeal_PoolBwdRefIdeal := by
  intro m g m' g' _ hargs
  refine ⟨fun c => Cert.PoolBwdIdeal.Hand.R7 m c, fun c => Cert.PoolBwdIdeal.Hand.R8 m c, ?_, ?_⟩
  · exact (θ_run Cert.PoolBwdIdeal.defs _ _).mono (fun r h c =>
      ⟨(h c).2.1.trans (Cert.PoolBwdIdeal.Hand.final7 m c), (h c).2.2.1.trans (Cert.PoolBwdIdeal.Hand.final8 m c), (h c).2.2.2⟩)
      (Cert.PoolBwdIdeal.Value.run_blocks (F := Ideal) m g)
  · refine (θ_run Cert.PoolBwdRefIdeal.defs _ _).mono (fun r h c => ?_) (Cert.PoolBwdRefIdeal.Value.run (F := Ideal) m' g')
    obtain ⟨a0, a1, a2, a3⟩ := hargs c
    refine ⟨(h c).1.trans ?_, (h c).2.1.trans ?_, (h c).2.2⟩
    · rw [Cert.PoolBwdRefIdeal.Read.val_main_v111_eq, a0, a1, a3]
      exact Cert.PoolBwdIdeal.Hand.ref7 m c
    · rw [Cert.PoolBwdRefIdeal.Read.val_main_v112_eq, a0, a1, a2]
      exact Cert.PoolBwdIdeal.Hand.ref8 m c

theorem claim : Cert.Claim := ⟨Cert.Kernel.Gen.facts, Cert.KernelIdeal.Gen.facts, Cert.Mlp.Gen.facts, Cert.MlpIdeal.Gen.facts, Cert.MlpRefIdeal.Gen.facts,
  Cert.DwDown.Gen.facts, Cert.DwDownIdeal.Gen.facts, Cert.DwDownRefIdeal.Gen.facts,
  Cert.DwUp.Gen.facts, Cert.DwUpIdeal.Gen.facts, Cert.DwUpRefIdeal.Gen.facts,
  Cert.DwIn.Gen.facts, Cert.DwInIdeal.Gen.facts, Cert.DwInRefIdeal.Gen.facts,
  Cert.InBwd.Gen.facts, Cert.InBwdIdeal.Gen.facts, Cert.InBwdRefIdeal.Gen.facts,
  Cert.MlpFwd.Gen.facts, Cert.MlpFwdIdeal.Gen.facts, Cert.MlpFwdRefIdeal.Gen.facts,
  Cert.DwGate.Gen.facts, Cert.DwGateIdeal.Gen.facts, Cert.DwGateRefIdeal.Gen.facts,
  Cert.DwOut.Gen.facts, Cert.DwOutIdeal.Gen.facts, Cert.DwOutRefIdeal.Gen.facts,
  Cert.DwPle.Gen.facts, Cert.DwPleIdeal.Gen.facts, Cert.DwPleRefIdeal.Gen.facts,
  Cert.GateBwd.Gen.facts, Cert.GateBwdIdeal.Gen.facts, Cert.GateBwdRefIdeal.Gen.facts,
  Cert.GateFwd.Gen.facts, Cert.GateFwdIdeal.Gen.facts, Cert.GateFwdRefIdeal.Gen.facts,
  Cert.InProj.Gen.facts, Cert.InProjIdeal.Gen.facts, Cert.InProjRefIdeal.Gen.facts,
  Cert.OutBwd.Gen.facts, Cert.OutBwdIdeal.Gen.facts, Cert.OutBwdRefIdeal.Gen.facts,
  Cert.MixOut.Gen.facts, Cert.MixOutIdeal.Gen.facts, Cert.MixOutRefIdeal.Gen.facts,
  Cert.PoolBwd.Gen.facts, Cert.PoolBwdIdeal.Gen.facts, Cert.PoolBwdRefIdeal.Gen.facts,
  Cert.Pre_finite.Gen.facts, Cert.Pre_finite_in.Gen.facts, Cert.Pre_finite_gate.Gen.facts, Cert.Pre_finite_out.Gen.facts,
  frame_kernel, frame_kernelIdeal, frame_mlp, frame_mlpIdeal, frame_mlpIdeal_finite, frame_mlpRef, frame_mlpRef_finite,
  frame_dwDown, frame_dwDownIdeal, frame_dwDownRef,
  frame_dwUp, frame_dwUpIdeal, frame_dwUpRef,
  frame_dwIn, frame_dwInIdeal, frame_dwInRef,
  frame_inBwd, frame_inBwdIdeal, frame_inBwdIdeal_finite, frame_inBwdRef, frame_inBwdRef_finite,
  frame_mlpFwd, frame_mlpFwdIdeal, frame_mlpFwdRef,
  frame_dwGate, frame_dwGateIdeal, frame_dwGateRef,
  frame_dwOut, frame_dwOutIdeal, frame_dwOutRef,
  frame_dwPle, frame_dwPleIdeal, frame_dwPleRef,
  frame_gateBwd, frame_gateBwdIdeal, frame_gateBwdIdeal_finite, frame_gateBwdRef, frame_gateBwdRef_finite,
  frame_gateFwd, frame_gateFwdIdeal, frame_gateFwdRef,
  frame_inProj, frame_inProjIdeal, frame_inProjRef,
  frame_outBwd, frame_outBwdIdeal, frame_outBwdIdeal_finite, frame_outBwdRef, frame_outBwdRef_finite,
  frame_mixOut, frame_mixOutIdeal, frame_mixOutRef,
  frame_poolBwd, frame_poolBwdIdeal, frame_poolBwdRef,
  trivial, trivial, value_mlp, trivial, value_dwDown, trivial, value_dwUp, trivial, value_dwIn, trivial, value_inBwd, trivial, value_mlpFwd,
  trivial, value_dwGate, trivial, value_dwOut, trivial, value_dwPle, trivial, value_gateBwd, trivial, value_gateFwd, trivial, value_inProj, trivial, value_outBwd,
  trivial, value_mixOut,
  trivial, value_poolBwd⟩

end Cert.Proof

end
